-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_finite_queries [hPre_finite_queries : Cert.Pre_finite_queries.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_finite_queries.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).1 = (fun _ => 1#1)
    ∧ (Cert.Pre_finite_queries.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).2.1 = (fun _ => 1#1)
    ∧ (Cert.Pre_finite_queries.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).2.2.1 = (fun _ => 1#1)
    ∧ (Cert.Pre_finite_queries.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).2.2.2.1 = (fun _ => 1#1)
    ∧ (Cert.Pre_finite_queries.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))).2.2.2.2 = (fun _ => 1#1)

def Pre_ScoresReferenceIdeal (m : (ℓ : Loc Cert.ScoresReferenceIdeal.nD Cert.ScoresReferenceIdeal.τ Cert.ScoresReferenceIdeal.sig) → Buf (Elt Ideal) ℓ) : Prop :=
  True

def Pre_ScoresReferenceIdeal_finite_queries [hPre_finite_queries : Cert.Pre_finite_queries.Facts] (m : (ℓ : Loc Cert.ScoresReferenceIdeal.nD Cert.ScoresReferenceIdeal.τ Cert.ScoresReferenceIdeal.sig) → Buf (Elt Ideal) ℓ) : Prop :=
  ∀ c : Dev Cert.ScoresReferenceIdeal.nD,
    (Cert.Pre_finite_queries.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))).1 = (fun _ => 1#1)
    ∧ (Cert.Pre_finite_queries.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))).2.1 = (fun _ => 1#1)
    ∧ (Cert.Pre_finite_queries.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))).2.2.1 = (fun _ => 1#1)
    ∧ (Cert.Pre_finite_queries.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))).2.2.2.1 = (fun _ => 1#1)
    ∧ (Cert.Pre_finite_queries.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))).2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_projection [hPre_finite_projection : Cert.Pre_finite_projection.Facts] (m : (ℓ : Loc Cert.InProjIdeal.nD Cert.InProjIdeal.τ Cert.InProjIdeal.sig) → Buf (Elt Ideal) ℓ) : Prop :=
  ∀ c : Dev Cert.InProjIdeal.nD,
    (Cert.Pre_finite_projection.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9))).1 = (fun _ => 1#1)
    ∧ (Cert.Pre_finite_projection.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9))).2.1 = (fun _ => 1#1)
    ∧ (Cert.Pre_finite_projection.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9))).2.2.1 = (fun _ => 1#1)
    ∧ (Cert.Pre_finite_projection.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9))).2.2.2 = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_finite_projection [hPre_finite_projection : Cert.Pre_finite_projection.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_finite_projection.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8)) (m ((c.tc : Thread Cert.InProjReferenceIdeal.nD Cert.InProjReferenceIdeal.τ).loc Cert.InProjReferenceIdeal.main_arg9))).1 = (fun _ => 1#1)
    ∧ (Cert.Pre_finite_projection.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8)) (m ((c.tc : Thread Cert.InProjReferenceIdeal.nD Cert.InProjReferenceIdeal.τ).loc Cert.InProjReferenceIdeal.main_arg9))).2.1 = (fun _ => 1#1)
    ∧ (Cert.Pre_finite_projection.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8)) (m ((c.tc : Thread Cert.InProjReferenceIdeal.nD Cert.InProjReferenceIdeal.τ).loc Cert.InProjReferenceIdeal.main_arg9))).2.2.1 = (fun _ => 1#1)
    ∧ (Cert.Pre_finite_projection.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8)) (m ((c.tc : Thread Cert.InProjReferenceIdeal.nD Cert.InProjReferenceIdeal.τ).loc Cert.InProjReferenceIdeal.main_arg9))).2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_outputs [hPre_finite_outputs : Cert.Pre_finite_outputs.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_outputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).1 = (fun _ => 1#1)
    ∧ (Cert.Pre_finite_outputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2 = (fun _ => 1#1)

def Pre_OutProjReferenceIdeal (m : (ℓ : Loc Cert.OutProjReferenceIdeal.nD Cert.OutProjReferenceIdeal.τ Cert.OutProjReferenceIdeal.sig) → Buf (Elt Ideal) ℓ) : Prop :=
  True

def Pre_OutProjReferenceIdeal_finite_outputs [hPre_finite_outputs : Cert.Pre_finite_outputs.Facts] (m : (ℓ : Loc Cert.OutProjReferenceIdeal.nD Cert.OutProjReferenceIdeal.τ Cert.OutProjReferenceIdeal.sig) → Buf (Elt Ideal) ℓ) : Prop :=
  ∀ c : Dev Cert.OutProjReferenceIdeal.nD,
    (Cert.Pre_finite_outputs.fn (F := Ideal) (m ((c.tc : Thread Cert.OutProjReferenceIdeal.nD Cert.OutProjReferenceIdeal.τ).loc Cert.OutProjReferenceIdeal.main_arg0)) (m ((c.tc : Thread Cert.OutProjReferenceIdeal.nD Cert.OutProjReferenceIdeal.τ).loc Cert.OutProjReferenceIdeal.main_arg1)) (m ((c.tc : Thread Cert.OutProjReferenceIdeal.nD Cert.OutProjReferenceIdeal.τ).loc Cert.OutProjReferenceIdeal.main_arg2)) (m ((c.tc : Thread Cert.OutProjReferenceIdeal.nD Cert.OutProjReferenceIdeal.τ).loc Cert.OutProjReferenceIdeal.main_arg3)) (m ((c.tc : Thread Cert.OutProjReferenceIdeal.nD Cert.OutProjReferenceIdeal.τ).loc Cert.OutProjReferenceIdeal.main_arg4)) (m ((c.tc : Thread Cert.OutProjReferenceIdeal.nD Cert.OutProjReferenceIdeal.τ).loc Cert.OutProjReferenceIdeal.main_arg5)) (m ((c.tc : Thread Cert.OutProjReferenceIdeal.nD Cert.OutProjReferenceIdeal.τ).loc Cert.OutProjReferenceIdeal.main_arg6)) (m ((c.tc : Thread Cert.OutProjReferenceIdeal.nD Cert.OutProjReferenceIdeal.τ).loc Cert.OutProjReferenceIdeal.main_arg7)) (m ((c.tc : Thread Cert.OutProjReferenceIdeal.nD Cert.OutProjReferenceIdeal.τ).loc Cert.OutProjReferenceIdeal.main_arg8)) (m ((c.tc : Thread Cert.OutProjReferenceIdeal.nD Cert.OutProjReferenceIdeal.τ).loc Cert.OutProjReferenceIdeal.main_arg9)) (m ((c.tc : Thread Cert.OutProjReferenceIdeal.nD Cert.OutProjReferenceIdeal.τ).loc Cert.OutProjReferenceIdeal.main_arg10))).1 = (fun _ => 1#1)
    ∧ (Cert.Pre_finite_outputs.fn (F := Ideal) (m ((c.tc : Thread Cert.OutProjReferenceIdeal.nD Cert.OutProjReferenceIdeal.τ).loc Cert.OutProjReferenceIdeal.main_arg0)) (m ((c.tc : Thread Cert.OutProjReferenceIdeal.nD Cert.OutProjReferenceIdeal.τ).loc Cert.OutProjReferenceIdeal.main_arg1)) (m ((c.tc : Thread Cert.OutProjReferenceIdeal.nD Cert.OutProjReferenceIdeal.τ).loc Cert.OutProjReferenceIdeal.main_arg2)) (m ((c.tc : Thread Cert.OutProjReferenceIdeal.nD Cert.OutProjReferenceIdeal.τ).loc Cert.OutProjReferenceIdeal.main_arg3)) (m ((c.tc : Thread Cert.OutProjReferenceIdeal.nD Cert.OutProjReferenceIdeal.τ).loc Cert.OutProjReferenceIdeal.main_arg4)) (m ((c.tc : Thread Cert.OutProjReferenceIdeal.nD Cert.OutProjReferenceIdeal.τ).loc Cert.OutProjReferenceIdeal.main_arg5)) (m ((c.tc : Thread Cert.OutProjReferenceIdeal.nD Cert.OutProjReferenceIdeal.τ).loc Cert.OutProjReferenceIdeal.main_arg6)) (m ((c.tc : Thread Cert.OutProjReferenceIdeal.nD Cert.OutProjReferenceIdeal.τ).loc Cert.OutProjReferenceIdeal.main_arg7)) (m ((c.tc : Thread Cert.OutProjReferenceIdeal.nD Cert.OutProjReferenceIdeal.τ).loc Cert.OutProjReferenceIdeal.main_arg8)) (m ((c.tc : Thread Cert.OutProjReferenceIdeal.nD Cert.OutProjReferenceIdeal.τ).loc Cert.OutProjReferenceIdeal.main_arg9)) (m ((c.tc : Thread Cert.OutProjReferenceIdeal.nD Cert.OutProjReferenceIdeal.τ).loc Cert.OutProjReferenceIdeal.main_arg10))).2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_recurrence [hPre_finite_recurrence : Cert.Pre_finite_recurrence.Facts] (m : (ℓ : Loc Cert.PrepIdeal.nD Cert.PrepIdeal.τ Cert.PrepIdeal.sig) → Buf (Elt Ideal) ℓ) : Prop :=
  ∀ c : Dev Cert.PrepIdeal.nD,
    (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.2.1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.2.2.1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.2.2.2.1 = (fun _ => 1#1)
    ∧ (Cert.Pre_finite_recurrence.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.2.2.2.2 = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_finite_recurrence [hPre_finite_recurrence : Cert.Pre_finite_recurrence.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.2.1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.2.2.1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.2.2.2.1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.2.2.2.2.1 = (fun _ => 1#1)
    ∧ (Cert.Pre_finite_recurrence.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresIdeal_pre_finite_queries [hScoresIdeal : Cert.ScoresIdeal.Facts] [hPre_finite_queries : Cert.Pre_finite_queries.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_finite_queries m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def quiescent_ScoresReferenceIdeal_pre_finite_queries [hScoresReferenceIdeal : Cert.ScoresReferenceIdeal.Facts] [hPre_finite_queries : Cert.Pre_finite_queries.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal_finite_queries m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjIdeal_pre_finite_projection [hInProjIdeal : Cert.InProjIdeal.Facts] [hPre_finite_projection : Cert.Pre_finite_projection.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_projection m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9))
      ∧ r.2.sem = fun _ => 0)

def quiescent_InProjReferenceIdeal_pre_finite_projection [hInProjReferenceIdeal : Cert.InProjReferenceIdeal.Facts] [hPre_finite_projection : Cert.Pre_finite_projection.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_finite_projection m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ r.2.sem = fun _ => 0)

def quiescent_OutProjIdeal_pre_finite_outputs [hOutProjIdeal : Cert.OutProjIdeal.Facts] [hPre_finite_outputs : Cert.Pre_finite_outputs.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_outputs m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8)
      ∧ r.2.mem ((c.tc : Thread Cert.OutProjReferenceIdeal.nD Cert.OutProjReferenceIdeal.τ).loc Cert.OutProjReferenceIdeal.main_arg9) = m ((c.tc : Thread Cert.OutProjReferenceIdeal.nD Cert.OutProjReferenceIdeal.τ).loc Cert.OutProjReferenceIdeal.main_arg9)
      ∧ r.2.mem ((c.tc : Thread Cert.OutProjReferenceIdeal.nD Cert.OutProjReferenceIdeal.τ).loc Cert.OutProjReferenceIdeal.main_arg10) = m ((c.tc : Thread Cert.OutProjReferenceIdeal.nD Cert.OutProjReferenceIdeal.τ).loc Cert.OutProjReferenceIdeal.main_arg10))
      ∧ r.2.sem = fun _ => 0)

def quiescent_OutProjReferenceIdeal_pre_finite_outputs [hOutProjReferenceIdeal : Cert.OutProjReferenceIdeal.Facts] [hPre_finite_outputs : Cert.Pre_finite_outputs.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal_finite_outputs m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8)
      ∧ r.2.mem ((c.tc : Thread Cert.OutProjReferenceIdeal.nD Cert.OutProjReferenceIdeal.τ).loc Cert.OutProjReferenceIdeal.main_arg9) = m ((c.tc : Thread Cert.OutProjReferenceIdeal.nD Cert.OutProjReferenceIdeal.τ).loc Cert.OutProjReferenceIdeal.main_arg9)
      ∧ r.2.mem ((c.tc : Thread Cert.OutProjReferenceIdeal.nD Cert.OutProjReferenceIdeal.τ).loc Cert.OutProjReferenceIdeal.main_arg10) = m ((c.tc : Thread Cert.OutProjReferenceIdeal.nD Cert.OutProjReferenceIdeal.τ).loc Cert.OutProjReferenceIdeal.main_arg10))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepIdeal_pre_finite_recurrence [hPrepIdeal : Cert.PrepIdeal.Facts] [hPre_finite_recurrence : Cert.Pre_finite_recurrence.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_recurrence m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9))
      ∧ r.2.sem = fun _ => 0)

def quiescent_PrepReferenceIdeal_pre_finite_recurrence [hPrepReferenceIdeal : Cert.PrepReferenceIdeal.Facts] [hPre_finite_recurrence : Cert.Pre_finite_recurrence.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_finite_recurrence m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Scores_ScoresIdeal : Prop :=
  True

def algebraic_ScoresIdeal_ScoresReferenceIdeal_pre_finite_queries [hScoresIdeal : Cert.ScoresIdeal.Facts] [hScoresReferenceIdeal : Cert.ScoresReferenceIdeal.Facts] [hPre_finite_queries : Cert.Pre_finite_queries.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal_finite_queries m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)
      ∧ m' ((c.tc : Thread Cert.ScoresReferenceIdeal.nD Cert.ScoresReferenceIdeal.τ).loc Cert.ScoresReferenceIdeal.main_arg3) = m ((c.tc : Thread Cert.ScoresIdeal.nD Cert.ScoresIdeal.τ).loc Cert.ScoresIdeal.main_arg3)
      ∧ m' ((c.tc : Thread Cert.ScoresReferenceIdeal.nD Cert.ScoresReferenceIdeal.τ).loc Cert.ScoresReferenceIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v4_0)) (v1 : (c : Dev Cert.ScoresIdeal.nD) → Buf (Elt Ideal) ((c.tc : Thread Cert.ScoresIdeal.nD Cert.ScoresIdeal.τ).loc Cert.ScoresIdeal.main_v4_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v4_0) = v0 c
          ∧ r.2.mem ((c.tc : Thread Cert.ScoresIdeal.nD Cert.ScoresIdeal.τ).loc Cert.ScoresIdeal.main_v4_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v29) = v0 c
          ∧ r.2.mem ((c.tc : Thread Cert.ScoresReferenceIdeal.nD Cert.ScoresReferenceIdeal.τ).loc Cert.ScoresReferenceIdeal.main_v31) = v1 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2)
          ∧ r.2.mem ((c.tc : Thread Cert.ScoresReferenceIdeal.nD Cert.ScoresReferenceIdeal.τ).loc Cert.ScoresReferenceIdeal.main_arg3) = m' ((c.tc : Thread Cert.ScoresReferenceIdeal.nD Cert.ScoresReferenceIdeal.τ).loc Cert.ScoresReferenceIdeal.main_arg3)
          ∧ r.2.mem ((c.tc : Thread Cert.ScoresReferenceIdeal.nD Cert.ScoresReferenceIdeal.τ).loc Cert.ScoresReferenceIdeal.main_arg4) = m' ((c.tc : Thread Cert.ScoresReferenceIdeal.nD Cert.ScoresReferenceIdeal.τ).loc Cert.ScoresReferenceIdeal.main_arg4))

def preserves_InProj_InProjIdeal : Prop :=
  True

def algebraic_InProjIdeal_InProjReferenceIdeal_pre_finite_projection [hInProjIdeal : Cert.InProjIdeal.Facts] [hInProjReferenceIdeal : Cert.InProjReferenceIdeal.Facts] [hPre_finite_projection : Cert.Pre_finite_projection.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_finite_projection m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)
      ∧ m' ((c.tc : Thread Cert.InProjReferenceIdeal.nD Cert.InProjReferenceIdeal.τ).loc Cert.InProjReferenceIdeal.main_arg9) = m ((c.tc : Thread Cert.InProjIdeal.nD Cert.InProjIdeal.τ).loc Cert.InProjIdeal.main_arg9)) →
    ∃ (v0 : (c : Dev Cert.InProjIdeal.nD) → Buf (Elt Ideal) ((c.tc : Thread Cert.InProjIdeal.nD Cert.InProjIdeal.τ).loc Cert.InProjIdeal.main_v41_0)) (v1 : (c : Dev Cert.InProjIdeal.nD) → Buf (Elt Ideal) ((c.tc : Thread Cert.InProjIdeal.nD Cert.InProjIdeal.τ).loc Cert.InProjIdeal.main_v41_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v41_0) = v0 c
          ∧ r.2.mem ((c.tc : Thread Cert.InProjIdeal.nD Cert.InProjIdeal.τ).loc Cert.InProjIdeal.main_v41_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v140) = v0 c
          ∧ r.2.mem ((c.tc : Thread Cert.InProjReferenceIdeal.nD Cert.InProjReferenceIdeal.τ).loc Cert.InProjReferenceIdeal.main_v141) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8)
          ∧ r.2.mem ((c.tc : Thread Cert.InProjReferenceIdeal.nD Cert.InProjReferenceIdeal.τ).loc Cert.InProjReferenceIdeal.main_arg9) = m' ((c.tc : Thread Cert.InProjReferenceIdeal.nD Cert.InProjReferenceIdeal.τ).loc Cert.InProjReferenceIdeal.main_arg9))

def preserves_OutProj_OutProjIdeal : Prop :=
  True

def algebraic_OutProjIdeal_OutProjReferenceIdeal_pre_finite_outputs [hOutProjIdeal : Cert.OutProjIdeal.Facts] [hOutProjReferenceIdeal : Cert.OutProjReferenceIdeal.Facts] [hPre_finite_outputs : Cert.Pre_finite_outputs.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal_finite_outputs m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)
      ∧ m' ((c.tc : Thread Cert.OutProjReferenceIdeal.nD Cert.OutProjReferenceIdeal.τ).loc Cert.OutProjReferenceIdeal.main_arg8) = m ((c.tc : Thread Cert.OutProjIdeal.nD Cert.OutProjIdeal.τ).loc Cert.OutProjIdeal.main_arg8)
      ∧ m' ((c.tc : Thread Cert.OutProjReferenceIdeal.nD Cert.OutProjReferenceIdeal.τ).loc Cert.OutProjReferenceIdeal.main_arg9) = m ((c.tc : Thread Cert.OutProjIdeal.nD Cert.OutProjIdeal.τ).loc Cert.OutProjIdeal.main_arg9)
      ∧ m' ((c.tc : Thread Cert.OutProjReferenceIdeal.nD Cert.OutProjReferenceIdeal.τ).loc Cert.OutProjReferenceIdeal.main_arg10) = m ((c.tc : Thread Cert.OutProjIdeal.nD Cert.OutProjIdeal.τ).loc Cert.OutProjIdeal.main_arg10)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v44) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7)
          ∧ r.2.mem ((c.tc : Thread Cert.OutProjReferenceIdeal.nD Cert.OutProjReferenceIdeal.τ).loc Cert.OutProjReferenceIdeal.main_arg8) = m' ((c.tc : Thread Cert.OutProjReferenceIdeal.nD Cert.OutProjReferenceIdeal.τ).loc Cert.OutProjReferenceIdeal.main_arg8)
          ∧ r.2.mem ((c.tc : Thread Cert.OutProjReferenceIdeal.nD Cert.OutProjReferenceIdeal.τ).loc Cert.OutProjReferenceIdeal.main_arg9) = m' ((c.tc : Thread Cert.OutProjReferenceIdeal.nD Cert.OutProjReferenceIdeal.τ).loc Cert.OutProjReferenceIdeal.main_arg9)
          ∧ r.2.mem ((c.tc : Thread Cert.OutProjReferenceIdeal.nD Cert.OutProjReferenceIdeal.τ).loc Cert.OutProjReferenceIdeal.main_arg10) = m' ((c.tc : Thread Cert.OutProjReferenceIdeal.nD Cert.OutProjReferenceIdeal.τ).loc Cert.OutProjReferenceIdeal.main_arg10))

def preserves_Prep_PrepIdeal : Prop :=
  True

def algebraic_PrepIdeal_PrepReferenceIdeal_pre_finite_recurrence [hPrepIdeal : Cert.PrepIdeal.Facts] [hPrepReferenceIdeal : Cert.PrepReferenceIdeal.Facts] [hPre_finite_recurrence : Cert.Pre_finite_recurrence.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_finite_recurrence m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)
      ∧ m' ((c.tc : Thread Cert.PrepReferenceIdeal.nD Cert.PrepReferenceIdeal.τ).loc Cert.PrepReferenceIdeal.main_arg7) = m ((c.tc : Thread Cert.PrepIdeal.nD Cert.PrepIdeal.τ).loc Cert.PrepIdeal.main_arg7)
      ∧ m' ((c.tc : Thread Cert.PrepReferenceIdeal.nD Cert.PrepReferenceIdeal.τ).loc Cert.PrepReferenceIdeal.main_arg8) = m ((c.tc : Thread Cert.PrepIdeal.nD Cert.PrepIdeal.τ).loc Cert.PrepIdeal.main_arg8)
      ∧ m' ((c.tc : Thread Cert.PrepReferenceIdeal.nD Cert.PrepReferenceIdeal.τ).loc Cert.PrepReferenceIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v25_0)) (v1 : (c : Dev Cert.PrepIdeal.nD) → Buf (Elt Ideal) ((c.tc : Thread Cert.PrepIdeal.nD Cert.PrepIdeal.τ).loc Cert.PrepIdeal.main_v25_1)) (v2 : (c : Dev Cert.PrepIdeal.nD) → Buf (Elt Ideal) ((c.tc : Thread Cert.PrepIdeal.nD Cert.PrepIdeal.τ).loc Cert.PrepIdeal.main_v25_2)) (v3 : (c : Dev Cert.PrepIdeal.nD) → Buf (Elt Ideal) ((c.tc : Thread Cert.PrepIdeal.nD Cert.PrepIdeal.τ).loc Cert.PrepIdeal.main_v25_3)) (v4 : (c : Dev Cert.PrepIdeal.nD) → Buf (Elt Ideal) ((c.tc : Thread Cert.PrepIdeal.nD Cert.PrepIdeal.τ).loc Cert.PrepIdeal.main_v25_4)) (v5 : (c : Dev Cert.PrepIdeal.nD) → Buf (Elt Ideal) ((c.tc : Thread Cert.PrepIdeal.nD Cert.PrepIdeal.τ).loc Cert.PrepIdeal.main_v25_5)) (v6 : (c : Dev Cert.PrepIdeal.nD) → Buf (Elt Ideal) ((c.tc : Thread Cert.PrepIdeal.nD Cert.PrepIdeal.τ).loc Cert.PrepIdeal.main_v25_6)) (v7 : (c : Dev Cert.PrepIdeal.nD) → Buf (Elt Ideal) ((c.tc : Thread Cert.PrepIdeal.nD Cert.PrepIdeal.τ).loc Cert.PrepIdeal.main_v25_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v25_0) = v0 c
          ∧ r.2.mem ((c.tc : Thread Cert.PrepIdeal.nD Cert.PrepIdeal.τ).loc Cert.PrepIdeal.main_v25_1) = v1 c
          ∧ r.2.mem ((c.tc : Thread Cert.PrepIdeal.nD Cert.PrepIdeal.τ).loc Cert.PrepIdeal.main_v25_2) = v2 c
          ∧ r.2.mem ((c.tc : Thread Cert.PrepIdeal.nD Cert.PrepIdeal.τ).loc Cert.PrepIdeal.main_v25_3) = v3 c
          ∧ r.2.mem ((c.tc : Thread Cert.PrepIdeal.nD Cert.PrepIdeal.τ).loc Cert.PrepIdeal.main_v25_4) = v4 c
          ∧ r.2.mem ((c.tc : Thread Cert.PrepIdeal.nD Cert.PrepIdeal.τ).loc Cert.PrepIdeal.main_v25_5) = v5 c
          ∧ r.2.mem ((c.tc : Thread Cert.PrepIdeal.nD Cert.PrepIdeal.τ).loc Cert.PrepIdeal.main_v25_6) = v6 c
          ∧ r.2.mem ((c.tc : Thread Cert.PrepIdeal.nD Cert.PrepIdeal.τ).loc Cert.PrepIdeal.main_v25_7) = v7 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v103) = v0 c
          ∧ r.2.mem ((c.tc : Thread Cert.PrepReferenceIdeal.nD Cert.PrepReferenceIdeal.τ).loc Cert.PrepReferenceIdeal.main_v105) = v1 c
          ∧ r.2.mem ((c.tc : Thread Cert.PrepReferenceIdeal.nD Cert.PrepReferenceIdeal.τ).loc Cert.PrepReferenceIdeal.main_v107) = v2 c
          ∧ r.2.mem ((c.tc : Thread Cert.PrepReferenceIdeal.nD Cert.PrepReferenceIdeal.τ).loc Cert.PrepReferenceIdeal.main_v108) = v3 c
          ∧ r.2.mem ((c.tc : Thread Cert.PrepReferenceIdeal.nD Cert.PrepReferenceIdeal.τ).loc Cert.PrepReferenceIdeal.main_v110) = v4 c
          ∧ r.2.mem ((c.tc : Thread Cert.PrepReferenceIdeal.nD Cert.PrepReferenceIdeal.τ).loc Cert.PrepReferenceIdeal.main_v112) = v5 c
          ∧ r.2.mem ((c.tc : Thread Cert.PrepReferenceIdeal.nD Cert.PrepReferenceIdeal.τ).loc Cert.PrepReferenceIdeal.main_v113) = v6 c
          ∧ r.2.mem ((c.tc : Thread Cert.PrepReferenceIdeal.nD Cert.PrepReferenceIdeal.τ).loc Cert.PrepReferenceIdeal.main_v114) = v7 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9))

def Claim : Prop :=
  ∃ (hKernel : Cert.Kernel.Facts) (hKernelIdeal : Cert.KernelIdeal.Facts) (hReferenceIdeal : Cert.ReferenceIdeal.Facts) (hScores : Cert.Scores.Facts) (hScoresIdeal : Cert.ScoresIdeal.Facts) (hScoresReferenceIdeal : Cert.ScoresReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hPrep : Cert.Prep.Facts) (hPrepIdeal : Cert.PrepIdeal.Facts) (hPrepReferenceIdeal : Cert.PrepReferenceIdeal.Facts) (hPre_finite_scores : Cert.Pre_finite_scores.Facts) (hPre_finite_queries : Cert.Pre_finite_queries.Facts) (hPre_finite_projection : Cert.Pre_finite_projection.Facts) (hPre_finite_outputs : Cert.Pre_finite_outputs.Facts) (hPre_finite_recurrence : Cert.Pre_finite_recurrence.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Scores (hScores := hScores)
    ∧ quiescent_ScoresIdeal (hScoresIdeal := hScoresIdeal)
    ∧ quiescent_ScoresIdeal_pre_finite_queries (hScoresIdeal := hScoresIdeal) (hPre_finite_queries := hPre_finite_queries)
    ∧ quiescent_ScoresReferenceIdeal (hScoresReferenceIdeal := hScoresReferenceIdeal)
    ∧ quiescent_ScoresReferenceIdeal_pre_finite_queries (hScoresReferenceIdeal := hScoresReferenceIdeal) (hPre_finite_queries := hPre_finite_queries)
    ∧ quiescent_InProj (hInProj := hInProj)
    ∧ quiescent_InProjIdeal (hInProjIdeal := hInProjIdeal)
    ∧ quiescent_InProjIdeal_pre_finite_projection (hInProjIdeal := hInProjIdeal) (hPre_finite_projection := hPre_finite_projection)
    ∧ quiescent_InProjReferenceIdeal (hInProjReferenceIdeal := hInProjReferenceIdeal)
    ∧ quiescent_InProjReferenceIdeal_pre_finite_projection (hInProjReferenceIdeal := hInProjReferenceIdeal) (hPre_finite_projection := hPre_finite_projection)
    ∧ quiescent_OutProj (hOutProj := hOutProj)
    ∧ quiescent_OutProjIdeal (hOutProjIdeal := hOutProjIdeal)
    ∧ quiescent_OutProjIdeal_pre_finite_outputs (hOutProjIdeal := hOutProjIdeal) (hPre_finite_outputs := hPre_finite_outputs)
    ∧ quiescent_OutProjReferenceIdeal (hOutProjReferenceIdeal := hOutProjReferenceIdeal)
    ∧ quiescent_OutProjReferenceIdeal_pre_finite_outputs (hOutProjReferenceIdeal := hOutProjReferenceIdeal) (hPre_finite_outputs := hPre_finite_outputs)
    ∧ quiescent_Prep (hPrep := hPrep)
    ∧ quiescent_PrepIdeal (hPrepIdeal := hPrepIdeal)
    ∧ quiescent_PrepIdeal_pre_finite_recurrence (hPrepIdeal := hPrepIdeal) (hPre_finite_recurrence := hPre_finite_recurrence)
    ∧ quiescent_PrepReferenceIdeal (hPrepReferenceIdeal := hPrepReferenceIdeal)
    ∧ quiescent_PrepReferenceIdeal_pre_finite_recurrence (hPrepReferenceIdeal := hPrepReferenceIdeal) (hPre_finite_recurrence := hPre_finite_recurrence)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Scores_ScoresIdeal
    ∧ algebraic_ScoresIdeal_ScoresReferenceIdeal_pre_finite_queries (hScoresIdeal := hScoresIdeal) (hScoresReferenceIdeal := hScoresReferenceIdeal) (hPre_finite_queries := hPre_finite_queries)
    ∧ preserves_InProj_InProjIdeal
    ∧ algebraic_InProjIdeal_InProjReferenceIdeal_pre_finite_projection (hInProjIdeal := hInProjIdeal) (hInProjReferenceIdeal := hInProjReferenceIdeal) (hPre_finite_projection := hPre_finite_projection)
    ∧ preserves_OutProj_OutProjIdeal
    ∧ algebraic_OutProjIdeal_OutProjReferenceIdeal_pre_finite_outputs (hOutProjIdeal := hOutProjIdeal) (hOutProjReferenceIdeal := hOutProjReferenceIdeal) (hPre_finite_outputs := hPre_finite_outputs)
    ∧ preserves_Prep_PrepIdeal
    ∧ algebraic_PrepIdeal_PrepReferenceIdeal_pre_finite_recurrence (hPrepIdeal := hPrepIdeal) (hPrepReferenceIdeal := hPrepReferenceIdeal) (hPre_finite_recurrence := hPre_finite_recurrence)
-- ==== Pre_finite_outputs.lean ====
abbrev S16384x1024 : Shape := ⟨2, ![16384, 1024]⟩
abbrev S16384x256 : Shape := ⟨2, ![16384, 256]⟩
abbrev S16384x512 : Shape := ⟨2, ![16384, 512]⟩
abbrev S512 : Shape := ⟨1, ![512]⟩
abbrev S1024x1024 : Shape := ⟨2, ![1024, 1024]⟩
abbrev S16x6144 : Shape := ⟨2, ![16, 6144]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x1024 .f32) (main_arg1 : FVec F S16384x256 .bf16) (main_arg2 : FVec F S16384x256 .bf16) (main_arg3 : FVec F S16384x512 .f32) (main_arg4 : FVec F S16384x512 .f32) (main_arg5 : FVec F S16384x512 .f32) (main_arg6 : FVec F S16384x512 .f32) (main_arg7 : FVec F S512 .f32) (main_arg8 : FVec F S512 .f32) (main_arg9 : FVec F S1024x1024 .f32) (main_arg10 : FVec F S16x6144 .f32) : IVec S16384x512 1 × IVec S16384x512 1 :=
  let main_cst : FVec F S_ .f32 := constant S_ .f32 0x7F800000#32
  let main_v0 : FVec F S16384x512 .f32 := broadcastInDim S16384x512 ![] bcast_S_S16384x512 main_cst
  let main_v1 : IVec S16384x512 1 := cmpf .olt main_arg3 main_v0
  let main_cst_0 : FVec F S_ .f32 := constant S_ .f32 0xFF800000#32
  let main_v2 : FVec F S16384x512 .f32 := broadcastInDim S16384x512 ![] bcast_S_S16384x512 main_cst_0
  let main_v3 : IVec S16384x512 1 := cmpf .ogt main_arg3 main_v2
  let main_v4 : IVec S16384x512 1 := andi main_v1 main_v3
  let main_cst_1 : FVec F S_ .f32 := constant S_ .f32 0x7F800000#32
  let main_v5 : FVec F S16384x512 .f32 := broadcastInDim S16384x512 ![] bcast_S_S16384x512 main_cst_1
  let main_v6 : IVec S16384x512 1 := cmpf .olt main_arg4 main_v5
  let main_cst_2 : FVec F S_ .f32 := constant S_ .f32 0xFF800000#32
  let main_v7 : FVec F S16384x512 .f32 := broadcastInDim S16384x512 ![] bcast_S_S16384x512 main_cst_2
  let main_v8 : IVec S16384x512 1 := cmpf .ogt main_arg4 main_v7
  let main_v9 : IVec S16384x512 1 := andi main_v6 main_v8
  (main_v4, main_v9)
-- ==== Pre_finite_projection.lean ====
abbrev S16384x1024 : Shape := ⟨2, ![16384, 1024]⟩
abbrev S1024 : Shape := ⟨1, ![1024]⟩
abbrev S16x6144 : Shape := ⟨2, ![16, 6144]⟩
abbrev S1024x3200 : Shape := ⟨2, ![1024, 3200]⟩
abbrev S64 : Shape := ⟨1, ![64]⟩
abbrev S2048x2x16 : Shape := ⟨3, ![2048, 2, 16]⟩
abbrev S_ : Shape := ⟨0, ![]⟩
abbrev S8x2048 : Shape := ⟨2, ![8, 2048]⟩
abbrev S1024x1024 : Shape := ⟨2, ![1024, 1024]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  slices_S16x6144_S8x2048_0_0 : S16x6144.Slices ![0, 0] S8x2048
  bcast_S_S8x2048 : S_.BroadcastsInDim S8x2048 (![] : Fin 0 → Fin S8x2048.rank)
  slices_S1024x3200_S1024x1024_0_0 : S1024x3200.Slices ![0, 0] S1024x1024
  bcast_S_S1024x1024 : S_.BroadcastsInDim S1024x1024 (![] : Fin 0 → Fin S1024x1024.rank)

variable [Facts]

def fn_part1 {F : FTy → Type} [FloatOps F] (main_v4 : IVec S16384x1024 1) (main_v9 : IVec S1024 1) (main_v15 : IVec S8x2048 1) (main_v16 : FVec F S1024x1024 .f32) (main_cst_5 : FVec F S_ .f32) : IVec S16384x1024 1 × IVec S1024 1 × IVec S8x2048 1 × IVec S1024x1024 1 :=
  let main_v17 : FVec F S1024x1024 .f32 := broadcastInDim S1024x1024 ![] bcast_S_S1024x1024 main_cst_5
  let main_v18 : IVec S1024x1024 1 := cmpf .olt main_v16 main_v17
  let main_cst_6 : FVec F S_ .f32 := constant S_ .f32 0xFF800000#32
  let main_v19 : FVec F S1024x1024 .f32 := broadcastInDim S1024x1024 ![] bcast_S_S1024x1024 main_cst_6
  let main_v20 : IVec S1024x1024 1 := cmpf .ogt main_v16 main_v19
  let main_v21 : IVec S1024x1024 1 := andi main_v18 main_v20
  (main_v4, main_v9, main_v15, main_v21)

def fn {F : FTy → Type} [FloatOps F] (main_arg0 : FVec F S16384x1024 .f32) (main_arg1 : FVec F S1024 .f32) (main_arg2 : FVec F S16x6144 .f32) (main_arg3 : FVec F S1024x3200 .f32) (main_arg4 : FVec F S64 .f32) (main_arg5 : FVec F S64 .f32) (main_arg6 : FVec F S64 .f32) (main_arg7 : FVec F S64 .f32) (main_arg8 : FVec F S2048x2x16 .f32) (main_arg9 : FVec F S2048x2x16 .f32) : IVec S16384x1024 1 × IVec S1024 1 × IVec S8x2048 1 × IVec S1024x1024 1 :=
  let main_cst : FVec F S_ .f32 := constant S_ .f32 0x7F800000#32
  let main_v0 : FVec F S16384x1024 .f32 := broadcastInDim S16384x1024 ![] bcast_S_S16384x1024 main_cst
  let main_v1 : IVec S16384x1024 1 := cmpf .olt main_arg0 main_v0
  let main_cst_0 : FVec F S_ .f32 := constant S_ .f32 0xFF800000#32
  let main_v2 : FVec F S16384x1024 .f32 := broadcastInDim S16384x1024 ![] bcast_S_S16384x1024 main_cst_0
  let main_v3 : IVec S16384x1024 1 := cmpf .ogt main_arg0 main_v2
  let main_v4 : IVec S16384x1024 1 := andi main_v1 main_v3
  let main_cst_1 : FVec F S_ .f32 := constant S_ .f32 0x7F800000#32
  let main_v5 : FVec F S1024 .f32 := broadcastInDim S1024 ![] bcast_S_S1024 main_cst_1
  let main_v6 : IVec S1024 1 := cmpf .olt main_arg1 main_v5
  let main_cst_2 : FVec F S_ .f32 := constant S_ .f32 0xFF800000#32
  let main_v7 : FVec F S1024 .f32 := broadcastInDim S1024 ![] bcast_S_S1024 main_cst_2
  let main_v8 : IVec S1024 1 := cmpf .ogt main_arg1 main_v7
  let main_v9 : IVec S1024 1 := andi main_v6 main_v8
  let main_v10 : FVec F S8x2048 .f32 := (extractStridedSlice S8x2048 ![0, 0] · slices_S16x6144_S8x2048_0_0) main_arg2
  let main_cst_3 : FVec F S_ .f32 := constant S_ .f32 0x7F800000#32
  let main_v11 : FVec F S8x2048 .f32 := broadcastInDim S8x2048 ![] bcast_S_S8x2048 main_cst_3
  let main_v12 : IVec S8x2048 1 := cmpf .olt main_v10 main_v11
  let main_cst_4 : FVec F S_ .f32 := constant S_ .f32 0xFF800000#32
  let main_v13 : FVec F S8x2048 .f32 := broadcastInDim S8x2048 ![] bcast_S_S8x2048 main_cst_4
  let main_v14 : IVec S8x2048 1 := cmpf .ogt main_v10 main_v13
  let main_v15 : IVec S8x2048 1 := andi main_v12 main_v14
  let main_v16 : FVec F S1024x1024 .f32 := (extractStridedSlice S1024x1024 ![0, 0] · slices_S1024x3200_S1024x1024_0_0) main_arg3
  let main_cst_5 : FVec F S_ .f32 := constant S_ .f32 0x7F800000#32
  fn_part1 (F := F) main_v4 main_v9 main_v15 main_v16 main_cst_5
-- ==== Pre_finite_queries.lean ====
abbrev S16384x1024 : Shape := ⟨2, ![16384, 1024]⟩
abbrev S1024 : Shape := ⟨1, ![1024]⟩
abbrev S16x6144 : Shape := ⟨2, ![16, 6144]⟩
abbrev S1024x2048 : Shape := ⟨2, ![1024, 2048]⟩
abbrev S8x2x128x128 : Shape := ⟨4, ![8, 2, 128, 128]⟩
abbrev S_ : Shape := ⟨0, ![]⟩
abbrev S8x2048 : Shape := ⟨2, ![8, 2048]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  slices_S16x6144_S8x2048_0_3072 : S16x6144.Slices ![0, 3072] S8x2048
  bcast_S_S8x2048 : S_.BroadcastsInDim S8x2048 (![] : Fin 0 → Fin S8x2048.rank)
  bcast_S_S1024x2048 : S_.BroadcastsInDim S1024x2048 (![] : Fin 0 → Fin S1024x2048.rank)
  bcast_S_S8x2x128x128 : S_.BroadcastsInDim S8x2x128x128 (![] : Fin 0 → Fin S8x2x128x128.rank)

variable [Facts]

def fn_part1 {F : FTy → Type} [FloatOps F] (main_arg3 : FVec F S1024x2048 .f32) (main_arg4 : FVec F S8x2x128x128 .f32) (main_v4 : IVec S16384x1024 1) (main_v9 : IVec S1024 1) (main_v15 : IVec S8x2048 1) (main_v16 : FVec F S1024x2048 .f32) : IVec S16384x1024 1 × IVec S1024 1 × IVec S8x2048 1 × IVec S1024x2048 1 × IVec S8x2x128x128 1 :=
  let main_v17 : IVec S1024x2048 1 := cmpf .olt main_arg3 main_v16
  let main_cst_6 : FVec F S_ .f32 := constant S_ .f32 0xFF800000#32
  let main_v18 : FVec F S1024x2048 .f32 := broadcastInDim S1024x2048 ![] bcast_S_S1024x2048 main_cst_6
  let main_v19 : IVec S1024x2048 1 := cmpf .ogt main_arg3 main_v18
  let main_v20 : IVec S1024x2048 1 := andi main_v17 main_v19
  let main_cst_7 : FVec F S_ .f32 := constant S_ .f32 0x7F800000#32
  let main_v21 : FVec F S8x2x128x128 .f32 := broadcastInDim S8x2x128x128 ![] bcast_S_S8x2x128x128 main_cst_7
  let main_v22 : IVec S8x2x128x128 1 := cmpf .olt main_arg4 main_v21
  let main_cst_8 : FVec F S_ .f32 := constant S_ .f32 0xFF800000#32
  let main_v23 : FVec F S8x2x128x128 .f32 := broadcastInDim S8x2x128x128 ![] bcast_S_S8x2x128x128 main_cst_8
  let main_v24 : IVec S8x2x128x128 1 := cmpf .ogt main_arg4 main_v23
  let main_v25 : IVec S8x2x128x128 1 := andi main_v22 main_v24
  (main_v4, main_v9, main_v15, main_v20, main_v25)

def fn {F : FTy → Type} [FloatOps F] (main_arg0 : FVec F S16384x1024 .f32) (main_arg1 : FVec F S1024 .f32) (main_arg2 : FVec F S16x6144 .f32) (main_arg3 : FVec F S1024x2048 .f32) (main_arg4 : FVec F S8x2x128x128 .f32) : IVec S16384x1024 1 × IVec S1024 1 × IVec S8x2048 1 × IVec S1024x2048 1 × IVec S8x2x128x128 1 :=
  let main_cst : FVec F S_ .f32 := constant S_ .f32 0x7F800000#32
  let main_v0 : FVec F S16384x1024 .f32 := broadcastInDim S16384x1024 ![] bcast_S_S16384x1024 main_cst
  let main_v1 : IVec S16384x1024 1 := cmpf .olt main_arg0 main_v0
  let main_cst_0 : FVec F S_ .f32 := constant S_ .f32 0xFF800000#32
  let main_v2 : FVec F S16384x1024 .f32 := broadcastInDim S16384x1024 ![] bcast_S_S16384x1024 main_cst_0
  let main_v3 : IVec S16384x1024 1 := cmpf .ogt main_arg0 main_v2
  let main_v4 : IVec S16384x1024 1 := andi main_v1 main_v3
  let main_cst_1 : FVec F S_ .f32 := constant S_ .f32 0x7F800000#32
  let main_v5 : FVec F S1024 .f32 := broadcastInDim S1024 ![] bcast_S_S1024 main_cst_1
  let main_v6 : IVec S1024 1 := cmpf .olt main_arg1 main_v5
  let main_cst_2 : FVec F S_ .f32 := constant S_ .f32 0xFF800000#32
  let main_v7 : FVec F S1024 .f32 := broadcastInDim S1024 ![] bcast_S_S1024 main_cst_2
  let main_v8 : IVec S1024 1 := cmpf .ogt main_arg1 main_v7
  let main_v9 : IVec S1024 1 := andi main_v6 main_v8
  let main_v10 : FVec F S8x2048 .f32 := (extractStridedSlice S8x2048 ![0, 3072] · slices_S16x6144_S8x2048_0_3072) main_arg2
  let main_cst_3 : FVec F S_ .f32 := constant S_ .f32 0x7F800000#32
  let main_v11 : FVec F S8x2048 .f32 := broadcastInDim S8x2048 ![] bcast_S_S8x2048 main_cst_3
  let main_v12 : IVec S8x2048 1 := cmpf .olt main_v10 main_v11
  let main_cst_4 : FVec F S_ .f32 := constant S_ .f32 0xFF800000#32
  let main_v13 : FVec F S8x2048 .f32 := broadcastInDim S8x2048 ![] bcast_S_S8x2048 main_cst_4
  let main_v14 : IVec S8x2048 1 := cmpf .ogt main_v10 main_v13
  let main_v15 : IVec S8x2048 1 := andi main_v12 main_v14
  let main_cst_5 : FVec F S_ .f32 := constant S_ .f32 0x7F800000#32
  let main_v16 : FVec F S1024x2048 .f32 := broadcastInDim S1024x2048 ![] bcast_S_S1024x2048 main_cst_5
  fn_part1 (F := F) main_arg3 main_arg4 main_v4 main_v9 main_v15 main_v16
-- ==== Pre_finite_recurrence.lean ====
abbrev S16384x1920 : Shape := ⟨2, ![16384, 1920]⟩
abbrev S3x1920 : Shape := ⟨2, ![3, 1920]⟩
abbrev S512 : Shape := ⟨1, ![512]⟩
abbrev S8x64 : Shape := ⟨2, ![8, 64]⟩
abbrev S2x512 : Shape := ⟨2, ![2, 512]⟩
abbrev S2x64x512 : Shape := ⟨3, ![2, 64, 512]⟩
abbrev S128x512 : Shape := ⟨2, ![128, 512]⟩
abbrev S16384x1024 : Shape := ⟨2, ![16384, 1024]⟩
abbrev S_ : Shape := ⟨0, ![]⟩
abbrev S16384x128 : Shape := ⟨2, ![16384, 128]⟩
abbrev S3x1024 : Shape := ⟨2, ![3, 1024]⟩
abbrev S3x128 : Shape := ⟨2, ![3, 128]⟩

class Facts : Prop where
  slices_S16384x1920_S16384x1024_0_0 : S16384x1920.Slices ![0, 0] S16384x1024
  bcast_S_S16384x1024 : S_.BroadcastsInDim S16384x1024 (![] : Fin 0 → Fin S16384x1024.rank)
  slices_S16384x1920_S16384x128_0_1664 : S16384x1920.Slices ![0, 1664] S16384x128
  bcast_S_S16384x128 : S_.BroadcastsInDim S16384x128 (![] : Fin 0 → Fin S16384x128.rank)
  slices_S3x1920_S3x1024_0_0 : S3x1920.Slices ![0, 0] S3x1024
  bcast_S_S3x1024 : S_.BroadcastsInDim S3x1024 (![] : Fin 0 → Fin S3x1024.rank)
  slices_S3x1920_S3x128_0_1664 : S3x1920.Slices ![0, 1664] S3x128
  bcast_S_S3x128 : S_.BroadcastsInDim S3x128 (![] : Fin 0 → Fin S3x128.rank)
  bcast_S_S512 : S_.BroadcastsInDim S512 (![] : Fin 0 → Fin S512.rank)
  bcast_S_S8x64 : S_.BroadcastsInDim S8x64 (![] : Fin 0 → Fin S8x64.rank)
  bcast_S_S2x64x512 : S_.BroadcastsInDim S2x64x512 (![] : Fin 0 → Fin S2x64x512.rank)
  bcast_S_S128x512 : S_.BroadcastsInDim S128x512 (![] : Fin 0 → Fin S128x512.rank)

variable [Facts]

def fn_part3 {F : FTy → Type} [FloatOps F] (main_arg9 : FVec F S128x512 .f32) (main_v5 : IVec S16384x1024 1) (main_v11 : IVec S16384x128 1) (main_v17 : IVec S3x1024 1) (main_v23 : IVec S3x128 1) (main_v28 : IVec S512 1) (main_v33 : IVec S512 1) (main_v38 : IVec S8x64 1) (main_v43 : IVec S2x64x512 1) (main_v48 : IVec S2x64x512 1) (main_v50 : IVec S128x512 1) (main_v51 : FVec F S128x512 .f32) : IVec S16384x1024 1 × IVec S16384x128 1 × IVec S3x1024 1 × IVec S3x128 1 × IVec S512 1 × IVec S512 1 × IVec S8x64 1 × IVec S2x64x512 1 × IVec S2x64x512 1 × IVec S128x512 1 :=
  let main_v52 : IVec S128x512 1 := cmpf .ogt main_arg9 main_v51
  let main_v53 : IVec S128x512 1 := andi main_v50 main_v52
  (main_v5, main_v11, main_v17, main_v23, main_v28, main_v33, main_v38, main_v43, main_v48, main_v53)

def fn_part2 {F : FTy → Type} [FloatOps F] (main_arg4 : FVec F S8x64 .f32) (main_arg6 : FVec F S2x64x512 .f32) (main_arg8 : FVec F S2x64x512 .f32) (main_arg9 : FVec F S128x512 .f32) (main_v5 : IVec S16384x1024 1) (main_v11 : IVec S16384x128 1) (main_v17 : IVec S3x1024 1) (main_v23 : IVec S3x128 1) (main_v28 : IVec S512 1) (main_v33 : IVec S512 1) (main_v34 : FVec F S8x64 .f32) : IVec S16384x1024 1 × IVec S16384x128 1 × IVec S3x1024 1 × IVec S3x128 1 × IVec S512 1 × IVec S512 1 × IVec S8x64 1 × IVec S2x64x512 1 × IVec S2x64x512 1 × IVec S128x512 1 :=
  let main_v35 : IVec S8x64 1 := cmpf .olt main_arg4 main_v34
  let main_cst_12 : FVec F S_ .f32 := constant S_ .f32 0xFF800000#32
  let main_v36 : FVec F S8x64 .f32 := broadcastInDim S8x64 ![] bcast_S_S8x64 main_cst_12
  let main_v37 : IVec S8x64 1 := cmpf .ogt main_arg4 main_v36
  let main_v38 : IVec S8x64 1 := andi main_v35 main_v37
  let main_cst_13 : FVec F S_ .f32 := constant S_ .f32 0x7F800000#32
  let main_v39 : FVec F S2x64x512 .f32 := broadcastInDim S2x64x512 ![] bcast_S_S2x64x512 main_cst_13
  let main_v40 : IVec S2x64x512 1 := cmpf .olt main_arg6 main_v39
  let main_cst_14 : FVec F S_ .f32 := constant S_ .f32 0xFF800000#32
  let main_v41 : FVec F S2x64x512 .f32 := broadcastInDim S2x64x512 ![] bcast_S_S2x64x512 main_cst_14
  let main_v42 : IVec S2x64x512 1 := cmpf .ogt main_arg6 main_v41
  let main_v43 : IVec S2x64x512 1 := andi main_v40 main_v42
  let main_cst_15 : FVec F S_ .f32 := constant S_ .f32 0x7F800000#32
  let main_v44 : FVec F S2x64x512 .f32 := broadcastInDim S2x64x512 ![] bcast_S_S2x64x512 main_cst_15
  let main_v45 : IVec S2x64x512 1 := cmpf .olt main_arg8 main_v44
  let main_cst_16 : FVec F S_ .f32 := constant S_ .f32 0xFF800000#32
  let main_v46 : FVec F S2x64x512 .f32 := broadcastInDim S2x64x512 ![] bcast_S_S2x64x512 main_cst_16
  let main_v47 : IVec S2x64x512 1 := cmpf .ogt main_arg8 main_v46
  let main_v48 : IVec S2x64x512 1 := andi main_v45 main_v47
  let main_cst_17 : FVec F S_ .f32 := constant S_ .f32 0x7F800000#32
  let main_v49 : FVec F S128x512 .f32 := broadcastInDim S128x512 ![] bcast_S_S128x512 main_cst_17
  let main_v50 : IVec S128x512 1 := cmpf .olt main_arg9 main_v49
  let main_cst_18 : FVec F S_ .f32 := constant S_ .f32 0xFF800000#32
  let main_v51 : FVec F S128x512 .f32 := broadcastInDim S128x512 ![] bcast_S_S128x512 main_cst_18
  fn_part3 (F := F) main_arg9 main_v5 main_v11 main_v17 main_v23 main_v28 main_v33 main_v38 main_v43 main_v48 main_v50 main_v51

def fn_part1 {F : FTy → Type} [FloatOps F] (main_arg1 : FVec F S3x1920 .f32) (main_arg2 : FVec F S512 .f32) (main_arg3 : FVec F S512 .f32) (main_arg4 : FVec F S8x64 .f32) (main_arg6 : FVec F S2x64x512 .f32) (main_arg8 : FVec F S2x64x512 .f32) (main_arg9 : FVec F S128x512 .f32) (main_v5 : IVec S16384x1024 1) (main_v11 : IVec S16384x128 1) (main_v17 : IVec S3x1024 1) : IVec S16384x1024 1 × IVec S16384x128 1 × IVec S3x1024 1 × IVec S3x128 1 × IVec S512 1 × IVec S512 1 × IVec S8x64 1 × IVec S2x64x512 1 × IVec S2x64x512 1 × IVec S128x512 1 :=
  let main_v18 : FVec F S3x128 .f32 := (extractStridedSlice S3x128 ![0, 1664] · slices_S3x1920_S3x128_0_1664) main_arg1
  let main_cst_5 : FVec F S_ .f32 := constant S_ .f32 0x7F800000#32
  let main_v19 : FVec F S3x128 .f32 := broadcastInDim S3x128 ![] bcast_S_S3x128 main_cst_5
  let main_v20 : IVec S3x128 1 := cmpf .olt main_v18 main_v19
  let main_cst_6 : FVec F S_ .f32 := constant S_ .f32 0xFF800000#32
  let main_v21 : FVec F S3x128 .f32 := broadcastInDim S3x128 ![] bcast_S_S3x128 main_cst_6
  let main_v22 : IVec S3x128 1 := cmpf .ogt main_v18 main_v21
  let main_v23 : IVec S3x128 1 := andi main_v20 main_v22
  let main_cst_7 : FVec F S_ .f32 := constant S_ .f32 0x7F800000#32
  let main_v24 : FVec F S512 .f32 := broadcastInDim S512 ![] bcast_S_S512 main_cst_7
  let main_v25 : IVec S512 1 := cmpf .olt main_arg2 main_v24
  let main_cst_8 : FVec F S_ .f32 := constant S_ .f32 0xFF800000#32
  let main_v26 : FVec F S512 .f32 := broadcastInDim S512 ![] bcast_S_S512 main_cst_8
  let main_v27 : IVec S512 1 := cmpf .ogt main_arg2 main_v26
  let main_v28 : IVec S512 1 := andi main_v25 main_v27
  let main_cst_9 : FVec F S_ .f32 := constant S_ .f32 0x7F800000#32
  let main_v29 : FVec F S512 .f32 := broadcastInDim S512 ![] bcast_S_S512 main_cst_9
  let main_v30 : IVec S512 1 := cmpf .olt main_arg3 main_v29
  let main_cst_10 : FVec F S_ .f32 := constant S_ .f32 0xFF800000#32
  let main_v31 : FVec F S512 .f32 := broadcastInDim S512 ![] bcast_S_S512 main_cst_10
  let main_v32 : IVec S512 1 := cmpf .ogt main_arg3 main_v31
  let main_v33 : IVec S512 1 := andi main_v30 main_v32
  let main_cst_11 : FVec F S_ .f32 := constant S_ .f32 0x7F800000#32
  let main_v34 : FVec F S8x64 .f32 := broadcastInDim S8x64 ![] bcast_S_S8x64 main_cst_11
  fn_part2 (F := F) main_arg4 main_arg6 main_arg8 main_arg9 main_v5 main_v11 main_v17 main_v23 main_v28 main_v33 main_v34

def fn {F : FTy → Type} [FloatOps F] (main_arg0 : FVec F S16384x1920 .f32) (main_arg1 : FVec F S3x1920 .f32) (main_arg2 : FVec F S512 .f32) (main_arg3 : FVec F S512 .f32) (main_arg4 : FVec F S8x64 .f32) (main_arg5 : FVec F S2x512 .f32) (main_arg6 : FVec F S2x64x512 .f32) (main_arg7 : FVec F S2x512 .f32) (main_arg8 : FVec F S2x64x512 .f32) (main_arg9 : FVec F S128x512 .f32) : IVec S16384x1024 1 × IVec S16384x128 1 × IVec S3x1024 1 × IVec S3x128 1 × IVec S512 1 × IVec S512 1 × IVec S8x64 1 × IVec S2x64x512 1 × IVec S2x64x512 1 × IVec S128x512 1 :=
  let main_v0 : FVec F S16384x1024 .f32 := (extractStridedSlice S16384x1024 ![0, 0] · slices_S16384x1920_S16384x1024_0_0) main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_cst_0 : FVec F S_ .f32 := constant S_ .f32 0xFF800000#32
  let main_v3 : FVec F S16384x1024 .f32 := broadcastInDim S16384x1024 ![] bcast_S_S16384x1024 main_cst_0
  let main_v4 : IVec S16384x1024 1 := cmpf .ogt main_v0 main_v3
  let main_v5 : IVec S16384x1024 1 := andi main_v2 main_v4
  let main_v6 : FVec F S16384x128 .f32 := (extractStridedSlice S16384x128 ![0, 1664] · slices_S16384x1920_S16384x128_0_1664) main_arg0
  let main_cst_1 : FVec F S_ .f32 := constant S_ .f32 0x7F800000#32
  let main_v7 : FVec F S16384x128 .f32 := broadcastInDim S16384x128 ![] bcast_S_S16384x128 main_cst_1
  let main_v8 : IVec S16384x128 1 := cmpf .olt main_v6 main_v7
  let main_cst_2 : FVec F S_ .f32 := constant S_ .f32 0xFF800000#32
  let main_v9 : FVec F S16384x128 .f32 := broadcastInDim S16384x128 ![] bcast_S_S16384x128 main_cst_2
  let main_v10 : IVec S16384x128 1 := cmpf .ogt main_v6 main_v9
  let main_v11 : IVec S16384x128 1 := andi main_v8 main_v10
  let main_v12 : FVec F S3x1024 .f32 := (extractStridedSlice S3x1024 ![0, 0] · slices_S3x1920_S3x1024_0_0) main_arg1
  let main_cst_3 : FVec F S_ .f32 := constant S_ .f32 0x7F800000#32
  let main_v13 : FVec F S3x1024 .f32 := broadcastInDim S3x1024 ![] bcast_S_S3x1024 main_cst_3
  let main_v14 : IVec S3x1024 1 := cmpf .olt main_v12 main_v13
  let main_cst_4 : FVec F S_ .f32 := constant S_ .f32 0xFF800000#32
  let main_v15 : FVec F S3x1024 .f32 := broadcastInDim S3x1024 ![] bcast_S_S3x1024 main_cst_4
  let main_v16 : IVec S3x1024 1 := cmpf .ogt main_v12 main_v15
  let main_v17 : IVec S3x1024 1 := andi main_v14 main_v16
  fn_part1 (F := F) main_arg1 main_arg2 main_arg3 main_arg4 main_arg6 main_arg8 main_arg9 main_v5 main_v11 main_v17
-- ==== Pre_finite_scores.lean ====
abbrev S16384x1280 : Shape := ⟨2, ![16384, 1280]⟩
abbrev S2048x1280 : Shape := ⟨2, ![2048, 1280]⟩
abbrev S4 : Shape := ⟨1, ![4]⟩
abbrev S16384x384 : Shape := ⟨2, ![16384, 384]⟩
abbrev S_ : Shape := ⟨0, ![]⟩
abbrev S2048x128 : Shape := ⟨2, ![2048, 128]⟩

class Facts : Prop where
  slices_S16384x1280_S16384x384_0_0 : S16384x1280.Slices ![0, 0] S16384x384
  bitsLt_bf16_f32 : FTy.bits .bf16 < FTy.bits .f32
  bcast_S_S16384x384 : S_.BroadcastsInDim S16384x384 (![] : Fin 0 → Fin S16384x384.rank)
  slices_S2048x1280_S2048x128_0_256 : S2048x1280.Slices ![0, 256] S2048x128
  bcast_S_S2048x128 : S_.BroadcastsInDim S2048x128 (![] : Fin 0 → Fin S2048x128.rank)
  bcast_S_S4 : S_.BroadcastsInDim S4 (![] : Fin 0 → Fin S4.rank)

variable [Facts]

def fn_part1 {F : FTy → Type} [FloatOps F] (main_v6 : IVec S16384x384 1) (main_v13 : IVec S2048x128 1) (main_v15 : IVec S4 1) (main_v17 : IVec S4 1) : IVec S16384x384 1 × IVec S2048x128 1 × IVec S4 1 :=
  let main_v18 : IVec S4 1 := andi main_v15 main_v17
  (main_v6, main_v13, main_v18)

def fn {F : FTy → Type} [FloatOps F] (main_arg0 : FVec F S16384x1280 .bf16) (main_arg1 : FVec F S2048x1280 .bf16) (main_arg2 : FVec F S4 .f32) : IVec S16384x384 1 × IVec S2048x128 1 × IVec S4 1 :=
  let main_v0 : FVec F S16384x384 .bf16 := (extractStridedSlice S16384x384 ![0, 0] · slices_S16384x1280_S16384x384_0_0) main_arg0
  let main_v1 : FVec F S16384x384 .f32 := (extf .f32 · bitsLt_bf16_f32) main_v0
  let main_cst : FVec F S_ .f32 := constant S_ .f32 0x7F800000#32
  let main_v2 : FVec F S16384x384 .f32 := broadcastInDim S16384x384 ![] bcast_S_S16384x384 main_cst
  let main_v3 : IVec S16384x384 1 := cmpf .olt main_v1 main_v2
  let main_cst_0 : FVec F S_ .f32 := constant S_ .f32 0xFF800000#32
  let main_v4 : FVec F S16384x384 .f32 := broadcastInDim S16384x384 ![] bcast_S_S16384x384 main_cst_0
  let main_v5 : IVec S16384x384 1 := cmpf .ogt main_v1 main_v4
  let main_v6 : IVec S16384x384 1 := andi main_v3 main_v5
  let main_v7 : FVec F S2048x128 .bf16 := (extractStridedSlice S2048x128 ![0, 256] · slices_S2048x1280_S2048x128_0_256) main_arg1
  let main_v8 : FVec F S2048x128 .f32 := (extf .f32 · bitsLt_bf16_f32) main_v7
  let main_cst_1 : FVec F S_ .f32 := constant S_ .f32 0x7F800000#32
  let main_v9 : FVec F S2048x128 .f32 := broadcastInDim S2048x128 ![] bcast_S_S2048x128 main_cst_1
  let main_v10 : IVec S2048x128 1 := cmpf .olt main_v8 main_v9
  let main_cst_2 : FVec F S_ .f32 := constant S_ .f32 0xFF800000#32
  let main_v11 : FVec F S2048x128 .f32 := broadcastInDim S2048x128 ![] bcast_S_S2048x128 main_cst_2
  let main_v12 : IVec S2048x128 1 := cmpf .ogt main_v8 main_v11
  let main_v13 : IVec S2048x128 1 := andi main_v10 main_v12
  let main_cst_3 : FVec F S_ .f32 := constant S_ .f32 0x7F800000#32
  let main_v14 : FVec F S4 .f32 := broadcastInDim S4 ![] bcast_S_S4 main_cst_3
  let main_v15 : IVec S4 1 := cmpf .olt main_arg2 main_v14
  let main_cst_4 : FVec F S_ .f32 := constant S_ .f32 0xFF800000#32
  let main_v16 : FVec F S4 .f32 := broadcastInDim S4 ![] bcast_S_S4 main_cst_4
  let main_v17 : IVec S4 1 := cmpf .ogt main_arg2 main_v16
  fn_part1 (F := F) main_v6 main_v13 main_v15 main_v17
-- ==== Kernel.lean ====
abbrev S16384x1280 : Shape := ⟨2, ![16384, 1280]⟩
abbrev S2048x1280 : Shape := ⟨2, ![2048, 1280]⟩
abbrev S4 : Shape := ⟨1, ![4]⟩
abbrev S1x4 : Shape := ⟨2, ![1, 4]⟩
abbrev S16384x256 : Shape := ⟨2, ![16384, 256]⟩
abbrev S512x256 : Shape := ⟨2, ![512, 256]⟩
abbrev S128x128 : Shape := ⟨2, ![128, 128]⟩
abbrev S256x128 : Shape := ⟨2, ![256, 128]⟩
abbrev S256x640 : Shape := ⟨2, ![256, 640]⟩
abbrev S640x128 : Shape := ⟨2, ![640, 128]⟩
abbrev S1x1 : Shape := ⟨2, ![1, 1]⟩
abbrev S128x1 : Shape := ⟨2, ![128, 1]⟩
abbrev S256x1 : Shape := ⟨2, ![256, 1]⟩
abbrev S128x64 : Shape := ⟨2, ![128, 64]⟩
abbrev S256x64 : Shape := ⟨2, ![256, 64]⟩
abbrev S640x64 : Shape := ⟨2, ![640, 64]⟩
abbrev S256 : Shape := ⟨1, ![256]⟩

abbrev nBuf : Space → Nat
  | .hbm => 5
  | .vmem => 33
  | .smem => 0
  | _ => 0

abbrev bufTy : (tb : Table) → Fin (tcTables nBuf tb) → BufTy
  | .hbm, ⟨0, _⟩ => ⟨S16384x1280, .bf16⟩
  | .hbm, ⟨1, _⟩ => ⟨S2048x1280, .bf16⟩
  | .hbm, ⟨2, _⟩ => ⟨S4, .f32⟩
  | .hbm, ⟨3, _⟩ => ⟨S1x4, .f32⟩
  | .hbm, ⟨4, _⟩ => ⟨S16384x256, .bf16⟩
  | .local _ .vmem, ⟨0, _⟩ => ⟨S512x256, .bf16⟩
  | .local _ .vmem, ⟨1, _⟩ => ⟨S512x256, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S128x128, .bf16⟩
  | .local _ .vmem, ⟨23, _⟩ => ⟨S128x128, .bf16⟩
  | .local _ .vmem, ⟨24, _⟩ => ⟨S128x128, .bf16⟩
  | .local _ .vmem, ⟨25, _⟩ => ⟨S128x128, .bf16⟩
  | .local _ .vmem, ⟨26, _⟩ => ⟨S256x128, .bf16⟩
  | .local _ .vmem, ⟨27, _⟩ => ⟨S256x128, .bf16⟩
  | .local _ .vmem, ⟨28, _⟩ => ⟨S256x128, .bf16⟩
  | .local _ .vmem, ⟨29, _⟩ => ⟨S256x128, .bf16⟩
  | .local _ .vmem, ⟨30, _⟩ => ⟨S1x4, .f32⟩
  | .local _ .vmem, ⟨31, _⟩ => ⟨S512x256, .bf16⟩
  | .local _ .vmem, ⟨32, _⟩ => ⟨S512x256, .bf16⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg16_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c_m1_i32 : BitVec 32 := 4294967295#32
  let v2 : BitVec 32 := Scalar.addi v1 c_m1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c2_i32 : BitVec 32 := 2#32
  let c0_i32_0 : BitVec 32 := 0#32
  ![v5.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c0_i32 : BitVec 32 := 0#32
  let v2 : BitVec 32 := Scalar.addi v1 c0_i32
  let c0_i32_0 : BitVec 32 := 0#32
  let c15_i32 : BitVec 32 := 15#32
  let v3 : BitVec 32 := Scalar.maxsi c0_i32_0 v2
  let v4 : BitVec 32 := Scalar.minsi c15_i32 v3
  let v5 : BitVec 32 := Scalar.addi v0 v4
  let c2_i32 : BitVec 32 := 2#32
  let c0_i32_1 : BitVec 32 := 0#32
  ![v5.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c1_i32 : BitVec 32 := 1#32
  let v2 : BitVec 32 := Scalar.addi v1 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c2_i32 : BitVec 32 := 2#32
  let c0_i32_0 : BitVec 32 := 0#32
  ![v5.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c2_i32 : BitVec 32 := 2#32
  let v2 : BitVec 32 := Scalar.addi v1 c2_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c2_i32_0 : BitVec 32 := 2#32
  let c0_i32_1 : BitVec 32 := 0#32
  ![v5.toNat, c2_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c3_i32 : BitVec 32 := 3#32
  let v2 : BitVec 32 := Scalar.addi v1 c3_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c2_i32 : BitVec 32 := 2#32
  let c0_i32_0 : BitVec 32 := 0#32
  ![v5.toNat, c2_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c4_i32_0 : BitVec 32 := 4#32
  let v2 : BitVec 32 := Scalar.addi v1 c4_i32_0
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c2_i32 : BitVec 32 := 2#32
  let c0_i32_1 : BitVec 32 := 0#32
  ![v5.toNat, c2_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c_m1_i32 : BitVec 32 := 4294967295#32
  let v2 : BitVec 32 := Scalar.addi v1 c_m1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c3_i32 : BitVec 32 := 3#32
  let c0_i32_0 : BitVec 32 := 0#32
  ![v5.toNat, c3_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c0_i32 : BitVec 32 := 0#32
  let v2 : BitVec 32 := Scalar.addi v1 c0_i32
  let c0_i32_0 : BitVec 32 := 0#32
  let c15_i32 : BitVec 32 := 15#32
  let v3 : BitVec 32 := Scalar.maxsi c0_i32_0 v2
  let v4 : BitVec 32 := Scalar.minsi c15_i32 v3
  let v5 : BitVec 32 := Scalar.addi v0 v4
  let c3_i32 : BitVec 32 := 3#32
  let c0_i32_1 : BitVec 32 := 0#32
  ![v5.toNat, c3_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c1_i32 : BitVec 32 := 1#32
  let v2 : BitVec 32 := Scalar.addi v1 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c3_i32 : BitVec 32 := 3#32
  let c0_i32_0 : BitVec 32 := 0#32
  ![v5.toNat, c3_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c2_i32 : BitVec 32 := 2#32
  let v2 : BitVec 32 := Scalar.addi v1 c2_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c3_i32 : BitVec 32 := 3#32
  let c0_i32_0 : BitVec 32 := 0#32
  ![v5.toNat, c3_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c3_i32 : BitVec 32 := 3#32
  let v2 : BitVec 32 := Scalar.addi v1 c3_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c3_i32_0 : BitVec 32 := 3#32
  let c0_i32_1 : BitVec 32 := 0#32
  ![v5.toNat, c3_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c4_i32_0 : BitVec 32 := 4#32
  let v2 : BitVec 32 := Scalar.addi v1 c4_i32_0
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c3_i32 : BitVec 32 := 3#32
  let c0_i32_1 : BitVec 32 := 0#32
  ![v5.toNat, c3_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x1280 : Shape := ⟨2, ![16384, 1280]⟩
abbrev S2048x1280 : Shape := ⟨2, ![2048, 1280]⟩
abbrev S4 : Shape := ⟨1, ![4]⟩
abbrev S8x2048x1280 : Shape := ⟨3, ![8, 2048, 1280]⟩
abbrev S8x256x1280 : Shape := ⟨3, ![8, 256, 1280]⟩
abbrev S8x2048x256 : Shape := ⟨3, ![8, 2048, 256]⟩
abbrev S8x16x128x2x2x64 : Shape := ⟨6, ![8, 16, 128, 2, 2, 64]⟩
abbrev S8x2048x128 : Shape := ⟨3, ![8, 2048, 128]⟩
abbrev S8x2048x2x64 : Shape := ⟨4, ![8, 2048, 2, 64]⟩
abbrev S8x256x128 : Shape := ⟨3, ![8, 256, 128]⟩
abbrev S8x256x2x64 : Shape := ⟨4, ![8, 256, 2, 64]⟩
abbrev S_ : Shape := ⟨0, ![]⟩
abbrev S8x2304x2x64 : Shape := ⟨4, ![8, 2304, 2, 64]⟩
abbrev S8x18x128x2x64 : Shape := ⟨5, ![8, 18, 128, 2, 64]⟩
abbrev S8x16x128x2x64 : Shape := ⟨5, ![8, 16, 128, 2, 64]⟩
abbrev S8x16x384x2x64 : Shape := ⟨5, ![8, 16, 384, 2, 64]⟩
abbrev S2048 : Shape := ⟨1, ![2048]⟩
abbrev S16x128 : Shape := ⟨2, ![16, 128]⟩
abbrev S16 : Shape := ⟨1, ![16]⟩
abbrev S16x1 : Shape := ⟨2, ![16, 1]⟩
abbrev S384 : Shape := ⟨1, ![384]⟩
abbrev S1x384 : Shape := ⟨2, ![1, 384]⟩
abbrev S16x384 : Shape := ⟨2, ![16, 384]⟩
abbrev S16x1x384 : Shape := ⟨3, ![16, 1, 384]⟩
abbrev S16x128x1 : Shape := ⟨3, ![16, 128, 1]⟩
abbrev S16x128x384 : Shape := ⟨3, ![16, 128, 384]⟩
abbrev S8x16x2x384x128x2 : Shape := ⟨6, ![8, 16, 2, 384, 128, 2]⟩
abbrev S8x16x2x2x128x384 : Shape := ⟨6, ![8, 16, 2, 2, 128, 384]⟩
abbrev S1x16x1x1x128x384 : Shape := ⟨6, ![1, 16, 1, 1, 128, 384]⟩
abbrev S8x2x256x16x128x2 : Shape := ⟨6, ![8, 2, 256, 16, 128, 2]⟩
abbrev S8x16x2x2x128x256 : Shape := ⟨6, ![8, 16, 2, 2, 128, 256]⟩
abbrev S1x1x2x2x1x1 : Shape := ⟨6, ![1, 1, 2, 2, 1, 1]⟩
abbrev S8x16x2x2x128x1 : Shape := ⟨6, ![8, 16, 2, 2, 128, 1]⟩
abbrev S8x16x2x2x128x641 : Shape := ⟨6, ![8, 16, 2, 2, 128, 641]⟩
abbrev S8x16x2x2x128 : Shape := ⟨5, ![8, 16, 2, 2, 128]⟩
abbrev S8x16x2x64x2x128 : Shape := ⟨6, ![8, 16, 2, 64, 2, 128]⟩
abbrev S8x2x64x16x2x128 : Shape := ⟨6, ![8, 2, 64, 16, 2, 128]⟩
abbrev S16384x256 : Shape := ⟨2, ![16384, 256]⟩

abbrev nBuf : Space → Nat
  | .hbm => 104
  | .vmem => 0
  | .smem => 0
  | _ => 0

abbrev bufTy : (tb : Table) → Fin (tcTables nBuf tb) → BufTy
  | .hbm, ⟨0, _⟩ => ⟨S16384x1280, .bf16⟩
  | .hbm, ⟨1, _⟩ => ⟨S2048x1280, .bf16⟩
  | .hbm, ⟨2, _⟩ => ⟨S4, .f32⟩
  | .hbm, ⟨3, _⟩ => ⟨S16384x1280, .f32⟩
  | .hbm, ⟨4, _⟩ => ⟨S8x2048x1280, .f32⟩
  | .hbm, ⟨5, _⟩ => ⟨S2048x1280, .f32⟩
  | .hbm, ⟨6, _⟩ => ⟨S8x256x1280, .f32⟩
  | .hbm, ⟨7, _⟩ => ⟨S8x2048x256, .f32⟩
  | .hbm, ⟨8, _⟩ => ⟨S8x16x128x2x2x64, .f32⟩
  | .hbm, ⟨9, _⟩ => ⟨S8x2048x128, .f32⟩
  | .hbm, ⟨10, _⟩ => ⟨S8x2048x2x64, .f32⟩
  | .hbm, ⟨11, _⟩ => ⟨S8x2048x128, .f32⟩
  | .hbm, ⟨12, _⟩ => ⟨S8x2048x2x64, .f32⟩
  | .hbm, ⟨13, _⟩ => ⟨S8x256x128, .f32⟩
  | .hbm, ⟨14, _⟩ => ⟨S8x256x2x64, .f32⟩
  | .hbm, ⟨15, _⟩ => ⟨S8x256x128, .f32⟩
  | .hbm, ⟨16, _⟩ => ⟨S8x256x2x64, .f32⟩
  | .hbm, ⟨17, _⟩ => ⟨S_, .i32⟩
  | .hbm, ⟨18, _⟩ => ⟨S_, .f32⟩
  | .hbm, ⟨19, _⟩ => ⟨S8x2304x2x64, .f32⟩
  | .hbm, ⟨20, _⟩ => ⟨S8x18x128x2x64, .f32⟩
  | .hbm, ⟨21, _⟩ => ⟨S8x16x128x2x64, .f32⟩
  | .hbm, ⟨22, _⟩ => ⟨S8x16x128x2x64, .f32⟩
  | .hbm, ⟨23, _⟩ => ⟨S8x16x128x2x64, .f32⟩
  | .hbm, ⟨24, _⟩ => ⟨S8x16x384x2x64, .f32⟩
  | .hbm, ⟨25, _⟩ => ⟨S_, .i32⟩
  | .hbm, ⟨26, _⟩ => ⟨S_, .f32⟩
  | .hbm, ⟨27, _⟩ => ⟨S8x2304x2x64, .f32⟩
  | .hbm, ⟨28, _⟩ => ⟨S8x18x128x2x64, .f32⟩
  | .hbm, ⟨29, _⟩ => ⟨S8x16x128x2x64, .f32⟩
  | .hbm, ⟨30, _⟩ => ⟨S8x16x128x2x64, .f32⟩
  | .hbm, ⟨31, _⟩ => ⟨S8x16x128x2x64, .f32⟩
  | .hbm, ⟨32, _⟩ => ⟨S8x16x384x2x64, .f32⟩
  | .hbm, ⟨33, _⟩ => ⟨S2048, .i32⟩
  | .hbm, ⟨34, _⟩ => ⟨S16x128, .i32⟩
  | .hbm, ⟨35, _⟩ => ⟨S16, .i32⟩
  | .hbm, ⟨36, _⟩ => ⟨S16x1, .i32⟩
  | .hbm, ⟨37, _⟩ => ⟨S_, .i32⟩
  | .hbm, ⟨38, _⟩ => ⟨S16x1, .i32⟩
  | .hbm, ⟨39, _⟩ => ⟨S16x1, .i32⟩
  | .hbm, ⟨40, _⟩ => ⟨S_, .i32⟩
  | .hbm, ⟨41, _⟩ => ⟨S16x1, .i32⟩
  | .hbm, ⟨42, _⟩ => ⟨S16x1, .i32⟩
  | .hbm, ⟨43, _⟩ => ⟨S384, .i32⟩
  | .hbm, ⟨44, _⟩ => ⟨S1x384, .i32⟩
  | .hbm, ⟨45, _⟩ => ⟨S16x384, .i32⟩
  | .hbm, ⟨46, _⟩ => ⟨S16x384, .i32⟩
  | .hbm, ⟨47, _⟩ => ⟨S16x384, .i32⟩
  | .hbm, ⟨48, _⟩ => ⟨S16x1x384, .i32⟩
  | .hbm, ⟨49, _⟩ => ⟨S_, .i32⟩
  | .hbm, ⟨50, _⟩ => ⟨S16x1x384, .i32⟩
  | .hbm, ⟨51, _⟩ => ⟨S16x1x384, .i1⟩
  | .hbm, ⟨52, _⟩ => ⟨S16x1x384, .i32⟩
  | .hbm, ⟨53, _⟩ => ⟨S_, .i32⟩
  | .hbm, ⟨54, _⟩ => ⟨S16x1x384, .i32⟩
  | .hbm, ⟨55, _⟩ => ⟨S16x1x384, .i1⟩
  | .hbm, ⟨56, _⟩ => ⟨S16x1x384, .i1⟩
  | .hbm, ⟨57, _⟩ => ⟨S16x1x384, .i32⟩
  | .hbm, ⟨58, _⟩ => ⟨S16x128x1, .i32⟩
  | .hbm, ⟨59, _⟩ => ⟨S16x128x384, .i32⟩
  | .hbm, ⟨60, _⟩ => ⟨S16x128x384, .i32⟩
  | .hbm, ⟨61, _⟩ => ⟨S16x128x384, .i32⟩
  | .hbm, ⟨62, _⟩ => ⟨S16x128x384, .i32⟩
  | .hbm, ⟨63, _⟩ => ⟨S_, .i32⟩
  | .hbm, ⟨64, _⟩ => ⟨S16x128x384, .i32⟩
  | .hbm, ⟨65, _⟩ => ⟨S16x128x384, .i1⟩
  | .hbm, ⟨66, _⟩ => ⟨S16x128x384, .i1⟩
  | .hbm, ⟨67, _⟩ => ⟨S16x128x384, .i1⟩
  | .hbm, ⟨68, _⟩ => ⟨S8x16x2x384x128x2, .f32⟩
  | .hbm, ⟨69, _⟩ => ⟨S8x16x2x2x128x384, .f32⟩
  | .hbm, ⟨70, _⟩ => ⟨S1x16x1x1x128x384, .i1⟩
  | .hbm, ⟨71, _⟩ => ⟨S_, .f32⟩
  | .hbm, ⟨72, _⟩ => ⟨S_, .f32⟩
  | .hbm, ⟨73, _⟩ => ⟨S8x16x2x2x128x384, .i1⟩
  | .hbm, ⟨74, _⟩ => ⟨S8x16x2x2x128x384, .f32⟩
  | .hbm, ⟨75, _⟩ => ⟨S8x16x2x2x128x384, .f32⟩
  | .hbm, ⟨76, _⟩ => ⟨S8x2x256x16x128x2, .f32⟩
  | .hbm, ⟨77, _⟩ => ⟨S8x16x2x2x128x256, .f32⟩
  | .hbm, ⟨78, _⟩ => ⟨S1x1x2x2x1x1, .f32⟩
  | .hbm, ⟨79, _⟩ => ⟨S8x16x2x2x128x1, .f32⟩
  | .hbm, ⟨80, _⟩ => ⟨S8x16x2x2x128x641, .f32⟩
  | .hbm, ⟨81, _⟩ => ⟨S_, .f32⟩
  | .hbm, ⟨82, _⟩ => ⟨S8x16x2x2x128, .f32⟩
  | .hbm, ⟨83, _⟩ => ⟨S_, .f32⟩
  | .hbm, ⟨84, _⟩ => ⟨S8x16x2x2x128, .f32⟩
  | .hbm, ⟨85, _⟩ => ⟨S8x16x2x2x128, .f32⟩
  | .hbm, ⟨86, _⟩ => ⟨S8x16x2x2x128x1, .f32⟩
  | .hbm, ⟨87, _⟩ => ⟨S8x16x2x2x128x641, .f32⟩
  | .hbm, ⟨88, _⟩ => ⟨S8x16x2x2x128x641, .f32⟩
  | .hbm, ⟨89, _⟩ => ⟨S8x16x2x2x128x641, .f32⟩
  | .hbm, ⟨90, _⟩ => ⟨S_, .f32⟩
  | .hbm, ⟨91, _⟩ => ⟨S8x16x2x2x128, .f32⟩
  | .hbm, ⟨92, _⟩ => ⟨S8x16x2x2x128x1, .f32⟩
  | .hbm, ⟨93, _⟩ => ⟨S8x16x2x2x128x641, .f32⟩
  | .hbm, ⟨94, _⟩ => ⟨S8x16x2x2x128x641, .f32⟩
  | .hbm, ⟨95, _⟩ => ⟨S8x16x2x2x128x384, .f32⟩
  | .hbm, ⟨96, _⟩ => ⟨S8x16x2x64x2x128, .f32⟩
  | .hbm, ⟨97, _⟩ => ⟨S8x16x128x2x2x64, .f32⟩
  | .hbm, ⟨98, _⟩ => ⟨S8x16x2x2x128x256, .f32⟩
  | .hbm, ⟨99, _⟩ => ⟨S8x2x64x16x2x128, .f32⟩
  | .hbm, ⟨100, _⟩ => ⟨S8x16x128x2x2x64, .f32⟩
  | .hbm, ⟨101, _⟩ => ⟨S8x16x128x2x2x64, .f32⟩
  | .hbm, ⟨102, _⟩ => ⟨S16384x256, .f32⟩
  | .hbm, ⟨103, _⟩ => ⟨S16384x256, .bf16⟩
  | _, _ => ⟨S16384x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_call1_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]
-- ==== Scores.lean ====
abbrev S16384x1024 : Shape := ⟨2, ![16384, 1024]⟩
abbrev S1024 : Shape := ⟨1, ![1024]⟩
abbrev S16x6144 : Shape := ⟨2, ![16, 6144]⟩
abbrev S1024x2048 : Shape := ⟨2, ![1024, 2048]⟩
abbrev S8x2x128x128 : Shape := ⟨4, ![8, 2, 128, 128]⟩
abbrev S16x1x6144 : Shape := ⟨3, ![16, 1, 6144]⟩
abbrev S1x1024 : Shape := ⟨2, ![1, 1024]⟩
abbrev S16x128x128 : Shape := ⟨3, ![16, 128, 128]⟩
abbrev S16x128x16384 : Shape := ⟨3, ![16, 128, 16384]⟩
abbrev S512x1024 : Shape := ⟨2, ![512, 1024]⟩
abbrev S1x1x1024 : Shape := ⟨3, ![1, 1, 1024]⟩
abbrev S16x128x512 : Shape := ⟨3, ![16, 128, 512]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x2048, .f32⟩
  | .hbm, ⟨4, _⟩ => ⟨S8x2x128x128, .f32⟩
  | .hbm, ⟨5, _⟩ => ⟨S16x1x6144, .f32⟩
  | .hbm, ⟨6, _⟩ => ⟨S1024x2048, .bf16⟩
  | .hbm, ⟨7, _⟩ => ⟨S1x1024, .f32⟩
  | .hbm, ⟨8, _⟩ => ⟨S16x128x128, .f32⟩
  | .hbm, ⟨9, _⟩ => ⟨S16384x1024, .bf16⟩
  | .hbm, ⟨10, _⟩ => ⟨S16x128x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S16x128x128, .f32⟩
  | .local _ .vmem, ⟨9, _⟩ => ⟨S512x1024, .bf16⟩
  | .local _ .vmem, ⟨10, _⟩ => ⟨S512x1024, .bf16⟩
  | .local _ .vmem, ⟨11, _⟩ => ⟨S16x128x512, .f32⟩
  | .local _ .vmem, ⟨12, _⟩ => ⟨S16x128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ScoresReferenceIdeal.lean ====
abbrev S16384x1024 : Shape := ⟨2, ![16384, 1024]⟩
abbrev S1024 : Shape := ⟨1, ![1024]⟩
abbrev S16x6144 : Shape := ⟨2, ![16, 6144]⟩
abbrev S1024x2048 : Shape := ⟨2, ![1024, 2048]⟩
abbrev S8x2x128x128 : Shape := ⟨4, ![8, 2, 128, 128]⟩
abbrev S8x6144 : Shape := ⟨2, ![8, 6144]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S16384x16x128 : Shape := ⟨3, ![16384, 16, 128]⟩
abbrev S16x128x16384 : Shape := ⟨3, ![16, 128, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x2048, .f32⟩
  | .hbm, ⟨4, _⟩ => ⟨S8x2x128x128, .f32⟩
  | .hbm, ⟨5, _⟩ => ⟨S8x6144, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S16384x1024, .f32⟩
  | .hbm, ⟨34, _⟩ => ⟨S16384x2048, .f32⟩
  | .hbm, ⟨35, _⟩ => ⟨S16384x8x2x128, .f32⟩
  | .hbm, ⟨36, _⟩ => ⟨S8x2x128x16384, .f32⟩
  | .hbm, ⟨37, _⟩ => ⟨S16384x8x2x128, .f32⟩
  | .hbm, ⟨38, _⟩ => ⟨S16384x1024, .bf16⟩
  | .hbm, ⟨39, _⟩ => ⟨S16384x16x128, .f32⟩
  | .hbm, ⟨40, _⟩ => ⟨S16x128x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S16x6144 : Shape := ⟨2, ![16, 6144]⟩
abbrev S1024x3200 : Shape := ⟨2, ![1024, 3200]⟩
abbrev S64 : Shape := ⟨1, ![64]⟩
abbrev S2048x2x16 : Shape := ⟨3, ![2048, 2, 16]⟩
abbrev S256x256 : Shape := ⟨2, ![256, 256]⟩
abbrev S_ : Shape := ⟨0, ![]⟩
abbrev S1x64 : Shape := ⟨2, ![1, 64]⟩
abbrev S4x64 : Shape := ⟨2, ![4, 64]⟩
abbrev S256 : Shape := ⟨1, ![256]⟩
abbrev S2x64 : Shape := ⟨2, ![2, 64]⟩
abbrev S128 : Shape := ⟨1, ![128]⟩
abbrev S384 : Shape := ⟨1, ![384]⟩
abbrev S1x384 : Shape := ⟨2, ![1, 384]⟩
abbrev S512 : Shape := ⟨1, ![512]⟩
abbrev S1x512 : Shape := ⟨2, ![1, 512]⟩
abbrev S2048x1x16 : Shape := ⟨3, ![2048, 1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x6x64 : Shape := ⟨4, ![1, 2048, 6, 64]⟩
abbrev S2048x384 : Shape := ⟨2, ![2048, 384]⟩
abbrev S16x1x6144 : Shape := ⟨3, ![16, 1, 6144]⟩
abbrev S1x1024 : Shape := ⟨2, ![1, 1024]⟩
abbrev S16384x1280 : Shape := ⟨2, ![16384, 1280]⟩
abbrev S16384x1920 : Shape := ⟨2, ![16384, 1920]⟩
abbrev S512x1024 : Shape := ⟨2, ![512, 1024]⟩
abbrev S1x1x1024 : Shape := ⟨3, ![1, 1, 1024]⟩
abbrev S512x384 : Shape := ⟨2, ![512, 384]⟩
abbrev S512x1280 : Shape := ⟨2, ![512, 1280]⟩
abbrev S512x1920 : Shape := ⟨2, ![512, 1920]⟩
abbrev S512x1 : Shape := ⟨2, ![512, 1]⟩
abbrev S512x3200 : Shape := ⟨2, ![512, 3200]⟩
abbrev S512x256 : Shape := ⟨2, ![512, 256]⟩
abbrev S512x128 : Shape := ⟨2, ![512, 128]⟩
abbrev S128x128 : Shape := ⟨2, ![128, 128]⟩
abbrev S512x512 : Shape := ⟨2, ![512, 512]⟩

abbrev nBuf : Space → Nat
  | .hbm => 56
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x3200, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S2048x2x16, .f32⟩
  | .hbm, ⟨9, _⟩ => ⟨S2048x2x16, .f32⟩
  | .hbm, ⟨10, _⟩ => ⟨S256x256, .bf16⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S384, .f32⟩
  | .hbm, ⟨21, _⟩ => ⟨S1x384, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S4x64, .f32⟩
  | .hbm, ⟨27, _⟩ => ⟨S256, .f32⟩
  | .hbm, ⟨28, _⟩ => ⟨S1x64, .f32⟩
  | .hbm, ⟨29, _⟩ => ⟨S4x64, .f32⟩
  | .hbm, ⟨30, _⟩ => ⟨S256, .f32⟩
  | .hbm, ⟨31, _⟩ => ⟨S512, .f32⟩
  | .hbm, ⟨32, _⟩ => ⟨S1x512, .f32⟩
  | .hbm, ⟨33, _⟩ => ⟨S2048x1x16, .f32⟩
  | .hbm, ⟨34, _⟩ => ⟨S2048x16, .f32⟩
  | .hbm, ⟨35, _⟩ => ⟨S2048x1x16, .f32⟩
  | .hbm, ⟨36, _⟩ => ⟨S2048x16, .f32⟩
  | .hbm, ⟨37, _⟩ => ⟨S2048x1x16, .f32⟩
  | .hbm, ⟨38, _⟩ => ⟨S2048x16, .f32⟩
  | .hbm, ⟨39, _⟩ => ⟨S2048x1x16, .f32⟩
  | .hbm, ⟨40, _⟩ => ⟨S2048x16, .f32⟩
  | .hbm, ⟨41, _⟩ => ⟨S2048x64, .f32⟩
  | .hbm, ⟨42, _⟩ => ⟨S1x2048x1x64, .f32⟩
  | .hbm, ⟨43, _⟩ => ⟨S1x2048x6x64, .f32⟩
  | .hbm, ⟨44, _⟩ => ⟨S2048x384, .f32⟩
  | .hbm, ⟨45, _⟩ => ⟨S2048x16, .f32⟩
  | .hbm, ⟨46, _⟩ => ⟨S2048x16, .f32⟩
  | .hbm, ⟨47, _⟩ => ⟨S2048x64, .f32⟩
  | .hbm, ⟨48, _⟩ => ⟨S1x2048x1x64, .f32⟩
  | .hbm, ⟨49, _⟩ => ⟨S1x2048x6x64, .f32⟩
  | .hbm, ⟨50, _⟩ => ⟨S2048x384, .f32⟩
  | .hbm, ⟨51, _⟩ => ⟨S16x1x6144, .f32⟩
  | .hbm, ⟨52, _⟩ => ⟨S1024x3200, .bf16⟩
  | .hbm, ⟨53, _⟩ => ⟨S1x1024, .f32⟩
  | .hbm, ⟨54, _⟩ => ⟨S16384x1280, .bf16⟩
  | .hbm, ⟨55, _⟩ => ⟨S16384x1920, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S1x384, .f32⟩
  | .local _ .vmem, ⟨9, _⟩ => ⟨S1x512, .f32⟩
  | .local _ .vmem, ⟨10, _⟩ => ⟨S256x256, .bf16⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x1280, .bf16⟩
  | .local _ .vmem, ⟨16, _⟩ => ⟨S512x1280, .bf16⟩
  | .local _ .vmem, ⟨17, _⟩ => ⟨S512x1920, .f32⟩
  | .local _ .vmem, ⟨18, _⟩ => ⟨S512x1920, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1920 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjReferenceIdeal.lean ====
abbrev S16384x1024 : Shape := ⟨2, ![16384, 1024]⟩
abbrev S1024 : Shape := ⟨1, ![1024]⟩
abbrev S16x6144 : Shape := ⟨2, ![16, 6144]⟩
abbrev S1024x3200 : Shape := ⟨2, ![1024, 3200]⟩
abbrev S64 : Shape := ⟨1, ![64]⟩
abbrev S2048x2x16 : Shape := ⟨3, ![2048, 2, 16]⟩
abbrev S8x6144 : Shape := ⟨2, ![8, 6144]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3200 : Shape := ⟨3, ![8, 2048, 3200]⟩
abbrev S8x2048x256 : Shape := ⟨3, ![8, 2048, 256]⟩
abbrev S8x2048x128 : Shape := ⟨3, ![8, 2048, 128]⟩
abbrev S8x2048x1920 : Shape := ⟨3, ![8, 2048, 1920]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S8x2048x4x2x2x16 : Shape := ⟨6, ![8, 2048, 4, 2, 2, 16]⟩
abbrev S8x2048x4x2x1x16 : Shape := ⟨6, ![8, 2048, 4, 2, 1, 16]⟩
abbrev S8x2048x4x2x16 : Shape := ⟨5, ![8, 2048, 4, 2, 16]⟩
abbrev S1x2048x1x2x16 : Shape := ⟨5, ![1, 2048, 1, 2, 16]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x2x2x16 : Shape := ⟨6, ![8, 2048, 2, 2, 2, 16]⟩
abbrev S8x2048x2x2x1x16 : Shape := ⟨6, ![8, 2048, 2, 2, 1, 16]⟩
abbrev S8x2048x2x2x16 : Shape := ⟨5, ![8, 2048, 2, 2, 16]⟩
abbrev S8x2048x1280 : Shape := ⟨3, ![8, 2048, 1280]⟩
abbrev S16384x1280 : Shape := ⟨2, ![16384, 1280]⟩
abbrev S16384x1920 : Shape := ⟨2, ![16384, 1920]⟩

abbrev nBuf : Space → Nat
  | .hbm => 170
  | .vmem => 0
  | .smem => 0
  | _ => 0

abbrev hbmTy0_0 (i : Nat) : BufTy := match i % 128 with
  | 0 => ⟨S16384x1024, .f32⟩
  | 1 => ⟨S1024, .f32⟩
  | 2 => ⟨S16x6144, .f32⟩
  | 3 => ⟨S1024x3200, .f32⟩
  | 4 => ⟨S64, .f32⟩
  | 5 => ⟨S64, .f32⟩
  | 6 => ⟨S64, .f32⟩
  | 7 => ⟨S64, .f32⟩
  | 8 => ⟨S2048x2x16, .f32⟩
  | 9 => ⟨S2048x2x16, .f32⟩
  | 10 => ⟨S8x6144, .f32⟩
  | 11 => ⟨S8x1x6144, .f32⟩
  | 12 => ⟨S8x1x1024, .f32⟩
  | 13 => ⟨S8x1x1024, .f32⟩
  | 14 => ⟨S8x2048x1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S_, .f32⟩
  | 32 => ⟨S8x1x1024, .f32⟩
  | 33 => ⟨S8x1x1024, .f32⟩
  | 34 => ⟨S8x2048x1024, .f32⟩
  | 35 => ⟨S8x2048x1024, .f32⟩
  | 36 => ⟨S8x2048x1024, .f32⟩
  | 37 => ⟨S8x2048x1024, .f32⟩
  | 38 => ⟨S8x2048x3200, .f32⟩
  | 39 => ⟨S8x2048x256, .f32⟩
  | 40 => ⟨S8x2048x128, .f32⟩
  | 41 => ⟨S8x2048x128, .f32⟩
  | 42 => ⟨S8x2048x256, .f32⟩
  | 43 => ⟨S8x2048x256, .f32⟩
  | 44 => ⟨S8x2048x256, .f32⟩
  | 45 => ⟨S8x2048x1920, .f32⟩
  | 46 => ⟨S8x2048x4x64, .f32⟩
  | 47 => ⟨S8x2048x4x64, .f32⟩
  | 48 => ⟨S_, .f32⟩
  | 49 => ⟨S8x2048x4, .f32⟩
  | 50 => ⟨S8x2048x4x1, .f32⟩
  | 51 => ⟨S_, .f32⟩
  | 52 => ⟨S8x2048x4x1, .f32⟩
  | 53 => ⟨S8x2048x4x1, .f32⟩
  | 54 => ⟨S_, .f32⟩
  | 55 => ⟨S8x2048x4x1, .f32⟩
  | 56 => ⟨S8x2048x4x1, .f32⟩
  | 57 => ⟨S8x2048x4x1, .f32⟩
  | 58 => ⟨S8x2048x4x64, .f32⟩
  | 59 => ⟨S8x2048x4x64, .f32⟩
  | 60 => ⟨S1x1x1x64, .f32⟩
  | 61 => ⟨S8x2048x4x64, .f32⟩
  | 62 => ⟨S8x2048x4x64, .f32⟩
  | 63 => ⟨S8x2048x4x2x2x16, .f32⟩
  | 64 => ⟨S8x2048x4x2x1x16, .f32⟩
  | 65 => ⟨S8x2048x4x2x16, .f32⟩
  | 66 => ⟨S8x2048x4x2x1x16, .f32⟩
  | 67 => ⟨S8x2048x4x2x16, .f32⟩
  | 68 => ⟨S1x2048x1x2x16, .f32⟩
  | 69 => ⟨S1x2048x1x2x16, .f32⟩
  | 70 => ⟨S8x2048x4x2x16, .f32⟩
  | 71 => ⟨S8x2048x4x2x16, .f32⟩
  | 72 => ⟨S8x2048x4x2x16, .f32⟩
  | 73 => ⟨S8x2048x4x2x16, .f32⟩
  | 74 => ⟨S8x2048x4x2x16, .f32⟩
  | 75 => ⟨S8x2048x4x2x16, .f32⟩
  | 76 => ⟨S8x2048x4x2x16, .f32⟩
  | 77 => ⟨S8x2048x4x2x16, .f32⟩
  | 78 => ⟨S8x2048x4x2x16, .f32⟩
  | 79 => ⟨S8x2048x4x2x16, .f32⟩
  | 80 => ⟨S8x2048x4x2x1x16, .f32⟩
  | 81 => ⟨S8x2048x4x2x1x16, .f32⟩
  | 82 => ⟨S8x2048x4x2x2x16, .f32⟩
  | 83 => ⟨S8x2048x4x64, .f32⟩
  | 84 => ⟨S_, .f32⟩
  | 85 => ⟨S8x2048x4x64, .f32⟩
  | 86 => ⟨S8x2048x4x64, .f32⟩
  | 87 => ⟨S8x2048x2x64, .f32⟩
  | 88 => ⟨S8x2048x2x64, .f32⟩
  | 89 => ⟨S_, .f32⟩
  | 90 => ⟨S8x2048x2, .f32⟩
  | 91 => ⟨S8x2048x2x1, .f32⟩
  | 92 => ⟨S_, .f32⟩
  | 93 => ⟨S8x2048x2x1, .f32⟩
  | 94 => ⟨S8x2048x2x1, .f32⟩
  | 95 => ⟨S_, .f32⟩
  | 96 => ⟨S8x2048x2x1, .f32⟩
  | 97 => ⟨S8x2048x2x1, .f32⟩
  | 98 => ⟨S8x2048x2x1, .f32⟩
  | 99 => ⟨S8x2048x2x64, .f32⟩
  | 100 => ⟨S8x2048x2x64, .f32⟩
  | 101 => ⟨S1x1x1x64, .f32⟩
  | 102 => ⟨S8x2048x2x64, .f32⟩
  | 103 => ⟨S8x2048x2x64, .f32⟩
  | 104 => ⟨S8x2048x2x2x2x16, .f32⟩
  | 105 => ⟨S8x2048x2x2x1x16, .f32⟩
  | 106 => ⟨S8x2048x2x2x16, .f32⟩
  | 107 => ⟨S8x2048x2x2x1x16, .f32⟩
  | 108 => ⟨S8x2048x2x2x16, .f32⟩
  | 109 => ⟨S1x2048x1x2x16, .f32⟩
  | 110 => ⟨S1x2048x1x2x16, .f32⟩
  | 111 => ⟨S8x2048x2x2x16, .f32⟩
  | 112 => ⟨S8x2048x2x2x16, .f32⟩
  | 113 => ⟨S8x2048x2x2x16, .f32⟩
  | 114 => ⟨S8x2048x2x2x16, .f32⟩
  | 115 => ⟨S8x2048x2x2x16, .f32⟩
  | 116 => ⟨S8x2048x2x2x16, .f32⟩
  | 117 => ⟨S8x2048x2x2x16, .f32⟩
  | 118 => ⟨S8x2048x2x2x16, .f32⟩
  | 119 => ⟨S8x2048x2x2x16, .f32⟩
  | 120 => ⟨S8x2048x2x2x16, .f32⟩
  | 121 => ⟨S8x2048x2x2x1x16, .f32⟩
  | 122 => ⟨S8x2048x2x2x1x16, .f32⟩
  | 123 => ⟨S8x2048x2x2x2x16, .f32⟩
  | 124 => ⟨S8x2048x2x64, .f32⟩
  | 125 => ⟨S8x2048x4x64, .f32⟩
  | 126 => ⟨S8x2048x4x64, .f32⟩
  | 127 => ⟨S_, .f32⟩
  | _ => ⟨S16384x1024, .f32⟩

abbrev hbmTy0_1 (i : Nat) : BufTy := match i % 128 with
  | 0 => ⟨S8x2048x4, .f32⟩
  | 1 => ⟨S8x2048x4x1, .f32⟩
  | 2 => ⟨S_, .f32⟩
  | 3 => ⟨S8x2048x4x1, .f32⟩
  | 4 => ⟨S8x2048x4x1, .f32⟩
  | 5 => ⟨S_, .f32⟩
  | 6 => ⟨S8x2048x4x1, .f32⟩
  | 7 => ⟨S8x2048x4x1, .f32⟩
  | 8 => ⟨S8x2048x4x1, .f32⟩
  | 9 => ⟨S8x2048x4x64, .f32⟩
  | 10 => ⟨S8x2048x4x64, .f32⟩
  | 11 => ⟨S1x1x1x64, .f32⟩
  | 12 => ⟨S8x2048x4x64, .f32⟩
  | 13 => ⟨S8x2048x4x64, .f32⟩
  | 14 => ⟨S_, .f32⟩
  | 15 => ⟨S8x2048x4x64, .f32⟩
  | 16 => ⟨S8x2048x4x64, .f32⟩
  | 17 => ⟨S8x2048x4x64, .f32⟩
  | 18 => ⟨S8x2048x4x64, .f32⟩
  | 19 => ⟨S_, .f32⟩
  | 20 => ⟨S8x2048x4, .f32⟩
  | 21 => ⟨S8x2048x4x1, .f32⟩
  | 22 => ⟨S_, .f32⟩
  | 23 => ⟨S8x2048x4x1, .f32⟩
  | 24 => ⟨S8x2048x4x1, .f32⟩
  | 25 => ⟨S_, .f32⟩
  | 26 => ⟨S8x2048x4x1, .f32⟩
  | 27 => ⟨S8x2048x4x1, .f32⟩
  | 28 => ⟨S8x2048x4x1, .f32⟩
  | 29 => ⟨S8x2048x4x64, .f32⟩
  | 30 => ⟨S8x2048x4x64, .f32⟩
  | 31 => ⟨S1x1x1x64, .f32⟩
  | 32 => ⟨S8x2048x4x64, .f32⟩
  | 33 => ⟨S8x2048x4x64, .f32⟩
  | 34 => ⟨S8x2048x256, .f32⟩
  | 35 => ⟨S8x2048x128, .f32⟩
  | 36 => ⟨S8x2048x256, .f32⟩
  | 37 => ⟨S8x2048x256, .f32⟩
  | 38 => ⟨S8x2048x1280, .f32⟩
  | 39 => ⟨S16384x1280, .f32⟩
  | 40 => ⟨S16384x1280, .bf16⟩
  | 41 => ⟨S16384x1920, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_6 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_7 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_10 : Ref sig .tc := ⟨.hbm, 127, rfl⟩
abbrev main_v106 : Ref sig .tc := ⟨.hbm, 128, rfl⟩
abbrev main_v107 : Ref sig .tc := ⟨.hbm, 129, rfl⟩
abbrev main_cst_11 : Ref sig .tc := ⟨.hbm, 130, rfl⟩
abbrev main_v108 : Ref sig .tc := ⟨.hbm, 131, rfl⟩
abbrev main_v109 : Ref sig .tc := ⟨.hbm, 132, rfl⟩
abbrev main_cst_12 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_13 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_14 : Ref sig .tc := ⟨.hbm, 147, rfl⟩
abbrev main_v122 : Ref sig .tc := ⟨.hbm, 148, rfl⟩
abbrev main_v123 : Ref sig .tc := ⟨.hbm, 149, rfl⟩
abbrev main_cst_15 : Ref sig .tc := ⟨.hbm, 150, rfl⟩
abbrev main_v124 : Ref sig .tc := ⟨.hbm, 151, rfl⟩
abbrev main_v125 : Ref sig .tc := ⟨.hbm, 152, rfl⟩
abbrev main_cst_16 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩

abbrev nD : Nat := 1
abbrev τ : Topo := Topo.v7x

variable {F : FTy → Type} [FloatOps F]
-- ==== OutProj.lean ====
abbrev S16384x1024 : Shape := ⟨2, ![16384, 1024]⟩
abbrev S16384x256 : Shape := ⟨2, ![16384, 256]⟩
abbrev S16384x512 : Shape := ⟨2, ![16384, 512]⟩
abbrev S512 : Shape := ⟨1, ![512]⟩
abbrev S1024x1024 : Shape := ⟨2, ![1024, 1024]⟩
abbrev S16x6144 : Shape := ⟨2, ![16, 6144]⟩
abbrev S256x256 : Shape := ⟨2, ![256, 256]⟩
abbrev S16x1x6144 : Shape := ⟨3, ![16, 1, 6144]⟩
abbrev S1x512 : Shape := ⟨2, ![1, 512]⟩
abbrev S512x1024 : Shape := ⟨2, ![512, 1024]⟩
abbrev S512x256 : Shape := ⟨2, ![512, 256]⟩
abbrev S512x512 : Shape := ⟨2, ![512, 512]⟩
abbrev S1x1x1024 : Shape := ⟨3, ![1, 1, 1024]⟩
abbrev S256x1024 : Shape := ⟨2, ![256, 1024]⟩
abbrev S1x1024 : Shape := ⟨2, ![1, 1024]⟩

abbrev nBuf : Space → Nat
  | .hbm => 17
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S16x6144, .f32⟩
  | .hbm, ⟨11, _⟩ => ⟨S256x256, .bf16⟩
  | .hbm, ⟨12, _⟩ => ⟨S1024x1024, .bf16⟩
  | .hbm, ⟨13, _⟩ => ⟨S16x1x6144, .f32⟩
  | .hbm, ⟨14, _⟩ => ⟨S1x512, .f32⟩
  | .hbm, ⟨15, _⟩ => ⟨S1x512, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | .local _ .vmem, ⟨16, _⟩ => ⟨S256x256, .bf16⟩
  | .local _ .vmem, ⟨17, _⟩ => ⟨S1024x1024, .bf16⟩
  | .local _ .vmem, ⟨18, _⟩ => ⟨S1x1x1024, .f32⟩
  | .local _ .vmem, ⟨19, _⟩ => ⟨S1x1x1024, .f32⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OutProjReferenceIdeal.lean ====
abbrev S16384x1024 : Shape := ⟨2, ![16384, 1024]⟩
abbrev S16384x256 : Shape := ⟨2, ![16384, 256]⟩
abbrev S16384x512 : Shape := ⟨2, ![16384, 512]⟩
abbrev S512 : Shape := ⟨1, ![512]⟩
abbrev S1024x1024 : Shape := ⟨2, ![1024, 1024]⟩
abbrev S16x6144 : Shape := ⟨2, ![16, 6144]⟩
abbrev S8x2048x8x64 : Shape := ⟨4, ![8, 2048, 8, 64]⟩
abbrev S_ : Shape := ⟨0, ![]⟩
abbrev S8x2048x8 : Shape := ⟨3, ![8, 2048, 8]⟩
abbrev S8x2048x8x1 : Shape := ⟨4, ![8, 2048, 8, 1]⟩
abbrev S8x2048x512 : Shape := ⟨3, ![8, 2048, 512]⟩
abbrev S1x1x512 : Shape := ⟨3, ![1, 1, 512]⟩
abbrev S8x6144 : Shape := ⟨2, ![8, 6144]⟩
abbrev S8x1024 : Shape := ⟨2, ![8, 1024]⟩
abbrev S8x1x1024 : Shape := ⟨3, ![8, 1, 1024]⟩
abbrev S8x2048x256 : Shape := ⟨3, ![8, 2048, 256]⟩
abbrev S8x2048x1024 : Shape := ⟨3, ![8, 2048, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S16x6144, .f32⟩
  | .hbm, ⟨11, _⟩ => ⟨S16384x512, .f32⟩
  | .hbm, ⟨12, _⟩ => ⟨S8x2048x8x64, .f32⟩
  | .hbm, ⟨13, _⟩ => ⟨S_, .f32⟩
  | .hbm, ⟨14, _⟩ => ⟨S8x2048x8, .f32⟩
  | .hbm, ⟨15, _⟩ => ⟨S8x2048x8x1, .f32⟩
  | .hbm, ⟨16, _⟩ => ⟨S_, .f32⟩
  | .hbm, ⟨17, _⟩ => ⟨S8x2048x8x1, .f32⟩
  | .hbm, ⟨18, _⟩ => ⟨S8x2048x8x1, .f32⟩
  | .hbm, ⟨19, _⟩ => ⟨S8x2048x8x64, .f32⟩
  | .hbm, ⟨20, _⟩ => ⟨S8x2048x8x64, .f32⟩
  | .hbm, ⟨21, _⟩ => ⟨S8x2048x8x64, .f32⟩
  | .hbm, ⟨22, _⟩ => ⟨S_, .f32⟩
  | .hbm, ⟨23, _⟩ => ⟨S8x2048x8, .f32⟩
  | .hbm, ⟨24, _⟩ => ⟨S8x2048x8x1, .f32⟩
  | .hbm, ⟨25, _⟩ => ⟨S_, .f32⟩
  | .hbm, ⟨26, _⟩ => ⟨S8x2048x8x1, .f32⟩
  | .hbm, ⟨27, _⟩ => ⟨S8x2048x8x1, .f32⟩
  | .hbm, ⟨28, _⟩ => ⟨S8x2048x8x64, .f32⟩
  | .hbm, ⟨29, _⟩ => ⟨S8x2048x8x64, .f32⟩
  | .hbm, ⟨30, _⟩ => ⟨S_, .f32⟩
  | .hbm, ⟨31, _⟩ => ⟨S8x2048x8x1, .f32⟩
  | .hbm, ⟨32, _⟩ => ⟨S8x2048x8x1, .f32⟩
  | .hbm, ⟨33, _⟩ => ⟨S8x2048x8x1, .f32⟩
  | .hbm, ⟨34, _⟩ => ⟨S8x2048x8x64, .f32⟩
  | .hbm, ⟨35, _⟩ => ⟨S8x2048x8x64, .f32⟩
  | .hbm, ⟨36, _⟩ => ⟨S8x2048x512, .f32⟩
  | .hbm, ⟨37, _⟩ => ⟨S1x1x512, .f32⟩
  | .hbm, ⟨38, _⟩ => ⟨S8x2048x512, .f32⟩
  | .hbm, ⟨39, _⟩ => ⟨S8x2048x512, .f32⟩
  | .hbm, ⟨40, _⟩ => ⟨S1x1x512, .f32⟩
  | .hbm, ⟨41, _⟩ => ⟨S8x2048x512, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S8x2048x512, .f32⟩
  | .hbm, ⟨46, _⟩ => ⟨S8x2048x512, .f32⟩
  | .hbm, ⟨47, _⟩ => ⟨S8x6144, .f32⟩
  | .hbm, ⟨48, _⟩ => ⟨S8x1024, .f32⟩
  | .hbm, ⟨49, _⟩ => ⟨S8x1x1024, .f32⟩
  | .hbm, ⟨50, _⟩ => ⟨S16384x256, .f32⟩
  | .hbm, ⟨51, _⟩ => ⟨S8x2048x256, .f32⟩
  | .hbm, ⟨52, _⟩ => ⟨S16384x256, .f32⟩
  | .hbm, ⟨53, _⟩ => ⟨S8x2048x256, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Prep.lean ====
abbrev S16384x1920 : Shape := ⟨2, ![16384, 1920]⟩
abbrev S3x1920 : Shape := ⟨2, ![3, 1920]⟩
abbrev S512 : Shape := ⟨1, ![512]⟩
abbrev S8x64 : Shape := ⟨2, ![8, 64]⟩
abbrev S2x512 : Shape := ⟨2, ![2, 512]⟩
abbrev S2x64x512 : Shape := ⟨3, ![2, 64, 512]⟩
abbrev S128x512 : Shape := ⟨2, ![128, 512]⟩
abbrev S256x256 : Shape := ⟨2, ![256, 256]⟩
abbrev S1x512 : Shape := ⟨2, ![1, 512]⟩
abbrev S1x1024 : Shape := ⟨2, ![1, 1024]⟩
abbrev S1x64x512 : Shape := ⟨3, ![1, 64, 512]⟩
abbrev S64x512 : Shape := ⟨2, ![64, 512]⟩
abbrev S_ : Shape := ⟨0, ![]⟩
abbrev S64x1024 : Shape := ⟨2, ![64, 1024]⟩
abbrev S128x1024 : Shape := ⟨2, ![128, 1024]⟩
abbrev S16384x512 : Shape := ⟨2, ![16384, 512]⟩
abbrev S16384x1024 : Shape := ⟨2, ![16384, 1024]⟩
abbrev S512x1920 : Shape := ⟨2, ![512, 1920]⟩
abbrev S8x1920 : Shape := ⟨2, ![8, 1920]⟩
abbrev S512x512 : Shape := ⟨2, ![512, 512]⟩
abbrev S512x1024 : Shape := ⟨2, ![512, 1024]⟩
abbrev S1x1920 : Shape := ⟨2, ![1, 1920]⟩
abbrev S512x128 : Shape := ⟨2, ![512, 128]⟩
abbrev S512x256 : Shape := ⟨2, ![512, 256]⟩

abbrev nBuf : Space → Nat
  | .hbm => 46
  | .vmem => 32
  | .smem => 0
  | _ => 0

abbrev bufTy : (tb : Table) → Fin (tcTables nBuf tb) → BufTy
  | .hbm, ⟨0, _⟩ => ⟨S16384x1920, .f32⟩
  | .hbm, ⟨1, _⟩ => ⟨S3x1920, .f32⟩
  | .hbm, ⟨2, _⟩ => ⟨S512, .f32⟩
  | .hbm, ⟨3, _⟩ => ⟨S512, .f32⟩
  | .hbm, ⟨4, _⟩ => ⟨S8x64, .f32⟩
  | .hbm, ⟨5, _⟩ => ⟨S2x512, .f32⟩
  | .hbm, ⟨6, _⟩ => ⟨S2x64x512, .f32⟩
  | .hbm, ⟨7, _⟩ => ⟨S2x512, .f32⟩
  | .hbm, ⟨8, _⟩ => ⟨S2x64x512, .f32⟩
  | .hbm, ⟨9, _⟩ => ⟨S128x512, .f32⟩
  | .hbm, ⟨10, _⟩ => ⟨S256x256, .bf16⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x1024, .f32⟩
  | .hbm, ⟨15, _⟩ => ⟨S1x64x512, .f32⟩
  | .hbm, ⟨16, _⟩ => ⟨S64x512, .f32⟩
  | .hbm, ⟨17, _⟩ => ⟨S_, .f32⟩
  | .hbm, ⟨18, _⟩ => ⟨S64x512, .f32⟩
  | .hbm, ⟨19, _⟩ => ⟨S1x64x512, .f32⟩
  | .hbm, ⟨20, _⟩ => ⟨S64x512, .f32⟩
  | .hbm, ⟨21, _⟩ => ⟨S64x1024, .f32⟩
  | .hbm, ⟨22, _⟩ => ⟨S1x64x512, .f32⟩
  | .hbm, ⟨23, _⟩ => ⟨S64x512, .f32⟩
  | .hbm, ⟨24, _⟩ => ⟨S64x1024, .f32⟩
  | .hbm, ⟨25, _⟩ => ⟨S128x1024, .f32⟩
  | .hbm, ⟨26, _⟩ => ⟨S1x1024, .f32⟩
  | .hbm, ⟨27, _⟩ => ⟨S1x64x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S1x64x512, .f32⟩
  | .hbm, ⟨32, _⟩ => ⟨S64x512, .f32⟩
  | .hbm, ⟨33, _⟩ => ⟨S64x1024, .f32⟩
  | .hbm, ⟨34, _⟩ => ⟨S1x64x512, .f32⟩
  | .hbm, ⟨35, _⟩ => ⟨S64x512, .f32⟩
  | .hbm, ⟨36, _⟩ => ⟨S64x1024, .f32⟩
  | .hbm, ⟨37, _⟩ => ⟨S128x1024, .f32⟩
  | .hbm, ⟨38, _⟩ => ⟨S16384x512, .bf16⟩
  | .hbm, ⟨39, _⟩ => ⟨S16384x512, .bf16⟩
  | .hbm, ⟨40, _⟩ => ⟨S16384x512, .bf16⟩
  | .hbm, ⟨41, _⟩ => ⟨S16384x1024, .f32⟩
  | .hbm, ⟨42, _⟩ => ⟨S16384x1024, .bf16⟩
  | .hbm, ⟨43, _⟩ => ⟨S16384x1024, .bf16⟩
  | .hbm, ⟨44, _⟩ => ⟨S16384x512, .f32⟩
  | .hbm, ⟨45, _⟩ => ⟨S16384x512, .f32⟩
  | .local _ .vmem, ⟨0, _⟩ => ⟨S512x1920, .f32⟩
  | .local _ .vmem, ⟨1, _⟩ => ⟨S512x1920, .f32⟩
  | .local _ .vmem, ⟨2, _⟩ => ⟨S8x1920, .f32⟩
  | .local _ .vmem, ⟨3, _⟩ => ⟨S8x1920, .f32⟩
  | .local _ .vmem, ⟨4, _⟩ => ⟨S8x1920, .f32⟩
  | .local _ .vmem, ⟨5, _⟩ => ⟨S8x1920, .f32⟩
  | .local _ .vmem, ⟨6, _⟩ => ⟨S3x1920, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S128x1024, .f32⟩
  | .local _ .vmem, ⟨12, _⟩ => ⟨S1x1024, .f32⟩
  | .local _ .vmem, ⟨13, _⟩ => ⟨S128x1024, .f32⟩
  | .local _ .vmem, ⟨14, _⟩ => ⟨S128x512, .f32⟩
  | .local _ .vmem, ⟨15, _⟩ => ⟨S256x256, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S16384x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev main_v25_4 : Ref sig .tc := ⟨.hbm, 42, rfl⟩
abbrev main_v25_5 : Ref sig .tc := ⟨.hbm, 43, rfl⟩
abbrev main_v25_6 : Ref sig .tc := ⟨.hbm, 44, rfl⟩
abbrev main_v25_7 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c64_i32 : BitVec 32 := 64#32
  let v1 : BitVec 32 := Scalar.muli arg1 c64_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c1_i32 : BitVec 32 := 1#32
  let v1 : BitVec 32 := Scalar.addi arg1 c1_i32
  let c64_i32 : BitVec 32 := 64#32
  let v2 : BitVec 32 := Scalar.muli v1 c64_i32
  let c255_i32 : BitVec 32 := 255#32
  let v3 : BitVec 32 := Scalar.minsi v2 c255_i32
  let v4 : BitVec 32 := Scalar.addi v0 v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== PrepReferenceIdeal.lean ====
abbrev S16384x1920 : Shape := ⟨2, ![16384, 1920]⟩
abbrev S3x1920 : Shape := ⟨2, ![3, 1920]⟩
abbrev S512 : Shape := ⟨1, ![512]⟩
abbrev S8x64 : Shape := ⟨2, ![8, 64]⟩
abbrev S2x512 : Shape := ⟨2, ![2, 512]⟩
abbrev S2x64x512 : Shape := ⟨3, ![2, 64, 512]⟩
abbrev S128x512 : Shape := ⟨2, ![128, 512]⟩
abbrev S8x2048x1920 : Shape := ⟨3, ![8, 2048, 1920]⟩
abbrev S_ : Shape := ⟨0, ![]⟩
abbrev S8x2050x1920 : Shape := ⟨3, ![8, 2050, 1920]⟩
abbrev S1x1920 : Shape := ⟨2, ![1, 1920]⟩
abbrev S1920 : Shape := ⟨1, ![1920]⟩
abbrev S1x1x1920 : Shape := ⟨3, ![1, 1, 1920]⟩
abbrev S8x2048x512 : Shape := ⟨3, ![8, 2048, 512]⟩
abbrev S8x2048x128 : Shape := ⟨3, ![8, 2048, 128]⟩
abbrev S1x1x512 : Shape := ⟨3, ![1, 1, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S8x2048x2x64 : Shape := ⟨4, ![8, 2048, 2, 64]⟩
abbrev S2x512x8x2048 : Shape := ⟨4, ![2, 512, 8, 2048]⟩
abbrev S8x2048x2x512 : Shape := ⟨4, ![8, 2048, 2, 512]⟩
abbrev S1x1x2x512 : Shape := ⟨4, ![1, 1, 2, 512]⟩
abbrev S8x2048x1x512 : Shape := ⟨4, ![8, 2048, 1, 512]⟩
abbrev S1x1x1x512 : Shape := ⟨4, ![1, 1, 1, 512]⟩
abbrev S8x2048x1x8x64 : Shape := ⟨5, ![8, 2048, 1, 8, 64]⟩
abbrev S8x2048x2x8x64 : Shape := ⟨5, ![8, 2048, 2, 8, 64]⟩
abbrev S1x1x1x8x64 : Shape := ⟨5, ![1, 1, 1, 8, 64]⟩
abbrev S8x2048x2x8 : Shape := ⟨4, ![8, 2048, 2, 8]⟩
abbrev S16384x512 : Shape := ⟨2, ![16384, 512]⟩
abbrev S16384x1024 : Shape := ⟨2, ![16384, 1024]⟩

abbrev nBuf : Space → Nat
  | .hbm => 140
  | .vmem => 0
  | .smem => 0
  | _ => 0

abbrev hbmTy0_0 (i : Nat) : BufTy := match i % 128 with
  | 0 => ⟨S16384x1920, .f32⟩
  | 1 => ⟨S3x1920, .f32⟩
  | 2 => ⟨S512, .f32⟩
  | 3 => ⟨S512, .f32⟩
  | 4 => ⟨S8x64, .f32⟩
  | 5 => ⟨S2x512, .f32⟩
  | 6 => ⟨S2x64x512, .f32⟩
  | 7 => ⟨S2x512, .f32⟩
  | 8 => ⟨S2x64x512, .f32⟩
  | 9 => ⟨S128x512, .f32⟩
  | 10 => ⟨S8x2048x1920, .f32⟩
  | 11 => ⟨S_, .i32⟩
  | 12 => ⟨S_, .f32⟩
  | 13 => ⟨S8x2050x1920, .f32⟩
  | 14 => ⟨S8x2048x1920, .f32⟩
  | 15 => ⟨S1x1920, .f32⟩
  | 16 => ⟨S1920, .f32⟩
  | 17 => ⟨S1x1x1920, .f32⟩
  | 18 => ⟨S8x2048x1920, .f32⟩
  | 19 => ⟨S8x2048x1920, .f32⟩
  | 20 => ⟨S8x2048x1920, .f32⟩
  | 21 => ⟨S1x1920, .f32⟩
  | 22 => ⟨S1920, .f32⟩
  | 23 => ⟨S1x1x1920, .f32⟩
  | 24 => ⟨S8x2048x1920, .f32⟩
  | 25 => ⟨S8x2048x1920, .f32⟩
  | 26 => ⟨S8x2048x1920, .f32⟩
  | 27 => ⟨S8x2048x1920, .f32⟩
  | 28 => ⟨S1x1920, .f32⟩
  | 29 => ⟨S1920, .f32⟩
  | 30 => ⟨S1x1x1920, .f32⟩
  | 31 => ⟨S8x2048x1920, .f32⟩
  | 32 => ⟨S8x2048x1920, .f32⟩
  | 33 => ⟨S8x2048x1920, .f32⟩
  | 34 => ⟨S8x2048x512, .f32⟩
  | 35 => ⟨S8x2048x512, .f32⟩
  | 36 => ⟨S8x2048x512, .f32⟩
  | 37 => ⟨S8x2048x128, .f32⟩
  | 38 => ⟨S8x2048x128, .f32⟩
  | 39 => ⟨S8x2048x128, .f32⟩
  | 40 => ⟨S8x2048x128, .f32⟩
  | 41 => ⟨S8x2048x128, .f32⟩
  | 42 => ⟨S_, .f32⟩
  | 43 => ⟨S8x2048x128, .f32⟩
  | 44 => ⟨S8x2048x128, .f32⟩
  | 45 => ⟨S_, .f32⟩
  | 46 => ⟨S8x2048x128, .f32⟩
  | 47 => ⟨S8x2048x128, .f32⟩
  | 48 => ⟨S8x2048x512, .f32⟩
  | 49 => ⟨S1x1x512, .f32⟩
  | 50 => ⟨S8x2048x512, .f32⟩
  | 51 => ⟨S8x2048x512, .f32⟩
  | 52 => ⟨S8x2048x8x64, .f32⟩
  | 53 => ⟨S8x2048x8x64, .f32⟩
  | 54 => ⟨S_, .f32⟩
  | 55 => ⟨S8x2048x8, .f32⟩
  | 56 => ⟨S8x2048x8x1, .f32⟩
  | 57 => ⟨S8x2048x8x1, .f32⟩
  | 58 => ⟨S_, .f32⟩
  | 59 => ⟨S8x2048x8x1, .f32⟩
  | 60 => ⟨S8x2048x8x1, .f32⟩
  | 61 => ⟨S8x2048x8x64, .f32⟩
  | 62 => ⟨S8x2048x8x64, .f32⟩
  | 63 => ⟨S8x2048x2x64, .f32⟩
  | 64 => ⟨S8x2048x2x64, .f32⟩
  | 65 => ⟨S2x512x8x2048, .f32⟩
  | 66 => ⟨S8x2048x2x512, .f32⟩
  | 67 => ⟨S1x1x2x512, .f32⟩
  | 68 => ⟨S8x2048x2x512, .f32⟩
  | 69 => ⟨S8x2048x2x512, .f32⟩
  | 70 => ⟨S8x2048x2x512, .f32⟩
  | 71 => ⟨S8x2048x2x512, .f32⟩
  | 72 => ⟨S_, .f32⟩
  | 73 => ⟨S8x2048x2x512, .f32⟩
  | 74 => ⟨S8x2048x2x512, .f32⟩
  | 75 => ⟨S_, .f32⟩
  | 76 => ⟨S8x2048x2x512, .f32⟩
  | 77 => ⟨S8x2048x2x512, .f32⟩
  | 78 => ⟨S_, .f32⟩
  | 79 => ⟨S8x2048x2x512, .f32⟩
  | 80 => ⟨S8x2048x2x512, .f32⟩
  | 81 => ⟨S8x2048x2x64, .f32⟩
  | 82 => ⟨S2x512x8x2048, .f32⟩
  | 83 => ⟨S8x2048x2x512, .f32⟩
  | 84 => ⟨S1x1x2x512, .f32⟩
  | 85 => ⟨S8x2048x2x512, .f32⟩
  | 86 => ⟨S8x2048x2x512, .f32⟩
  | 87 => ⟨S8x2048x2x512, .f32⟩
  | 88 => ⟨S8x2048x2x512, .f32⟩
  | 89 => ⟨S_, .f32⟩
  | 90 => ⟨S8x2048x2x512, .f32⟩
  | 91 => ⟨S8x2048x2x512, .f32⟩
  | 92 => ⟨S_, .f32⟩
  | 93 => ⟨S8x2048x2x512, .f32⟩
  | 94 => ⟨S8x2048x2x512, .f32⟩
  | 95 => ⟨S8x2048x1x512, .f32⟩
  | 96 => ⟨S_, .f32⟩
  | 97 => ⟨S8x2048x2x512, .f32⟩
  | 98 => ⟨S8x2048x2x512, .f32⟩
  | 99 => ⟨S1x1x1x512, .f32⟩
  | 100 => ⟨S8x2048x2x512, .f32⟩
  | 101 => ⟨S8x2048x2x512, .f32⟩
  | 102 => ⟨S_, .f32⟩
  | 103 => ⟨S8x2048x2x512, .f32⟩
  | 104 => ⟨S8x2048x2x512, .f32⟩
  | 105 => ⟨S8x2048x2x512, .f32⟩
  | 106 => ⟨S8x2048x2x512, .f32⟩
  | 107 => ⟨S8x2048x512, .f32⟩
  | 108 => ⟨S8x2048x1x512, .f32⟩
  | 109 => ⟨S8x2048x2x512, .f32⟩
  | 110 => ⟨S8x2048x2x512, .f32⟩
  | 111 => ⟨S8x2048x8x64, .f32⟩
  | 112 => ⟨S8x2048x1x8x64, .f32⟩
  | 113 => ⟨S8x2048x2x8x64, .f32⟩
  | 114 => ⟨S8x2048x2x8x64, .f32⟩
  | 115 => ⟨S8x2048x2x8x64, .f32⟩
  | 116 => ⟨S1x1x1x8x64, .f32⟩
  | 117 => ⟨S8x2048x2x8x64, .f32⟩
  | 118 => ⟨S8x2048x2x8x64, .f32⟩
  | 119 => ⟨S_, .f32⟩
  | 120 => ⟨S8x2048x2x8, .f32⟩
  | 121 => ⟨S_, .f32⟩
  | 122 => ⟨S8x2048x8, .f32⟩
  | 123 => ⟨S8x2048x8x1, .f32⟩
  | 124 => ⟨S8x2048x8x64, .f32⟩
  | 125 => ⟨S8x2048x8x64, .f32⟩
  | 126 => ⟨S8x2048x8x64, .f32⟩
  | 127 => ⟨S16384x512, .f32⟩
  | _ => ⟨S16384x1920, .f32⟩

abbrev hbmTy0_1 (i : Nat) : BufTy := match i % 128 with
  | 0 => ⟨S16384x512, .bf16⟩
  | 1 => ⟨S16384x512, .f32⟩
  | 2 => ⟨S16384x512, .bf16⟩
  | 3 => ⟨S16384x512, .f32⟩
  | 4 => ⟨S16384x512, .bf16⟩
  | 5 => ⟨S16384x1024, .f32⟩
  | 6 => ⟨S16384x1024, .f32⟩
  | 7 => ⟨S16384x1024, .bf16⟩
  | 8 => ⟨S16384x1024, .f32⟩
  | 9 => ⟨S16384x1024, .bf16⟩
  | 10 => ⟨S16384x512, .f32⟩
  | 11 => ⟨S16384x512, .f32⟩
  | _ => ⟨S16384x1920, .f32⟩

abbrev hbmTy (i : Nat) : BufTy := match i / 128 with
  | 0 => hbmTy0_0 i
  | 1 => hbmTy0_1 i
  | _ => ⟨S16384x1920, .f32⟩

abbrev bufTy : (tb : Table) → Fin (tcTables nBuf tb) → BufTy
  | .hbm, ⟨i, _⟩ => hbmTy i
  | _, _ => ⟨S16384x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_3 : Ref sig .tc := ⟨.hbm, 72, rfl⟩
abbrev main_v56 : Ref sig .tc := ⟨.hbm, 73, rfl⟩
abbrev main_v57 : Ref sig .tc := ⟨.hbm, 74, rfl⟩
abbrev main_cst_4 : Ref sig .tc := ⟨.hbm, 75, rfl⟩
abbrev main_v58 : Ref sig .tc := ⟨.hbm, 76, rfl⟩
abbrev main_v59 : Ref sig .tc := ⟨.hbm, 77, rfl⟩
abbrev main_cst_5 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_6 : Ref sig .tc := ⟨.hbm, 89, rfl⟩
abbrev main_v70 : Ref sig .tc := ⟨.hbm, 90, rfl⟩
abbrev main_v71 : Ref sig .tc := ⟨.hbm, 91, rfl⟩
abbrev main_cst_7 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_9 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_10 : Ref sig .tc := ⟨.hbm, 119, rfl⟩
abbrev main_v96 : Ref sig .tc := ⟨.hbm, 120, rfl⟩
abbrev main_cst_11 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩

abbrev nD : Nat := 1
abbrev τ : Topo := Topo.v7x

variable {F : FTy → Type} [FloatOps F]
-- ==== Proof.Softmax.lean ====
/- Rows of attention over the extended reals: a softmax-weighted sum of values in which one extra score (the sink) joins
   the maximum and the denominator only. Dividing the weighted sum once is dividing each weight. -/
module

public import Idealize.ShloMosaic.PureOps.Ideal
public import Idealize.ShloMosaic.Lib.IdealHost

@[expose] public section

noncomputable section

namespace Cert.Softmax

open Idealize.ShloMosaic

/-- Multiplying by a nonnegative real number distributes over any finite sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A sum of extended reals that are all nonnegative reals is a nonnegative real. -/
theorem sum_real {ι : Type*} (s : Finset ι) (f : ι → EReal) (h : ∀ i, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨x, hx, ex⟩ := h a
    obtain ⟨y, hy, ey⟩ := ih
    exact ⟨x + y, add_nonneg hx hy, by rw [Finset.sum_insert ha, ex, ey, EReal.coe_add]⟩

/-- The exponential of a score less a real maximum is a nonnegative real, provided the score is not `⊤`. -/
theorem exp_sub_real {s : EReal} (hs : s ≠ ⊤) (M : ℝ) : ∃ r : ℝ, 0 ≤ r ∧ Ideal.exp (s - (M : EReal)) = (r : EReal) := by
  induction s with
  | bot => exact ⟨0, le_rfl, by rw [EReal.bot_sub]; simp⟩
  | top => exact absurd rfl hs
  | coe x => exact ⟨Real.exp (x - M), (Real.exp_pos _).le, by rw [← EReal.coe_sub, Ideal.exp_coe]⟩

variable {ι : Type} [Fintype ι]

/-- The largest of the scores `s` and of the sink `t`. -/
def top (s : ι → EReal) (t : EReal) : EReal := max (Finset.univ.fold max ⊥ s) t

/-- The denominator: the exponentials of all scores, and of the sink, less the maximum. -/
def den (s : ι → EReal) (t : EReal) : EReal := (∑ k, Ideal.exp (s k - top s t)) + Ideal.exp (t - top s t)

/-- One element of a row of attention: the weighted sum of the values, divided once. -/
def attn (s v : ι → EReal) (t : EReal) : EReal := Ideal.div (∑ k, Ideal.exp (s k - top s t) * v k) (den s t)

/-- What lies above the largest score. -/
theorem top_le {s : ι → EReal} {t c : EReal} : top s t ≤ c ↔ (∀ k, s k ≤ c) ∧ t ≤ c := by
  unfold top; rw [max_le_iff, Finset.fold_max_le]; simp

/-- With a real sink and no score `⊤` the maximum is real. -/
theorem top_real {s : ι → EReal} {t : EReal} (hs : ∀ k, s k ≠ ⊤) (ht : t ≠ ⊤) (ht' : t ≠ ⊥) :
    ∃ M : ℝ, top s t = (M : EReal) := by
  have h1 : top s t ≠ ⊥ := fun h => ht' (le_bot_iff.1 (h ▸ (top_le.1 le_rfl).2))
  have h2 : top s t ≠ ⊤ := by
    have h : top s t < ⊤ := by
      unfold top
      rw [max_lt_iff, Finset.fold_max_lt]
      exact ⟨⟨bot_lt_top, fun k _ => lt_top_iff_ne_top.2 (hs k)⟩, lt_top_iff_ne_top.2 ht⟩
    exact h.ne
  exact ⟨(top s t).toReal, (EReal.coe_toReal h2 h1).symm⟩

/-- With a real sink and no score `⊤` the denominator is a positive real. -/
theorem den_real {s : ι → EReal} {t : EReal} (hs : ∀ k, s k ≠ ⊤) (ht : t ≠ ⊤) (ht' : t ≠ ⊥) :
    ∃ D : ℝ, 0 < D ∧ den s t = (D : EReal) := by
  obtain ⟨M, hM⟩ := top_real hs ht ht'
  unfold den
  rw [hM]
  obtain ⟨a, ha, ea⟩ := sum_real Finset.univ (fun k => Ideal.exp (s k - (M : EReal))) fun k => exp_sub_real (hs k) M
  induction t with
  | bot => exact absurd rfl ht'
  | top => exact absurd rfl ht
  | coe x =>
    exact ⟨a + Real.exp (x - M), add_pos_of_nonneg_of_pos ha (Real.exp_pos _), by
      rw [ea, ← EReal.coe_sub, Ideal.exp_coe, EReal.coe_add]⟩

/-- Dividing the weighted sum once is dividing each weight; the values of keys with score `⊥` do not matter. -/
theorem attn_eq {s v w : ι → EReal} {t : EReal} (hs : ∀ k, s k ≠ ⊤) (ht : t ≠ ⊤) (ht' : t ≠ ⊥)
    (hv : ∀ k, s k ≠ ⊥ → v k = w k) :
    attn s v t = ∑ k, w k * Ideal.div (Ideal.exp (s k - top s t)) (den s t) := by
  obtain ⟨M, hM⟩ := top_real hs ht ht'
  obtain ⟨D, hD, eD⟩ := den_real hs ht ht'
  unfold attn
  rw [eD, Ideal.div_coe hD.ne', sum_mul_coe _ _ _ (by positivity)]
  refine Finset.sum_congr rfl fun k _ => ?_
  rw [Ideal.div_coe hD.ne']
  by_cases hk : s k = ⊥
  · rw [hk, hM, EReal.bot_sub, Ideal.exp_bot, zero_mul, zero_mul, mul_zero]
  · rw [hv k hk, mul_comm (Ideal.exp _) (w k), mul_assoc]

/-- A sum over the 640 keys and the sink, cut into window, context and sink. -/
theorem sum_641 (f : Fin 641 → EReal) :
    ∑ k, f k = (∑ k : Fin 640, f ⟨k, by omega⟩) + f ⟨640, by omega⟩ := Fin.sum_univ_castSucc f

/-- A sum over the 640 keys, cut into window and context. -/
theorem sum_640 (f : Fin 640 → EReal) :
    ∑ k, f k = (∑ k : Fin 384, f ⟨k, by omega⟩) + ∑ k : Fin 256, f ⟨384 + k, by omega⟩ :=
  Fin.sum_univ_add (a := 384) (b := 256) f

/-- The maximum over the 640 keys and the sink, started at `⊥` and once more compared with `⊥`. -/
theorem fold_641 (s : Fin 640 → EReal) (t : EReal) (x : Fin 641 → EReal) (hs : ∀ k : Fin 640, x ⟨k, by omega⟩ = s k)
    (ht : x ⟨640, by omega⟩ = t) : max ⊥ (Finset.univ.fold max ⊥ x) = top s t := by
  refine eq_of_forall_ge_iff fun c => ?_
  rw [top_le, max_le_iff, Finset.fold_max_le]
  constructor
  · rintro ⟨-, -, h⟩
    exact ⟨fun k => hs k ▸ h _ (Finset.mem_univ _), ht ▸ h _ (Finset.mem_univ _)⟩
  · rintro ⟨h1, h2⟩
    refine ⟨bot_le, bot_le, fun k _ => ?_⟩
    by_cases hk : (k : ℕ) < 640
    · have := h1 ⟨k, hk⟩; rwa [← hs] at this
    · have e : k = ⟨640, by omega⟩ := Fin.ext (by have := k.isLt; show (k : ℕ) = 640; omega)
      rwa [e, ht]

end Cert.Softmax

end
-- ==== Proof.Chain.lean ====
/- One chain of the windowed attention kernel: two heads' 128 queries against 640 keys, as the row of attention of
   Softmax.lean at each query. The eight chains of the body are this one function at eight blocks. -/
module

public import proofs.«01_k».proof.Proof.Gen.KernelIdeal.Value
public import proofs.«01_k».proof.Proof.Softmax
public import Idealize.ShloMosaic.Lib.Pointwise

@[expose] public section

set_option maxRecDepth 16384

noncomputable section

namespace Cert.Chain

open Idealize.ShloMosaic Cert.KernelIdeal Cert.KernelIdeal.Gen Cert.Softmax

/-- The keys that the queries of block `n` may attend to, as the body computes them. -/
def okv (n : BitVec 32) : IVec S256x640 1 :=
  have col : IVec S256x640 32 := iota .tc S256x640 32 [1] iota_S256x640_d1_w32
  andi
    (andi (k0_pay7 (Scalar.select (Scalar.cmpi .eq 128#32 0#32) 1#32 128#32) k0_pay4 k0_pay5 k0_pay6
        (Scalar.cmpi .slt (Scalar.select (Scalar.cmpi .eq 128#32 0#32) 1#32 128#32) 0#32))
      (ori (broadcast S256x640 (Scalar.cmpi .sgt n 0#32)) (cmpi .sge col (broadcast S256x640 128#32))))
    (ori (ori (broadcast S256x640 (Scalar.cmpi .slt n 15#32)) (cmpi .slt col (broadcast S256x640 256#32)))
      (cmpi .sge col (broadcast S256x640 384#32)))

/-- The masked scores of two heads' queries against 640 keys. -/
def scores (ok : IVec S256x640 1) (q0 q1 : FVec Ideal S128x64 .bf16) (K : FVec Ideal S640x64 .bf16) : FVec Ideal S256x640 .f32 :=
  select ok
    (matmul dot_S256x64_S640x64_S256x640_1_1_0_0_n_n none
      (concatenate S256x64 0 [⟨S128x64, q0⟩, ⟨S128x64, q1⟩] concatenates_S128x64_S128x64_S256x64_d0 : FVec Ideal S256x64 .bf16) K
      (constant S256x640 .f32 0x00000000#32))
    (broadcast S256x640 (Named.named (F := Ideal) κ "mask" 0xF149F2CA#32 : Ideal .f32))

/-- The row maxima of the scores and the sinks. -/
def tops (S : FVec Ideal S256x640 .f32) (sk : FVec Ideal S256x1 .f32) : FVec Ideal S256x1 .f32 :=
  maximumf (shapeCast S256x1 (multiReduction .maximumf [1] S256 S 0xFF800000#32 reduces_S256x640_S256 (.inl rfl) rfl : FVec Ideal S256 .f32) shapeCasts_S256_S256x1) sk

/-- The exponentials of the scores less the row maxima. -/
def expo (S : FVec Ideal S256x640 .f32) (M : FVec Ideal S256x1 .f32) : FVec Ideal S256x640 .f32 :=
  exp (subf S (broadcastTo S256x640 M broadcasts_S256x1_S256x640))

/-- The denominators. -/
def dens (P : FVec Ideal S256x640 .f32) (M sk : FVec Ideal S256x1 .f32) : FVec Ideal S256x1 .f32 :=
  addf (shapeCast S256x1 (multiReduction .add [1] S256 P 0x00000000#32 reduces_S256x640_S256 (.inl rfl) rfl : FVec Ideal S256 .f32) shapeCasts_S256_S256x1)
    (exp (subf sk M))

/-- One chain: masked scores, their exponentials, the weighted sum of the values and one division. -/
def chain (ok : IVec S256x640 1) (q0 q1 : FVec Ideal S128x64 .bf16) (sk : FVec Ideal S256x1 .f32)
    (K V : FVec Ideal S640x64 .bf16) : FVec Ideal S256x64 .f32 :=
  divf (matmul dot_S256x640_S640x64_S256x64_1_0_0_1_n_n none
      (truncf .bf16 (expo (scores ok q0 q1 K) (tops (scores ok q0 q1 K) sk)) bitsLt_bf16_f32) V (constant S256x64 .f32 0x00000000#32))
    (broadcastTo S256x64 (dens (expo (scores ok q0 q1 K) (tops (scores ok q0 q1 K) sk)) (tops (scores ok q0 q1 K) sk) sk) broadcasts_S256x1_S256x64)

/-- A query of the chain: the first head's in rows 0 to 127, the second's in rows 128 to 255. -/
def qrow (q0 q1 : FVec Ideal S128x64 .bf16) (r : Fin 256) (e : Fin 64) : EReal :=
  if h : (r : ℕ) < 128 then q0 (ix2 ⟨r, h⟩ e) else q1 (ix2 ⟨r - 128, by omega⟩ e)

/-- A score of the chain: the product where the key may be attended to, `⊥` elsewhere. -/
def srow (ok : IVec S256x640 1) (q0 q1 : FVec Ideal S128x64 .bf16) (K : FVec Ideal S640x64 .bf16) (r : Fin 256) (k : Fin 640) : EReal :=
  if ok (ix2 r k) = 1#1 then ∑ e : Fin 64, qrow q0 q1 r e * K (ix2 k e) else ⊥

/-- The mask is `⊥`. -/
theorem mask_bot : (Named.named (F := Ideal) κ "mask" 0xF149F2CA#32 : Ideal .f32) = (⊥ : EReal) :=
  IdealRules.named_const.ideal_named_scalar _ _ _ _ rfl

/-- The scores at an index. -/
theorem scores_apply (ok : IVec S256x640 1) (q0 q1 : FVec Ideal S128x64 .bf16) (K : FVec Ideal S640x64 .bf16) (r : Fin 256) (k : Fin 640) :
    scores ok q0 q1 K (ix2 r k) = srow ok q0 q1 K r k := by
  unfold scores srow
  pointwise
  rw [mask_bot]
  rfl

/-- The word the maximum over a row starts from is `⊥`. -/
theorem ofBits_neg_inf : Ideal.ofBits .f32 0xFF800000#32 = (⊥ : EReal) := by
  simp [Ideal.ofBits, Ideal.ieee]

/-- The maxima at an index. -/
theorem tops_apply (S : FVec Ideal S256x640 .f32) (sk : FVec Ideal S256x1 .f32) (r : Fin 256) :
    tops S sk (ix2 r 0) = top (fun k : Fin 640 => S (ix2 r k)) (sk (ix2 r 0)) := by
  unfold tops top
  pointwise
  rw [show Ideal.ofBits .f32 4286578688#32 = (⊥ : EReal) from ofBits_neg_inf]

/-- The exponentials at an index. -/
theorem expo_apply (S : FVec Ideal S256x640 .f32) (M : FVec Ideal S256x1 .f32) (r : Fin 256) (k : Fin 640) :
    expo S M (ix2 r k) = Ideal.exp (S (ix2 r k) - M (ix2 r 0)) := by
  unfold expo
  pointwise

/-- The denominators at an index. -/
theorem dens_apply (P : FVec Ideal S256x640 .f32) (M sk : FVec Ideal S256x1 .f32) (r : Fin 256) :
    dens P M sk (ix2 r 0) = (∑ k : Fin 640, P (ix2 r k)) + Ideal.exp (sk (ix2 r 0) - M (ix2 r 0)) := by
  unfold dens
  pointwise

/-- The chain read at a query and a lane. -/
theorem chain_apply (ok : IVec S256x640 1) (q0 q1 : FVec Ideal S128x64 .bf16) (sk : FVec Ideal S256x1 .f32)
    (K V : FVec Ideal S640x64 .bf16) (r : Fin 256) (d : Fin 64) :
    chain ok q0 q1 sk K V (ix2 r d) = attn (srow ok q0 q1 K r) (fun k => V (ix2 k d)) (sk (ix2 r 0)) := by
  have hs : srow ok q0 q1 K r = fun k : Fin 640 => scores ok q0 q1 K (ix2 r k) := by
    funext k; rw [scores_apply]
  rw [hs]
  unfold chain attn den
  generalize scores ok q0 q1 K = S
  pointwise [expo_apply, dens_apply, tops_apply]

end Cert.Chain

end
-- ==== Proof.Blocks.lean ====
/- The body's sixteen stored pieces as the chains of Chain.lean: chain (j, hk) is `chain` at the j-th block of queries, the
   j-th run of four key and value blocks and the two heads that share key head hk. -/
module

public import proofs.«01_k».proof.Proof.Chain

@[expose] public section

set_option maxRecDepth 16384

noncomputable section

namespace Cert.Chain

open Idealize.ShloMosaic Cert.KernelIdeal Cert.KernelIdeal.Gen Cert.Softmax

/-- Three neighbouring blocks and the context block, stacked. -/
def kcat (a b c : Vec Ideal S128x128 .bf16) (x : Vec Ideal S256x128 .bf16) : FVec Ideal S640x128 .bf16 :=
  k0_pay9 (F := Ideal) (View.ld a r0_0) (View.ld b r0_0) (View.ld c r0_0) (View.ld x r0_1)

/-- The lanes of the first key head. -/
def lanes0 (x : FVec Ideal S640x128 .bf16) : FVec Ideal S640x64 .bf16 := extractStridedSlice S640x64 ![0, 0] x slices_S640x128_o0_0_S640x64

/-- The lanes of the second key head. -/
def lanes1 (x : FVec Ideal S640x128 .bf16) : FVec Ideal S640x64 .bf16 := extractStridedSlice S640x64 ![0, 64] x slices_S640x128_o0_64_S640x64

/-- The queries of the first head of a chain, as stored. -/
def out0 (x : FVec Ideal S256x64 .f32) : FVec Ideal S128x64 .bf16 :=
  truncf .bf16 (extractStridedSlice S128x64 ![0, 0] x slices_S256x64_o0_0_S128x64 : FVec Ideal S128x64 .f32) bitsLt_bf16_f32

/-- The queries of the second head of a chain, as stored. -/
def out1 (x : FVec Ideal S256x64 .f32) : FVec Ideal S128x64 .bf16 :=
  truncf .bf16 (extractStridedSlice S128x64 ![128, 0] x slices_S256x64_o128_0_S128x64 : FVec Ideal S128x64 .f32) bitsLt_bf16_f32

/-- Two sinks, each repeated for its head's queries. -/
def sinks (a b : Vec Ideal S1x1 .f32) : FVec Ideal S256x1 .f32 := k0_pay24 (F := Ideal) a b

/-- The `j`-th block of the step's grid point. -/
def blk (i : grid0.Coords) (j : BitVec 32) : BitVec 32 := Scalar.addi (Scalar.muli (BitVec.ofNat 32 (i 1).val) 4#32) j

variable (i : grid0.Coords) (x0 : Vec Ideal S512x256 .bf16) (x1 x2 x3 x4 x5 x6 x7 x8 x9 x10 x11 x12 : Vec Ideal S128x128 .bf16)
  (x13 x14 : Vec Ideal S256x128 .bf16) (x15 : Vec Ideal S1x4 .f32)

/-- The chain of block 0 and key head 0. -/
theorem chain00 : k0_pay63 (F := Ideal) (k0_pay121 i x0 x1 x2 x3 x4 x5 x6 x7 x8 x9 x10 x11 x12 x13 x14 x15) (k0_pay123 i x0 x1 x2 x3 x4 x5 x6 x7 x8 x9 x10 x11 x12 x13 x14 x15) (k0_pay124 i x0 x1 x2 x3 x4 x5 x6 x7 x8 x9 x10 x11 x12 x13 x14 x15)
    = chain (okv (blk i 0#32)) (View.ld x0 r0_6) (View.ld x0 r0_7) (sinks (View.ld x15 r0_2) (View.ld x15 r0_3))
        (lanes0 (kcat x1 x2 x3 x13)) (lanes0 (kcat x7 x8 x9 x14)) := rfl

/-- The chain of block 0 and key head 1. -/
theorem chain01 : k0_pay64 (F := Ideal) (k0_pay91 i x0 x1 x2 x3 x4 x5 x6 x7 x8 x9 x10 x11 x12 x13 x14 x15) (k0_pay117 i x0 x1 x2 x3 x4 x5 x6 x7 x8 x9 x10 x11 x12 x13 x14 x15) (k0_pay122 i x0 x1 x2 x3 x4 x5 x6 x7 x8 x9 x10 x11 x12 x13 x14 x15)
    = chain (okv (blk i 0#32)) (View.ld x0 r0_8) (View.ld x0 r0_9) (sinks (View.ld x15 r0_4) (View.ld x15 r0_5))
        (lanes1 (kcat x1 x2 x3 x13)) (lanes1 (kcat x7 x8 x9 x14)) := rfl

/-- The chain of block 1 and key head 0. -/
theorem chain10 : k0_pay125 (F := Ideal) i x0 x1 x2 x3 x4 x5 x6 x7 x8 x9 x10 x11 x12 x13 x14 x15
    = chain (okv (blk i 1#32)) (View.ld x0 r0_10) (View.ld x0 r0_11) (sinks (View.ld x15 r0_2) (View.ld x15 r0_3))
        (lanes0 (kcat x2 x3 x4 x13)) (lanes0 (kcat x8 x9 x10 x14)) := rfl

/-- The chain of block 1 and key head 1. -/
theorem chain11 : k0_pay126 (F := Ideal) i x0 x1 x2 x3 x4 x5 x6 x7 x8 x9 x10 x11 x12 x13 x14 x15
    = chain (okv (blk i 1#32)) (View.ld x0 r0_12) (View.ld x0 r0_13) (sinks (View.ld x15 r0_4) (View.ld x15 r0_5))
        (lanes1 (kcat x2 x3 x4 x13)) (lanes1 (kcat x8 x9 x10 x14)) := rfl

/-- The chain of block 2 and key head 0. -/
theorem chain20 : k0_pay127 (F := Ideal) i x0 x1 x2 x3 x4 x5 x6 x7 x8 x9 x10 x11 x12 x13 x14 x15
    = chain (okv (blk i 2#32)) (View.ld x0 r0_14) (View.ld x0 r0_15) (sinks (View.ld x15 r0_2) (View.ld x15 r0_3))
        (lanes0 (kcat x3 x4 x5 x13)) (lanes0 (kcat x9 x10 x11 x14)) := rfl

/-- The chain of block 2 and key head 1. -/
theorem chain21 : k0_pay128 (F := Ideal) i x0 x1 x2 x3 x4 x5 x6 x7 x8 x9 x10 x11 x12 x13 x14 x15
    = chain (okv (blk i 2#32)) (View.ld x0 r0_16) (View.ld x0 r0_17) (sinks (View.ld x15 r0_4) (View.ld x15 r0_5))
        (lanes1 (kcat x3 x4 x5 x13)) (lanes1 (kcat x9 x10 x11 x14)) := rfl

/-- The chain of block 3 and key head 0. -/
theorem chain30 : k0_pay129 (F := Ideal) i x0 x1 x2 x3 x4 x5 x6 x7 x8 x9 x10 x11 x12 x13 x14 x15
    = chain (okv (blk i 3#32)) (View.ld x0 r0_18) (View.ld x0 r0_19) (sinks (View.ld x15 r0_2) (View.ld x15 r0_3))
        (lanes0 (kcat x4 x5 x6 x13)) (lanes0 (kcat x10 x11 x12 x14)) := rfl

/-- The chain of block 3 and key head 1. -/
theorem chain31 : k0_pay130 (F := Ideal) i x0 x1 x2 x3 x4 x5 x6 x7 x8 x9 x10 x11 x12 x13 x14 x15
    = chain (okv (blk i 3#32)) (View.ld x0 r0_20) (View.ld x0 r0_21) (sinks (View.ld x15 r0_4) (View.ld x15 r0_5))
        (lanes1 (kcat x4 x5 x6 x13)) (lanes1 (kcat x10 x11 x12 x14)) := rfl

end Cert.Chain

end
-- ==== Proof.Pieces.lean ====
/- The pieces at an index. -/
module

public import proofs.«01_k».proof.Proof.Blocks

@[expose] public section

set_option maxRecDepth 16384

noncomputable section

namespace Cert.Chain

open Idealize.ShloMosaic Cert.KernelIdeal Cert.KernelIdeal.Gen Cert.Softmax

/-- A score of the chain's first head. -/
theorem head0 (ok : IVec S256x640 1) (q0 q1 : FVec Ideal S128x64 .bf16) (sk : FVec Ideal S256x1 .f32)
    (K V : FVec Ideal S640x64 .bf16) (q : Fin 128) (d : Fin 64) :
    out0 (chain ok q0 q1 sk K V) (ix2 q d)
      = attn (fun k : Fin 640 => if ok (ix2 ⟨(q : ℕ), by omega⟩ k) = 1#1 then ∑ e : Fin 64, q0 (ix2 q e) * K (ix2 k e) else ⊥)
          (fun k => V (ix2 k d)) (sk (ix2 ⟨(q : ℕ), by omega⟩ 0)) := by
  have e : out0 (chain ok q0 q1 sk K V) (ix2 q d) = chain ok q0 q1 sk K V (ix2 ⟨(q : ℕ), by omega⟩ d) := by
    unfold out0; pointwise
  rw [e, chain_apply]
  congr 1
  funext k
  unfold srow qrow
  simp

/-- A score of the chain's second head. -/
theorem head1 (ok : IVec S256x640 1) (q0 q1 : FVec Ideal S128x64 .bf16) (sk : FVec Ideal S256x1 .f32)
    (K V : FVec Ideal S640x64 .bf16) (q : Fin 128) (d : Fin 64) :
    out1 (chain ok q0 q1 sk K V) (ix2 q d)
      = attn (fun k : Fin 640 => if ok (ix2 ⟨128 + (q : ℕ), by omega⟩ k) = 1#1 then ∑ e : Fin 64, q1 (ix2 q e) * K (ix2 k e) else ⊥)
          (fun k => V (ix2 k d)) (sk (ix2 ⟨128 + (q : ℕ), by omega⟩ 0)) := by
  have e : out1 (chain ok q0 q1 sk K V) (ix2 q d) = chain ok q0 q1 sk K V (ix2 ⟨128 + (q : ℕ), by omega⟩ d) := by
    unfold out1; pointwise
  rw [e, chain_apply]
  congr 1
  funext k
  unfold srow qrow
  simp

/-- The stacked blocks at a key and a column. -/
theorem kcat_apply (a b c : Vec Ideal S128x128 .bf16) (x : Vec Ideal S256x128 .bf16) (k : Fin 640) (e : Fin 128) :
    kcat a b c x (ix2 k e)
      = if h : (k : ℕ) < 128 then a (ix2 ⟨k, h⟩ e) else if h : (k : ℕ) < 256 then b (ix2 ⟨k - 128, by omega⟩ e)
        else if h : (k : ℕ) < 384 then c (ix2 ⟨k - 256, by omega⟩ e) else x (ix2 ⟨k - 384, by omega⟩ e) := by
  unfold kcat k0_pay9
  pointwise
  have h1 : ((k : ℕ) - 128 < 128) = ((k : ℕ) < 256) := propext (by omega)
  have h2 : ((k : ℕ) - 256 < 128) = ((k : ℕ) < 384) := propext (by omega)
  have h3 : (k : ℕ) - 128 - 128 = k - 256 := by omega
  have h4 : (k : ℕ) - 256 - 128 = k - 384 := by omega
  simp only [h3, h4, h1, h2]

/-- The first head's sink. -/
theorem sinks_apply0 (a b : Vec Ideal S1x1 .f32) (q : Fin 128) : sinks a b (ix2 ⟨(q : ℕ), by omega⟩ 0) = a (ix2 0 0) := by
  unfold sinks k0_pay24
  pointwise
  done

/-- The second head's sink. -/
theorem sinks_apply1 (a b : Vec Ideal S1x1 .f32) (q : Fin 128) : sinks a b (ix2 ⟨128 + (q : ℕ), by omega⟩ 0) = b (ix2 0 0) := by
  unfold sinks k0_pay24
  pointwise
  done

/-- The keys that query `q` of block `n` may attend to: the window of one block to either side, within the sequence, and
    the whole context. -/
def okp (n q k : ℕ) : Prop := ((q ≤ k ∧ k ≤ q + 256) ∨ 384 ≤ k) ∧ (0 < n ∨ 128 ≤ k) ∧ (n < 15 ∨ k < 256 ∨ 384 ≤ k)

instance (n q k : ℕ) : Decidable (okp n q k) := by unfold okp; infer_instance

/-- The remainder by 128 as the body computes it. -/
theorem rem_word : ∀ r : Fin 256,
    (Scalar.select
      (IntOp.andi
        (IntOp.xori (IntOp.cmpi CmpIPredicate.slt
            (IntOp.remsi ArithUnit.vector (BitVec.ofNat 32 ↑r) (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne
            (IntOp.remsi ArithUnit.vector (BitVec.ofNat 32 ↑r) (Scalar.select (Scalar.cmpi CmpIPredicate.eq 128#32 0#32) 1#32 128#32)) 0#32))
      (IntOp.addi (IntOp.remsi ArithUnit.vector (BitVec.ofNat 32 ↑r) (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 ↑r) (Scalar.select (Scalar.cmpi CmpIPredicate.eq 128#32 0#32) 1#32 128#32)))
      = BitVec.ofNat 32 (↑r % 128) := by
  decide +kernel

/-- The window test on the offset of a key from a query. -/
theorem win_word : ∀ w : Fin 1024,
    IntOp.cmpi CmpIPredicate.sle (IntOp.absi (BitVec.ofNat 32 ↑w - 256#32)) 128#32 = BitVec.ofBool (decide (128 ≤ w.val ∧ w.val ≤ 384)) := by
  decide +kernel

/-- The tests on a key's number. -/
theorem col_word : ∀ k : Fin 640,
    IntOp.cmpi CmpIPredicate.sge (BitVec.ofNat 32 ↑k) 384#32 = BitVec.ofBool (decide (384 ≤ k.val))
      ∧ IntOp.cmpi CmpIPredicate.sge (BitVec.ofNat 32 ↑k) 128#32 = BitVec.ofBool (decide (128 ≤ k.val))
      ∧ IntOp.cmpi CmpIPredicate.slt (BitVec.ofNat 32 ↑k) 256#32 = BitVec.ofBool (decide (k.val < 256)) := by
  decide +kernel

/-- The tests on a block's number. -/
theorem blk_word : ∀ a b : Fin 4,
    Scalar.cmpi CmpIPredicate.sgt (Scalar.addi (Scalar.muli (BitVec.ofNat 32 a.val) 4#32) (BitVec.ofNat 32 b.val)) 0#32
        = BitVec.ofBool (decide (0 < 4 * a.val + b.val))
      ∧ Scalar.cmpi CmpIPredicate.slt (Scalar.addi (Scalar.muli (BitVec.ofNat 32 a.val) 4#32) (BitVec.ofNat 32 b.val)) 15#32
        = BitVec.ofBool (decide (4 * a.val + b.val < 15)) := by
  decide +kernel

/-- Truth values as words. -/
theorem bit_word : ∀ a b : Bool, IntOp.andi (BitVec.ofBool a) (BitVec.ofBool b) = BitVec.ofBool (a && b)
    ∧ IntOp.ori (BitVec.ofBool a) (BitVec.ofBool b) = BitVec.ofBool (a || b) ∧ (BitVec.ofBool a = 1#1 ↔ a = true) := by
  decide +kernel

/-- The offset of a key from a query, as a word. -/
theorem off_word (k q : ℕ) (hk : k < 640) (hq : q < 128) :
    IntOp.subi (IntOp.subi (BitVec.ofNat 32 k) 128#32) (BitVec.ofNat 32 q) = BitVec.ofNat 32 (k + 128 - q) - 256#32 := by
  show BitVec.ofNat 32 k - 128#32 - BitVec.ofNat 32 q = _
  bv_omega

/-- The mask of the body is the window. -/
theorem okv_apply (a b : Fin 4) (r : Fin 256) (k : Fin 640) :
    okv (Scalar.addi (Scalar.muli (BitVec.ofNat 32 a.val) 4#32) (BitVec.ofNat 32 b.val)) (ix2 r k) = 1#1
      ↔ okp (4 * a.val + b.val) (r.val % 128) k.val := by
  unfold okv k0_pay7 k0_pay5 k0_pay6
  pointwise
  have e4 : k0_pay4 (ix2 r k)
      = IntOp.remsi ArithUnit.vector (BitVec.ofNat 32 ↑r) (Scalar.select (Scalar.cmpi CmpIPredicate.eq 128#32 0#32) 1#32 128#32) := by
    unfold k0_pay4; pointwise
  rw [e4, rem_word, off_word _ _ k.isLt (Nat.mod_lt _ (by norm_num)), win_word ⟨k + 128 - r % 128, by omega⟩, (col_word k).1, (col_word k).2.1,
    (col_word k).2.2, (blk_word a b).1, (blk_word a b).2]
  simp only [(bit_word _ _).1, (bit_word _ _).2.1, (bit_word _ true).2.2]
  unfold okp
  simp only [Bool.and_eq_true, Bool.or_eq_true, decide_eq_true_eq]
  omega

end Cert.Chain

end
-- ==== Proof.Cells.lean ====
/- The body's output block at an index: one row of attention, over three neighbouring blocks and the context. -/
module

public import proofs.«01_k».proof.Proof.Pieces

@[expose] public section

set_option maxRecDepth 16384

noncomputable section

namespace Cert.Chain

open Idealize.ShloMosaic Cert.KernelIdeal Cert.KernelIdeal.Gen Cert.Softmax

/-- One element of attention for query `q` of block `n`. -/
def brow (n : ℕ) (Q : Fin 64 → EReal) (q : ℕ) (K : Fin 640 → Fin 64 → EReal) (V : Fin 640 → EReal) (t : EReal) : EReal :=
  attn (fun k : Fin 640 => if okp n q k then ∑ e : Fin 64, Q e * K k e else ⊥) V t

/-- Three neighbouring blocks and the context, by the number of the key. -/
def nbr (a b c : Vec Ideal S128x128 .bf16) (x : Vec Ideal S256x128 .bf16) (k : Fin 640) (e : Fin 128) : EReal :=
  if h : (k : ℕ) < 128 then a (ix2 ⟨k, h⟩ e) else if h : (k : ℕ) < 256 then b (ix2 ⟨k - 128, by omega⟩ e)
    else if h : (k : ℕ) < 384 then c (ix2 ⟨k - 256, by omega⟩ e) else x (ix2 ⟨k - 384, by omega⟩ e)

/-- The lanes of the first key head at an index. -/
theorem lanes0_apply (x : FVec Ideal S640x128 .bf16) (k : Fin 640) (e : Fin 64) :
    lanes0 x (ix2 k e) = x (ix2 k ⟨64 * 0 + (e : ℕ), by omega⟩) := by
  unfold lanes0; pointwise

/-- The lanes of the second key head at an index. -/
theorem lanes1_apply (x : FVec Ideal S640x128 .bf16) (k : Fin 640) (e : Fin 64) :
    lanes1 x (ix2 k e) = x (ix2 k ⟨64 * 1 + (e : ℕ), by omega⟩) := by
  unfold lanes1; pointwise

variable (a b : Fin 4) (q0 q1 : FVec Ideal S128x64 .bf16) (s0 s1 : Vec Ideal S1x1 .f32) (A B C A' B' C' : Vec Ideal S128x128 .bf16)
  (X X' : Vec Ideal S256x128 .bf16) (q : Fin 128) (d : Fin 64)

/-- A stored piece of the first head over key head 0, as a row of attention. -/
theorem brow00 :
    out0 (chain (okv (Scalar.addi (Scalar.muli (BitVec.ofNat 32 a.val) 4#32) (BitVec.ofNat 32 b.val))) q0 q1 (sinks s0 s1)
      (lanes0 (kcat A B C X)) (lanes0 (kcat A' B' C' X'))) (ix2 q d)
    = brow (4 * a.val + b.val) (fun e => q0 (ix2 q e)) q (fun k e => nbr A B C X k ⟨64 * 0 + (e : ℕ), by omega⟩)
        (fun k => nbr A' B' C' X' k ⟨64 * 0 + (d : ℕ), by omega⟩) (s0 (ix2 0 0)) := by
  rw [head0, sinks_apply0]
  unfold brow
  congr 1
  · funext k
    have hm : ((q : ℕ)) % 128 = q := by omega
    simp only [okv_apply, hm, lanes0_apply, kcat_apply]
    rfl
  · funext k
    rw [lanes0_apply, kcat_apply]
    rfl

/-- A stored piece of the second head over key head 0, as a row of attention. -/
theorem brow10 :
    out1 (chain (okv (Scalar.addi (Scalar.muli (BitVec.ofNat 32 a.val) 4#32) (BitVec.ofNat 32 b.val))) q0 q1 (sinks s0 s1)
      (lanes0 (kcat A B C X)) (lanes0 (kcat A' B' C' X'))) (ix2 q d)
    = brow (4 * a.val + b.val) (fun e => q1 (ix2 q e)) q (fun k e => nbr A B C X k ⟨64 * 0 + (e : ℕ), by omega⟩)
        (fun k => nbr A' B' C' X' k ⟨64 * 0 + (d : ℕ), by omega⟩) (s1 (ix2 0 0)) := by
  rw [head1, sinks_apply1]
  unfold brow
  congr 1
  · funext k
    have hm : (128 + (q : ℕ)) % 128 = q := by omega
    simp only [okv_apply, hm, lanes0_apply, kcat_apply]
    rfl
  · funext k
    rw [lanes0_apply, kcat_apply]
    rfl

/-- A stored piece of the first head over key head 1, as a row of attention. -/
theorem brow01 :
    out0 (chain (okv (Scalar.addi (Scalar.muli (BitVec.ofNat 32 a.val) 4#32) (BitVec.ofNat 32 b.val))) q0 q1 (sinks s0 s1)
      (lanes1 (kcat A B C X)) (lanes1 (kcat A' B' C' X'))) (ix2 q d)
    = brow (4 * a.val + b.val) (fun e => q0 (ix2 q e)) q (fun k e => nbr A B C X k ⟨64 * 1 + (e : ℕ), by omega⟩)
        (fun k => nbr A' B' C' X' k ⟨64 * 1 + (d : ℕ), by omega⟩) (s0 (ix2 0 0)) := by
  rw [head0, sinks_apply0]
  unfold brow
  congr 1
  · funext k
    have hm : ((q : ℕ)) % 128 = q := by omega
    simp only [okv_apply, hm, lanes1_apply, kcat_apply]
    rfl
  · funext k
    rw [lanes1_apply, kcat_apply]
    rfl

/-- A stored piece of the second head over key head 1, as a row of attention. -/
theorem brow11 :
    out1 (chain (okv (Scalar.addi (Scalar.muli (BitVec.ofNat 32 a.val) 4#32) (BitVec.ofNat 32 b.val))) q0 q1 (sinks s0 s1)
      (lanes1 (kcat A B C X)) (lanes1 (kcat A' B' C' X'))) (ix2 q d)
    = brow (4 * a.val + b.val) (fun e => q1 (ix2 q e)) q (fun k e => nbr A B C X k ⟨64 * 1 + (e : ℕ), by omega⟩)
        (fun k => nbr A' B' C' X' k ⟨64 * 1 + (d : ℕ), by omega⟩) (s1 (ix2 0 0)) := by
  rw [head1, sinks_apply1]
  unfold brow
  congr 1
  · funext k
    have hm : (128 + (q : ℕ)) % 128 = q := by omega
    simp only [okv_apply, hm, lanes1_apply, kcat_apply]
    rfl
  · funext k
    rw [lanes1_apply, kcat_apply]
    rfl

variable (i : grid0.Coords) (x0 : Vec Ideal S512x256 .bf16) (x1 x2 x3 x4 x5 x6 x7 x8 x9 x10 x11 x12 : Vec Ideal S128x128 .bf16)
  (x13 x14 : Vec Ideal S256x128 .bf16) (x15 : Vec Ideal S1x4 .f32)

/-- One element of the body's output: query `q` of the `j`-th block, lane `d` of head `h`. -/
def cell (i : grid0.Coords) (x0 : Vec Ideal S512x256 .bf16) (KB VB : Fin 6 → Vec Ideal S128x128 .bf16)
    (x13 x14 : Vec Ideal S256x128 .bf16) (x15 : Vec Ideal S1x4 .f32) (j h : Fin 4) (q : Fin 128) (d : Fin 64) : EReal :=
  brow (4 * (i 1).val + j.val) (fun e => x0 (ix2 ⟨128 * j.val + q.val, by omega⟩ ⟨64 * h.val + e.val, by omega⟩)) q
    (fun k e => nbr (KB ⟨j, by omega⟩) (KB ⟨j + 1, by omega⟩) (KB ⟨j + 2, by omega⟩) x13 k ⟨64 * (h.val / 2) + e.val, by omega⟩)
    (fun k => nbr (VB ⟨j, by omega⟩) (VB ⟨j + 1, by omega⟩) (VB ⟨j + 2, by omega⟩) x14 k ⟨64 * (h.val / 2) + d.val, by omega⟩)
    (x15 (ix2 0 h))

/-- A load of a rectangle of queries, at an index. -/
theorem ld_q (o p : ℕ) (inb : ∀ a, (![o, p] : Fin 2 → ℕ) a + S128x64.size a ≤ S512x256.size a) (q : Fin 128) (e : Fin 64) (ho : o + 128 ≤ 512) (hp : p + 64 ≤ 256) :
    View.ld x0 (Rect.unit (s := S512x256) ![o, p] S128x64.size inb) (ix2 q e) = x0 (ix2 ⟨o + q.val, by omega⟩ ⟨p + e.val, by omega⟩) := by
  pointwise

/-- A load of one sink. -/
theorem ld_s (p : ℕ) (inb : ∀ a, (![0, p] : Fin 2 → ℕ) a + S1x1.size a ≤ S1x4.size a) (hp : p < 4) :
    View.ld x15 (Rect.unit (s := S1x4) ![0, p] S1x1.size inb) (ix2 0 0) = x15 (ix2 0 ⟨p, hp⟩) := by
  pointwise

/-- The piece of block 0 and head 0. -/
theorem piece00 : k0_pay71 (F := Ideal) (k0_pay121 i x0 x1 x2 x3 x4 x5 x6 x7 x8 x9 x10 x11 x12 x13 x14 x15) (k0_pay123 i x0 x1 x2 x3 x4 x5 x6 x7 x8 x9 x10 x11 x12 x13 x14 x15) (k0_pay124 i x0 x1 x2 x3 x4 x5 x6 x7 x8 x9 x10 x11 x12 x13 x14 x15) (ix2 q d)
    = cell i x0 ![x1, x2, x3, x4, x5, x6] ![x7, x8, x9, x10, x11, x12] x13 x14 x15 0 0 q d := by
  have e := brow00 (i 1) 0 (View.ld x0 r0_6) (View.ld x0 r0_7) (View.ld x15 r0_2) (View.ld x15 r0_3)
    x1 x2 x3 x7 x8 x9 x13 x14 q d
  refine Eq.trans ?_ (e.trans ?_)
  · exact congrArg (fun y => out0 y (ix2 q d)) (chain00 i x0 x1 x2 x3 x4 x5 x6 x7 x8 x9 x10 x11 x12 x13 x14 x15)
  · simp only [ld_q x0 _ _ _ q _ (show 0 + 128 ≤ 512 by norm_num) (show 0 + 64 ≤ 256 by norm_num), ld_s x15 _ _ (show 0 < 4 by norm_num)]
    rfl

/-- The piece of block 0 and head 1. -/
theorem piece01 : k0_pay72 (F := Ideal) (k0_pay121 i x0 x1 x2 x3 x4 x5 x6 x7 x8 x9 x10 x11 x12 x13 x14 x15) (k0_pay123 i x0 x1 x2 x3 x4 x5 x6 x7 x8 x9 x10 x11 x12 x13 x14 x15) (k0_pay124 i x0 x1 x2 x3 x4 x5 x6 x7 x8 x9 x10 x11 x12 x13 x14 x15) (ix2 q d)
    = cell i x0 ![x1, x2, x3, x4, x5, x6] ![x7, x8, x9, x10, x11, x12] x13 x14 x15 0 1 q d := by
  have e := brow10 (i 1) 0 (View.ld x0 r0_6) (View.ld x0 r0_7) (View.ld x15 r0_2) (View.ld x15 r0_3)
    x1 x2 x3 x7 x8 x9 x13 x14 q d
  refine Eq.trans ?_ (e.trans ?_)
  · exact congrArg (fun y => out1 y (ix2 q d)) (chain00 i x0 x1 x2 x3 x4 x5 x6 x7 x8 x9 x10 x11 x12 x13 x14 x15)
  · simp only [ld_q x0 _ _ _ q _ (show 0 + 128 ≤ 512 by norm_num) (show 64 + 64 ≤ 256 by norm_num), ld_s x15 _ _ (show 1 < 4 by norm_num)]
    rfl

/-- The piece of block 0 and head 2. -/
theorem piece02 : k0_pay73 (F := Ideal) (k0_pay91 i x0 x1 x2 x3 x4 x5 x6 x7 x8 x9 x10 x11 x12 x13 x14 x15) (k0_pay117 i x0 x1 x2 x3 x4 x5 x6 x7 x8 x9 x10 x11 x12 x13 x14 x15) (k0_pay122 i x0 x1 x2 x3 x4 x5 x6 x7 x8 x9 x10 x11 x12 x13 x14 x15) (ix2 q d)
    = cell i x0 ![x1, x2, x3, x4, x5, x6] ![x7, x8, x9, x10, x11, x12] x13 x14 x15 0 2 q d := by
  have e := brow01 (i 1) 0 (View.ld x0 r0_8) (View.ld x0 r0_9) (View.ld x15 r0_4) (View.ld x15 r0_5)
    x1 x2 x3 x7 x8 x9 x13 x14 q d
  refine Eq.trans ?_ (e.trans ?_)
  · exact congrArg (fun y => out0 y (ix2 q d)) (chain01 i x0 x1 x2 x3 x4 x5 x6 x7 x8 x9 x10 x11 x12 x13 x14 x15)
  · simp only [ld_q x0 _ _ _ q _ (show 0 + 128 ≤ 512 by norm_num) (show 128 + 64 ≤ 256 by norm_num), ld_s x15 _ _ (show 2 < 4 by norm_num)]
    rfl

/-- The piece of block 0 and head 3. -/
theorem piece03 : k0_pay74 (F := Ideal) (k0_pay64 (k0_pay91 i x0 x1 x2 x3 x4 x5 x6 x7 x8 x9 x10 x11 x12 x13 x14 x15) (k0_pay117 i x0 x1 x2 x3 x4 x5 x6 x7 x8 x9 x10 x11 x12 x13 x14 x15) (k0_pay122 i x0 x1 x2 x3 x4 x5 x6 x7 x8 x9 x10 x11 x12 x13 x14 x15)) (ix2 q d)
    = cell i x0 ![x1, x2, x3, x4, x5, x6] ![x7, x8, x9, x10, x11, x12] x13 x14 x15 0 3 q d := by
  have e := brow11 (i 1) 0 (View.ld x0 r0_8) (View.ld x0 r0_9) (View.ld x15 r0_4) (View.ld x15 r0_5)
    x1 x2 x3 x7 x8 x9 x13 x14 q d
  refine Eq.trans ?_ (e.trans ?_)
  · exact congrArg (fun y => out1 y (ix2 q d)) (chain01 i x0 x1 x2 x3 x4 x5 x6 x7 x8 x9 x10 x11 x12 x13 x14 x15)
  · simp only [ld_q x0 _ _ _ q _ (show 0 + 128 ≤ 512 by norm_num) (show 192 + 64 ≤ 256 by norm_num), ld_s x15 _ _ (show 3 < 4 by norm_num)]
    rfl

/-- The piece of block 1 and head 0. -/
theorem piece10 : k0_pay75 (F := Ideal) (k0_pay125 i x0 x1 x2 x3 x4 x5 x6 x7 x8 x9 x10 x11 x12 x13 x14 x15) (ix2 q d)
    = cell i x0 ![x1, x2, x3, x4, x5, x6] ![x7, x8, x9, x10, x11, x12] x13 x14 x15 1 0 q d := by
  have e := brow00 (i 1) 1 (View.ld x0 r0_10) (View.ld x0 r0_11) (View.ld x15 r0_2) (View.ld x15 r0_3)
    x2 x3 x4 x8 x9 x10 x13 x14 q d
  refine Eq.trans ?_ (e.trans ?_)
  · exact congrArg (fun y => out0 y (ix2 q d)) (chain10 i x0 x1 x2 x3 x4 x5 x6 x7 x8 x9 x10 x11 x12 x13 x14 x15)
  · simp only [ld_q x0 _ _ _ q _ (show 128 + 128 ≤ 512 by norm_num) (show 0 + 64 ≤ 256 by norm_num), ld_s x15 _ _ (show 0 < 4 by norm_num)]
    rfl

/-- The piece of block 1 and head 1. -/
theorem piece11 : k0_pay76 (F := Ideal) (k0_pay125 i x0 x1 x2 x3 x4 x5 x6 x7 x8 x9 x10 x11 x12 x13 x14 x15) (ix2 q d)
    = cell i x0 ![x1, x2, x3, x4, x5, x6] ![x7, x8, x9, x10, x11, x12] x13 x14 x15 1 1 q d := by
  have e := brow10 (i 1) 1 (View.ld x0 r0_10) (View.ld x0 r0_11) (View.ld x15 r0_2) (View.ld x15 r0_3)
    x2 x3 x4 x8 x9 x10 x13 x14 q d
  refine Eq.trans ?_ (e.trans ?_)
  · exact congrArg (fun y => out1 y (ix2 q d)) (chain10 i x0 x1 x2 x3 x4 x5 x6 x7 x8 x9 x10 x11 x12 x13 x14 x15)
  · simp only [ld_q x0 _ _ _ q _ (show 128 + 128 ≤ 512 by norm_num) (show 64 + 64 ≤ 256 by norm_num), ld_s x15 _ _ (show 1 < 4 by norm_num)]
    rfl

/-- The piece of block 1 and head 2. -/
theorem piece12 : k0_pay77 (F := Ideal) (k0_pay126 i x0 x1 x2 x3 x4 x5 x6 x7 x8 x9 x10 x11 x12 x13 x14 x15) (ix2 q d)
    = cell i x0 ![x1, x2, x3, x4, x5, x6] ![x7, x8, x9, x10, x11, x12] x13 x14 x15 1 2 q d := by
  have e := brow01 (i 1) 1 (View.ld x0 r0_12) (View.ld x0 r0_13) (View.ld x15 r0_4) (View.ld x15 r0_5)
    x2 x3 x4 x8 x9 x10 x13 x14 q d
  refine Eq.trans ?_ (e.trans ?_)
  · exact congrArg (fun y => out0 y (ix2 q d)) (chain11 i x0 x1 x2 x3 x4 x5 x6 x7 x8 x9 x10 x11 x12 x13 x14 x15)
  · simp only [ld_q x0 _ _ _ q _ (show 128 + 128 ≤ 512 by norm_num) (show 128 + 64 ≤ 256 by norm_num), ld_s x15 _ _ (show 2 < 4 by norm_num)]
    rfl

/-- The piece of block 1 and head 3. -/
theorem piece13 : k0_pay78 (F := Ideal) (k0_pay126 i x0 x1 x2 x3 x4 x5 x6 x7 x8 x9 x10 x11 x12 x13 x14 x15) (ix2 q d)
    = cell i x0 ![x1, x2, x3, x4, x5, x6] ![x7, x8, x9, x10, x11, x12] x13 x14 x15 1 3 q d := by
  have e := brow11 (i 1) 1 (View.ld x0 r0_12) (View.ld x0 r0_13) (View.ld x15 r0_4) (View.ld x15 r0_5)
    x2 x3 x4 x8 x9 x10 x13 x14 q d
  refine Eq.trans ?_ (e.trans ?_)
  · exact congrArg (fun y => out1 y (ix2 q d)) (chain11 i x0 x1 x2 x3 x4 x5 x6 x7 x8 x9 x10 x11 x12 x13 x14 x15)
  · simp only [ld_q x0 _ _ _ q _ (show 128 + 128 ≤ 512 by norm_num) (show 192 + 64 ≤ 256 by norm_num), ld_s x15 _ _ (show 3 < 4 by norm_num)]
    rfl

/-- The piece of block 2 and head 0. -/
theorem piece20 : k0_pay79 (F := Ideal) (k0_pay127 i x0 x1 x2 x3 x4 x5 x6 x7 x8 x9 x10 x11 x12 x13 x14 x15) (ix2 q d)
    = cell i x0 ![x1, x2, x3, x4, x5, x6] ![x7, x8, x9, x10, x11, x12] x13 x14 x15 2 0 q d := by
  have e := brow00 (i 1) 2 (View.ld x0 r0_14) (View.ld x0 r0_15) (View.ld x15 r0_2) (View.ld x15 r0_3)
    x3 x4 x5 x9 x10 x11 x13 x14 q d
  refine Eq.trans ?_ (e.trans ?_)
  · exact congrArg (fun y => out0 y (ix2 q d)) (chain20 i x0 x1 x2 x3 x4 x5 x6 x7 x8 x9 x10 x11 x12 x13 x14 x15)
  · simp only [ld_q x0 _ _ _ q _ (show 256 + 128 ≤ 512 by norm_num) (show 0 + 64 ≤ 256 by norm_num), ld_s x15 _ _ (show 0 < 4 by norm_num)]
    rfl

/-- The piece of block 2 and head 1. -/
theorem piece21 : k0_pay80 (F := Ideal) (k0_pay127 i x0 x1 x2 x3 x4 x5 x6 x7 x8 x9 x10 x11 x12 x13 x14 x15) (ix2 q d)
    = cell i x0 ![x1, x2, x3, x4, x5, x6] ![x7, x8, x9, x10, x11, x12] x13 x14 x15 2 1 q d := by
  have e := brow10 (i 1) 2 (View.ld x0 r0_14) (View.ld x0 r0_15) (View.ld x15 r0_2) (View.ld x15 r0_3)
    x3 x4 x5 x9 x10 x11 x13 x14 q d
  refine Eq.trans ?_ (e.trans ?_)
  · exact congrArg (fun y => out1 y (ix2 q d)) (chain20 i x0 x1 x2 x3 x4 x5 x6 x7 x8 x9 x10 x11 x12 x13 x14 x15)
  · simp only [ld_q x0 _ _ _ q _ (show 256 + 128 ≤ 512 by norm_num) (show 64 + 64 ≤ 256 by norm_num), ld_s x15 _ _ (show 1 < 4 by norm_num)]
    rfl

/-- The piece of block 2 and head 2. -/
theorem piece22 : k0_pay81 (F := Ideal) (k0_pay128 i x0 x1 x2 x3 x4 x5 x6 x7 x8 x9 x10 x11 x12 x13 x14 x15) (ix2 q d)
    = cell i x0 ![x1, x2, x3, x4, x5, x6] ![x7, x8, x9, x10, x11, x12] x13 x14 x15 2 2 q d := by
  have e := brow01 (i 1) 2 (View.ld x0 r0_16) (View.ld x0 r0_17) (View.ld x15 r0_4) (View.ld x15 r0_5)
    x3 x4 x5 x9 x10 x11 x13 x14 q d
  refine Eq.trans ?_ (e.trans ?_)
  · exact congrArg (fun y => out0 y (ix2 q d)) (chain21 i x0 x1 x2 x3 x4 x5 x6 x7 x8 x9 x10 x11 x12 x13 x14 x15)
  · simp only [ld_q x0 _ _ _ q _ (show 256 + 128 ≤ 512 by norm_num) (show 128 + 64 ≤ 256 by norm_num), ld_s x15 _ _ (show 2 < 4 by norm_num)]
    rfl

/-- The piece of block 2 and head 3. -/
theorem piece23 : k0_pay82 (F := Ideal) (k0_pay128 i x0 x1 x2 x3 x4 x5 x6 x7 x8 x9 x10 x11 x12 x13 x14 x15) (ix2 q d)
    = cell i x0 ![x1, x2, x3, x4, x5, x6] ![x7, x8, x9, x10, x11, x12] x13 x14 x15 2 3 q d := by
  have e := brow11 (i 1) 2 (View.ld x0 r0_16) (View.ld x0 r0_17) (View.ld x15 r0_4) (View.ld x15 r0_5)
    x3 x4 x5 x9 x10 x11 x13 x14 q d
  refine Eq.trans ?_ (e.trans ?_)
  · exact congrArg (fun y => out1 y (ix2 q d)) (chain21 i x0 x1 x2 x3 x4 x5 x6 x7 x8 x9 x10 x11 x12 x13 x14 x15)
  · simp only [ld_q x0 _ _ _ q _ (show 256 + 128 ≤ 512 by norm_num) (show 192 + 64 ≤ 256 by norm_num), ld_s x15 _ _ (show 3 < 4 by norm_num)]
    rfl

/-- The piece of block 3 and head 0. -/
theorem piece30 : k0_pay83 (F := Ideal) (k0_pay129 i x0 x1 x2 x3 x4 x5 x6 x7 x8 x9 x10 x11 x12 x13 x14 x15) (ix2 q d)
    = cell i x0 ![x1, x2, x3, x4, x5, x6] ![x7, x8, x9, x10, x11, x12] x13 x14 x15 3 0 q d := by
  have e := brow00 (i 1) 3 (View.ld x0 r0_18) (View.ld x0 r0_19) (View.ld x15 r0_2) (View.ld x15 r0_3)
    x4 x5 x6 x10 x11 x12 x13 x14 q d
  refine Eq.trans ?_ (e.trans ?_)
  · exact congrArg (fun y => out0 y (ix2 q d)) (chain30 i x0 x1 x2 x3 x4 x5 x6 x7 x8 x9 x10 x11 x12 x13 x14 x15)
  · simp only [ld_q x0 _ _ _ q _ (show 384 + 128 ≤ 512 by norm_num) (show 0 + 64 ≤ 256 by norm_num), ld_s x15 _ _ (show 0 < 4 by norm_num)]
    rfl

/-- The piece of block 3 and head 1. -/
theorem piece31 : k0_pay1 (F := Ideal) (k0_pay129 i x0 x1 x2 x3 x4 x5 x6 x7 x8 x9 x10 x11 x12 x13 x14 x15) (ix2 q d)
    = cell i x0 ![x1, x2, x3, x4, x5, x6] ![x7, x8, x9, x10, x11, x12] x13 x14 x15 3 1 q d := by
  have e := brow10 (i 1) 3 (View.ld x0 r0_18) (View.ld x0 r0_19) (View.ld x15 r0_2) (View.ld x15 r0_3)
    x4 x5 x6 x10 x11 x12 x13 x14 q d
  refine Eq.trans ?_ (e.trans ?_)
  · exact congrArg (fun y => out1 y (ix2 q d)) (chain30 i x0 x1 x2 x3 x4 x5 x6 x7 x8 x9 x10 x11 x12 x13 x14 x15)
  · simp only [ld_q x0 _ _ _ q _ (show 384 + 128 ≤ 512 by norm_num) (show 64 + 64 ≤ 256 by norm_num), ld_s x15 _ _ (show 1 < 4 by norm_num)]
    rfl

/-- The piece of block 3 and head 2. -/
theorem piece32 : k0_pay2 (F := Ideal) (k0_pay130 i x0 x1 x2 x3 x4 x5 x6 x7 x8 x9 x10 x11 x12 x13 x14 x15) (ix2 q d)
    = cell i x0 ![x1, x2, x3, x4, x5, x6] ![x7, x8, x9, x10, x11, x12] x13 x14 x15 3 2 q d := by
  have e := brow01 (i 1) 3 (View.ld x0 r0_20) (View.ld x0 r0_21) (View.ld x15 r0_4) (View.ld x15 r0_5)
    x4 x5 x6 x10 x11 x12 x13 x14 q d
  refine Eq.trans ?_ (e.trans ?_)
  · exact congrArg (fun y => out0 y (ix2 q d)) (chain31 i x0 x1 x2 x3 x4 x5 x6 x7 x8 x9 x10 x11 x12 x13 x14 x15)
  · simp only [ld_q x0 _ _ _ q _ (show 384 + 128 ≤ 512 by norm_num) (show 128 + 64 ≤ 256 by norm_num), ld_s x15 _ _ (show 2 < 4 by norm_num)]
    rfl

/-- The piece of block 3 and head 3. -/
theorem piece33 : k0_pay3 (F := Ideal) (k0_pay130 i x0 x1 x2 x3 x4 x5 x6 x7 x8 x9 x10 x11 x12 x13 x14 x15) (ix2 q d)
    = cell i x0 ![x1, x2, x3, x4, x5, x6] ![x7, x8, x9, x10, x11, x12] x13 x14 x15 3 3 q d := by
  have e := brow11 (i 1) 3 (View.ld x0 r0_20) (View.ld x0 r0_21) (View.ld x15 r0_4) (View.ld x15 r0_5)
    x4 x5 x6 x10 x11 x12 x13 x14 q d
  refine Eq.trans ?_ (e.trans ?_)
  · exact congrArg (fun y => out1 y (ix2 q d)) (chain31 i x0 x1 x2 x3 x4 x5 x6 x7 x8 x9 x10 x11 x12 x13 x14 x15)
  · simp only [ld_q x0 _ _ _ q _ (show 384 + 128 ≤ 512 by norm_num) (show 192 + 64 ≤ 256 by norm_num), ld_s x15 _ _ (show 3 < 4 by norm_num)]
    rfl

/-- The body's output block by its index. -/
def outG (i : grid0.Coords) (x0 : Vec Ideal S512x256 .bf16) (KB VB : Fin 6 → Vec Ideal S128x128 .bf16)
    (x13 x14 : Vec Ideal S256x128 .bf16) (x15 : Vec Ideal S1x4 .f32) (y : S512x256.Idx) : EReal :=
  cell i x0 KB VB x13 x14 x15 ⟨(y 0).val / 128, by have := (y 0).isLt; change _ < 512 at this; omega⟩
    ⟨(y 1).val / 64, by have := (y 1).isLt; change _ < 256 at this; omega⟩ ⟨(y 0).val % 128, by omega⟩ ⟨(y 1).val % 64, by omega⟩

/-- A stored piece reads the output block at its own rows and lanes. -/
theorem outG_emb (KB VB : Fin 6 → Vec Ideal S128x128 .bf16) (j h : Fin 4) (o p : ℕ)
    (inb : ∀ a, (![o, p] : Fin 2 → ℕ) a + S128x64.size a ≤ S512x256.size a) (ho : o = 128 * j.val) (hp : p = 64 * h.val)
    (w : S128x64.Idx → EReal) (hw : ∀ q d, w (ix2 q d) = cell i x0 KB VB x13 x14 x15 j h q d)
    (x : (Rect.unit (s := S512x256) ![o, p] S128x64.size inb).shape.Idx) :
    w x = outG i x0 KB VB x13 x14 x15 ((Rect.unit (s := S512x256) ![o, p] S128x64.size inb).emb x) := by
  subst ho hp
  obtain ⟨q, d, rfl⟩ : ∃ (q : Fin 128) (d : Fin 64), x = ix2 q d := ⟨x 0, x 1, by funext a; fin_cases a <;> rfl⟩
  rw [hw]
  unfold outG
  congr 1 <;> refine Fin.ext ?_ <;> show _ = _ <;> simp <;> omega

/-- The body's output block at an index. -/
theorem out_apply (y : S512x256.Idx) :
    out0_16 (F := Ideal) i x0 x1 x2 x3 x4 x5 x6 x7 x8 x9 x10 x11 x12 x13 x14 x15 y
      = outG i x0 ![x1, x2, x3, x4, x5, x6] ![x7, x8, x9, x10, x11, x12] x13 x14 x15 y := by
  unfold out0_16
  refine View.canon_apply_of_pieces (Val := Elt Ideal) (S := S512x256) (e := .bf16) (outG i x0 ![x1, x2, x3, x4, x5, x6] ![x7, x8, x9, x10, x11, x12] x13 x14 x15) _ ?_ y
    (cover0_16 _ _ _ _ _ _ _ _ _ _ _ _ _ _ _ _ y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact outG_emb i x0 x13 x14 x15 _ _ 3 3 _ _ inb_S512x256_S128x64_384_192 rfl rfl _ fun q d => piece33 q d i x0 x1 x2 x3 x4 x5 x6 x7 x8 x9 x10 x11 x12 x13 x14 x15
  · exact outG_emb i x0 x13 x14 x15 _ _ 3 2 _ _ inb_S512x256_S128x64_384_128 rfl rfl _ fun q d => piece32 q d i x0 x1 x2 x3 x4 x5 x6 x7 x8 x9 x10 x11 x12 x13 x14 x15
  · exact outG_emb i x0 x13 x14 x15 _ _ 3 1 _ _ inb_S512x256_S128x64_384_64 rfl rfl _ fun q d => piece31 q d i x0 x1 x2 x3 x4 x5 x6 x7 x8 x9 x10 x11 x12 x13 x14 x15
  · exact outG_emb i x0 x13 x14 x15 _ _ 3 0 _ _ inb_S512x256_S128x64_384_0 rfl rfl _ fun q d => piece30 q d i x0 x1 x2 x3 x4 x5 x6 x7 x8 x9 x10 x11 x12 x13 x14 x15
  · exact outG_emb i x0 x13 x14 x15 _ _ 2 3 _ _ inb_S512x256_S128x64_256_192 rfl rfl _ fun q d => piece23 q d i x0 x1 x2 x3 x4 x5 x6 x7 x8 x9 x10 x11 x12 x13 x14 x15
  · exact outG_emb i x0 x13 x14 x15 _ _ 2 2 _ _ inb_S512x256_S128x64_256_128 rfl rfl _ fun q d => piece22 q d i x0 x1 x2 x3 x4 x5 x6 x7 x8 x9 x10 x11 x12 x13 x14 x15
  · exact outG_emb i x0 x13 x14 x15 _ _ 2 1 _ _ inb_S512x256_S128x64_256_64 rfl rfl _ fun q d => piece21 q d i x0 x1 x2 x3 x4 x5 x6 x7 x8 x9 x10 x11 x12 x13 x14 x15
  · exact outG_emb i x0 x13 x14 x15 _ _ 2 0 _ _ inb_S512x256_S128x64_256_0 rfl rfl _ fun q d => piece20 q d i x0 x1 x2 x3 x4 x5 x6 x7 x8 x9 x10 x11 x12 x13 x14 x15
  · exact outG_emb i x0 x13 x14 x15 _ _ 1 3 _ _ inb_S512x256_S128x64_128_192 rfl rfl _ fun q d => piece13 q d i x0 x1 x2 x3 x4 x5 x6 x7 x8 x9 x10 x11 x12 x13 x14 x15
  · exact outG_emb i x0 x13 x14 x15 _ _ 1 2 _ _ inb_S512x256_S128x64_128_128 rfl rfl _ fun q d => piece12 q d i x0 x1 x2 x3 x4 x5 x6 x7 x8 x9 x10 x11 x12 x13 x14 x15
  · exact outG_emb i x0 x13 x14 x15 _ _ 1 1 _ _ inb_S512x256_S128x64_128_64 rfl rfl _ fun q d => piece11 q d i x0 x1 x2 x3 x4 x5 x6 x7 x8 x9 x10 x11 x12 x13 x14 x15
  · exact outG_emb i x0 x13 x14 x15 _ _ 1 0 _ _ inb_S512x256_S128x64_128_0 rfl rfl _ fun q d => piece10 q d i x0 x1 x2 x3 x4 x5 x6 x7 x8 x9 x10 x11 x12 x13 x14 x15
  · exact outG_emb i x0 x13 x14 x15 _ _ 0 3 _ _ inb_S512x256_S128x64_0_192 rfl rfl _ fun q d => piece03 q d i x0 x1 x2 x3 x4 x5 x6 x7 x8 x9 x10 x11 x12 x13 x14 x15
  · exact outG_emb i x0 x13 x14 x15 _ _ 0 2 _ _ inb_S512x256_S128x64_0_128 rfl rfl _ fun q d => piece02 q d i x0 x1 x2 x3 x4 x5 x6 x7 x8 x9 x10 x11 x12 x13 x14 x15
  · exact outG_emb i x0 x13 x14 x15 _ _ 0 1 _ _ inb_S512x256_S128x64_0_64 rfl rfl _ fun q d => piece01 q d i x0 x1 x2 x3 x4 x5 x6 x7 x8 x9 x10 x11 x12 x13 x14 x15
  · exact outG_emb i x0 x13 x14 x15 _ _ 0 0 _ _ inb_S512x256_S128x64_0_0 rfl rfl _ fun q d => piece00 q d i x0 x1 x2 x3 x4 x5 x6 x7 x8 x9 x10 x11 x12 x13 x14 x15

end Cert.Chain

end
-- ==== Proof.Array.lean ====
/- The array the windowed attention kernel leaves: every element is one row of attention of the arguments. -/
module

public import proofs.«01_k».proof.Proof.Cells
public import Idealize.ShloMosaic.Lib.Claim
public import Idealize.ShloMosaic.Lib.Pipeline.ValueKit.Point

@[expose] public section

set_option maxRecDepth 16384

noncomputable section

namespace Cert.Chain

open Idealize.ShloMosaic Idealize.ShloMosaic.TcCoe Cert.KernelIdeal Cert.KernelIdeal.Gen Cert.Softmax
open Idealize.ShloMosaic.Pipeline (Dat)

/-- Key (or value) `k` of block `n` of sequence `b`: the blocks before, at and after `n`, held within the sequence, and the
    context. -/
def key (lat : FVec Ideal S16384x1280 .bf16) (ctx : FVec Ideal S2048x1280 .bf16) (b : Fin 8) (n : Fin 16) (k : Fin 640) (c : Fin 1280) : EReal :=
  if h : (k : ℕ) < 384 then lat (ix2 ⟨b.val * 2048 + (min (n.val + k.val / 128 - 1) 15) * 128 + k.val % 128, by omega⟩ c)
    else ctx (ix2 ⟨b.val * 256 + (k.val - 384), by omega⟩ c)

/-- One element of the windowed attention, from the arguments: head `h`, lane `d` of query `q` of block `n` of sequence `b`. -/
def elt (lat : FVec Ideal S16384x1280 .bf16) (ctx : FVec Ideal S2048x1280 .bf16) (sink : FVec Ideal S4 .f32)
    (b : Fin 8) (n : Fin 16) (q : Fin 128) (h : Fin 4) (d : Fin 64) : EReal :=
  brow n (fun e => lat (ix2 ⟨b.val * 2048 + n.val * 128 + q.val, by omega⟩ ⟨64 * h.val + e.val, by omega⟩)) q
    (fun k e => key lat ctx b n k ⟨256 + (64 * (h.val / 2) + e.val), by omega⟩)
    (fun k => key lat ctx b n k ⟨384 + (64 * (h.val / 2) + d.val), by omega⟩) (sink (ix1 h))

/-- The windowed attention of the arguments. -/
def att (lat : FVec Ideal S16384x1280 .bf16) (ctx : FVec Ideal S2048x1280 .bf16) (sink : FVec Ideal S4 .f32) : FVec Ideal S16384x256 .bf16 :=
  fun y => elt lat ctx sink ⟨(y 0).val / 2048, by have := (y 0).isLt; change _ < 16384 at this; omega⟩
    ⟨(y 0).val / 128 % 16, by omega⟩ ⟨(y 0).val % 128, by omega⟩
    ⟨(y 1).val / 64, by have := (y 1).isLt; change _ < 256 at this; omega⟩ ⟨(y 1).val % 64, by omega⟩

variable (m : (ℓ : Loc nD τ sig) → Buf (Elt Ideal) ℓ)

/-- Every window's block index. -/
theorem idx : ∀ t : Fin cfg0.N,
    (grid0.coords t 0).val < 8 ∧ (grid0.coords t 1).val < 4
    ∧ win0_0.index t = ![(grid0.coords t 0).val * 4 + (grid0.coords t 1).val, 0]
    ∧ win0_1.index t = ![(grid0.coords t 0).val * 16 + min (4 * (grid0.coords t 1).val + 0 - 1) 15, 2]
    ∧ win0_2.index t = ![(grid0.coords t 0).val * 16 + min (4 * (grid0.coords t 1).val + 1 - 1) 15, 2]
    ∧ win0_3.index t = ![(grid0.coords t 0).val * 16 + min (4 * (grid0.coords t 1).val + 2 - 1) 15, 2]
    ∧ win0_4.index t = ![(grid0.coords t 0).val * 16 + min (4 * (grid0.coords t 1).val + 3 - 1) 15, 2]
    ∧ win0_5.index t = ![(grid0.coords t 0).val * 16 + min (4 * (grid0.coords t 1).val + 4 - 1) 15, 2]
    ∧ win0_6.index t = ![(grid0.coords t 0).val * 16 + min (4 * (grid0.coords t 1).val + 5 - 1) 15, 2]
    ∧ win0_7.index t = ![(grid0.coords t 0).val * 16 + min (4 * (grid0.coords t 1).val + 0 - 1) 15, 3]
    ∧ win0_8.index t = ![(grid0.coords t 0).val * 16 + min (4 * (grid0.coords t 1).val + 1 - 1) 15, 3]
    ∧ win0_9.index t = ![(grid0.coords t 0).val * 16 + min (4 * (grid0.coords t 1).val + 2 - 1) 15, 3]
    ∧ win0_10.index t = ![(grid0.coords t 0).val * 16 + min (4 * (grid0.coords t 1).val + 3 - 1) 15, 3]
    ∧ win0_11.index t = ![(grid0.coords t 0).val * 16 + min (4 * (grid0.coords t 1).val + 4 - 1) 15, 3]
    ∧ win0_12.index t = ![(grid0.coords t 0).val * 16 + min (4 * (grid0.coords t 1).val + 5 - 1) 15, 3]
    ∧ win0_13.index t = ![(grid0.coords t 0).val, 2]
    ∧ win0_14.index t = ![(grid0.coords t 0).val, 3]
    ∧ win0_15.index t = ![0, 0]
    ∧ win0_16.index t = ![(grid0.coords t 0).val * 4 + (grid0.coords t 1).val, 0] :=
  (by decide +kernel : ∀ t : Fin grid0.N, _)

/-- The query block. -/
theorem read_q (c : Dev nD) (t : Fin cfg0.N) (r : Fin 512) (e : Fin 256) :
    iblk m c 0 t (ix2 r e) = m ((c : Thread nD τ).loc main_arg0)
      (ix2 ⟨(grid0.coords t 0).val * 2048 + (grid0.coords t 1).val * 512 + r.val, by have := idx t; omega⟩ ⟨e, by omega⟩) := by
  blk_ext [iblk, V, idx t]

/-- The key blocks. -/
theorem read_k (c : Dev nD) (t : Fin cfg0.N) (j : Fin 6) (r e : Fin 128) :
    (![iblk m c 1 t, iblk m c 2 t, iblk m c 3 t, iblk m c 4 t, iblk m c 5 t, iblk m c 6 t] : Fin 6 → Vec Ideal S128x128 .bf16) j (ix2 r e)
      = m ((c : Thread nD τ).loc main_arg0)
      (ix2 ⟨(grid0.coords t 0).val * 2048 + min (4 * (grid0.coords t 1).val + j.val - 1) 15 * 128 + r.val, by have := idx t; omega⟩ ⟨256 + e, by omega⟩) := by
  fin_cases j
  · show iblk m c 1 t (ix2 r e) = _; blk_ext [iblk, V, idx t]
  · show iblk m c 2 t (ix2 r e) = _; blk_ext [iblk, V, idx t]
  · show iblk m c 3 t (ix2 r e) = _; blk_ext [iblk, V, idx t]
  · show iblk m c 4 t (ix2 r e) = _; blk_ext [iblk, V, idx t]
  · show iblk m c 5 t (ix2 r e) = _; blk_ext [iblk, V, idx t]
  · show iblk m c 6 t (ix2 r e) = _; blk_ext [iblk, V, idx t]

/-- The value blocks. -/
theorem read_v (c : Dev nD) (t : Fin cfg0.N) (j : Fin 6) (r e : Fin 128) :
    (![iblk m c 7 t, iblk m c 8 t, iblk m c 9 t, iblk m c 10 t, iblk m c 11 t, iblk m c 12 t] : Fin 6 → Vec Ideal S128x128 .bf16) j (ix2 r e)
      = m ((c : Thread nD τ).loc main_arg0)
      (ix2 ⟨(grid0.coords t 0).val * 2048 + min (4 * (grid0.coords t 1).val + j.val - 1) 15 * 128 + r.val, by have := idx t; omega⟩ ⟨384 + e, by omega⟩) := by
  fin_cases j
  · show iblk m c 7 t (ix2 r e) = _; blk_ext [iblk, V, idx t]
  · show iblk m c 8 t (ix2 r e) = _; blk_ext [iblk, V, idx t]
  · show iblk m c 9 t (ix2 r e) = _; blk_ext [iblk, V, idx t]
  · show iblk m c 10 t (ix2 r e) = _; blk_ext [iblk, V, idx t]
  · show iblk m c 11 t (ix2 r e) = _; blk_ext [iblk, V, idx t]
  · show iblk m c 12 t (ix2 r e) = _; blk_ext [iblk, V, idx t]

/-- The context's keys. -/
theorem read_kc (c : Dev nD) (t : Fin cfg0.N) (r : Fin 256) (e : Fin 128) :
    iblk m c 13 t (ix2 r e) = m ((c : Thread nD τ).loc main_arg1)
      (ix2 ⟨(grid0.coords t 0).val * 256 + r.val, by have := idx t; omega⟩ ⟨256 + e, by omega⟩) := by
  blk_ext [iblk, V, idx t]

/-- The context's values. -/
theorem read_vc (c : Dev nD) (t : Fin cfg0.N) (r : Fin 256) (e : Fin 128) :
    iblk m c 14 t (ix2 r e) = m ((c : Thread nD τ).loc main_arg1)
      (ix2 ⟨(grid0.coords t 0).val * 256 + r.val, by have := idx t; omega⟩ ⟨384 + e, by omega⟩) := by
  blk_ext [iblk, V, idx t]

/-- The sinks. -/
theorem read_s (c : Dev nD) (t : Fin cfg0.N) (h : Fin 4) :
    iblk m c 15 t (ix2 0 h) = m ((c : Thread nD τ).loc main_arg2) (ix1 h) := by
  blk_ext! [iblk, V, idx t]

/-- Three neighbouring blocks and the context, read from the arrays. -/
theorem nbr_key (lat : FVec Ideal S16384x1280 .bf16) (ctx : FVec Ideal S2048x1280 .bf16) (b : Fin 8) (i j : ℕ) (hn : 4 * i + j < 16) (off : ℕ) (hoff : off + 128 ≤ 1280)
    (A B C : Vec Ideal S128x128 .bf16) (X : Vec Ideal S256x128 .bf16)
    (hA : ∀ r e : Fin 128, A (ix2 r e) = lat (ix2 ⟨b.val * 2048 + min (4 * i + j - 1) 15 * 128 + r.val, by omega⟩ ⟨off + e.val, by omega⟩))
    (hB : ∀ r e : Fin 128, B (ix2 r e) = lat (ix2 ⟨b.val * 2048 + min (4 * i + (j + 1) - 1) 15 * 128 + r.val, by omega⟩ ⟨off + e.val, by omega⟩))
    (hC : ∀ r e : Fin 128, C (ix2 r e) = lat (ix2 ⟨b.val * 2048 + min (4 * i + (j + 2) - 1) 15 * 128 + r.val, by omega⟩ ⟨off + e.val, by omega⟩))
    (hX : ∀ (r : Fin 256) (e : Fin 128), X (ix2 r e) = ctx (ix2 ⟨b.val * 256 + r.val, by omega⟩ ⟨off + e.val, by omega⟩))
    (k : Fin 640) (e : Fin 128) :
    nbr A B C X k e = key lat ctx b ⟨4 * i + j, hn⟩ k ⟨off + e.val, by omega⟩ := by
  unfold nbr key
  split_ifs with h1 h2 h3 h4 h5 <;> first | omega | skip
  · rw [hA]; congr 2; apply Fin.ext; dsimp only; omega
  · rw [hB]; congr 2; apply Fin.ext; dsimp only; omega
  · rw [hC]; congr 2; apply Fin.ext; dsimp only; omega
  · rw [hX]

/-- A stored element is the windowed attention of the arguments. -/
theorem cell_elt (c : Dev nD) (t : Fin cfg0.N) (j h : Fin 4) (q : Fin 128) (d : Fin 64) :
    cell (grid0.coords t) (iblk m c 0 t) ![iblk m c 1 t, iblk m c 2 t, iblk m c 3 t, iblk m c 4 t, iblk m c 5 t, iblk m c 6 t]
      ![iblk m c 7 t, iblk m c 8 t, iblk m c 9 t, iblk m c 10 t, iblk m c 11 t, iblk m c 12 t] (iblk m c 13 t) (iblk m c 14 t) (iblk m c 15 t) j h q d
    = elt (m ((c : Thread nD τ).loc main_arg0)) (m ((c : Thread nD τ).loc main_arg1)) (m ((c : Thread nD τ).loc main_arg2))
        ⟨(grid0.coords t 0).val, (idx t).1⟩ ⟨4 * (grid0.coords t 1).val + j.val, by have := (idx t).2.1; omega⟩ q h d := by
  have hb := (idx t).1
  have hi := (idx t).2.1
  have hK := fun k e => nbr_key (m ((c : Thread nD τ).loc main_arg0)) (m ((c : Thread nD τ).loc main_arg1)) ⟨(grid0.coords t 0).val, hb⟩
    (grid0.coords t 1).val j.val (by omega) 256 (by norm_num) _ _ _ _
    (read_k m c t ⟨j.val, by omega⟩) (read_k m c t ⟨j.val + 1, by omega⟩) (read_k m c t ⟨j.val + 2, by omega⟩) (read_kc m c t) k e
  have hV := fun k e => nbr_key (m ((c : Thread nD τ).loc main_arg0)) (m ((c : Thread nD τ).loc main_arg1)) ⟨(grid0.coords t 0).val, hb⟩
    (grid0.coords t 1).val j.val (by omega) 384 (by norm_num) _ _ _ _
    (read_v m c t ⟨j.val, by omega⟩) (read_v m c t ⟨j.val + 1, by omega⟩) (read_v m c t ⟨j.val + 2, by omega⟩) (read_vc m c t) k e
  unfold cell elt
  congr 1
  · funext e
    rw [read_q]
    congr 2
    apply Fin.ext; dsimp only; omega
  · funext k e; exact hK k _
  · funext k; exact hV k _
  · exact read_s m c t h

/-- The array after the run is the windowed attention of the arguments. -/
theorem final (c : Dev nD) : (dats m 0 c).arrAt 16 cfg0.N
    = att (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16]
  rw [out_apply]
  unfold outG
  rw [cell_elt]
  unfold att
  have hy0 : (y 0).val < 512 := (y 0).isLt
  have hy1 : (y 1).val < 256 := (y 1).isLt
  have := (idx t).1
  have := (idx t).2.1
  congr 1
  all_goals blk_simp [idx t]
  all_goals apply Fin.ext; dsimp only; omega

end Cert.Chain

end
-- ==== Proof.RefKeys.lean ====
/- The reference's queries, keys and values at an index. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.RefRead

open Idealize.ShloMosaic Cert.ReferenceIdeal Cert.ReferenceIdeal.Gen Cert.ReferenceIdeal.Read Cert.Softmax

variable (x0 : FVec Ideal S16384x1280 .bf16) (x1 : FVec Ideal S2048x1280 .bf16) (x2 : FVec Ideal S4 .f32)

/-- The keys, cut into heads. -/
theorem v7_apply (b : Fin 8) (p : Fin 2048) (hk : Fin 2) (e : Fin 64) :
    val_main_v7 (F := Ideal) x0 (ix4 b p hk e) = x0 (ix2 ⟨b.val * 2048 + p.val, by omega⟩ ⟨256 + (64 * hk.val + e.val), by omega⟩) := by
  unfold val_main_v7 val_main_v6 val_main_v1 val_main_v0
  pointwise
  congr 2; apply Fin.ext; dsimp only; omega

/-- The values, cut into heads. -/
theorem v9_apply (b : Fin 8) (p : Fin 2048) (hk : Fin 2) (e : Fin 64) :
    val_main_v9 (F := Ideal) x0 (ix4 b p hk e) = x0 (ix2 ⟨b.val * 2048 + p.val, by omega⟩ ⟨384 + (64 * hk.val + e.val), by omega⟩) := by
  unfold val_main_v9 val_main_v8 val_main_v1 val_main_v0
  pointwise
  congr 2; apply Fin.ext; dsimp only; omega

/-- The context's keys, cut into heads. -/
theorem v11_apply (b : Fin 8) (p : Fin 256) (hk : Fin 2) (e : Fin 64) :
    val_main_v11 (F := Ideal) x1 (ix4 b p hk e) = x1 (ix2 ⟨b.val * 256 + p.val, by omega⟩ ⟨256 + (64 * hk.val + e.val), by omega⟩) := by
  unfold val_main_v11 val_main_v10 val_main_v3 val_main_v2
  pointwise
  congr 2; apply Fin.ext; dsimp only; omega

/-- The context's values, cut into heads. -/
theorem v13_apply (b : Fin 8) (p : Fin 256) (hk : Fin 2) (e : Fin 64) :
    val_main_v13 (F := Ideal) x1 (ix4 b p hk e) = x1 (ix2 ⟨b.val * 256 + p.val, by omega⟩ ⟨384 + (64 * hk.val + e.val), by omega⟩) := by
  unfold val_main_v13 val_main_v12 val_main_v3 val_main_v2
  pointwise
  congr 2; apply Fin.ext; dsimp only; omega

/-- The queries, cut into blocks and heads. -/
theorem v5_apply (b : Fin 8) (n : Fin 16) (q : Fin 128) (hk g : Fin 2) (e : Fin 64) :
    val_main_v5 (F := Ideal) x0 (ix6 b n q hk g e)
      = x0 (ix2 ⟨b.val * 2048 + n.val * 128 + q.val, by omega⟩ ⟨64 * (2 * hk.val + g.val) + e.val, by omega⟩) := by
  unfold val_main_v5 val_main_v4 val_main_v1 val_main_v0
  pointwise
  congr 2 <;> (apply Fin.ext; dsimp only; omega)

/-- The padded keys within the sequence. -/
theorem v14_apply (b : Fin 8) (p : Fin 2304) (hk : Fin 2) (e : Fin 64) (h1 : 128 ≤ p.val) (h2 : p.val < 2176) :
    val_main_v14 (F := Ideal) x0 (ix4 b p hk e) = val_main_v7 (F := Ideal) x0 (ix4 b ⟨p.val - 128, by omega⟩ hk e) := by
  unfold val_main_v14
  pointwise
  rw [dif_pos ⟨h1, by omega⟩]

/-- The three neighbouring blocks of keys. -/
theorem v19_apply (b : Fin 8) (n : Fin 16) (k : Fin 384) (hk : Fin 2) (e : Fin 64) :
    val_main_v19 (F := Ideal) x0 (ix5 b n k hk e) = val_main_v14 (F := Ideal) x0 (ix4 b ⟨n.val * 128 + k.val, by omega⟩ hk e) := by
  unfold val_main_v19 val_main_v18 val_main_v17 val_main_v16 val_main_v15
  pointwise
  by_cases h1 : (k : ℕ) < 128
  · rw [dif_pos h1]
  · rw [dif_neg h1]
    by_cases h2 : (k : ℕ) - 128 < 128
    · rw [dif_pos h2]; congr 2; apply Fin.ext; dsimp only; omega
    · rw [dif_neg h2]; congr 2; apply Fin.ext; dsimp only; omega

/-- The padded values within the sequence. -/
theorem v20_apply (b : Fin 8) (p : Fin 2304) (hk : Fin 2) (e : Fin 64) (h1 : 128 ≤ p.val) (h2 : p.val < 2176) :
    val_main_v20 (F := Ideal) x0 (ix4 b p hk e) = val_main_v9 (F := Ideal) x0 (ix4 b ⟨p.val - 128, by omega⟩ hk e) := by
  unfold val_main_v20
  pointwise
  rw [dif_pos ⟨h1, by omega⟩]

/-- The three neighbouring blocks of values. -/
theorem v25_apply (b : Fin 8) (n : Fin 16) (k : Fin 384) (hk : Fin 2) (e : Fin 64) :
    val_main_v25 (F := Ideal) x0 (ix5 b n k hk e) = val_main_v20 (F := Ideal) x0 (ix4 b ⟨n.val * 128 + k.val, by omega⟩ hk e) := by
  unfold val_main_v25 val_main_v24 val_main_v23 val_main_v22 val_main_v21
  pointwise
  by_cases h1 : (k : ℕ) < 128
  · rw [dif_pos h1]
  · rw [dif_neg h1]
    by_cases h2 : (k : ℕ) - 128 < 128
    · rw [dif_pos h2]; congr 2; apply Fin.ext; dsimp only; omega
    · rw [dif_neg h2]; congr 2; apply Fin.ext; dsimp only; omega

end Cert.RefRead

end
-- ==== Proof.RefScores.lean ====
/- The reference's scores at an index. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.RefRead

open Idealize.ShloMosaic Cert.ReferenceIdeal Cert.ReferenceIdeal.Gen Cert.ReferenceIdeal.Read Cert.Softmax

variable (x0 : FVec Ideal S16384x1280 .bf16) (x1 : FVec Ideal S2048x1280 .bf16) (x2 : FVec Ideal S4 .f32)

/-- The word of minus infinity. -/
theorem ofBits_bot : Ideal.ofBits .f32 0xFF800000#32 = (⊥ : EReal) := by
  simp [Ideal.ofBits, Ideal.ieee]

/-- The masked window scores. -/
theorem v59_apply (b : Fin 8) (n : Fin 16) (hk g : Fin 2) (q : Fin 128) (k : Fin 384) :
    val_main_v59 (F := Ideal) x0 (ix6 b n hk g q k) = if val_main_v55 (F := Ideal) (ix3 n q k) = 1#1 then
      ∑ e : Fin 64, val_main_v19 (F := Ideal) x0 (ix5 b n k hk e) * val_main_v5 (F := Ideal) x0 (ix6 b n q hk g e) else ⊥ := by
  unfold val_main_v59 val_main_call2_v1 val_main_v58 val_main_v57 val_main_v56 val_main_call2_v2 val_main_call2_v0 val_main_cst
  pointwise
  rw [show (id (constant (F := Ideal) S_ FTy.f32 4286578688#32) ix0 : EReal) = ⊥ from ofBits_bot]
  rfl

/-- The context's scores. -/
theorem v61_apply (b : Fin 8) (n : Fin 16) (hk g : Fin 2) (q : Fin 128) (k : Fin 256) :
    val_main_v61 (F := Ideal) x0 x1 (ix6 b n hk g q k) =
      ∑ e : Fin 64, val_main_v11 (F := Ideal) x1 (ix4 b k hk e) * val_main_v5 (F := Ideal) x0 (ix6 b n q hk g e) := by
  unfold val_main_v61 val_main_v60
  pointwise

/-- The sinks. -/
theorem v63_apply (b : Fin 8) (n : Fin 16) (hk g : Fin 2) (q : Fin 128)  :
    val_main_v63 (F := Ideal) x2 (ix6 b n hk g q 0) = x2 (ix1 ⟨2 * hk.val + g.val, by omega⟩) := by
  unfold val_main_v63 val_main_v62
  pointwise
  congr 2; apply Fin.ext; dsimp only; omega

/-- All scores of a query. -/
theorem v64_apply (b : Fin 8) (n : Fin 16) (hk g : Fin 2) (q : Fin 128) (k : Fin 641) :
    val_main_v64 (F := Ideal) x0 x1 x2 (ix6 b n hk g q k) =
      if h : k.val < 384 then val_main_v59 (F := Ideal) x0 (ix6 b n hk g q ⟨k, h⟩)
      else if h : k.val < 640 then val_main_v61 (F := Ideal) x0 x1 (ix6 b n hk g q ⟨k - 384, by omega⟩)
      else val_main_v63 (F := Ideal) x2 (ix6 b n hk g q 0) := by
  unfold val_main_v64
  pointwise
  have h1 : ((k : ℕ) - 384 < 256) = ((k : ℕ) < 640) := propext (by omega)
  have h2 : (k : ℕ) - 384 - 256 = (k : ℕ) - 640 := by omega
  have h3 : (⟨(k : ℕ) - 640, by omega⟩ : Fin 1) = 0 := Subsingleton.elim _ _
  simp only [h1, h2, h3]

end Cert.RefRead

end
-- ==== Proof.RefOut.lean ====
/- The reference's weights and result at an index. -/
module

public import proofs.«01_k».proof.Proof.RefScores
public import Idealize.ShloMosaic.Lib.Pointwise

@[expose] public section

set_option maxRecDepth 16384

noncomputable section

namespace Cert.RefRead

open Idealize.ShloMosaic Cert.ReferenceIdeal Cert.ReferenceIdeal.Gen Cert.ReferenceIdeal.Read Cert.Softmax

variable (x0 : FVec Ideal S16384x1280 .bf16) (x1 : FVec Ideal S2048x1280 .bf16) (x2 : FVec Ideal S4 .f32)

/-- The largest of a query's scores. -/
theorem v65_apply (b : Fin 8) (n : Fin 16) (hk g : Fin 2) (q : Fin 128) :
    val_main_v65 (F := Ideal) x0 x1 x2 (ix5 b n hk g q) = Finset.univ.fold max ⊥ fun k : Fin 641 => val_main_v64 (F := Ideal) x0 x1 x2 (ix6 b n hk g q k) := by
  unfold val_main_v65
  generalize val_main_v64 (F := Ideal) x0 x1 x2 = y
  rw [Host.reduce_eq_fold_single (FloatOps.maximumf (F := Ideal) (φ := .f32)) y _ reducesTo_S8x16x2x2x128x641_S8x16x2x2x128_d5 (by decide)]
  have e0 : (val_main_cst_6 (F := Ideal)) (Shape.Idx.first h_S_) = (⊥ : EReal) := ofBits_bot
  rw [e0]
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The maximum of all scores. -/
theorem v67_apply (b : Fin 8) (n : Fin 16) (hk g : Fin 2) (q : Fin 128) :
    val_main_v67 (F := Ideal) x0 x1 x2 (ix5 b n hk g q) = max ⊥ (Finset.univ.fold max ⊥ fun k : Fin 641 => val_main_v64 (F := Ideal) x0 x1 x2 (ix6 b n hk g q k)) := by
  have e0 : val_main_v66 (F := Ideal) (ix5 b n hk g q) = (⊥ : EReal) := by
    unfold val_main_v66 val_main_cst_7; pointwise; exact ofBits_bot
  rw [val_main_v67_apply, v65_apply, e0]
  rfl

/-- An exponential. -/
theorem v71_apply (b : Fin 8) (n : Fin 16) (hk g : Fin 2) (q : Fin 128) (k : Fin 641) :
    val_main_v71 (F := Ideal) x0 x1 x2 (ix6 b n hk g q k)
      = Ideal.exp (val_main_v64 (F := Ideal) x0 x1 x2 (ix6 b n hk g q k) - val_main_v67 (F := Ideal) x0 x1 x2 (ix5 b n hk g q)) := by
  unfold val_main_v71 val_main_v70 val_main_v69 val_main_v68
  pointwise

/-- The sum of the exponentials. -/
theorem v72_apply (b : Fin 8) (n : Fin 16) (hk g : Fin 2) (q : Fin 128) :
    val_main_v72 (F := Ideal) x0 x1 x2 (ix5 b n hk g q) = ∑ k : Fin 641, val_main_v71 (F := Ideal) x0 x1 x2 (ix6 b n hk g q k) := by
  have e0 : (val_main_cst_8 (F := Ideal)) (Shape.Idx.first h_S_) = (0 : EReal) := by simp [val_main_cst_8, constant, Ideal.ofBits, Ideal.ieee]
  rw [val_main_v72_apply, e0, zero_add]
  refine Finset.sum_congr rfl fun k _ => ?_
  exact congrArg (val_main_v71 (F := Ideal) x0 x1 x2) (funext fun a => Fin.ext (by match a with | ⟨0, _⟩ => rfl | ⟨1, _⟩ => rfl | ⟨2, _⟩ => rfl | ⟨3, _⟩ => rfl | ⟨4, _⟩ => rfl | ⟨5, _⟩ => rfl))

/-- The weights. -/
theorem v75_apply (b : Fin 8) (n : Fin 16) (hk g : Fin 2) (q : Fin 128) (k : Fin 641) :
    val_main_v75 (F := Ideal) x0 x1 x2 (ix6 b n hk g q k)
      = Ideal.div (Ideal.exp (val_main_v64 (F := Ideal) x0 x1 x2 (ix6 b n hk g q k) - val_main_v67 (F := Ideal) x0 x1 x2 (ix5 b n hk g q)))
        (∑ l : Fin 641, Ideal.exp (val_main_v64 (F := Ideal) x0 x1 x2 (ix6 b n hk g q l) - val_main_v67 (F := Ideal) x0 x1 x2 (ix5 b n hk g q))) := by
  have e : val_main_v74 (F := Ideal) x0 x1 x2 (ix6 b n hk g q k) = val_main_v72 (F := Ideal) x0 x1 x2 (ix5 b n hk g q) := by
    unfold val_main_v74 val_main_v73; pointwise
  rw [val_main_v75_apply, e, v72_apply, v71_apply]
  simp only [v71_apply]
  rfl

/-- The result. -/
theorem v84_apply (b : Fin 8) (n : Fin 16) (hk g : Fin 2) (q : Fin 128) (d : Fin 64) :
    val_main_v84 (F := Ideal) x0 x1 x2 (ix2 ⟨b.val * 2048 + n.val * 128 + q.val, by omega⟩ ⟨64 * (2 * hk.val + g.val) + d.val, by omega⟩)
      = (∑ k : Fin 384, val_main_v25 (F := Ideal) x0 (ix5 b n k hk d) * val_main_v75 (F := Ideal) x0 x1 x2 (ix6 b n hk g q ⟨k.val, by omega⟩))
        + ∑ k : Fin 256, val_main_v13 (F := Ideal) x1 (ix4 b k hk d) * val_main_v75 (F := Ideal) x0 x1 x2 (ix6 b n hk g q ⟨384 + k.val, by omega⟩) := by
  unfold val_main_v84 val_main_v83 val_main_v82 val_main_v81 val_main_v80 val_main_v79 val_main_v78 val_main_v77 val_main_v76
  pointwise
  skip

end Cert.RefRead

end
-- ==== Proof.Join.lean ====
/- The reference's result is the windowed attention of the arguments, when its queries, keys and sinks are finite. -/
module

public import proofs.«01_k».proof.Proof.Array
public import proofs.«01_k».proof.Proof.RefKeys
public import proofs.«01_k».proof.Proof.RefOut

@[expose] public section

set_option maxRecDepth 16384

noncomputable section

namespace Cert.RefRead

open Idealize.ShloMosaic Cert.ReferenceIdeal Cert.ReferenceIdeal.Gen Cert.ReferenceIdeal.Read Cert.Softmax Cert.Chain

variable (x0 : FVec Ideal S16384x1280 .bf16) (x1 : FVec Ideal S2048x1280 .bf16) (x2 : FVec Ideal S4 .f32)

/-- The tests on a key's position. -/
theorem pos_word : ∀ w : Fin 2304,
    IntOp.cmpi CmpIPredicate.sge (BitVec.ofNat 32 ↑w - 128#32) 0#32 = BitVec.ofBool (decide (128 ≤ w.val))
      ∧ IntOp.cmpi CmpIPredicate.slt (BitVec.ofNat 32 ↑w - 128#32) 2048#32 = BitVec.ofBool (decide (w.val < 2176)) := by
  decide +kernel

/-- A key's position, as a word. -/
theorem kpos_word (n k : ℕ) (hn : n < 16) (hk : k < 384) :
    IntOp.addi (IntOp.subi (IntOp.muli (BitVec.ofNat 32 n) 128#32) 128#32) (BitVec.ofNat 32 k) = BitVec.ofNat 32 (n * 128 + k) - 128#32 := by
  show BitVec.ofNat 32 n * 128#32 - 128#32 + BitVec.ofNat 32 k = _
  rw [show BitVec.ofNat 32 n * 128#32 = BitVec.ofNat 32 (n * 128) from (BitVec.ofNat_mul n 128).symm]
  bv_omega

/-- The offset of a key's position from a query's, as a word. -/
theorem rel_word (n q k : ℕ) (hn : n < 16) (hq : q < 128) (hk : k < 384) :
    IntOp.subi (BitVec.ofNat 32 (n * 128 + k) - 128#32) (BitVec.ofNat 32 (n * 128 + q)) = BitVec.ofNat 32 (k + 128 - q) - 256#32 := by
  show BitVec.ofNat 32 (n * 128 + k) - 128#32 - BitVec.ofNat 32 (n * 128 + q) = _
  bv_omega

/-- The reference's window is the body's. -/
theorem v55_apply (n : Fin 16) (q : Fin 128) (k : Fin 384) :
    val_main_v55 (F := Ideal) (ix3 n q k) = 1#1 ↔ okp n q k := by
  unfold val_main_v55 val_main_v54 val_main_v53 val_main_v52 val_main_v51 val_main_v50 val_main_v49 val_main_v48 val_main_v47 val_main_v46
    val_main_v45 val_main_v44 val_main_v43 val_main_v42 val_main_v41 val_main_v40 val_main_v39 val_main_v38 val_main_v37 val_main_v36
    val_main_v35 val_main_v34 val_main_v33 val_main_v32 val_main_v31 val_main_v30 val_main_v29 val_main_v28 val_main_v27 val_main_v26
    val_main_c_5 val_main_c_4 val_main_c_3 val_main_c_2 val_main_c_1
  pointwise
  rw [kpos_word _ _ n.isLt k.isLt, rel_word _ _ _ n.isLt q.isLt k.isLt, win_word ⟨k + 128 - q, by omega⟩,
    (pos_word ⟨n * 128 + k, by omega⟩).1, (pos_word ⟨n * 128 + k, by omega⟩).2]
  simp only [(bit_word _ _).1, (bit_word _ true).2.2]
  unfold okp
  simp only [Bool.and_eq_true, decide_eq_true_eq]
  omega

/-- The score of a query and a key, from the arguments. -/
def score (b : Fin 8) (n : Fin 16) (q : Fin 128) (h : Fin 4) (k : Fin 640) : EReal :=
  if okp n q k then ∑ e : Fin 64, x0 (ix2 ⟨b.val * 2048 + n.val * 128 + q.val, by omega⟩ ⟨64 * h.val + e.val, by omega⟩)
    * key x0 x1 b n k ⟨256 + (64 * (h.val / 2) + e.val), by omega⟩ else ⊥

/-- A window key that may be attended to is the array's. -/
theorem key_win (b : Fin 8) (n : Fin 16) (q : ℕ) (k : Fin 384) (c : Fin 1280) (hok : okp n q k) :
    key x0 x1 b n ⟨k, by omega⟩ c = x0 (ix2 ⟨b.val * 2048 + (n.val * 128 + k.val - 128), by unfold okp at hok; omega⟩ c) := by
  unfold key
  rw [dif_pos k.isLt]
  unfold okp at hok
  congr 2
  apply Fin.ext; dsimp only; omega

/-- The window scores of the reference. -/
theorem score_win (b : Fin 8) (n : Fin 16) (hk g : Fin 2) (q : Fin 128) (k : Fin 384) :
    val_main_v59 (F := Ideal) x0 (ix6 b n hk g q k) = score x0 x1 b n q ⟨2 * hk.val + g.val, by omega⟩ ⟨k, by omega⟩ := by
  rw [v59_apply]
  unfold score
  refine if_ctx_congr (v55_apply n q k) (fun hok => ?_) fun _ => rfl
  refine Finset.sum_congr rfl fun e _ => ?_
  have hok' := hok
  unfold okp at hok'
  dsimp only at hok'
  rw [v5_apply, v19_apply, v14_apply _ _ _ _ _ (by dsimp only; omega) (by dsimp only; omega), v7_apply, key_win x0 x1 b n q k _ hok, mul_comm]
  congr 3 <;> (apply Fin.ext; dsimp only; omega)

/-- The context scores of the reference. -/
theorem score_ctx (b : Fin 8) (n : Fin 16) (hk g : Fin 2) (q : Fin 128) (k : Fin 256) :
    val_main_v61 (F := Ideal) x0 x1 (ix6 b n hk g q k) = score x0 x1 b n q ⟨2 * hk.val + g.val, by omega⟩ ⟨384 + k, by omega⟩ := by
  rw [v61_apply]
  unfold score
  rw [if_pos (by unfold okp; dsimp only; omega)]
  refine Finset.sum_congr rfl fun e _ => ?_
  unfold key
  rw [dif_neg (by dsimp only; omega), v5_apply, v11_apply, mul_comm]
  congr 3 <;> (apply Fin.ext; dsimp only; omega)

/-- All scores of the reference but the sink. -/
theorem score_all (b : Fin 8) (n : Fin 16) (hk g : Fin 2) (q : Fin 128) (k : Fin 640) :
    val_main_v64 (F := Ideal) x0 x1 x2 (ix6 b n hk g q ⟨k, by omega⟩) = score x0 x1 b n q ⟨2 * hk.val + g.val, by omega⟩ k := by
  rw [v64_apply]
  by_cases h : (k : ℕ) < 384
  · rw [dif_pos h, score_win x0 x1]
  · rw [dif_neg h, dif_pos k.isLt, score_ctx]
    congr 1
    apply Fin.ext; dsimp only; omega

/-- The last score of the reference is the sink. -/
theorem score_sink (b : Fin 8) (n : Fin 16) (hk g : Fin 2) (q : Fin 128) :
    val_main_v64 (F := Ideal) x0 x1 x2 (ix6 b n hk g q ⟨640, by omega⟩) = x2 (ix1 ⟨2 * hk.val + g.val, by omega⟩) := by
  rw [v64_apply, dif_neg (by norm_num), dif_neg (by norm_num), v63_apply]

/-- The maximum of the reference. -/
theorem top_ref (b : Fin 8) (n : Fin 16) (hk g : Fin 2) (q : Fin 128) :
    val_main_v67 (F := Ideal) x0 x1 x2 (ix5 b n hk g q)
      = top (score x0 x1 b n q ⟨2 * hk.val + g.val, by omega⟩) (x2 (ix1 ⟨2 * hk.val + g.val, by omega⟩)) := by
  rw [v67_apply]
  exact fold_641 _ _ _ (fun k => score_all x0 x1 x2 b n hk g q k) (score_sink x0 x1 x2 b n hk g q)

/-- The weights of the reference. -/
theorem weight_ref (b : Fin 8) (n : Fin 16) (hk g : Fin 2) (q : Fin 128) (k : Fin 640) :
    val_main_v75 (F := Ideal) x0 x1 x2 (ix6 b n hk g q ⟨k, by omega⟩)
      = Ideal.div (Ideal.exp (score x0 x1 b n q ⟨2 * hk.val + g.val, by omega⟩ k
            - top (score x0 x1 b n q ⟨2 * hk.val + g.val, by omega⟩) (x2 (ix1 ⟨2 * hk.val + g.val, by omega⟩))))
          (den (score x0 x1 b n q ⟨2 * hk.val + g.val, by omega⟩) (x2 (ix1 ⟨2 * hk.val + g.val, by omega⟩))) := by
  rw [v75_apply, sum_641, top_ref, score_sink]
  unfold den
  simp only [score_all]

/-- The values the reference weighs: zero outside the sequence. -/
def val (b : Fin 8) (n : Fin 16) (hk : Fin 2) (d : Fin 64) (k : Fin 640) : EReal :=
  if h : (k : ℕ) < 384 then val_main_v25 (F := Ideal) x0 (ix5 b n ⟨k, h⟩ hk d)
    else val_main_v13 (F := Ideal) x1 (ix4 b ⟨k - 384, by omega⟩ hk d)

/-- A value of a key that may be attended to is the array's. -/
theorem val_key (b : Fin 8) (n : Fin 16) (hk g : Fin 2) (q : Fin 128) (d : Fin 64) (k : Fin 640)
    (hs : score x0 x1 b n q ⟨2 * hk.val + g.val, by omega⟩ k ≠ ⊥) :
    key x0 x1 b n k ⟨384 + (64 * ((2 * hk.val + g.val) / 2) + d.val), by omega⟩ = val x0 x1 b n hk d k := by
  unfold val
  by_cases h : (k : ℕ) < 384
  · rw [dif_pos h]
    have hok : okp n q k := by
      by_contra hn
      exact hs (by unfold score; rw [if_neg hn])
    have e := key_win x0 x1 b n q ⟨k, h⟩ ⟨384 + (64 * ((2 * hk.val + g.val) / 2) + d.val), by omega⟩ hok
    refine e.trans ?_
    have hok' := hok
    unfold okp at hok'
    rw [v25_apply, v20_apply _ _ _ _ _ (by dsimp only; omega) (by dsimp only; omega), v9_apply]
    congr 2 <;> (apply Fin.ext; dsimp only; omega)
  · rw [dif_neg h, v13_apply]
    unfold key
    rw [dif_neg h]
    congr 2
    apply Fin.ext; dsimp only; omega

/-- The reference's result, when no score is infinite from above and the sinks are real. -/
theorem out_ref (b : Fin 8) (n : Fin 16) (hk g : Fin 2) (q : Fin 128) (d : Fin 64)
    (hs : ∀ k, score x0 x1 b n q ⟨2 * hk.val + g.val, by omega⟩ k ≠ ⊤)
    (ht : x2 (ix1 ⟨2 * hk.val + g.val, by omega⟩) ≠ (⊤ : EReal)) (ht' : x2 (ix1 ⟨2 * hk.val + g.val, by omega⟩) ≠ (⊥ : EReal)) :
    val_main_v84 (F := Ideal) x0 x1 x2 (ix2 ⟨b.val * 2048 + n.val * 128 + q.val, by omega⟩ ⟨64 * (2 * hk.val + g.val) + d.val, by omega⟩)
      = elt x0 x1 x2 b n q ⟨2 * hk.val + g.val, by omega⟩ d := by
  have e : elt x0 x1 x2 b n q ⟨2 * hk.val + g.val, by omega⟩ d
      = attn (score x0 x1 b n q ⟨2 * hk.val + g.val, by omega⟩)
          (fun k => key x0 x1 b n k ⟨384 + (64 * ((2 * hk.val + g.val) / 2) + d.val), by omega⟩) (x2 (ix1 ⟨2 * hk.val + g.val, by omega⟩)) := rfl
  rw [e, attn_eq hs ht ht' (w := val x0 x1 b n hk d) (fun k h => val_key x0 x1 b n hk g q d k h), v84_apply, sum_640]
  congr 1
  · refine Finset.sum_congr rfl fun k _ => ?_
    rw [← weight_ref x0 x1 x2 b n hk g q ⟨k, by omega⟩]
    unfold val
    rw [dif_pos k.isLt]
  · refine Finset.sum_congr rfl fun k _ => ?_
    rw [← weight_ref x0 x1 x2 b n hk g q ⟨384 + k, by omega⟩]
    unfold val
    rw [dif_neg (by dsimp only; omega)]
    congr 3
    apply Fin.ext; dsimp only; omega

end Cert.RefRead

end
-- ==== Proof.Finite.lean ====
/- The precondition, elementwise, and the reference's whole result under it. -/
module

public import proofs.«01_k».proof.Defs
public import proofs.«01_k».proof.Proof.Gen.Pre_finite_scores
public import proofs.«01_k».proof.Proof.Join

@[expose] public section

set_option maxRecDepth 16384

noncomputable section

namespace Cert.Finite

open Idealize.ShloMosaic Cert.Softmax Cert.Chain

/-- The two comparisons of the precondition: the number is neither infinity. -/
theorem between (x : EReal)
    (h : IntOp.andi (FloatOps.cmpf (F := Ideal) (φ := .f32) .olt x (Ideal.ofBits .f32 0x7F800000#32))
      (FloatOps.cmpf (F := Ideal) (φ := .f32) .ogt x (Ideal.ofBits .f32 0xFF800000#32)) = 1#1) : x ≠ ⊤ ∧ x ≠ ⊥ := by
  have e : Ideal.ofBits .f32 0x7F800000#32 = (⊤ : EReal) := by simp [Ideal.ofBits, Ideal.ieee]
  rw [e, Cert.RefRead.ofBits_bot] at h
  constructor
  · rintro rfl
    revert h
    simp [FloatOps.cmpf, Ideal.cmp, IntOp.andi]
  · rintro rfl
    revert h
    simp [FloatOps.cmpf, Ideal.cmp, IntOp.andi]

section

open Cert.Pre_finite_scores

variable (x0 : FVec Ideal S16384x1280 .bf16) (x1 : FVec Ideal S2048x1280 .bf16) (x2 : FVec Ideal S4 .f32)

/-- The queries and the keys of the latents are finite. -/
theorem lat_fin (h : (fn (F := Ideal) x0 x1 x2).1 = fun _ => 1#1) (r : Fin 16384) (c : Fin 1280) (hc : (c : ℕ) < 384) :
    x0 (ix2 r c) ≠ (⊤ : EReal) ∧ x0 (ix2 r c) ≠ (⊥ : EReal) := by
  have h' := congrFun h (ix2 r ⟨c, hc⟩)
  unfold fn fn_part1 at h'
  dsimp only at h'
  refine between _ (Eq.trans ?_ h')
  symm
  pointwise

/-- The keys of the context are finite. -/
theorem ctx_fin (h : (fn (F := Ideal) x0 x1 x2).2.1 = fun _ => 1#1) (r : Fin 2048) (c : Fin 1280) (hc : 256 ≤ (c : ℕ) ∧ (c : ℕ) < 384) :
    x1 (ix2 r c) ≠ (⊤ : EReal) ∧ x1 (ix2 r c) ≠ (⊥ : EReal) := by
  have h' := congrFun h (ix2 r ⟨c - 256, by omega⟩)
  unfold fn fn_part1 at h'
  dsimp only at h'
  refine between _ (Eq.trans ?_ h')
  symm
  pointwise
  have e : (⟨256 + (c.val - 256), by omega⟩ : Fin 1280) = c := Fin.ext (by dsimp only; omega)
  simp only [e]

/-- The sinks are finite. -/
theorem sink_fin (h : (fn (F := Ideal) x0 x1 x2).2.2 = fun _ => 1#1) (i : Fin 4) :
    x2 (ix1 i) ≠ (⊤ : EReal) ∧ x2 (ix1 i) ≠ (⊥ : EReal) := by
  have h' := congrFun h (ix1 i)
  unfold fn fn_part1 at h'
  dsimp only at h'
  refine between _ (Eq.trans ?_ h')
  symm
  pointwise

end

/-- A sum of products of finite numbers is finite. -/
theorem sum_mul_ne_top {n : ℕ} (a b : Fin n → EReal) (ha : ∀ i, a i ≠ ⊤ ∧ a i ≠ ⊥) (hb : ∀ i, b i ≠ ⊤ ∧ b i ≠ ⊥) : ∑ i, a i * b i ≠ ⊤ := by
  have e : ∑ i, a i * b i = ((∑ i, (a i).toReal * (b i).toReal : ℝ) : EReal) := by
    rw [show ((∑ i, (a i).toReal * (b i).toReal : ℝ) : EReal) = ∑ i, (((a i).toReal * (b i).toReal : ℝ) : EReal) from
      map_sum (⟨⟨Real.toEReal, rfl⟩, EReal.coe_add⟩ : ℝ →+ EReal) _ _]
    refine Finset.sum_congr rfl fun i _ => ?_
    rw [EReal.coe_mul, EReal.coe_toReal (ha i).1 (ha i).2, EReal.coe_toReal (hb i).1 (hb i).2]
  rw [e]
  exact EReal.coe_ne_top _

open Cert.ReferenceIdeal Cert.ReferenceIdeal.Read Cert.RefRead

/-- With finite queries and keys no score is `⊤`. -/
theorem score_ne_top (x0 : FVec Ideal S16384x1280 .bf16) (x1 : FVec Ideal S2048x1280 .bf16)
    (h0 : ∀ (r : Fin 16384) (c : Fin 1280), (c : ℕ) < 384 → x0 (ix2 r c) ≠ (⊤ : EReal) ∧ x0 (ix2 r c) ≠ (⊥ : EReal))
    (h1 : ∀ (r : Fin 2048) (c : Fin 1280), 256 ≤ (c : ℕ) ∧ (c : ℕ) < 384 → x1 (ix2 r c) ≠ (⊤ : EReal) ∧ x1 (ix2 r c) ≠ (⊥ : EReal))
    (b : Fin 8) (n : Fin 16) (q : Fin 128) (h : Fin 4) (k : Fin 640) : score x0 x1 b n q h k ≠ ⊤ := by
  unfold score
  by_cases hk : okp n q k
  · rw [if_pos hk]
    refine sum_mul_ne_top _ _ (fun e => h0 _ _ (by dsimp only; omega)) fun e => ?_
    unfold key
    by_cases h' : (k : ℕ) < 384
    · rw [dif_pos h']; exact h0 _ _ (by dsimp only; omega)
    · rw [dif_neg h']; exact h1 _ _ (by dsimp only; omega)
  · rw [if_neg hk]; exact bot_ne_top

/-- The reference's result is the windowed attention, with finite queries, keys and sinks. -/
theorem ref_att (x0 : FVec Ideal S16384x1280 .bf16) (x1 : FVec Ideal S2048x1280 .bf16) (x2 : FVec Ideal S4 .f32)
    (h0 : ∀ (r : Fin 16384) (c : Fin 1280), (c : ℕ) < 384 → x0 (ix2 r c) ≠ (⊤ : EReal) ∧ x0 (ix2 r c) ≠ (⊥ : EReal))
    (h1 : ∀ (r : Fin 2048) (c : Fin 1280), 256 ≤ (c : ℕ) ∧ (c : ℕ) < 384 → x1 (ix2 r c) ≠ (⊤ : EReal) ∧ x1 (ix2 r c) ≠ (⊥ : EReal))
    (h2 : ∀ i : Fin 4, x2 (ix1 i) ≠ (⊤ : EReal) ∧ x2 (ix1 i) ≠ (⊥ : EReal)) :
    val_main_v84 (F := Ideal) x0 x1 x2 = att x0 x1 x2 := by
  funext y
  have y0 := (y 0).isLt
  have y1 := (y 1).isLt
  change _ < 16384 at y0
  change _ < 256 at y1
  have e := out_ref x0 x1 x2 ⟨(y 0).val / 2048, by omega⟩ ⟨(y 0).val / 128 % 16, by omega⟩ ⟨(y 1).val / 128, by omega⟩
    ⟨(y 1).val / 64 % 2, by omega⟩ ⟨(y 0).val % 128, by omega⟩ ⟨(y 1).val % 64, by omega⟩
    (fun k => score_ne_top x0 x1 h0 h1 _ _ _ _ k) (h2 _).1 (h2 _).2
  have hy : y = ix2 ⟨(y 0).val / 2048 * 2048 + (y 0).val / 128 % 16 * 128 + (y 0).val % 128, by omega⟩
      ⟨64 * (2 * ((y 1).val / 128) + (y 1).val / 64 % 2) + (y 1).val % 64, by omega⟩ := by
    funext i
    refine i.cases ?_ fun i => i.cases ?_ fun i => i.elim0
    · refine Fin.ext ?_; show (y 0).val = (y 0).val / 2048 * 2048 + (y 0).val / 128 % 16 * 128 + (y 0).val % 128; omega
    · refine Fin.ext ?_; show (y 1).val = 64 * (2 * ((y 1).val / 128) + (y 1).val / 64 % 2) + (y 1).val % 64; omega
  rw [hy]
  refine e.trans ?_
  rw [← hy]
  unfold att
  congr 1
  exact Fin.ext (by dsimp only; omega)

/-- The precondition gives the three. -/
theorem of_pre [Cert.Pre_finite_scores.Facts] (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    val_main_v84 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = att (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) :=
  ref_att _ _ _ (fun r k hk => lat_fin _ _ _ (h c).1 r k hk) (fun r k hk => ctx_fin _ _ _ (h c).2.1 r k hk)
    fun i => sink_fin _ _ _ (h c).2.2 i

end Cert.Finite

end
-- ==== Proof.Rows.lean ====
/- The modulated row norm, and finite numbers: sums, products and reciprocal square roots of finite numbers are finite. -/
module

public import Idealize.ShloMosaic.Lib.Claim
public import Idealize.ShloMosaic.Lib.Pointwise

@[expose] public section

set_option maxRecDepth 16384

noncomputable section

namespace Cert.Rows

open Idealize.ShloMosaic

/-- A finite number. -/
def IsR (x : EReal) : Prop := ∃ r : ℝ, x = r

/-- Neither infinity: finite. -/
theorem IsR.of (x : EReal) (h : x ≠ ⊤ ∧ x ≠ ⊥) : IsR x := ⟨x.toReal, (EReal.coe_toReal h.1 h.2).symm⟩

/-- A sum of two. -/
theorem IsR.add {x y : EReal} (hx : IsR x) (hy : IsR y) : IsR (x + y) := by
  obtain ⟨a, rfl⟩ := hx; obtain ⟨b, rfl⟩ := hy; exact ⟨a + b, (EReal.coe_add a b).symm⟩

/-- A difference of two. -/
theorem IsR.sub {x y : EReal} (hx : IsR x) (hy : IsR y) : IsR (x - y) := by
  obtain ⟨a, rfl⟩ := hx; obtain ⟨b, rfl⟩ := hy; exact ⟨a - b, (EReal.coe_sub a b).symm⟩

/-- A product of two. -/
theorem IsR.mul {x y : EReal} (hx : IsR x) (hy : IsR y) : IsR (x * y) := by
  obtain ⟨a, rfl⟩ := hx; obtain ⟨b, rfl⟩ := hy; exact ⟨a * b, (EReal.coe_mul a b).symm⟩

/-- The sum of real numbers, taken in the extended reals. -/
theorem coe_sum {n : ℕ} (f : Fin n → ℝ) : ((∑ i, f i : ℝ) : EReal) = ∑ i, (f i : EReal) :=
  map_sum (⟨⟨Real.toEReal, rfl⟩, EReal.coe_add⟩ : ℝ →+ EReal) _ _

/-- A finite sum. -/
theorem IsR.sum {n : ℕ} {f : Fin n → EReal} (h : ∀ i, IsR (f i)) : IsR (∑ i, f i) := by
  choose g hg using h
  exact ⟨∑ i, g i, by rw [coe_sum]; exact Finset.sum_congr rfl fun i _ => hg i⟩

/-- A finite number less itself. -/
theorem IsR.sub_self {x : EReal} (h : IsR x) : x - x = 0 := by
  obtain ⟨a, rfl⟩ := h; rw [← EReal.coe_sub, _root_.sub_self]; rfl

/-- The word for 1024. -/
theorem w1024 : Ideal.ofBits .f32 0x44800000#32 = ((1024 : ℝ) : EReal) := by
  simp [Ideal.ofBits, Ideal.ieee]; rw [← EReal.coe_mul]; norm_num

/-- The word for 1. -/
theorem w1 : Ideal.ofBits .f32 0x3F800000#32 = ((1 : ℝ) : EReal) := by
  simp [Ideal.ofBits, Ideal.ieee]; rw [← EReal.coe_mul]; norm_num

/-- The word for the epsilon of the norm is a positive number. -/
theorem weps : ∃ e : ℝ, 0 < e ∧ Ideal.ofBits .f32 0x358637BD#32 = (e : EReal) := by
  refine ⟨_, ?_, by simp only [Ideal.ofBits, Ideal.ieee]; simp; rfl⟩
  positivity

/-- A row divided by its root mean square. -/
def nrow (x : Fin 1024 → EReal) (k : Fin 1024) : EReal :=
  x k * Ideal.rsqrt (Ideal.div (∑ j, x j * x j) (Ideal.ofBits .f32 0x44800000#32) + Ideal.ofBits .f32 0x358637BD#32)

/-- The modulated norm of a row. -/
def mrow (x g a b : Fin 1024 → EReal) (k : Fin 1024) : EReal :=
  nrow x k * g k * (Ideal.ofBits .f32 0x3F800000#32 + a k) + b k

/-- The reciprocal square root of a positive number. -/
theorem IsR.rsqrt {r : ℝ} (h : 0 < r) : Ideal.rsqrt (r : EReal) = (((√r)⁻¹ : ℝ) : EReal) := by
  rw [Ideal.rsqrt_coe, if_neg (not_lt.2 h.le), if_neg h.ne']

/-- The quotient of two real numbers. -/
theorem divR (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The norm of a finite row is finite. -/
theorem IsR.nrow {x : Fin 1024 → EReal} (h : ∀ i, IsR (x i)) (k : Fin 1024) : IsR (nrow x k) := by
  refine IsR.mul (h k) ?_
  choose g hg using h
  obtain ⟨e, he, hw⟩ := weps
  have hs : ∑ j, x j * x j = ((∑ j, g j * g j : ℝ) : EReal) := by
    rw [coe_sum]; exact Finset.sum_congr rfl fun i _ => by rw [hg i, EReal.coe_mul]
  rw [hs, w1024, hw, divR _ _ (by norm_num), ← EReal.coe_add]
  rw [IsR.rsqrt (by have := Finset.sum_nonneg (s := Finset.univ) fun j _ => mul_self_nonneg (g j); positivity)]
  exact ⟨_, rfl⟩

/-- The modulated norm of a finite row is finite. -/
theorem IsR.mrow {x g a b : Fin 1024 → EReal} (hx : ∀ i, IsR (x i)) (hg : ∀ i, IsR (g i)) (ha : ∀ i, IsR (a i)) (hb : ∀ i, IsR (b i))
    (k : Fin 1024) : IsR (mrow x g a b k) :=
  IsR.add (IsR.mul (IsR.mul (IsR.nrow hx k) (hg k)) (IsR.add ⟨1, w1⟩ (ha k))) (hb k)

/-- A product of two split numbers is the product, when both are finite. -/
theorem split3 {n : ℕ} (a b : Fin n → EReal) (ha : ∀ i, IsR (a i)) (hb : ∀ i, IsR (b i)) :
    (∑ i, a i * b i) + ((∑ i, (a i - a i) * b i) + ∑ i, a i * (b i - b i)) = ∑ i, b i * a i := by
  have e1 : ∑ i, (a i - a i) * b i = 0 := Finset.sum_eq_zero fun i _ => by rw [(ha i).sub_self, zero_mul]
  have e2 : ∑ i, a i * (b i - b i) = 0 := Finset.sum_eq_zero fun i _ => by rw [(hb i).sub_self, mul_zero]
  rw [e1, e2, add_zero, add_zero]
  exact Finset.sum_congr rfl fun i _ => mul_comm _ _

end Cert.Rows

end
-- ==== Proof.ScoresBlock.lean ====
/- The score kernel's block: the modulated norm of its rows, and the sixteen stored pieces, each the product of one key set with
   128 lanes of the queries, taken in three products of split numbers. -/
module

public import proofs.«01_k».proof.Proof.Rows
public import proofs.«01_k».proof.Proof.Gen.ScoresIdeal.Frame
public import Idealize.ShloMosaic.Lib.Pipeline.ValueKit.Point

@[expose] public section

set_option maxRecDepth 16384

noncomputable section

namespace Cert.Scoring

open Idealize.ShloMosaic Idealize.ShloMosaic.TcCoe Cert.ScoresIdeal Cert.ScoresIdeal.Gen Cert.Rows
open Idealize.ShloMosaic.Pipeline (Dat)

/-- The norm of the block's rows. -/
theorem pay3_apply (x0 : Vec Ideal S512x1024 .f32) (x1 : Vec Ideal S1x1024 .f32) (x2 x3 : Vec Ideal S1x1x1024 .f32) (r : Fin 512) (k : Fin 1024) :
    k0_pay3 (F := Ideal) x0 x1 x2 x3 (ix2 r k)
      = mrow (fun j => x0 (ix2 r j)) (fun j => x1 (ix2 0 j)) (fun j => x2 (ix3 0 0 j)) (fun j => x3 (ix3 0 0 j)) k := by
  unfold k0_pay3 mrow nrow
  pointwise

/-- The queries of the block. -/
theorem pay4_apply (x0 : Vec Ideal S512x1024 .f32) (x1 : Vec Ideal S1x1024 .f32) (x2 x3 : Vec Ideal S1x1x1024 .f32) (x4 : Vec Ideal S1024x2048 .bf16)
    (r : Fin 512) (c : Fin 2048) :
    k0_pay4 (F := Ideal) x0 x1 x2 x3 x4 (ix2 r c)
      = ∑ k, mrow (fun j => x0 (ix2 r j)) (fun j => x1 (ix2 0 j)) (fun j => x2 (ix3 0 0 j)) (fun j => x3 (ix3 0 0 j)) k * x4 (ix2 k c) := by
  simp only [← pay3_apply]
  unfold k0_pay4
  pointwise

/-- One product of a key set and 128 lanes of the queries. -/
def prod1 (a : FVec Ideal S128x128 .bf16) (b : FVec Ideal S512x128 .bf16) : FVec Ideal S128x512 .f32 :=
  matmul dot_S128x128_S512x128_S128x512_1_1_0_0_n_n none a b (constant S128x512 .f32 0x00000000#32)

/-- One product at an index. -/
theorem prod1_apply (a : FVec Ideal S128x128 .bf16) (b : FVec Ideal S512x128 .bf16) (n : Fin 128) (r : Fin 512) :
    prod1 a b (ix2 n r) = ∑ d, a (ix2 n d) * b (ix2 r d) := by
  unfold prod1
  pointwise

/-- The product of a key set and 128 lanes of the queries, each split in two. -/
def prod3 (k : FVec Ideal S128x128 .f32) (q : FVec Ideal S512x128 .f32) : FVec Ideal S1x128x512 .f32 :=
  shapeCast S1x128x512 (addf (prod1 (truncf .bf16 k bitsLt_bf16_f32) (truncf .bf16 q bitsLt_bf16_f32))
    (addf (prod1 (truncf .bf16 (subf k (extf .f32 (truncf .bf16 k bitsLt_bf16_f32 : FVec Ideal S128x128 .bf16) bitsLt_bf16_f32)) bitsLt_bf16_f32) (truncf .bf16 q bitsLt_bf16_f32))
      (prod1 (truncf .bf16 k bitsLt_bf16_f32) (truncf .bf16 (subf q (extf .f32 (truncf .bf16 q bitsLt_bf16_f32 : FVec Ideal S512x128 .bf16) bitsLt_bf16_f32)) bitsLt_bf16_f32))))
    shapeCasts_S128x512_S1x128x512

/-- One score, from the key and the query. -/
def sc3 (k q : Fin 128 → EReal) : EReal := (∑ i, k i * q i) + ((∑ i, (k i - k i) * q i) + ∑ i, k i * (q i - q i))

/-- The product at an index. -/
theorem prod3_apply (k : FVec Ideal S128x128 .f32) (q : FVec Ideal S512x128 .f32) (n : Fin 128) (r : Fin 512) :
    prod3 k q (ix3 0 n r) = sc3 (fun d => k (ix2 n d)) (fun d => q (ix2 r d)) := by
  unfold prod3 sc3
  refine (shapeCast_apply _ _ (ix3 0 n r) (ix2 n r) (by rw [Shape.rowMajor_val_three, Shape.rowMajor_val_two]; show n.val * 512 + r.val = (0 * 128 + n.val) * 512 + r.val; omega)).trans ?_
  show prod1 _ _ (ix2 n r) + (prod1 _ _ (ix2 n r) + prod1 _ _ (ix2 n r)) = _
  rw [prod1_apply, prod1_apply, prod1_apply]
  rfl

/-- The key set of a load. -/
theorem ld_key (x5 : Vec Ideal S16x128x128 .f32) (p : ℕ) (inb : ∀ a, (![p, 0, 0] : Fin 3 → ℕ) a + S1x128x128.size a ≤ S16x128x128.size a) (hp : p < 16) (n d : Fin 128) :
    (shapeCast S128x128 (View.ld x5 (Rect.unit (s := S16x128x128) ![p, 0, 0] S1x128x128.size inb)) shapeCasts_S1x128x128_S128x128 : FVec Ideal S128x128 .f32) (ix2 n d)
      = x5 (ix3 ⟨p, hp⟩ n d) := by
  refine (shapeCast_apply _ _ (ix2 n d) (ix3 0 n d) (by rw [Shape.rowMajor_val_three, Shape.rowMajor_val_two]; show (0 * 128 + n.val) * 128 + d.val = n.val * 128 + d.val; omega)).trans ?_
  refine congrArg x5 (funext fun a => Fin.ext ?_)
  fin_cases a <;> show _ + 1 * _ = _ <;> simp

/-- The lanes of a slice of the queries. -/
theorem lanes (v : FVec Ideal S512x2048 .f32) (p : ℕ) (h : S512x2048.Slices ![0, p] S512x128) (hp : p + 128 ≤ 2048) (r : Fin 512) (d : Fin 128) :
    (extractStridedSlice S512x128 ![0, p] v h : FVec Ideal S512x128 .f32) (ix2 r d) = v (ix2 r ⟨p + d.val, by omega⟩) := by
  pointwise

/-- The block's scores by their index: key set, key, row. -/
def outS (v : FVec Ideal S512x2048 .f32) (x5 : Vec Ideal S16x128x128 .f32) (y : S16x128x512.Idx) : EReal :=
  sc3 (fun d => x5 (ix3 (y 0) (y 1) d)) (fun d => v (ix2 (y 2) ⟨128 * (y 0).val + d.val, by have := (y 0).isLt; change _ < 16 at this; omega⟩))

/-- A stored piece reads the block's scores at its own key set. -/
theorem outS_emb (v : FVec Ideal S512x2048 .f32) (x5 : Vec Ideal S16x128x128 .f32) (p o : ℕ)
    (inb : ∀ a, (![p, 0, 0] : Fin 3 → ℕ) a + S1x128x512.size a ≤ S16x128x512.size a)
    (inb' : ∀ a, (![p, 0, 0] : Fin 3 → ℕ) a + S1x128x128.size a ≤ S16x128x128.size a) (hs : S512x2048.Slices ![0, o] S512x128)
    (hp : p < 16) (ho : o = 128 * p)
    (w : S1x128x512.Idx → EReal)
    (hw : w = prod3 (shapeCast S128x128 (View.ld x5 (Rect.unit (s := S16x128x128) ![p, 0, 0] S1x128x128.size inb')) shapeCasts_S1x128x128_S128x128)
      (extractStridedSlice S512x128 ![0, o] v hs))
    (x : (Rect.unit (s := S16x128x512) ![p, 0, 0] S1x128x512.size inb).shape.Idx) :
    w x = outS v x5 ((Rect.unit (s := S16x128x512) ![p, 0, 0] S1x128x512.size inb).emb x) := by
  subst ho
  obtain ⟨n, r, rfl⟩ : ∃ (n : Fin 128) (r : Fin 512), x = ix3 0 n r := ⟨x 1, x 2, by
    funext a; fin_cases a
    · exact Fin.ext (by have h : (x 0).val < 1 := (x 0).isLt; show (x 0).val = 0; omega)
    · rfl
    · rfl⟩
  have e0 : (Rect.unit (s := S16x128x512) ![p, 0, 0] S1x128x512.size inb).emb (ix3 0 n r) = ix3 ⟨p, hp⟩ n r := by
    funext a; fin_cases a <;> refine Fin.ext ?_ <;> show _ = _ <;> simp
  rw [hw, prod3_apply, e0]
  unfold outS
  simp only [ld_key x5 p inb' hp]
  simp only [lanes v (128 * p) hs (by omega)]
  rfl

variable (x0 : Vec Ideal S512x1024 .f32) (x1 : Vec Ideal S1x1024 .f32) (x2 x3 : Vec Ideal S1x1x1024 .f32) (x4 : Vec Ideal S1024x2048 .bf16)
  (x5 : Vec Ideal S16x128x128 .f32)

/-- The block's scores at an index. -/
theorem out7_apply (y : S16x128x512.Idx) :
    out0_7 (F := Ideal) x0 x1 x2 x3 x4 x5 y = outS (k0_pay61 x0 x1 x2 x3 x4 x5) x5 y := by
  unfold out0_7
  refine View.canon_apply_of_pieces (Val := Elt Ideal) (S := S16x128x512) (e := .f32) (outS (k0_pay61 x0 x1 x2 x3 x4 x5) x5) _ ?_ y
    (cover0_7 _ _ _ _ _ _ _ _ _ _ _ _ _ _ _ _ y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
  · exact outS_emb _ x5 15 1920 inb_S16x128x512_S1x128x512_15_0_0 inb_S16x128x128_S1x128x128_15_0_0 slices_S512x2048_o0_1920_S512x128 (by norm_num) rfl _ rfl
  · exact outS_emb _ x5 14 1792 inb_S16x128x512_S1x128x512_14_0_0 inb_S16x128x128_S1x128x128_14_0_0 slices_S512x2048_o0_1792_S512x128 (by norm_num) rfl _ rfl
  · exact outS_emb _ x5 13 1664 inb_S16x128x512_S1x128x512_13_0_0 inb_S16x128x128_S1x128x128_13_0_0 slices_S512x2048_o0_1664_S512x128 (by norm_num) rfl _ rfl
  · exact outS_emb _ x5 12 1536 inb_S16x128x512_S1x128x512_12_0_0 inb_S16x128x128_S1x128x128_12_0_0 slices_S512x2048_o0_1536_S512x128 (by norm_num) rfl _ rfl
  · exact outS_emb _ x5 11 1408 inb_S16x128x512_S1x128x512_11_0_0 inb_S16x128x128_S1x128x128_11_0_0 slices_S512x2048_o0_1408_S512x128 (by norm_num) rfl _ rfl
  · exact outS_emb _ x5 10 1280 inb_S16x128x512_S1x128x512_10_0_0 inb_S16x128x128_S1x128x128_10_0_0 slices_S512x2048_o0_1280_S512x128 (by norm_num) rfl _ rfl
  · exact outS_emb _ x5 9 1152 inb_S16x128x512_S1x128x512_9_0_0 inb_S16x128x128_S1x128x128_9_0_0 slices_S512x2048_o0_1152_S512x128 (by norm_num) rfl _ rfl
  · exact outS_emb _ x5 8 1024 inb_S16x128x512_S1x128x512_8_0_0 inb_S16x128x128_S1x128x128_8_0_0 slices_S512x2048_o0_1024_S512x128 (by norm_num) rfl _ rfl
  · exact outS_emb _ x5 7 896 inb_S16x128x512_S1x128x512_7_0_0 inb_S16x128x128_S1x128x128_7_0_0 slices_S512x2048_o0_896_S512x128 (by norm_num) rfl _ rfl
  · exact outS_emb _ x5 6 768 inb_S16x128x512_S1x128x512_6_0_0 inb_S16x128x128_S1x128x128_6_0_0 slices_S512x2048_o0_768_S512x128 (by norm_num) rfl _ rfl
  · exact outS_emb _ x5 5 640 inb_S16x128x512_S1x128x512_5_0_0 inb_S16x128x128_S1x128x128_5_0_0 slices_S512x2048_o0_640_S512x128 (by norm_num) rfl _ rfl
  · exact outS_emb _ x5 4 512 inb_S16x128x512_S1x128x512_4_0_0 inb_S16x128x128_S1x128x128_4_0_0 slices_S512x2048_o0_512_S512x128 (by norm_num) rfl _ rfl
  · exact outS_emb _ x5 3 384 inb_S16x128x512_S1x128x512_3_0_0 inb_S16x128x128_S1x128x128_3_0_0 slices_S512x2048_o0_384_S512x128 (by norm_num) rfl _ rfl
  · exact outS_emb _ x5 2 256 inb_S16x128x512_S1x128x512_2_0_0 inb_S16x128x128_S1x128x128_2_0_0 slices_S512x2048_o0_256_S512x128 (by norm_num) rfl _ rfl
  · exact outS_emb _ x5 1 128 inb_S16x128x512_S1x128x512_1_0_0 inb_S16x128x128_S1x128x128_1_0_0 slices_S512x2048_o0_128_S512x128 (by norm_num) rfl _ rfl
  · exact outS_emb _ x5 0 0 inb_S16x128x512_S1x128x512_0_0_0 inb_S16x128x128_S1x128x128_0_0_0 slices_S512x2048_o0_0_S512x128 (by norm_num) rfl _ rfl

/-- The whole load of a block is the block. -/
theorem ld0 : View.ld x0 r0_0 = x0 := by
  funext y
  obtain ⟨a, b, rfl⟩ : ∃ (a : Fin 512) (b : Fin 1024), y = ix2 a b := ⟨y 0, y 1, by funext i; fin_cases i <;> rfl⟩
  pointwise

/-- The queries of the block, from the blocks. -/
theorem pay61_apply (r : Fin 512) (c : Fin 2048) : k0_pay61 (F := Ideal) x0 x1 x2 x3 x4 x5 (ix2 r c)
    = ∑ k, mrow (fun j => x0 (ix2 r j)) (fun j => x1 (ix2 0 j)) (fun j => x2 (ix3 0 0 j)) (fun j => x3 (ix3 0 0 j)) k * x4 (ix2 k c) := by
  unfold k0_pay61
  rw [pay4_apply]
  pointwise

/-- The block's rows at an index. -/
theorem out6_apply (r : Fin 512) (k : Fin 1024) : out0_6 (F := Ideal) x0 x1 x2 x3 x4 x5 (ix2 r k)
    = mrow (fun j => x0 (ix2 r j)) (fun j => x1 (ix2 0 j)) (fun j => x2 (ix3 0 0 j)) (fun j => x3 (ix3 0 0 j)) k := by
  unfold out0_6
  refine View.canon_apply_of_pieces (Val := Elt Ideal) (S := S512x1024) (e := .bf16)
    (fun y => mrow (fun j => x0 (ix2 (y 0) j)) (fun j => x1 (ix2 0 j)) (fun j => x2 (ix3 0 0 j)) (fun j => x3 (ix3 0 0 j)) (y 1)) _ ?_ (ix2 r k)
    (cover0_6 _ (ix2 r k))
  refine List.forall_mem_cons.2 ⟨fun x => ?_, List.forall_mem_nil _⟩
  obtain ⟨a, b, rfl⟩ : ∃ (a : Fin 512) (b : Fin 1024), x = ix2 a b := ⟨x 0, x 1, by funext i; fin_cases i <;> rfl⟩
  refine (pay3_apply _ _ _ _ a b).trans ?_
  have e0 : r0_0.emb (ix2 a b) = ix2 a b := by
    funext i; fin_cases i <;> refine Fin.ext ?_ <;> show _ = _ <;> simp
  simp only [e0]
  pointwise

end Cert.Scoring

end
-- ==== Proof.ScoresArray.lean ====
/- The arrays the score kernel leaves: the modulated rows, and the scores of every key set. -/
module

public import proofs.«01_k».proof.Proof.ScoresBlock

@[expose] public section

set_option maxRecDepth 16384

noncomputable section

namespace Cert.Scoring

open Idealize.ShloMosaic Idealize.ShloMosaic.TcCoe Cert.ScoresIdeal Cert.ScoresIdeal.Gen Cert.Rows
open Idealize.ShloMosaic.Pipeline (Dat)

/-- One element of the modulated rows, from the arguments. -/
def hrow (x : FVec Ideal S16384x1024 .f32) (g : FVec Ideal S1024 .f32) (mod : FVec Ideal S16x6144 .f32) (r : Fin 16384) (k : Fin 1024) : EReal :=
  mrow (fun j => x (ix2 r j)) (fun j => g (ix1 j)) (fun j => mod (ix2 ⟨r.val / 2048, by omega⟩ ⟨4096 + j.val, by omega⟩))
    (fun j => mod (ix2 ⟨r.val / 2048, by omega⟩ ⟨3072 + j.val, by omega⟩)) k

/-- One element of the queries, from the arguments. -/
def qry (x : FVec Ideal S16384x1024 .f32) (g : FVec Ideal S1024 .f32) (mod : FVec Ideal S16x6144 .f32) (wq : FVec Ideal S1024x2048 .f32)
    (r : Fin 16384) (c : Fin 2048) : EReal := ∑ k, hrow x g mod r k * wq (ix2 k c)

/-- The modulated rows. -/
def rows (x : FVec Ideal S16384x1024 .f32) (g : FVec Ideal S1024 .f32) (mod : FVec Ideal S16x6144 .f32) : FVec Ideal S16384x1024 .bf16 :=
  fun y => hrow x g mod (y 0) (y 1)

/-- The scores. -/
def scores (x : FVec Ideal S16384x1024 .f32) (g : FVec Ideal S1024 .f32) (mod : FVec Ideal S16x6144 .f32) (wq : FVec Ideal S1024x2048 .f32)
    (keys : FVec Ideal S8x2x128x128 .f32) : FVec Ideal S16x128x16384 .f32 :=
  fun y => sc3 (fun d => keys (ix4 ⟨(y 0).val / 2, by have := (y 0).isLt; change _ < 16 at this; omega⟩ ⟨(y 0).val % 2, by omega⟩ (y 1) d))
    (fun d => qry x g mod wq (y 2) ⟨128 * (y 0).val + d.val, by have := (y 0).isLt; change _ < 16 at this; omega⟩)

variable (m : (ℓ : Loc nD τ sig) → Buf (Elt Ideal) ℓ)

/-- Every window's block index. -/
theorem idx : ∀ t : Fin cfg0.N,
    (grid0.coords t 0).val < 8 ∧ (grid0.coords t 1).val < 4
    ∧ win0_0.index t = ![(grid0.coords t 0).val * 4 + (grid0.coords t 1).val, 0]
    ∧ win0_1.index t = ![0, 0]
    ∧ win0_2.index t = ![(grid0.coords t 0).val, 0, 4]
    ∧ win0_3.index t = ![(grid0.coords t 0).val, 0, 3]
    ∧ win0_4.index t = ![0, 0]
    ∧ win0_5.index t = ![0, 0, 0]
    ∧ win0_6.index t = ![(grid0.coords t 0).val * 4 + (grid0.coords t 1).val, 0]
    ∧ win0_7.index t = ![0, 0, (grid0.coords t 0).val * 4 + (grid0.coords t 1).val] :=
  (by decide +kernel : ∀ t : Fin grid0.N, _)

/-- The block of rows. -/
theorem read_x (c : Dev nD) (t : Fin cfg0.N) (r : Fin 512) (e : Fin 1024) :
    iblk m c 0 t (ix2 r e) = m ((c : Thread nD τ).loc main_arg0)
      (ix2 ⟨((grid0.coords t 0).val * 4 + (grid0.coords t 1).val) * 512 + r.val, by have := idx t; omega⟩ e) := by
  blk_ext [iblk, V, idx t]

/-- The gains. -/
theorem read_g (c : Dev nD) (t : Fin cfg0.N) (e : Fin 1024) :
    iblk m c 1 t (ix2 0 e) = m ((c : Thread nD τ).loc main_arg1) (ix1 e) := by
  blk_ext! [iblk, V, idx t]

/-- The scale of the modulation. -/
theorem read_sc (c : Dev nD) (t : Fin cfg0.N) (e : Fin 1024) :
    iblk m c 2 t (ix3 0 0 e) = m ((c : Thread nD τ).loc main_arg2)
      (ix2 ⟨(grid0.coords t 0).val, by have := idx t; omega⟩ ⟨4096 + e.val, by omega⟩) := by
  blk_ext! [iblk, V, idx t]

/-- The shift of the modulation. -/
theorem read_sh (c : Dev nD) (t : Fin cfg0.N) (e : Fin 1024) :
    iblk m c 3 t (ix3 0 0 e) = m ((c : Thread nD τ).loc main_arg2)
      (ix2 ⟨(grid0.coords t 0).val, by have := idx t; omega⟩ ⟨3072 + e.val, by omega⟩) := by
  blk_ext! [iblk, V, idx t]

/-- The query weights. -/
theorem read_w (c : Dev nD) (t : Fin cfg0.N) (k : Fin 1024) (e : Fin 2048) :
    iblk m c 4 t (ix2 k e) = m ((c : Thread nD τ).loc main_arg3) (ix2 k e) := by
  blk_ext! [iblk, V, idx t]

/-- The keys. -/
theorem read_k (c : Dev nD) (t : Fin cfg0.N) (p : Fin 16) (n e : Fin 128) :
    iblk m c 5 t (ix3 p n e) = m ((c : Thread nD τ).loc main_arg4)
      (ix4 ⟨p.val / 2, by omega⟩ ⟨p.val % 2, by omega⟩ n e) := by
  blk_ext! [iblk, V, idx t]

/-- A row of the block is a row of the arguments. -/
theorem row_eq (c : Dev nD) (t : Fin cfg0.N) (r : Fin 512) (k : Fin 1024) :
    mrow (fun j => iblk m c 0 t (ix2 r j)) (fun j => iblk m c 1 t (ix2 0 j)) (fun j => iblk m c 2 t (ix3 0 0 j)) (fun j => iblk m c 3 t (ix3 0 0 j)) k
      = hrow (m ((c : Thread nD τ).loc main_arg0)) (m ((c : Thread nD τ).loc main_arg1)) (m ((c : Thread nD τ).loc main_arg2))
        ⟨((grid0.coords t 0).val * 4 + (grid0.coords t 1).val) * 512 + r.val, by have := idx t; omega⟩ k := by
  have h := idx t
  have e : (⟨(grid0.coords t 0).val, by omega⟩ : Fin 16)
      = ⟨(((grid0.coords t 0).val * 4 + (grid0.coords t 1).val) * 512 + r.val) / 2048, by omega⟩ := Fin.ext (by dsimp only; omega)
  unfold hrow
  simp only [read_x m c t, read_g m c t, read_sc m c t, read_sh m c t, e]

/-- Where the block of rows lies. -/
theorem emb6 (t : Fin cfg0.N) (r : Fin 512) (k : Fin 1024) : (win0_6.blk t).view.emb (ix2 r k)
    = ix2 ⟨((grid0.coords t 0).val * 4 + (grid0.coords t 1).val) * 512 + r.val, by have := idx t; omega⟩ k := by
  funext i
  fin_cases i <;> refine Fin.ext ?_ <;> blk_simp [idx t] <;> rfl

/-- Where the block of scores lies. -/
theorem emb7 (t : Fin cfg0.N) (p : Fin 16) (n : Fin 128) (r : Fin 512) : (win0_7.blk t).view.emb (ix3 p n r)
    = ix3 p n ⟨((grid0.coords t 0).val * 4 + (grid0.coords t 1).val) * 512 + r.val, by have := idx t; omega⟩ := by
  funext i
  fin_cases i <;> refine Fin.ext ?_ <;> blk_simp [idx t] <;> rfl

/-- The array of rows after the run. -/
theorem final6 (c : Dev nD) : (dats m 0 c).arrAt 6 cfg0.N
    = rows (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, by funext i; fin_cases i <;> rfl⟩
  rw [out6_apply, row_eq m c t r k]
  exact (congrArg (rows _ _ _) (emb6 t r k)).symm

/-- The array of scores after the run. -/
theorem final7 (c : Dev nD) : (dats m 0 c).arrAt 7 cfg0.N
    = scores (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  blk_simp
  rw [after0_7]
  obtain ⟨p, n, r, rfl⟩ : ∃ (p : Fin 16) (n : Fin 128) (r : Fin 512), y = ix3 p n r := ⟨y 0, y 1, y 2, by funext i; fin_cases i <;> rfl⟩
  rw [out7_apply]
  refine Eq.trans ?_ (congrArg (scores _ _ _ _ _) (emb7 t p n r)).symm
  show sc3 (fun d => iblk m c 5 t (ix3 p n d)) (fun d => k0_pay61 (F := Ideal) _ _ _ _ _ _ (ix2 r ⟨128 * p.val + d.val, _⟩))
    = sc3 (fun d => m ((c : Thread nD τ).loc main_arg4) (ix4 ⟨p.val / 2, _⟩ ⟨p.val % 2, _⟩ n d))
      (fun d => qry _ _ _ _ _ ⟨128 * p.val + d.val, _⟩)
  congr 1
  · funext d
    exact read_k m c t p n d
  · funext d
    refine (pay61_apply _ _ _ _ _ _ r _).trans ?_
    unfold qry
    refine Finset.sum_congr rfl fun k _ => ?_
    rw [row_eq m c t r k, read_w m c t]
    rfl

end Cert.Scoring

end
-- ==== Proof.ScoresRef.lean ====
/- The reference of the scores, and its precondition: with finite arguments both results are the kernel's. -/
module

public import proofs.«01_k».proof.Defs
public import proofs.«01_k».proof.Proof.Gen.Pre_finite_queries
public import proofs.«01_k».proof.Proof.Gen.ScoresReferenceIdeal.Read
public import proofs.«01_k».proof.Proof.ScoresArray
public import proofs.«01_k».proof.Proof.Finite

@[expose] public section

set_option maxRecDepth 16384

noncomputable section

namespace Cert.Scoring

open Idealize.ShloMosaic Cert.Rows

section
open Cert.ScoresReferenceIdeal Cert.ScoresReferenceIdeal.Read

variable (x0 : FVec Ideal S16384x1024 .f32) (x1 : FVec Ideal S1024 .f32) (x2 : FVec Ideal S16x6144 .f32) (x3 : FVec Ideal S1024x2048 .f32)
  (x4 : FVec Ideal S8x2x128x128 .f32)

/-- The sum of the squares of a row. -/
theorem sq_apply (b : Fin 8) (s : Fin 2048) :
    val_main_v6 (F := Ideal) x0 (ix2 b s) = ∑ j, x0 (ix2 ⟨b.val * 2048 + s.val, by omega⟩ j) * x0 (ix2 ⟨b.val * 2048 + s.val, by omega⟩ j) := by
  unfold val_main_v6 val_main_v5 val_main_v4 val_main_cst
  pointwise
  skip

/-- The reciprocal root mean square of a row. -/
theorem v12_apply (b : Fin 8) (s : Fin 2048) :
    val_main_v12 (F := Ideal) x0 (ix3 b s 0)
      = Ideal.rsqrt (Ideal.div (∑ j, x0 (ix2 ⟨b.val * 2048 + s.val, by omega⟩ j) * x0 (ix2 ⟨b.val * 2048 + s.val, by omega⟩ j)) (Ideal.ofBits .f32 0x44800000#32)
        + Ideal.ofBits .f32 0x358637BD#32) := by
  unfold val_main_v12 val_main_v11 val_main_v10 val_main_v9 val_main_v8 val_main_v7 val_main_cst_0 val_main_cst_1
  pointwise
  exact congrArg (fun v => Ideal.rsqrt (Ideal.div v (Ideal.ofBits .f32 0x44800000#32) + Ideal.ofBits .f32 0x358637BD#32)) (sq_apply x0 b s)

/-- The modulated rows. -/
theorem v24_apply (r : Fin 16384) (k : Fin 1024) :
    val_main_v24 (F := Ideal) x0 x1 x2 (ix2 r k) = hrow x0 x1 x2 r k := by
  have e : (⟨r.val / 2048 * 2048 + r.val % 2048, by omega⟩ : Fin 16384) = r := Fin.ext (by dsimp only; omega)
  have hs := v12_apply x0 ⟨r.val / 2048, by omega⟩ ⟨r.val % 2048, by omega⟩
  simp only [e] at hs
  refine Eq.trans (b := x0 (ix2 r k) * val_main_v12 (F := Ideal) x0 (ix3 ⟨r.val / 2048, by omega⟩ ⟨r.val % 2048, by omega⟩ 0) * x1 (ix1 k)
    * (Ideal.ofBits .f32 0x3F800000#32 + x2 (ix2 ⟨r.val / 2048, by omega⟩ ⟨4096 + k.val, by omega⟩)) + x2 (ix2 ⟨r.val / 2048, by omega⟩ ⟨3072 + k.val, by omega⟩)) ?_ ?_
  · unfold val_main_v24 val_main_v23 val_main_v22 val_main_v21 val_main_v20 val_main_v19 val_main_v18 val_main_v17 val_main_v16 val_main_v15 val_main_v14
      val_main_v13 val_main_v4 val_main_v3 val_main_v2 val_main_v1 val_main_v0 val_main_cst_2
    pointwise
  · rw [hs]
    rfl

/-- The first result. -/
theorem v29_eq : val_main_v29 (F := Ideal) x0 x1 x2 = rows x0 x1 x2 := by
  funext y
  obtain ⟨r, k, rfl⟩ : ∃ (r : Fin 16384) (k : Fin 1024), y = ix2 r k := ⟨y 0, y 1, by funext i; fin_cases i <;> rfl⟩
  exact v24_apply x0 x1 x2 r k

/-- The queries. -/
theorem v25_apply (r : Fin 16384) (c : Fin 2048) : val_main_v25 (F := Ideal) x0 x1 x2 x3 (ix2 r c) = qry x0 x1 x2 x3 r c := by
  unfold val_main_v25
  pointwise
  exact Finset.sum_congr rfl fun k _ => by rw [v24_apply]

/-- The products of the keys and the queries. -/
theorem v27_apply (h : Fin 8) (p : Fin 2) (n : Fin 128) (r : Fin 16384) :
    val_main_v27 (F := Ideal) x0 x1 x2 x3 x4 (ix4 h p n r)
      = ∑ d : Fin 128, x4 (ix4 h p n d) * qry x0 x1 x2 x3 r ⟨(h.val * 2 + p.val) * 128 + d.val, by omega⟩ := by
  unfold val_main_v27 val_main_v26
  pointwise
  refine Finset.sum_congr rfl fun d _ => ?_
  have e : (⟨h.val * 256 + p.val * 128 + d.val, by omega⟩ : Fin 2048) = ⟨(h.val * 2 + p.val) * 128 + d.val, by omega⟩ := Fin.ext (by dsimp only; omega)
  rw [v25_apply, e]

/-- The second result at an index. -/
theorem v31_apply (q : Fin 16) (n : Fin 128) (r : Fin 16384) :
    val_main_v31 (F := Ideal) x0 x1 x2 x3 x4 (ix3 q n r)
      = ∑ d : Fin 128, x4 (ix4 ⟨q.val / 2, by omega⟩ ⟨q.val % 2, by omega⟩ n d) * qry x0 x1 x2 x3 r ⟨128 * q.val + d.val, by omega⟩ := by
  have e1 : val_main_v31 (F := Ideal) x0 x1 x2 x3 x4 (ix3 q n r)
      = val_main_v27 (F := Ideal) x0 x1 x2 x3 x4 (ix4 ⟨q.val / 2, by omega⟩ ⟨q.val % 2, by omega⟩ n r) := by
    unfold val_main_v31 val_main_v30 val_main_v28
    pointwise
  rw [e1, v27_apply]
  refine Finset.sum_congr rfl fun d _ => ?_
  have e : (⟨(q.val / 2 * 2 + q.val % 2) * 128 + d.val, by omega⟩ : Fin 2048) = ⟨128 * q.val + d.val, by omega⟩ := Fin.ext (by dsimp only; omega)
  simp only [e]

end

section
open Cert.Pre_finite_queries

variable [Cert.Pre_finite_queries.Facts] (x0 : FVec Ideal S16384x1024 .f32) (x1 : FVec Ideal S1024 .f32) (x2 : FVec Ideal S16x6144 .f32) (x3 : FVec Ideal S1024x2048 .f32)
  (x4 : FVec Ideal S8x2x128x128 .f32)

/-- The rows are finite. -/
theorem x_fin (h : (fn (F := Ideal) x0 x1 x2 x3 x4).1 = fun _ => 1#1) (r : Fin 16384) (k : Fin 1024) : IsR (x0 (ix2 r k)) := by
  have h' := congrFun h (ix2 r k)
  unfold fn fn_part1 at h'
  dsimp only at h'
  refine IsR.of _ (Cert.Finite.between _ (Eq.trans ?_ h'))
  symm
  pointwise

/-- The gains are finite. -/
theorem g_fin (h : (fn (F := Ideal) x0 x1 x2 x3 x4).2.1 = fun _ => 1#1) (k : Fin 1024) : IsR (x1 (ix1 k)) := by
  have h' := congrFun h (ix1 k)
  unfold fn fn_part1 at h'
  dsimp only at h'
  refine IsR.of _ (Cert.Finite.between _ (Eq.trans ?_ h'))
  symm
  pointwise

/-- The modulation read is finite. -/
theorem mod_fin (h : (fn (F := Ideal) x0 x1 x2 x3 x4).2.2.1 = fun _ => 1#1) (b : Fin 16) (hb : b.val < 8) (k : Fin 6144) (hk : 3072 ≤ k.val ∧ k.val < 5120) :
    IsR (x2 (ix2 b k)) := by
  have h' := congrFun h (ix2 ⟨b.val, hb⟩ ⟨k.val - 3072, by omega⟩)
  unfold fn fn_part1 at h'
  dsimp only at h'
  refine IsR.of _ (Cert.Finite.between _ (Eq.trans ?_ h'))
  symm
  pointwise
  have e : (⟨3072 + (k.val - 3072), by omega⟩ : Fin 6144) = k := Fin.ext (by dsimp only; omega)
  simp only [e]

/-- The query weights are finite. -/
theorem w_fin (h : (fn (F := Ideal) x0 x1 x2 x3 x4).2.2.2.1 = fun _ => 1#1) (k : Fin 1024) (c : Fin 2048) : IsR (x3 (ix2 k c)) := by
  have h' := congrFun h (ix2 k c)
  unfold fn fn_part1 at h'
  dsimp only at h'
  refine IsR.of _ (Cert.Finite.between _ (Eq.trans ?_ h'))
  symm
  pointwise

/-- The keys are finite. -/
theorem k_fin (h : (fn (F := Ideal) x0 x1 x2 x3 x4).2.2.2.2 = fun _ => 1#1) (p : Fin 8) (q : Fin 2) (n d : Fin 128) : IsR (x4 (ix4 p q n d)) := by
  have h' := congrFun h (ix4 p q n d)
  unfold fn fn_part1 at h'
  dsimp only at h'
  refine IsR.of _ (Cert.Finite.between _ (Eq.trans ?_ h'))
  symm
  pointwise

/-- The queries are finite. -/
theorem qry_fin (h : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2.1 = (fun _ => 1#1)
      ∧ (fn (F := Ideal) x0 x1 x2 x3 x4).2.2.2.2 = fun _ => 1#1) (r : Fin 16384) (c : Fin 2048) : IsR (qry x0 x1 x2 x3 r c) := by
  unfold qry hrow
  refine IsR.sum fun k => IsR.mul (IsR.mrow (fun i => x_fin _ _ _ _ _ h.1 _ _) (fun i => g_fin _ _ _ _ _ h.2.1 _) (fun i => ?_) (fun i => ?_) k)
    (w_fin _ _ _ _ _ h.2.2.2.1 _ _)
  · exact mod_fin _ _ _ _ _ h.2.2.1 _ (by dsimp only; omega) _ (by dsimp only; omega)
  · exact mod_fin _ _ _ _ _ h.2.2.1 _ (by dsimp only; omega) _ (by dsimp only; omega)

/-- The second result is the kernel's, under the precondition. -/
theorem v31_eq (h : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2.1 = (fun _ => 1#1)
      ∧ (fn (F := Ideal) x0 x1 x2 x3 x4).2.2.2.2 = fun _ => 1#1) :
    Cert.ScoresReferenceIdeal.Read.val_main_v31 (F := Ideal) x0 x1 x2 x3 x4 = scores x0 x1 x2 x3 x4 := by
  funext y
  obtain ⟨q, n, r, rfl⟩ : ∃ (q : Fin 16) (n : Fin 128) (r : Fin 16384), y = ix3 q n r := ⟨y 0, y 1, y 2, by funext i; fin_cases i <;> rfl⟩
  rw [v31_apply]
  unfold scores sc3
  refine Eq.trans ?_ (split3 _ _ (fun i => k_fin _ _ _ _ _ h.2.2.2.2 _ _ _ _) (fun i => qry_fin _ _ _ _ _ h _ _)).symm
  exact Finset.sum_congr rfl fun d _ => mul_comm _ _

end

end Cert.Scoring

end
-- ==== Proof.ScoresClaim.lean ====
/- The claims about the scores. -/
module

public import proofs.«01_k».proof.Defs
public import proofs.«01_k».proof.Proof.Gen.ScoresIdeal.Value
public import proofs.«01_k».proof.Proof.Gen.ScoresReferenceIdeal.Run
public import proofs.«01_k».proof.Proof.ScoresRef
public import Idealize.ShloMosaic.Lib.Claim
public import Idealize.ShloMosaic.Adequacy
public import Idealize.ShloMosaic.Init

@[expose] public section

noncomputable section

namespace Cert.Scoring

open Idealize.ShloMosaic Idealize.SL.Sem

/-- At `Ideal` the kernel's two arrays and the reference's agree, under the precondition. -/
theorem algebraic : Cert.algebraic_ScoresIdeal_ScoresReferenceIdeal_pre_finite_queries := by
  pair_intro
  · run_from Cert.ScoresIdeal.Value.run_blocks m g
  · run_from Cert.ScoresReferenceIdeal.Value.run (F := Ideal) m' g'
    · rw [final6 m c]
      refine (Cert.ScoresReferenceIdeal.Read.val_main_v29_eq _ _ _).trans ?_
      exact v29_eq _ _ _
    · rw [final7 m c]
      refine (Cert.ScoresReferenceIdeal.Read.val_main_v31_eq _ _ _ _ _).trans ?_
      exact v31_eq _ _ _ _ _ (hpre c)

/-- The reference runs, keeps its arguments and ends quiescent. -/
theorem quiescent : Cert.quiescent_ScoresReferenceIdeal := fun m ρ _ =>
  (θ_run Cert.ScoresReferenceIdeal.defs _ _).mono (fun r h => ⟨fun c => (h c).2.2, Idealize.ShloMosaic.sem_eq_zero_of_no_sems (by decide) r.2⟩)
    (Cert.ScoresReferenceIdeal.Value.run (F := Ideal) m ρ)

/-- The same under the precondition. -/
theorem quiescent_pre : Cert.quiescent_ScoresReferenceIdeal_pre_finite_queries := fun m ρ _ => quiescent m ρ trivial

end Cert.Scoring

end
-- ==== Proof.ProjBlock.lean ====
/- The projection kernel's block: the modulated norm of its rows times the weights, the head norms by sums over segments of 64 lanes,
   and the rotation by lanes moved by 16. -/
module

public import proofs.«01_k».proof.Proof.Rows
public import proofs.«01_k».proof.Proof.Gen.InProjIdeal.Frame
public import Idealize.ShloMosaic.Lib.Pipeline.ValueKit.Point

@[expose] public section

set_option maxRecDepth 16384

noncomputable section

namespace Cert.Projecting

open Idealize.ShloMosaic Idealize.ShloMosaic.TcCoe Cert.InProjIdeal Cert.InProjIdeal.Gen Cert.Rows
open Idealize.ShloMosaic.Pipeline (Dat)

/-- A sum against the ones of one segment is the sum over the segment. -/
theorem seg {n : ℕ} (f : Fin n → EReal) (q : ℕ) (hq : 64 * q + 64 ≤ n) :
    ∑ k : Fin n, f k * (if k.val / 64 = q then (1 : EReal) else 0) = ∑ d : Fin 64, f ⟨64 * q + d.val, by omega⟩ := by
  simp only [mul_ite, mul_one, mul_zero]
  rw [← Finset.sum_filter]
  refine Finset.sum_bij' (fun k _ => (⟨k.val % 64, by omega⟩ : Fin 64)) (fun d _ => (⟨64 * q + d.val, by omega⟩ : Fin n)) ?_ ?_ ?_ ?_ ?_
  · intro k _; exact Finset.mem_univ _
  · intro d _; rw [Finset.mem_filter]; exact ⟨Finset.mem_univ _, by dsimp only; omega⟩
  · intro k hk; rw [Finset.mem_filter] at hk; exact Fin.ext (by dsimp only; omega)
  · intro d _; exact Fin.ext (by dsimp only; omega)
  · intro k hk; rw [Finset.mem_filter] at hk; exact congrArg f (Fin.ext (by dsimp only; omega))

/-- The sum of the squares of the head of a lane. -/
def hs (A : Fin 3200 → EReal) (j : Fin 1024) : EReal :=
  ∑ d : Fin 64, A ⟨64 * (j.val / 64) + d.val, by omega⟩ * A ⟨64 * (j.val / 64) + d.val, by omega⟩

/-- The sum of what the split of the squares leaves over. -/
def hl (A : Fin 3200 → EReal) (j : Fin 1024) : EReal :=
  ∑ d : Fin 64, (A ⟨64 * (j.val / 64) + d.val, by omega⟩ * A ⟨64 * (j.val / 64) + d.val, by omega⟩
    - A ⟨64 * (j.val / 64) + d.val, by omega⟩ * A ⟨64 * (j.val / 64) + d.val, by omega⟩)

/-- The norm of a lane within its head. -/
def kn (A : Fin 3200 → EReal) (g : EReal) (j : Fin 1024) : EReal :=
  A ⟨j.val, by omega⟩ * Ideal.rsqrt ((hs A j + hl A j) * Ideal.ofBits .f32 0x3C800000#32 + Ideal.ofBits .f32 0x358637BD#32) * g

/-- The rotation, by lanes moved by 16. -/
def rope (q cs sn : Fin 384 → EReal) (j : Fin 384) : EReal :=
  q j * cs j + (if j.val % 32 < 16 then q ⟨(j.val + 384 - 368) % 384, by omega⟩ else q ⟨(j.val + 384 - 16) % 384, by omega⟩) * sn j

/-- One row of the first result. -/
def abrow (A : Fin 3200 → EReal) (ga : Fin 384 → EReal) (gb : Fin 512 → EReal) (cs sn : Fin 384 → EReal) (j : Fin 1280) : EReal :=
  if h : j.val < 384 then rope (fun i => kn A (ga i) ⟨i.val, by omega⟩) cs sn ⟨j.val, h⟩
  else if h' : 512 ≤ j.val ∧ j.val < 1024 then kn A (gb ⟨j.val - 512, by omega⟩) ⟨j.val, by omega⟩
  else A ⟨j.val, by omega⟩

/-- The norm of the block's rows, times the weights. -/
theorem pay3_apply (x0 : Vec Ideal S512x1024 .f32) (x1 : Vec Ideal S1x1024 .f32) (x2 x3 : Vec Ideal S1x1x1024 .f32) (x4 : Vec Ideal S1024x3200 .bf16)
    (r : Fin 512) (c : Fin 3200) :
    k0_pay3 (F := Ideal) x0 x1 x2 x3 x4 (ix2 r c)
      = ∑ k, mrow (fun j => x0 (ix2 r j)) (fun j => x1 (ix2 0 j)) (fun j => x2 (ix3 0 0 j)) (fun j => x3 (ix3 0 0 j)) k * x4 (ix2 k c) := by
  unfold k0_pay3 mrow nrow
  pointwise

/-- The ones of the segments. -/
def Ones (v : FVec Ideal S256x256 .bf16) : Prop := ∀ k j : Fin 256, v (ix2 k j) = if k.val / 64 = j.val / 64 then (1 : EReal) else 0

/-- The head norm of the first lanes. -/
theorem pay9_apply (v29 : FVec Ideal S256x256 .bf16) (h29 : Ones v29) (A : Fin 3200 → EReal) (v30 : FVec Ideal S512x384 .f32) (v32 : FVec Ideal S1x384 .f32)
    (v34 : FVec Ideal S512x384 .bf16) (v36 : FVec Ideal S512x384 .f32) (r : Fin 512)
    (h30 : ∀ j : Fin 384, v30 (ix2 r j) = A ⟨j.val, by omega⟩) (h34 : ∀ j : Fin 384, v34 (ix2 r j) = A ⟨j.val, by omega⟩ * A ⟨j.val, by omega⟩)
    (h36 : ∀ j : Fin 384, v36 (ix2 r j) = A ⟨j.val, by omega⟩ * A ⟨j.val, by omega⟩ - A ⟨j.val, by omega⟩ * A ⟨j.val, by omega⟩)
    (j : Fin 384) :
    k0_pay9 (F := Ideal) v29 v30 v32 v34 v36 (ix2 r j) = kn A (v32 (ix2 0 j)) ⟨j.val, by omega⟩ := by
  unfold k0_pay9
  pointwise
  unfold kn
  rw [h30]
  refine congrArg (fun v => A ⟨j.val, by omega⟩ * Ideal.rsqrt (v * Ideal.ofBits .f32 0x3C800000#32 + Ideal.ofBits .f32 0x358637BD#32) * v32 (ix2 0 j)) ?_
  split
  · simp only [h34, h36, h29 _ _]
    rw [seg _ (j.val / 64) (by omega), seg _ (j.val / 64) (by omega)]
    rfl
  · rename_i hj
    simp only [h34, h36, h29 _ _]
    rw [seg _ ((j.val - 256) / 64) (by omega), seg _ ((j.val - 256) / 64) (by omega)]
    have e : ∀ d : Fin 64, (⟨256 + (64 * ((j.val - 256) / 64) + d.val), by omega⟩ : Fin 3200) = ⟨64 * (j.val / 64) + d.val, by omega⟩ :=
      fun d => Fin.ext (by dsimp only; omega)
    simp only [e]
    rfl

/-- The head norm of the later lanes. -/
theorem pay16_apply (v28 : FVec Ideal S512x3200 .f32) (v30 : FVec Ideal S256x256 .bf16) (h30 : Ones v30) (v90 : Vec Ideal S1x512 .f32) (r : Fin 512) (j : Fin 512) :
    k0_pay16 (F := Ideal) v28 v30 v90 (ix2 r j) = kn (fun i => v28 (ix2 r i)) (v90 (ix2 0 j)) ⟨512 + j.val, by omega⟩ := by
  unfold k0_pay16
  pointwise
  unfold kn
  refine congrArg (fun v => v28 (ix2 r ⟨512 + j.val, by omega⟩) * Ideal.rsqrt (v * Ideal.ofBits .f32 0x3C800000#32 + Ideal.ofBits .f32 0x358637BD#32) * v90 (ix2 0 j)) ?_
  split
  · simp only [h30 _ _]
    rw [seg _ (j.val / 64) (by omega), seg _ (j.val / 64) (by omega)]
    have e : ∀ d : Fin 64, (⟨512 + (64 * (j.val / 64) + d.val), by omega⟩ : Fin 3200) = ⟨64 * ((512 + j.val) / 64) + d.val, by omega⟩ :=
      fun d => Fin.ext (by dsimp only; omega)
    simp only [e]
    rfl
  · rename_i hj
    simp only [h30 _ _]
    rw [seg _ ((j.val - 256) / 64) (by omega), seg _ ((j.val - 256) / 64) (by omega)]
    have e : ∀ d : Fin 64, (⟨512 + (256 + (64 * ((j.val - 256) / 64) + d.val)), by omega⟩ : Fin 3200) = ⟨64 * ((512 + j.val) / 64) + d.val, by omega⟩ :=
      fun d => Fin.ext (by dsimp only; omega)
    simp only [e]
    rfl

/-- The lane's place within 32, by the integer operations. -/
theorem lane : ∀ j : Fin 384, IntOp.cmpi CmpIPredicate.slt
      (Scalar.select
        (IntOp.andi
          (IntOp.xori (IntOp.cmpi CmpIPredicate.slt (IntOp.remsi ArithUnit.vector (BitVec.ofNat 32 j.val)
                (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne (IntOp.remsi ArithUnit.vector (BitVec.ofNat 32 j.val)
                (Scalar.select (Scalar.cmpi CmpIPredicate.eq 32#32 0#32) 1#32 32#32)) 0#32))
        (IntOp.addi (IntOp.remsi ArithUnit.vector (BitVec.ofNat 32 j.val)
                (Scalar.select (Scalar.cmpi CmpIPredicate.eq 32#32 0#32) 1#32 32#32)) (Scalar.select (Scalar.cmpi CmpIPredicate.eq 32#32 0#32) 1#32 32#32))
        (IntOp.remsi ArithUnit.vector (BitVec.ofNat 32 j.val)
                (Scalar.select (Scalar.cmpi CmpIPredicate.eq 32#32 0#32) 1#32 32#32)))
      16#32 = if j.val % 32 < 16 then 1#1 else 0#1 := by
  decide +kernel

/-- The rotated lanes. -/
theorem pay14_apply (v62 v64 v65 v85 : FVec Ideal S512x384 .f32) (q cs : Fin 384 → EReal) (r : Fin 512)
    (h62 : ∀ j, v62 (ix2 r j) = q j * cs j) (h64 : ∀ j : Fin 384, v64 (ix2 r j) = q ⟨(j.val + 384 - 368) % 384, by omega⟩)
    (h65 : ∀ j : Fin 384, v65 (ix2 r j) = q ⟨(j.val + 384 - 16) % 384, by omega⟩) (j : Fin 384) :
    k0_pay14 (F := Ideal) v62 v64 v65 k0_pay13 v85 (ix2 r j) = rope q cs (fun i => v85 (ix2 r i)) j := by
  unfold k0_pay14 k0_pay13
  pointwise
  simp only [h62, h64, h65]
  unfold rope
  rw [lane j]
  split <;> rfl

end Cert.Projecting

end
-- ==== Proof.ProjOut.lean ====
/- What the projection kernel leaves in its two output blocks at a point, from the blocks it reads. -/
module

public import proofs.«01_k».proof.Proof.ProjBlock
public import Idealize.ShloMosaic.Lib.WholeRead

@[expose] public section

set_option maxRecDepth 16384

noncomputable section

namespace Cert.Projecting

open Idealize.ShloMosaic Idealize.ShloMosaic.TcCoe Cert.InProjIdeal Cert.InProjIdeal.Gen Cert.Rows
open Idealize.ShloMosaic.Pipeline (Dat)

/-- The load of a whole buffer reads what it holds. -/
theorem rd {s : Shape} {e : EltTy} (M : Memref sig .tc .vmem s e) (h : M.IsWhole) (X : s.Idx → Elt Ideal e) (o : Fin s.rank → ℕ) (ho : ∀ a, o a = 0)
    (inb : ∀ a, o a + s.size a ≤ s.size a) :
    View.readAt (Elt Ideal) M.view (Rect.unit (s := s) o s.size inb).toLoadRect (h.unread X) = X := by
  funext x
  refine (Memref.IsWhole.readAt_unread h X _ x).trans (congrArg X (funext fun a => Fin.ext ?_))
  show o a + 1 * (x a).val = (x a).val
  rw [ho a]; omega

/-- Two zeros. -/
theorem z2 : ∀ a : Fin 2, (![0, 0] : Fin 2 → ℕ) a = 0 := by decide

/-- Three zeros. -/
theorem z3 : ∀ a : Fin 3, (![0, 0, 0] : Fin 3 → ℕ) a = 0 := by decide

/-- Where the lanes of a stored piece lie. -/
theorem embP (p w : ℕ) (inb : ∀ a, (![0, p] : Fin 2 → ℕ) a + (![512, w] : Fin 2 → ℕ) a ≤ S512x1280.size a) (r : Fin 512) (j : Fin w) (hp : p + w ≤ 1280) :
    (Rect.unit (s := S512x1280) ![0, p] ![512, w] inb).emb (ix2 r j) = ix2 r ⟨p + j.val, by omega⟩ := by
  funext a; fin_cases a <;> refine Fin.ext ?_ <;> show _ = _ <;> simp

variable (m : (ℓ : Loc nD τ sig) → Buf (Elt Ideal) ℓ) (c : Dev nD) (t : Fin cfg0.N)

/-- A row of the block's product with the weights. -/
def accb (r : Fin 512) (k : Fin 3200) : EReal :=
  ∑ i, mrow (fun j => iblk m c 0 t (ix2 r j)) (fun j => iblk m c 1 t (ix2 0 j)) (fun j => iblk m c 2 t (ix3 0 0 j)) (fun j => iblk m c 3 t (ix3 0 0 j)) i
    * iblk m c 4 t (ix2 i k)

/-- The product, in the body. -/
theorem acc_apply (r : Fin 512) (k : Fin 3200) :
    k0_pay3 (F := Ideal) (iblk m c 0 t) (iblk m c 1 t) (iblk m c 2 t) (iblk m c 3 t) (iblk m c 4 t) (ix2 r k) = accb m c t r k :=
  pay3_apply _ _ _ _ _ r k

/-- The first lanes of the product. -/
theorem pay4_apply (r : Fin 512) (j : Fin 384) :
    k0_pay4 (F := Ideal) (iblk m c 0 t) (iblk m c 1 t) (iblk m c 2 t) (iblk m c 3 t) (iblk m c 4 t) (ix2 r j) = accb m c t r ⟨j.val, by omega⟩ := by
  refine Eq.trans ?_ (acc_apply m c t r _)
  unfold k0_pay4
  pointwise

/-- Their squares. -/
theorem pay7_apply (r : Fin 512) (j : Fin 384) :
    k0_pay7 (F := Ideal) (iblk m c 0 t) (iblk m c 1 t) (iblk m c 2 t) (iblk m c 3 t) (iblk m c 4 t) (ix2 r j)
      = accb m c t r ⟨j.val, by omega⟩ * accb m c t r ⟨j.val, by omega⟩ := by
  rw [← pay4_apply m c t r j]
  rfl

/-- What the split of the squares leaves over. -/
theorem pay8_apply (r : Fin 512) (j : Fin 384) :
    k0_pay8 (F := Ideal) (iblk m c 0 t) (iblk m c 1 t) (iblk m c 2 t) (iblk m c 3 t) (iblk m c 4 t) (ix2 r j)
      = accb m c t r ⟨j.val, by omega⟩ * accb m c t r ⟨j.val, by omega⟩ - accb m c t r ⟨j.val, by omega⟩ * accb m c t r ⟨j.val, by omega⟩ := by
  rw [← pay4_apply m c t r j]
  rfl

/-- The gains, as loaded. -/
theorem pay5_apply (v : Vec Ideal S1x384 .f32) (j : Fin 384) : k0_pay5 (F := Ideal) v (ix2 0 j) = v (ix2 0 j) := by
  unfold k0_pay5
  pointwise

/-- The first lanes normalised. -/
theorem norm_apply (h : Ones (iblk m c 7 t)) (r : Fin 512) (j : Fin 384) :
    k0_pay9 (F := Ideal) (iblk m c 7 t) (k0_pay4 (iblk m c 0 t) (iblk m c 1 t) (iblk m c 2 t) (iblk m c 3 t) (iblk m c 4 t))
      (k0_pay5 (iblk m c 5 t)) (k0_pay7 (iblk m c 0 t) (iblk m c 1 t) (iblk m c 2 t) (iblk m c 3 t) (iblk m c 4 t))
      (k0_pay8 (iblk m c 0 t) (iblk m c 1 t) (iblk m c 2 t) (iblk m c 3 t) (iblk m c 4 t)) (ix2 r j)
      = kn (accb m c t r) (iblk m c 5 t (ix2 0 j)) ⟨j.val, by omega⟩ := by
  rw [← pay5_apply (iblk m c 5 t) j]
  exact pay9_apply _ h (accb m c t r) _ _ _ _ r (pay4_apply m c t r) (pay7_apply m c t r) (pay8_apply m c t r) j

/-- The first output's block, from the rows. -/
def outAB (y : S512x1280.Idx) : EReal :=
  abrow (accb m c t (y 0)) (fun j => iblk m c 5 t (ix2 0 j)) (fun j => iblk m c 6 t (ix2 0 j)) (fun j => iblk m c 8 t (ix2 (y 0) j))
    (fun j => iblk m c 9 t (ix2 (y 0) j)) (y 1)

/-- The lanes of the values. -/
theorem abrow_v (A : Fin 3200 → EReal) (ga : Fin 384 → EReal) (gb : Fin 512 → EReal) (cs sn : Fin 384 → EReal) (j : Fin 1280)
    (h : 384 ≤ j.val) (h' : j.val < 512 ∨ 1024 ≤ j.val) : abrow A ga gb cs sn j = A ⟨j.val, by omega⟩ := by
  unfold abrow
  rw [dif_neg (by omega), dif_neg (by omega)]

/-- The lanes of the second queries and keys. -/
theorem abrow_k (A : Fin 3200 → EReal) (ga : Fin 384 → EReal) (gb : Fin 512 → EReal) (cs sn : Fin 384 → EReal) (j : Fin 1280)
    (h : 512 ≤ j.val ∧ j.val < 1024) : abrow A ga gb cs sn j = kn A (gb ⟨j.val - 512, by omega⟩) ⟨j.val, by omega⟩ := by
  unfold abrow
  rw [dif_neg (by omega), dif_pos h]

/-- The lanes of the first queries and keys. -/
theorem abrow_q (A : Fin 3200 → EReal) (ga : Fin 384 → EReal) (gb : Fin 512 → EReal) (cs sn : Fin 384 → EReal) (j : Fin 1280)
    (h : j.val < 384) : abrow A ga gb cs sn j = rope (fun i => kn A (ga i) ⟨i.val, by omega⟩) cs sn ⟨j.val, h⟩ := by
  unfold abrow
  rw [dif_pos h]

/-- What the body leaves in the first output's buffer. -/
theorem out10 (h : Ones (iblk m c 7 t)) (y : S512x1280.Idx) : (outsAt0 m c t).1 y = outAB m c t y := by
  unfold outsAt0 out0_A_10
  dsimp only
  rw [View.read_writes_junk_eq_canon]
  refine View.canon_apply_of_pieces (Val := Elt Ideal) (S := S512x1280) (e := .bf16) (outAB m c t) _ ?_ y
    (cover0_A_10 _ _ _ _ _ _ _ _ _ _ _ _ _ _ _ _ _ _ _ _ _ _ _ _ _ _ _ _ _ _ _ _ _ _ _ _ y)
  unfold kernelRun0_A
  dsimp only
  refine List.forall_mem_cons.2 ⟨?_, List.forall_mem_cons.2 ⟨?_, List.forall_mem_cons.2 ⟨?_, List.forall_mem_cons.2 ⟨?_, List.forall_mem_nil _⟩⟩⟩⟩
  · intro x
    obtain ⟨r, j, rfl⟩ : ∃ (r : Fin 512) (j : Fin 256), x = ix2 r j := ⟨x 0, x 1, by funext i; fin_cases i <;> rfl⟩
    refine Eq.trans ?_ (congrArg (outAB m c t) (embP 1024 256 inb_S512x1280_S512x256_0_1024 r j (by norm_num))).symm
    unfold kernelRun0_A.sl.r
    dsimp only
    simp only [rd (s := S512x1024) _ _ _ _ z2, rd (s := S1x1024) _ _ _ _ z2, rd (s := S1x1x1024) _ _ _ _ z3, rd (s := S1024x3200) _ _ _ _ z2,
      rd (s := S256x256) _ _ _ _ z2, rd (s := S1x384) _ _ _ _ z2, rd (s := S1x512) _ _ _ _ z2, rd (s := S512x384) _ _ _ _ z2]
    refine Eq.trans ?_ (abrow_v _ _ _ _ _ ⟨1024 + j.val, by omega⟩ (by dsimp only; omega) (by dsimp only; omega)).symm
    refine Eq.trans ?_ (acc_apply m c t r _)
    unfold k0_pay1
    pointwise
  · intro x
    obtain ⟨r, j, rfl⟩ : ∃ (r : Fin 512) (j : Fin 512), x = ix2 r j := ⟨x 0, x 1, by funext i; fin_cases i <;> rfl⟩
    refine Eq.trans ?_ (congrArg (outAB m c t) (embP 512 512 inb_S512x1280_S512x512_0_512 r j (by norm_num))).symm
    unfold kernelRun0_A.sl.r_9
    unfold kernelRun0_A.sl.r kernelRun0_A.sl.r_1
    dsimp only
    simp only [rd (s := S512x1024) _ _ _ _ z2, rd (s := S1x1024) _ _ _ _ z2, rd (s := S1x1x1024) _ _ _ _ z3, rd (s := S1024x3200) _ _ _ _ z2,
      rd (s := S256x256) _ _ _ _ z2, rd (s := S1x384) _ _ _ _ z2, rd (s := S1x512) _ _ _ _ z2, rd (s := S512x384) _ _ _ _ z2]
    refine (pay16_apply _ _ h _ r j).trans ?_
    simp only [acc_apply]
    refine Eq.trans ?_ (abrow_k _ _ _ _ _ ⟨512 + j.val, by omega⟩ (by dsimp only; omega)).symm
    have e : (⟨512 + j.val - 512, by omega⟩ : Fin 512) = j := Fin.ext (by dsimp only; omega)
    exact congrArg (fun i => kn (accb m c t r) (iblk m c 6 t (ix2 0 i)) ⟨512 + j.val, by omega⟩) e.symm
  · intro x
    obtain ⟨r, j, rfl⟩ : ∃ (r : Fin 512) (j : Fin 128), x = ix2 r j := ⟨x 0, x 1, by funext i; fin_cases i <;> rfl⟩
    refine Eq.trans ?_ (congrArg (outAB m c t) (embP 384 128 inb_S512x1280_S512x128_0_384 r j (by norm_num))).symm
    unfold kernelRun0_A.sl.r
    dsimp only
    simp only [rd (s := S512x1024) _ _ _ _ z2, rd (s := S1x1024) _ _ _ _ z2, rd (s := S1x1x1024) _ _ _ _ z3, rd (s := S1024x3200) _ _ _ _ z2,
      rd (s := S256x256) _ _ _ _ z2, rd (s := S1x384) _ _ _ _ z2, rd (s := S1x512) _ _ _ _ z2, rd (s := S512x384) _ _ _ _ z2]
    refine Eq.trans ?_ (abrow_v _ _ _ _ _ ⟨384 + j.val, by omega⟩ (by dsimp only; omega) (by dsimp only; omega)).symm
    refine Eq.trans ?_ (acc_apply m c t r _)
    unfold k0_pay15
    pointwise
  · intro x
    obtain ⟨r, j, rfl⟩ : ∃ (r : Fin 512) (j : Fin 384), x = ix2 r j := ⟨x 0, x 1, by funext i; fin_cases i <;> rfl⟩
    refine Eq.trans ?_ (congrArg (outAB m c t) (embP 0 384 inb_S512x1280_S512x384_0_0 r j (by norm_num))).symm
    unfold kernelRun0_A.sl.r_6 kernelRun0_A.sl.r_7 kernelRun0_A.sl.r_8
    unfold kernelRun0_A.sl.r_1 kernelRun0_A.sl.r_2 kernelRun0_A.sl.r_3 kernelRun0_A.sl.r_4 kernelRun0_A.sl.r_5
    dsimp only
    simp only [rd (s := S512x1024) _ _ _ _ z2, rd (s := S1x1024) _ _ _ _ z2, rd (s := S1x1x1024) _ _ _ _ z3, rd (s := S1024x3200) _ _ _ _ z2,
      rd (s := S256x256) _ _ _ _ z2, rd (s := S1x384) _ _ _ _ z2, rd (s := S1x512) _ _ _ _ z2, rd (s := S512x384) _ _ _ _ z2]
    have e9 : View.readAt (Elt Ideal) (ms0_9 t).view (Rect.unit (s := S512x384) ![0, 0] ![512, 384] inb_S512x384_S512x384_0_0).toLoadRect ((hs0_9 t).unread (iblk m c 9 t))
      = iblk m c 9 t := rd _ _ _ _ z2 _
    refine (pay14_apply _ _ _ _ (fun i => kn (accb m c t r) (iblk m c 5 t (ix2 0 i)) ⟨i.val, by omega⟩) (fun i => iblk m c 8 t (ix2 r i)) r ?_ ?_ ?_ j).trans ?_
    · intro i
      rw [← norm_apply m c t h r i]
      unfold k0_pay10
      pointwise
    · intro i
      rw [← norm_apply m c t h r]
      unfold k0_pay11
      pointwise
    · intro i
      rw [← norm_apply m c t h r]
      unfold k0_pay12
      pointwise
    · refine Eq.trans ?_ (abrow_q _ _ _ _ _ ⟨0 + j.val, by omega⟩ (by dsimp only; omega)).symm
      have e : (⟨0 + j.val, by omega⟩ : Fin 384) = j := Fin.ext (by dsimp only; omega)
      exact congrArg (rope _ _ _) e.symm

/-- What the body leaves in the second output's buffer. -/
theorem out11 (r : Fin 512) (j : Fin 1920) : (outsAt0 m c t).2 (ix2 r j) = accb m c t r ⟨1280 + j.val, by omega⟩ := by
  unfold outsAt0 out0_A_11
  dsimp only
  rw [View.read_writes_junk_eq_canon]
  refine View.canon_apply_of_pieces (Val := Elt Ideal) (S := S512x1920) (e := .f32) (fun y => accb m c t (y 0) ⟨1280 + (y 1).val, by have := (y 1).isLt; change _ < 1920 at this; omega⟩) _ ?_ (ix2 r j)
    (cover0_A_11 _ _ _ _ _ _ _ _ _ _ _ _ _ _ _ _ _ _ _ _ _ _ _ _ _ _ _ _ _ _ _ _ _ _ _ _ _)
  unfold kernelRun0_A
  dsimp only
  refine List.forall_mem_cons.2 ⟨?_, List.forall_mem_nil _⟩
  intro x
  obtain ⟨r, j, rfl⟩ : ∃ (r : Fin 512) (j : Fin 1920), x = ix2 r j := ⟨x 0, x 1, by funext i; fin_cases i <;> rfl⟩
  have e0 : (Rect.unit (s := S512x1920) ![0, 0] ![512, 1920] inb_S512x1920_S512x1920_0_0).emb (ix2 r j) = ix2 r j := by
    funext a; fin_cases a <;> refine Fin.ext ?_ <;> show _ = _ <;> simp
  refine Eq.trans ?_ (congrArg (fun y : S512x1920.Idx => accb m c t (y 0) ⟨1280 + (y 1).val, by have := (y 1).isLt; change _ < 1920 at this; omega⟩) e0).symm
  unfold kernelRun0_A.sl.r
  dsimp only
  simp only [rd (s := S512x1024) _ _ _ _ z2, rd (s := S1x1024) _ _ _ _ z2, rd (s := S1x1x1024) _ _ _ _ z3, rd (s := S1024x3200) _ _ _ _ z2]
  refine Eq.trans ?_ (acc_apply m c t r _)
  unfold k0_pay2
  pointwise

end Cert.Projecting

end
-- ==== Proof.OnesIn.lean ====
/- The words of the projection's literal of the segments' ones. -/
module

public import proofs.«01_k».proof.Proof.Gen.InProjIdeal.Launch
public import Idealize.ShloMosaic.Lib.Pipeline.ValueKit.Point

@[expose] public section

set_option maxRecDepth 16384

noncomputable section

namespace Cert.Projecting

open Idealize.ShloMosaic Cert.InProjIdeal

/-- One in one half of 128 entries and zero in the other. -/
def half (c i : ℕ) : BitVec 16 := if i % 128 / 64 = c then 0x3F80#16 else 0x0000#16

/-- The entries with ones in the first half. -/
theorem leafA (i : ℕ) : lit0t0_0 i = half 0 i := by
  unfold lit0t0_0 half
  have h : i % 128 < 128 := Nat.mod_lt _ (by decide)
  generalize i % 128 = r at h ⊢
  interval_cases r <;> rfl

/-- The entries with ones in the second half. -/
theorem leafB (i : ℕ) : lit0t0_128 i = half 1 i := by
  unfold lit0t0_128 half
  have h : i % 128 < 128 := Nat.mod_lt _ (by decide)
  generalize i % 128 = r at h ⊢
  interval_cases r <;> rfl

/-- The entries without ones. -/
theorem leafZ (i : ℕ) : lit0t0_1 i = half 2 i := by
  unfold lit0t0_1 half
  have h : i % 128 < 128 := Nat.mod_lt _ (by decide)
  generalize i % 128 = r at h ⊢
  interval_cases r <;> rfl

/-- The first 64 rows. -/
theorem rows0 (i : ℕ) : lit0t1_0 i = if i / 128 % 128 % 2 = 0 then half 0 i else half 2 i := by
  unfold lit0t1_0
  have h : i / 128 % 128 < 128 := Nat.mod_lt _ (by decide)
  generalize i / 128 % 128 = r at h ⊢
  interval_cases r <;> first | exact leafA i | exact leafZ i

/-- The second 64 rows. -/
theorem rows1 (i : ℕ) : lit0t1_1 i = if i / 128 % 128 % 2 = 0 then half 1 i else half 2 i := by
  unfold lit0t1_1
  have h : i / 128 % 128 < 128 := Nat.mod_lt _ (by decide)
  generalize i / 128 % 128 = r at h ⊢
  interval_cases r <;> first | exact leafB i | exact leafZ i

/-- The third 64 rows. -/
theorem rows2 (i : ℕ) : lit0t1_2 i = if i / 128 % 128 % 2 = 0 then half 2 i else half 0 i := by
  unfold lit0t1_2
  have h : i / 128 % 128 < 128 := Nat.mod_lt _ (by decide)
  generalize i / 128 % 128 = r at h ⊢
  interval_cases r <;> first | exact leafZ i | exact leafA i

/-- The fourth 64 rows. -/
theorem rows3 (i : ℕ) : lit0t1_3 i = if i / 128 % 128 % 2 = 0 then half 2 i else half 1 i := by
  unfold lit0t1_3
  have h : i / 128 % 128 < 128 := Nat.mod_lt _ (by decide)
  generalize i / 128 % 128 = r at h ⊢
  interval_cases r <;> first | exact leafZ i | exact leafB i

/-- The literal at a row and a lane. -/
theorem words (k j : Fin 256) : lit0t (k.val * 256 + j.val) = if k.val / 64 = j.val / 64 then 0x3F80#16 else 0x0000#16 := by
  have h : (k.val * 256 + j.val) / 16384 = k.val / 64 := by omega
  have h4 : k.val / 64 < 4 := by omega
  unfold lit0t
  rw [h]
  generalize k.val / 64 = q at h h4 ⊢
  interval_cases q
  · refine (rows0 _).trans ?_
    unfold half
    split <;> split <;> split <;> first | rfl | omega
  · refine (rows1 _).trans ?_
    unfold half
    split <;> split <;> split <;> first | rfl | omega
  · refine (rows2 _).trans ?_
    unfold half
    split <;> split <;> split <;> first | rfl | omega
  · refine (rows3 _).trans ?_
    unfold half
    split <;> split <;> split <;> first | rfl | omega

/-- The word of one. -/
theorem one : Ideal.ofBits .bf16 0x3F80#16 = 1 := by
  simp [Ideal.ofBits, Ideal.ieee]
  rw [← EReal.coe_mul]
  norm_num

/-- The word of zero. -/
theorem zero : Ideal.ofBits .bf16 0x0000#16 = 0 := by
  simp [Ideal.ofBits, Ideal.ieee]

/-- The literal's numbers: ones where row and lane are of one segment. -/
theorem ones (k j : Fin 256) : FloatOps.ofBits (F := Ideal) .bf16 (lit0 (S256x256.rowMajor (ix2 k j))) = if k.val / 64 = j.val / 64 then (1 : EReal) else 0 := by
  have h : lit0 (S256x256.rowMajor (ix2 k j)) = lit0t (k.val * 256 + j.val) := by
    refine congrArg lit0t ((Shape.rowMajor_val_two _).trans ?_)
    rfl
  rw [h, words]
  split
  · exact one
  · exact zero

end Cert.Projecting

end
-- ==== Proof.ProjArray.lean ====
/- The arrays the projection kernel leaves, from its arguments: the gains, the tables of the rotation and the ones of the segments as
   the host makes them, and the two results. -/
module

public import proofs.«01_k».proof.Proof.ProjOut
public import proofs.«01_k».proof.Proof.OnesIn

@[expose] public section

set_option maxRecDepth 16384

noncomputable section

namespace Cert.Projecting

open Idealize.ShloMosaic Idealize.ShloMosaic.TcCoe Cert.InProjIdeal Cert.InProjIdeal.Gen Cert.Rows
open Idealize.ShloMosaic.Pipeline (Dat)

/-- One element of the modulated rows, from the arguments. -/
def hrow (x : FVec Ideal S16384x1024 .f32) (g : FVec Ideal S1024 .f32) (mod : FVec Ideal S16x6144 .f32) (r : Fin 16384) (k : Fin 1024) : EReal :=
  mrow (fun j => x (ix2 r j)) (fun j => g (ix1 j)) (fun j => mod (ix2 ⟨r.val / 2048, by omega⟩ ⟨1024 + j.val, by omega⟩))
    (fun j => mod (ix2 ⟨r.val / 2048, by omega⟩ ⟨j.val, by omega⟩)) k

/-- One element of the projection, from the arguments. -/
def proj (x : FVec Ideal S16384x1024 .f32) (g : FVec Ideal S1024 .f32) (mod : FVec Ideal S16x6144 .f32) (w : FVec Ideal S1024x3200 .f32)
    (r : Fin 16384) (c : Fin 3200) : EReal := ∑ k, hrow x g mod r k * w (ix2 k c)

/-- The gains of the first queries and keys. -/
def gainA (q k : FVec Ideal S64 .f32) (j : Fin 384) : EReal :=
  if j.val < 256 then q (ix1 ⟨j.val % 64, by omega⟩) * Ideal.ofBits .f32 0x3E000000#32 else k (ix1 ⟨j.val % 64, by omega⟩)

/-- The gains of the second queries and keys. -/
def gainB (q k : FVec Ideal S64 .f32) (j : Fin 512) : EReal :=
  if j.val < 256 then q (ix1 ⟨j.val % 64, by omega⟩) * Ideal.ofBits .f32 0x3E000000#32 else k (ix1 ⟨j.val % 64, by omega⟩)

/-- The table of the cosines. -/
def tabC (v : FVec Ideal S2048x2x16 .f32) (i : Fin 2048) (j : Fin 384) : EReal := v (ix3 i ⟨j.val / 32 % 2, by omega⟩ ⟨j.val % 16, by omega⟩)

/-- The table of the signed sines. -/
def tabS (v : FVec Ideal S2048x2x16 .f32) (i : Fin 2048) (j : Fin 384) : EReal :=
  if j.val % 32 < 16 then -v (ix3 i ⟨j.val / 32 % 2, by omega⟩ ⟨j.val % 16, by omega⟩) else v (ix3 i ⟨j.val / 32 % 2, by omega⟩ ⟨j.val % 16, by omega⟩)

/-- The first result. -/
def projAB (x : FVec Ideal S16384x1024 .f32) (g : FVec Ideal S1024 .f32) (mod : FVec Ideal S16x6144 .f32) (w : FVec Ideal S1024x3200 .f32)
    (aq ak bq bk : FVec Ideal S64 .f32) (cs sn : FVec Ideal S2048x2x16 .f32) : FVec Ideal S16384x1280 .bf16 :=
  fun y => abrow (proj x g mod w (y 0)) (gainA aq ak) (gainB bq bk) (tabC cs ⟨(y 0).val % 2048, by omega⟩) (tabS sn ⟨(y 0).val % 2048, by omega⟩) (y 1)

/-- The second result. -/
def projC (x : FVec Ideal S16384x1024 .f32) (g : FVec Ideal S1024 .f32) (mod : FVec Ideal S16x6144 .f32) (w : FVec Ideal S1024x3200 .f32) :
    FVec Ideal S16384x1920 .f32 :=
  fun y => proj x g mod w (y 0) ⟨1280 + (y 1).val, by have := (y 1).isLt; change _ < 1920 at this; omega⟩

variable (m : (ℓ : Loc nD τ sig) → Buf (Elt Ideal) ℓ)

/-- Every window's block index. -/
theorem idx : ∀ t : Fin cfg0.N,
    (grid0.coords t 0).val < 8 ∧ (grid0.coords t 1).val < 4
    ∧ win0_0.index t = ![(grid0.coords t 0).val * 4 + (grid0.coords t 1).val, 0]
    ∧ win0_1.index t = ![0, 0]
    ∧ win0_2.index t = ![(grid0.coords t 0).val, 0, 1]
    ∧ win0_3.index t = ![(grid0.coords t 0).val, 0, 0]
    ∧ win0_4.index t = ![0, 0]
    ∧ win0_5.index t = ![0, 0]
    ∧ win0_6.index t = ![0, 0]
    ∧ win0_7.index t = ![0, 0]
    ∧ win0_8.index t = ![(grid0.coords t 1).val, 0]
    ∧ win0_9.index t = ![(grid0.coords t 1).val, 0]
    ∧ win0_10.index t = ![(grid0.coords t 0).val * 4 + (grid0.coords t 1).val, 0]
    ∧ win0_11.index t = ![(grid0.coords t 0).val * 4 + (grid0.coords t 1).val, 0] :=
  (by decide +kernel : ∀ t : Fin grid0.N, _)

/-- The block of rows. -/
theorem read_x (c : Dev nD) (t : Fin cfg0.N) (r : Fin 512) (e : Fin 1024) :
    iblk m c 0 t (ix2 r e) = m ((c : Thread nD τ).loc main_arg0)
      (ix2 ⟨((grid0.coords t 0).val * 4 + (grid0.coords t 1).val) * 512 + r.val, by have := idx t; omega⟩ e) := by
  blk_ext [iblk, V, idx t]

/-- The gains of the rows. -/
theorem read_g (c : Dev nD) (t : Fin cfg0.N) (e : Fin 1024) :
    iblk m c 1 t (ix2 0 e) = m ((c : Thread nD τ).loc main_arg1) (ix1 e) := by
  blk_ext! [iblk, V, idx t]

/-- The scale of the modulation. -/
theorem read_sc (c : Dev nD) (t : Fin cfg0.N) (e : Fin 1024) :
    iblk m c 2 t (ix3 0 0 e) = m ((c : Thread nD τ).loc main_arg2)
      (ix2 ⟨(grid0.coords t 0).val, by have := idx t; omega⟩ ⟨1024 + e.val, by omega⟩) := by
  blk_ext! [iblk, V, idx t]

/-- The shift of the modulation. -/
theorem read_sh (c : Dev nD) (t : Fin cfg0.N) (e : Fin 1024) :
    iblk m c 3 t (ix3 0 0 e) = m ((c : Thread nD τ).loc main_arg2)
      (ix2 ⟨(grid0.coords t 0).val, by have := idx t; omega⟩ ⟨e.val, by omega⟩) := by
  blk_ext! [iblk, V, idx t]

/-- The weights. -/
theorem read_w (c : Dev nD) (t : Fin cfg0.N) (k : Fin 1024) (e : Fin 3200) :
    iblk m c 4 t (ix2 k e) = m ((c : Thread nD τ).loc main_arg3) (ix2 k e) := by
  blk_ext! [iblk, V, idx t]

/-- Two sets of gains one after the other. -/
theorem gains (q k : Fin 64 → EReal) (e n : ℕ) (he : e < n) (x : EReal)
    (h : x = if h : e < 256 then q ⟨e % 64, by omega⟩ * Ideal.ofBits .f32 0x3E000000#32 else k ⟨(e - 256) % 64, by omega⟩) :
    x = if e < 256 then q ⟨e % 64, by omega⟩ * Ideal.ofBits .f32 0x3E000000#32 else k ⟨e % 64, by omega⟩ := by
  rw [h]
  by_cases h' : e < 256
  · rw [dif_pos h', if_pos h']
  · rw [dif_neg h', if_neg h']
    exact congrArg k (Fin.ext (by dsimp only; omega))

/-- The gains of the first queries and keys. -/
theorem read_ga (c : Dev nD) (t : Fin cfg0.N) (e : Fin 384) :
    iblk m c 5 t (ix2 0 e) = gainA (m ((c : Thread nD τ).loc main_arg4)) (m ((c : Thread nD τ).loc main_arg5)) e := by
  have h : iblk m c 5 t (ix2 0 e) = V m c main_v9 (ix2 0 e) := by blk_ext [iblk, idx t]
  refine gains (fun i => (m ((c : Thread nD τ).loc main_arg4) : FVec Ideal S64 .f32) (ix1 i)) (fun i => (m ((c : Thread nD τ).loc main_arg5) : FVec Ideal S64 .f32) (ix1 i)) e.val 384 e.isLt _ (h.trans ?_)
  unfold V
  entry_read
  pointwise

/-- The gains of the second queries and keys. -/
theorem read_gb (c : Dev nD) (t : Fin cfg0.N) (e : Fin 512) :
    iblk m c 6 t (ix2 0 e) = gainB (m ((c : Thread nD τ).loc main_arg6)) (m ((c : Thread nD τ).loc main_arg7)) e := by
  have h : iblk m c 6 t (ix2 0 e) = V m c main_v19 (ix2 0 e) := by blk_ext [iblk, idx t]
  refine gains (fun i => (m ((c : Thread nD τ).loc main_arg6) : FVec Ideal S64 .f32) (ix1 i)) (fun i => (m ((c : Thread nD τ).loc main_arg7) : FVec Ideal S64 .f32) (ix1 i)) e.val 512 e.isLt _ (h.trans ?_)
  unfold V
  entry_read
  pointwise

/-- The ones of the segments. -/
theorem read_bd (c : Dev nD) (t : Fin cfg0.N) : Ones (iblk m c 7 t) := by
  intro k j
  have h : iblk m c 7 t (ix2 k j) = V m c main_cst (ix2 k j) := by blk_ext [iblk, idx t]
  refine h.trans (Eq.trans ?_ (ones k j))
  unfold V
  entry_read
  rfl

/-- Four sets of sixteen lanes side by side. -/
def cat4 (a b c d : FVec Ideal S2048x16 .f32) : FVec Ideal S2048x64 .f32 :=
  concatenate S2048x64 1 [⟨S2048x16, a⟩, ⟨S2048x16, b⟩, ⟨S2048x16, c⟩, ⟨S2048x16, d⟩] concatenates_S2048x16_S2048x16_S2048x16_S2048x16_S2048x64_d1

/-- Sixty-four lanes, six times. -/
def tile6 (v : FVec Ideal S2048x64 .f32) : FVec Ideal S2048x384 .f32 :=
  shapeCast S2048x384 (broadcastInDim S1x2048x6x64 ![0, 1, 2, 3] bcast_S1x2048x1x64_S1x2048x6x64_0_1_2_3
    (shapeCast S1x2048x1x64 v shapeCasts_S2048x64_S1x2048x1x64 : FVec Ideal S1x2048x1x64 .f32)) shapeCasts_S1x2048x6x64_S2048x384

/-- One of the two axes of a table. -/
def part (o : ℕ) (v : FVec Ideal S2048x2x16 .f32) (h : S2048x2x16.Slices ![0, o, 0] S2048x1x16) : FVec Ideal S2048x16 .f32 :=
  shapeCast S2048x16 (extractStridedSlice S2048x1x16 ![0, o, 0] v h) shapeCasts_S2048x1x16_S2048x16

/-- The repeated lanes at an index. -/
theorem tile6_apply (v : FVec Ideal S2048x64 .f32) (i : Fin 2048) (j : Fin 384) : tile6 v (ix2 i j) = v (ix2 i ⟨j.val % 64, by omega⟩) := by
  unfold tile6
  pointwise

/-- The lanes side by side at an index. -/
theorem cat4_apply (a b c d : FVec Ideal S2048x16 .f32) (i : Fin 2048) (j : Fin 64) : cat4 a b c d (ix2 i j)
    = if j.val < 16 then a (ix2 i ⟨j.val % 16, by omega⟩) else if j.val < 32 then b (ix2 i ⟨j.val % 16, by omega⟩) else
      if j.val < 48 then c (ix2 i ⟨j.val % 16, by omega⟩) else d (ix2 i ⟨j.val % 16, by omega⟩) := by
  unfold cat4
  pointwise
  have e1 : ∀ x y : Fin 16, x.val = y.val → x = y := fun _ _ h => Fin.ext h
  by_cases h1 : j.val < 16
  · rw [dif_pos h1, if_pos h1]; exact congrArg (fun x => a (ix2 i x)) (e1 _ _ (by dsimp only; omega))
  rw [dif_neg h1, if_neg h1]
  by_cases h2 : j.val < 32
  · rw [dif_pos (by omega), if_pos h2]; exact congrArg (fun x => b (ix2 i x)) (e1 _ _ (by dsimp only; omega))
  rw [dif_neg (by omega), if_neg h2]
  by_cases h3 : j.val < 48
  · rw [dif_pos (by omega), if_pos h3]; exact congrArg (fun x => c (ix2 i x)) (e1 _ _ (by dsimp only; omega))
  rw [dif_neg (by omega), if_neg h3]
  exact congrArg (fun x => d (ix2 i x)) (e1 _ _ (by dsimp only; omega))

/-- The first axis at an index. -/
theorem part0_apply (v : FVec Ideal S2048x2x16 .f32) (h : S2048x2x16.Slices ![0, 0, 0] S2048x1x16) (i : Fin 2048) (l : Fin 16) :
    part 0 v h (ix2 i l) = v (ix3 i 0 l) := by
  unfold part
  pointwise

/-- The second axis at an index. -/
theorem part1_apply (v : FVec Ideal S2048x2x16 .f32) (h : S2048x2x16.Slices ![0, 1, 0] S2048x1x16) (i : Fin 2048) (l : Fin 16) :
    part 1 v h (ix2 i l) = v (ix3 i 1 l) := by
  unfold part
  pointwise

/-- The table of the cosines, as the host makes it. -/
theorem V31 (c : Dev nD) : V m c main_v31 = tile6 (cat4 (part 0 (m ((c : Thread nD τ).loc main_arg8)) slices_S2048x2x16_S2048x1x16_0_0_0)
    (part 0 (m ((c : Thread nD τ).loc main_arg8)) slices_S2048x2x16_S2048x1x16_0_0_0) (part 1 (m ((c : Thread nD τ).loc main_arg8)) slices_S2048x2x16_S2048x1x16_0_1_0)
    (part 1 (m ((c : Thread nD τ).loc main_arg8)) slices_S2048x2x16_S2048x1x16_0_1_0)) := rfl

/-- The table of the signed sines, as the host makes it. -/
theorem V37 (c : Dev nD) : V m c main_v37 = tile6 (cat4 (Host.negf (part 0 (m ((c : Thread nD τ).loc main_arg9)) slices_S2048x2x16_S2048x1x16_0_0_0))
    (part 0 (m ((c : Thread nD τ).loc main_arg9)) slices_S2048x2x16_S2048x1x16_0_0_0) (Host.negf (part 1 (m ((c : Thread nD τ).loc main_arg9)) slices_S2048x2x16_S2048x1x16_0_1_0))
    (part 1 (m ((c : Thread nD τ).loc main_arg9)) slices_S2048x2x16_S2048x1x16_0_1_0)) := rfl

/-- The table of the cosines. -/
theorem read_cs (c : Dev nD) (t : Fin cfg0.N) (r : Fin 512) (j : Fin 384) :
    iblk m c 8 t (ix2 r j) = tabC (m ((c : Thread nD τ).loc main_arg8)) ⟨(grid0.coords t 1).val * 512 + r.val, by have := idx t; omega⟩ j := by
  have h : iblk m c 8 t (ix2 r j) = V m c main_v31 (ix2 ⟨(grid0.coords t 1).val * 512 + r.val, by have := idx t; omega⟩ j) := by blk_ext [iblk, idx t]
  refine h.trans ?_
  rw [V31 m c]
  refine (tile6_apply _ _ _).trans ((cat4_apply _ _ _ _ _ _).trans ?_)
  simp only [part0_apply, part1_apply]
  unfold tabC
  have hd : j.val / 32 % 2 = if j.val % 64 < 32 then 0 else 1 := by split <;> omega
  have e : ∀ (a b : Fin 2) (k l : Fin 16), a.val = b.val → k.val = l.val → (a, k) = (b, l) := fun a b k l h h' => by rw [Fin.ext h, Fin.ext h']
  by_cases h1 : j.val % 64 < 16
  · rw [if_pos h1]
    exact congrArg (fun p : Fin 2 × Fin 16 => m ((c : Thread nD τ).loc main_arg8) (ix3 _ p.1 p.2)) (e 0 _ _ _ (by show 0 = j.val / 32 % 2; omega) (by dsimp only; omega))
  rw [if_neg h1]
  by_cases h2 : j.val % 64 < 32
  · rw [if_pos h2]
    exact congrArg (fun p : Fin 2 × Fin 16 => m ((c : Thread nD τ).loc main_arg8) (ix3 _ p.1 p.2)) (e 0 _ _ _ (by show 0 = j.val / 32 % 2; omega) (by dsimp only; omega))
  rw [if_neg h2]
  refine Eq.trans (ite_self _) ?_
  exact congrArg (fun p : Fin 2 × Fin 16 => m ((c : Thread nD τ).loc main_arg8) (ix3 _ p.1 p.2)) (e 1 _ _ _ (by show 1 = j.val / 32 % 2; omega) (by dsimp only; omega))

/-- The table of the signed sines. -/
theorem read_sn (c : Dev nD) (t : Fin cfg0.N) (r : Fin 512) (j : Fin 384) :
    iblk m c 9 t (ix2 r j) = tabS (m ((c : Thread nD τ).loc main_arg9)) ⟨(grid0.coords t 1).val * 512 + r.val, by have := idx t; omega⟩ j := by
  have h : iblk m c 9 t (ix2 r j) = V m c main_v37 (ix2 ⟨(grid0.coords t 1).val * 512 + r.val, by have := idx t; omega⟩ j) := by blk_ext [iblk, idx t]
  refine h.trans ?_
  rw [V37 m c]
  refine (tile6_apply _ _ _).trans ((cat4_apply _ _ _ _ _ _).trans ?_)
  have n0 : ∀ (v : FVec Ideal S2048x16 .f32) (i : Fin 2048) (l : Fin 16), (Host.negf v : FVec Ideal S2048x16 .f32) (ix2 i l) = -(v (ix2 i l) : EReal) := fun _ _ _ => rfl
  simp only [n0, part0_apply, part1_apply]
  unfold tabS
  have hd : j.val / 32 % 2 = if j.val % 64 < 32 then 0 else 1 := by split <;> omega
  have e : ∀ (a b : Fin 2) (k l : Fin 16), a.val = b.val → k.val = l.val → (a, k) = (b, l) := fun a b k l h h' => by rw [Fin.ext h, Fin.ext h']
  by_cases h1 : j.val % 64 < 16
  · rw [if_pos h1, if_pos (by omega)]
    exact congrArg (fun p : Fin 2 × Fin 16 => Neg.neg (α := EReal) (m ((c : Thread nD τ).loc main_arg9) (ix3 _ p.1 p.2))) (e 0 _ _ _ (by show 0 = j.val / 32 % 2; omega) (by dsimp only; omega))
  rw [if_neg h1]
  by_cases h2 : j.val % 64 < 32
  · rw [if_pos h2, if_neg (by omega)]
    exact congrArg (fun p : Fin 2 × Fin 16 => m ((c : Thread nD τ).loc main_arg9) (ix3 _ p.1 p.2)) (e 0 _ _ _ (by show 0 = j.val / 32 % 2; omega) (by dsimp only; omega))
  rw [if_neg h2]
  by_cases h3 : j.val % 64 < 48
  · rw [if_pos h3, if_pos (by omega)]
    exact congrArg (fun p : Fin 2 × Fin 16 => Neg.neg (α := EReal) (m ((c : Thread nD τ).loc main_arg9) (ix3 _ p.1 p.2))) (e 1 _ _ _ (by show 1 = j.val / 32 % 2; omega) (by dsimp only; omega))
  rw [if_neg h3, if_neg (by omega)]
  exact congrArg (fun p : Fin 2 × Fin 16 => m ((c : Thread nD τ).loc main_arg9) (ix3 _ p.1 p.2)) (e 1 _ _ _ (by show 1 = j.val / 32 % 2; omega) (by dsimp only; omega))

/-- A row of the block's product is a row of the projection. -/
theorem acc_eq (c : Dev nD) (t : Fin cfg0.N) (r : Fin 512) :
    accb m c t r = proj (m ((c : Thread nD τ).loc main_arg0)) (m ((c : Thread nD τ).loc main_arg1)) (m ((c : Thread nD τ).loc main_arg2))
        (m ((c : Thread nD τ).loc main_arg3)) ⟨((grid0.coords t 0).val * 4 + (grid0.coords t 1).val) * 512 + r.val, by have := idx t; omega⟩ := by
  have h := idx t
  have e : (⟨(grid0.coords t 0).val, by omega⟩ : Fin 16)
      = ⟨(((grid0.coords t 0).val * 4 + (grid0.coords t 1).val) * 512 + r.val) / 2048, by omega⟩ := Fin.ext (by dsimp only; omega)
  funext k
  unfold accb proj hrow
  simp only [read_x m c t, read_g m c t, read_sc m c t, read_sh m c t, read_w m c t, e]

/-- Where the block of the first result lies. -/
theorem emb10 (t : Fin cfg0.N) (r : Fin 512) (k : Fin 1280) : (win0_10.blk t).view.emb (ix2 r k)
    = ix2 ⟨((grid0.coords t 0).val * 4 + (grid0.coords t 1).val) * 512 + r.val, by have := idx t; omega⟩ k := by
  funext i
  fin_cases i <;> refine Fin.ext ?_ <;> blk_simp [idx t] <;> rfl

/-- Where the block of the second result lies. -/
theorem emb11 (t : Fin cfg0.N) (r : Fin 512) (k : Fin 1920) : (win0_11.blk t).view.emb (ix2 r k)
    = ix2 ⟨((grid0.coords t 0).val * 4 + (grid0.coords t 1).val) * 512 + r.val, by have := idx t; omega⟩ k := by
  funext i
  fin_cases i <;> refine Fin.ext ?_ <;> blk_simp [idx t] <;> rfl

/-- The first array after the run. -/
theorem final10 (c : Dev nD) : (dats m 0 c).arrAt 10 cfg0.N
    = projAB (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) := by
  refine (dats m 0 c).arrAt_eq_of_covers 10 _ (by decide +kernel) fun t hf y => ?_
  blk_simp
  rw [after0_10]
  obtain ⟨r, k, rfl⟩ : ∃ (r : Fin 512) (k : Fin 1280), y = ix2 r k := ⟨y 0, y 1, by funext i; fin_cases i <;> rfl⟩
  refine (out10 m c t (read_bd m c t) (ix2 r k)).trans (Eq.trans ?_ (congrArg (projAB _ _ _ _ _ _ _ _ _ _) (emb10 t r k)).symm)
  have h := idx t
  have e : (⟨(grid0.coords t 1).val * 512 + r.val, by omega⟩ : Fin 2048)
      = ⟨(((grid0.coords t 0).val * 4 + (grid0.coords t 1).val) * 512 + r.val) % 2048, by omega⟩ := Fin.ext (by dsimp only; omega)
  show abrow (accb m c t r) (fun j => iblk m c 5 t (ix2 0 j)) (fun j => iblk m c 6 t (ix2 0 j)) (fun j => iblk m c 8 t (ix2 r j)) (fun j => iblk m c 9 t (ix2 r j)) k = _
  rw [acc_eq, funext (read_ga m c t), funext (read_gb m c t), funext (read_cs m c t r), funext (read_sn m c t r)]
  simp only [e]
  rfl

/-- The second array after the run. -/
theorem final11 (c : Dev nD) : (dats m 0 c).arrAt 11 cfg0.N
    = projC (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  obtain ⟨r, k, rfl⟩ : ∃ (r : Fin 512) (k : Fin 1920), y = ix2 r k := ⟨y 0, y 1, by funext i; fin_cases i <;> rfl⟩
  refine (out11 m c t r k).trans (Eq.trans ?_ (congrArg (projC _ _ _ _) (emb11 t r k)).symm)
  rw [acc_eq]
  rfl

end Cert.Projecting

end
-- ==== Proof.ProjRef.lean ====
/- The reference of the projection, read at an index: each head's norm, the rotation by halves, and the lanes put side by side. -/
module

public import proofs.«01_k».proof.Defs
public import proofs.«01_k».proof.Proof.Gen.InProjReferenceIdeal.Read
public import proofs.«01_k».proof.Proof.ProjArray

@[expose] public section

set_option maxRecDepth 16384

noncomputable section

namespace Cert.Projecting

open Idealize.ShloMosaic Cert.Rows

/-- The norm of a lane within its head, as the reference has it. -/
def rn (A : Fin 3200 → EReal) (g : EReal) (j : Fin 1024) : EReal :=
  A ⟨j.val, by omega⟩ * Ideal.rsqrt (Ideal.div (hs A j) (Ideal.ofBits .f32 0x42800000#32) + Ideal.ofBits .f32 0x358637BD#32) * g

/-- The rotation, as the reference has it. -/
def rot (q : Fin 384 → EReal) (cs sn : FVec Ideal Cert.InProjIdeal.S2048x2x16 .f32) (s : Fin 2048) (j : Fin 384) : EReal :=
  if j.val % 32 < 16 then q j * cs (ix3 s ⟨j.val / 32 % 2, by omega⟩ ⟨j.val % 16, by omega⟩)
    - q ⟨(j.val + 16) % 384, by omega⟩ * sn (ix3 s ⟨j.val / 32 % 2, by omega⟩ ⟨j.val % 16, by omega⟩)
  else q j * cs (ix3 s ⟨j.val / 32 % 2, by omega⟩ ⟨j.val % 16, by omega⟩)
    + q ⟨(j.val + 368) % 384, by omega⟩ * sn (ix3 s ⟨j.val / 32 % 2, by omega⟩ ⟨j.val % 16, by omega⟩)

/-- One row of the first result, as the reference has it. -/
def refrow (A : Fin 3200 → EReal) (x4 x5 x6 x7 : FVec Ideal Cert.InProjIdeal.S64 .f32) (x8 x9 : FVec Ideal Cert.InProjIdeal.S2048x2x16 .f32) (s : Fin 2048)
    (j : Fin 1280) : EReal :=
  if h : j.val < 256 then rot (fun i => rn A (x4 (ix1 ⟨i.val % 64, by omega⟩)) ⟨i.val, by omega⟩) x8 x9 s ⟨j.val, by omega⟩ * Ideal.ofBits .f32 0x3E000000#32
  else if h : j.val < 384 then rot (fun i => rn A (x5 (ix1 ⟨i.val % 64, by omega⟩)) ⟨i.val, by omega⟩) x8 x9 s ⟨j.val, by omega⟩
  else if j.val < 512 then A ⟨j.val, by omega⟩
  else if h : j.val < 768 then rn A (x6 (ix1 ⟨j.val % 64, by omega⟩)) ⟨j.val, by omega⟩ * Ideal.ofBits .f32 0x3E000000#32
  else if h : j.val < 1024 then rn A (x7 (ix1 ⟨j.val % 64, by omega⟩)) ⟨j.val, by omega⟩
  else A ⟨j.val, by omega⟩

section
open Cert.InProjReferenceIdeal Cert.InProjReferenceIdeal.Read

variable (x0 : FVec Ideal S16384x1024 .f32) (x1 : FVec Ideal S1024 .f32) (x2 : FVec Ideal S16x6144 .f32) (x3 : FVec Ideal S1024x3200 .f32)
  (x4 x5 x6 x7 : FVec Ideal S64 .f32) (x8 x9 : FVec Ideal S2048x2x16 .f32)

/-- The sum of the squares of a row. -/
theorem sq_apply (b : Fin 8) (s : Fin 2048) :
    val_main_v6 (F := Ideal) x0 (ix2 b s) = ∑ j, x0 (ix2 ⟨b.val * 2048 + s.val, by omega⟩ j) * x0 (ix2 ⟨b.val * 2048 + s.val, by omega⟩ j) := by
  unfold val_main_v6 val_main_v5 val_main_v4 val_main_cst
  pointwise
  skip

/-- The reciprocal root mean square of a row. -/
theorem v12_apply (b : Fin 8) (s : Fin 2048) :
    val_main_v12 (F := Ideal) x0 (ix3 b s 0)
      = Ideal.rsqrt (Ideal.div (∑ j, x0 (ix2 ⟨b.val * 2048 + s.val, by omega⟩ j) * x0 (ix2 ⟨b.val * 2048 + s.val, by omega⟩ j)) (Ideal.ofBits .f32 0x44800000#32)
        + Ideal.ofBits .f32 0x358637BD#32) := by
  unfold val_main_v12 val_main_v11 val_main_v10 val_main_v9 val_main_v8 val_main_v7 val_main_cst_0 val_main_cst_1
  pointwise
  exact congrArg (fun v => Ideal.rsqrt (Ideal.div v (Ideal.ofBits .f32 0x44800000#32) + Ideal.ofBits .f32 0x358637BD#32)) (sq_apply x0 b s)

/-- The modulated rows. -/
theorem v23_apply (b : Fin 8) (s : Fin 2048) (k : Fin 1024) :
    val_main_v23 (F := Ideal) x0 x1 x2 (ix3 b s k) = hrow x0 x1 x2 ⟨b.val * 2048 + s.val, by omega⟩ k := by
  have e : (⟨b.val, by omega⟩ : Fin 16) = ⟨(b.val * 2048 + s.val) / 2048, by omega⟩ := Fin.ext (by dsimp only; omega)
  refine Eq.trans (b := x0 (ix2 ⟨b.val * 2048 + s.val, by omega⟩ k) * val_main_v12 (F := Ideal) x0 (ix3 b s 0) * x1 (ix1 k)
    * (Ideal.ofBits .f32 0x3F800000#32 + x2 (ix2 ⟨b.val, by omega⟩ ⟨1024 + k.val, by omega⟩)) + x2 (ix2 ⟨b.val, by omega⟩ ⟨k.val, by omega⟩)) ?_ ?_
  · unfold val_main_v23 val_main_v22 val_main_v21 val_main_v20 val_main_v19 val_main_v18 val_main_v17 val_main_v16 val_main_v15 val_main_v14
      val_main_v13 val_main_v4 val_main_v3 val_main_v2 val_main_v1 val_main_v0 val_main_cst_2
    pointwise
  · rw [v12_apply, e]
    rfl

/-- The projection. -/
theorem v24_apply (b : Fin 8) (s : Fin 2048) (c : Fin 3200) :
    val_main_v24 (F := Ideal) x0 x1 x2 x3 (ix3 b s c) = proj x0 x1 x2 x3 ⟨b.val * 2048 + s.val, by omega⟩ c := by
  unfold val_main_v24
  pointwise
  exact Finset.sum_congr rfl fun k _ => by rw [v23_apply]

/-- One row of the projection. -/
def row24 (b : Fin 8) (s : Fin 2048) (c : Fin 3200) : EReal := val_main_v24 (F := Ideal) x0 x1 x2 x3 (ix3 b s c)

/-- The sum of the squares of a head. -/
theorem head_sum (A : Fin 3200 → EReal) (f : Fin 64 → Fin 3200) (j : Fin 1024) (hf : ∀ d, (f d).val = 64 * (j.val / 64) + d.val) :
    ∑ d : Fin 64, A (f d) * A (f d) = hs A j := by
  unfold hs
  refine Finset.sum_congr rfl fun d _ => ?_
  have e : f d = ⟨64 * (j.val / 64) + d.val, by omega⟩ := Fin.ext (hf d)
  rw [e]

/-- The norm of a lane is a function of the lane's number. -/
theorem rn_congr (A : Fin 3200 → EReal) (g : FVec Ideal S64 .f32) {l l' : Fin 64} {j j' : Fin 1024} (hl : l.val = l'.val) (hj : j.val = j'.val) :
    rn A (g (ix1 l)) j = rn A (g (ix1 l')) j' := by
  rw [Fin.ext hl, Fin.ext hj]

/-- The first queries, before the norm. -/
theorem v32_apply (b : Fin 8) (s : Fin 2048) (h : Fin 4) (l : Fin 64) :
    val_main_v32 (F := Ideal) x0 x1 x2 x3 (ix4 b s h l) = row24 x0 x1 x2 x3 b s ⟨h.val * 64 + l.val, by omega⟩ := by
  unfold val_main_v32 val_main_v25 row24
  pointwise
  skip

/-- The first queries: the sum of the squares of a head. -/
theorem v34_apply (b : Fin 8) (s : Fin 2048) (h : Fin 4) (l : Fin 64) :
    val_main_v34 (F := Ideal) x0 x1 x2 x3 (ix3 b s h) = hs (row24 x0 x1 x2 x3 b s) ⟨h.val * 64 + l.val, by omega⟩ := by
  refine Eq.trans ?_ (head_sum _ (fun d => ⟨h.val * 64 + d.val, by omega⟩) _ (fun d => by dsimp only; omega))
  unfold val_main_v34 val_main_v33 val_main_cst_3
  pointwise
  exact Finset.sum_congr rfl fun d _ => by rw [v32_apply]

/-- The first queries, after the norm. -/
theorem v45_apply (b : Fin 8) (s : Fin 2048) (h : Fin 4) (l : Fin 64) :
    val_main_v45 (F := Ideal) x0 x1 x2 x3 x4 (ix4 b s h l) = rn (row24 x0 x1 x2 x3 b s) (x4 (ix1 l)) ⟨h.val * 64 + l.val, by omega⟩ := by
  refine Eq.trans (b := val_main_v32 (F := Ideal) x0 x1 x2 x3 (ix4 b s h l) * Ideal.rsqrt (Ideal.div (val_main_v34 (F := Ideal) x0 x1 x2 x3 (ix3 b s h))
    (Ideal.ofBits .f32 0x42800000#32) + Ideal.ofBits .f32 0x358637BD#32) * x4 (ix1 l)) ?_ ?_
  · unfold val_main_v45 val_main_v44 val_main_v43 val_main_v42 val_main_v41 val_main_v40 val_main_v39 val_main_v38 val_main_v37 val_main_v36 val_main_v35 val_main_cst_4 val_main_cst_5
    pointwise
  · rw [v34_apply _ _ _ _ b s h l, v32_apply]
    rfl

/-- The first queries, by axis and half. -/
theorem v46_apply (b : Fin 8) (s : Fin 2048) (h : Fin 4) (a f : Fin 2) (i : Fin 16) :
    val_main_v46 (F := Ideal) x0 x1 x2 x3 x4 (ix6 b s h a f i) = val_main_v45 (F := Ideal) x0 x1 x2 x3 x4 (ix4 b s h ⟨a.val * 32 + f.val * 16 + i.val, by omega⟩) := by
  unfold val_main_v46
  pointwise
  skip

/-- The first queries: the first half after the rotation. -/
theorem v57_apply (b : Fin 8) (s : Fin 2048) (h : Fin 4) (a : Fin 2) (i : Fin 16) :
    val_main_v57 (F := Ideal) x0 x1 x2 x3 x4 x8 x9 (ix5 b s h a i) = val_main_v46 (F := Ideal) x0 x1 x2 x3 x4 (ix6 b s h a 0 i) * x8 (ix3 s a i)
      - val_main_v46 (F := Ideal) x0 x1 x2 x3 x4 (ix6 b s h a 1 i) * x9 (ix3 s a i) := by
  unfold val_main_v57 val_main_v56 val_main_v55 val_main_v54 val_main_v53 val_main_v52 val_main_v51 val_main_v50 val_main_v49 val_main_v48 val_main_v47
  pointwise
  skip

/-- The first queries: the second half after the rotation. -/
theorem v62_apply (b : Fin 8) (s : Fin 2048) (h : Fin 4) (a : Fin 2) (i : Fin 16) :
    val_main_v62 (F := Ideal) x0 x1 x2 x3 x4 x8 x9 (ix5 b s h a i) = val_main_v46 (F := Ideal) x0 x1 x2 x3 x4 (ix6 b s h a 1 i) * x8 (ix3 s a i)
      + val_main_v46 (F := Ideal) x0 x1 x2 x3 x4 (ix6 b s h a 0 i) * x9 (ix3 s a i) := by
  unfold val_main_v62 val_main_v61 val_main_v60 val_main_v59 val_main_v58 val_main_v52 val_main_v51 val_main_v50 val_main_v49 val_main_v48 val_main_v47
  pointwise
  skip

/-- The first queries, after the rotation. -/
theorem v66_apply (b : Fin 8) (s : Fin 2048) (h : Fin 4) (l : Fin 64) :
    val_main_v66 (F := Ideal) x0 x1 x2 x3 x4 x8 x9 (ix4 b s h l)
      = rot (fun i => rn (row24 x0 x1 x2 x3 b s) (x4 (ix1 ⟨i.val % 64, by omega⟩)) ⟨i.val, by omega⟩) x8 x9 s ⟨h.val * 64 + l.val, by omega⟩ := by
  have hh : ∀ (f : Fin 2) (i : Fin 384) (hi : i.val = (h.val * 64 + (l.val / 32 * 32 + f.val * 16 + l.val % 16))),
      val_main_v46 (F := Ideal) x0 x1 x2 x3 x4 (ix6 b s h ⟨l.val / 32, by omega⟩ f ⟨l.val % 16, by omega⟩)
        = rn (row24 x0 x1 x2 x3 b s) (x4 (ix1 ⟨i.val % 64, by omega⟩)) ⟨i.val, by omega⟩ := fun f i hi => by
    rw [v46_apply, v45_apply]
    exact rn_congr _ _ (by dsimp only; omega) (by dsimp only; omega)
  have ea : (⟨l.val / 32, by omega⟩ : Fin 2) = ⟨((h.val * 64 + l.val)) / 32 % 2, by omega⟩ := Fin.ext (by dsimp only; omega)
  have ei : (⟨l.val % 16, by omega⟩ : Fin 16) = ⟨((h.val * 64 + l.val)) % 16, by omega⟩ := Fin.ext (by dsimp only; omega)
  have e0 := hh 0
  have e1 := hh 1
  refine Eq.trans (b := if l.val / 16 % 2 < 1
      then val_main_v57 (F := Ideal) x0 x1 x2 x3 x4 x8 x9 (ix5 b s h ⟨l.val / 32, by omega⟩ ⟨l.val % 16, by omega⟩)
      else val_main_v62 (F := Ideal) x0 x1 x2 x3 x4 x8 x9 (ix5 b s h ⟨l.val / 32, by omega⟩ ⟨l.val % 16, by omega⟩)) ?_ ?_
  · unfold val_main_v66 val_main_v65 val_main_v64 val_main_v63
    pointwise
    rfl
  · unfold rot
    dsimp only
    by_cases hc : l.val / 16 % 2 < 1
    · rw [if_pos hc, if_pos (by omega), v57_apply, e0 ⟨h.val * 64 + l.val, by omega⟩ (by simp only [Fin.val_zero]; omega),
        e1 ⟨((h.val * 64 + l.val) + 16) % 384, by omega⟩ (by simp only [Fin.val_one]; omega)]
      simp only [ea, ei]
    · rw [if_neg hc, if_neg (by omega), v62_apply, e1 ⟨h.val * 64 + l.val, by omega⟩ (by simp only [Fin.val_one]; omega),
        e0 ⟨((h.val * 64 + l.val) + 368) % 384, by omega⟩ (by simp only [Fin.val_zero]; omega)]
      simp only [ea, ei]

/-- The first keys, before the norm. -/
theorem v69_apply (b : Fin 8) (s : Fin 2048) (h : Fin 2) (l : Fin 64) :
    val_main_v69 (F := Ideal) x0 x1 x2 x3 (ix4 b s h l) = row24 x0 x1 x2 x3 b s ⟨256 + (h.val * 64 + l.val), by omega⟩ := by
  unfold val_main_v69 val_main_v26 row24
  pointwise
  skip

/-- The first keys: the sum of the squares of a head. -/
theorem v71_apply (b : Fin 8) (s : Fin 2048) (h : Fin 2) (l : Fin 64) :
    val_main_v71 (F := Ideal) x0 x1 x2 x3 (ix3 b s h) = hs (row24 x0 x1 x2 x3 b s) ⟨256 + (h.val * 64 + l.val), by omega⟩ := by
  refine Eq.trans ?_ (head_sum _ (fun d => ⟨256 + (h.val * 64 + d.val), by omega⟩) _ (fun d => by dsimp only; omega))
  unfold val_main_v71 val_main_v70 val_main_cst_7
  pointwise
  exact Finset.sum_congr rfl fun d _ => by rw [v69_apply]

/-- The first keys, after the norm. -/
theorem v82_apply (b : Fin 8) (s : Fin 2048) (h : Fin 2) (l : Fin 64) :
    val_main_v82 (F := Ideal) x0 x1 x2 x3 x5 (ix4 b s h l) = rn (row24 x0 x1 x2 x3 b s) (x5 (ix1 l)) ⟨256 + (h.val * 64 + l.val), by omega⟩ := by
  refine Eq.trans (b := val_main_v69 (F := Ideal) x0 x1 x2 x3 (ix4 b s h l) * Ideal.rsqrt (Ideal.div (val_main_v71 (F := Ideal) x0 x1 x2 x3 (ix3 b s h))
    (Ideal.ofBits .f32 0x42800000#32) + Ideal.ofBits .f32 0x358637BD#32) * x5 (ix1 l)) ?_ ?_
  · unfold val_main_v82 val_main_v81 val_main_v80 val_main_v79 val_main_v78 val_main_v77 val_main_v76 val_main_v75 val_main_v74 val_main_v73 val_main_v72 val_main_cst_8 val_main_cst_9
    pointwise
  · rw [v71_apply _ _ _ _ b s h l, v69_apply]
    rfl

/-- The first keys, by axis and half. -/
theorem v83_apply (b : Fin 8) (s : Fin 2048) (h : Fin 2) (a f : Fin 2) (i : Fin 16) :
    val_main_v83 (F := Ideal) x0 x1 x2 x3 x5 (ix6 b s h a f i) = val_main_v82 (F := Ideal) x0 x1 x2 x3 x5 (ix4 b s h ⟨a.val * 32 + f.val * 16 + i.val, by omega⟩) := by
  unfold val_main_v83
  pointwise
  skip

/-- The first keys: the first half after the rotation. -/
theorem v94_apply (b : Fin 8) (s : Fin 2048) (h : Fin 2) (a : Fin 2) (i : Fin 16) :
    val_main_v94 (F := Ideal) x0 x1 x2 x3 x5 x8 x9 (ix5 b s h a i) = val_main_v83 (F := Ideal) x0 x1 x2 x3 x5 (ix6 b s h a 0 i) * x8 (ix3 s a i)
      - val_main_v83 (F := Ideal) x0 x1 x2 x3 x5 (ix6 b s h a 1 i) * x9 (ix3 s a i) := by
  unfold val_main_v94 val_main_v93 val_main_v92 val_main_v91 val_main_v90 val_main_v89 val_main_v88 val_main_v87 val_main_v86 val_main_v85 val_main_v84
  pointwise
  skip

/-- The first keys: the second half after the rotation. -/
theorem v99_apply (b : Fin 8) (s : Fin 2048) (h : Fin 2) (a : Fin 2) (i : Fin 16) :
    val_main_v99 (F := Ideal) x0 x1 x2 x3 x5 x8 x9 (ix5 b s h a i) = val_main_v83 (F := Ideal) x0 x1 x2 x3 x5 (ix6 b s h a 1 i) * x8 (ix3 s a i)
      + val_main_v83 (F := Ideal) x0 x1 x2 x3 x5 (ix6 b s h a 0 i) * x9 (ix3 s a i) := by
  unfold val_main_v99 val_main_v98 val_main_v97 val_main_v96 val_main_v95 val_main_v89 val_main_v88 val_main_v87 val_main_v86 val_main_v85 val_main_v84
  pointwise
  skip

/-- The first keys, after the rotation. -/
theorem v103_apply (b : Fin 8) (s : Fin 2048) (h : Fin 2) (l : Fin 64) :
    val_main_v103 (F := Ideal) x0 x1 x2 x3 x5 x8 x9 (ix4 b s h l)
      = rot (fun i => rn (row24 x0 x1 x2 x3 b s) (x5 (ix1 ⟨i.val % 64, by omega⟩)) ⟨i.val, by omega⟩) x8 x9 s ⟨256 + (h.val * 64 + l.val), by omega⟩ := by
  have hh : ∀ (f : Fin 2) (i : Fin 384) (hi : i.val = 256 + (h.val * 64 + (l.val / 32 * 32 + f.val * 16 + l.val % 16))),
      val_main_v83 (F := Ideal) x0 x1 x2 x3 x5 (ix6 b s h ⟨l.val / 32, by omega⟩ f ⟨l.val % 16, by omega⟩)
        = rn (row24 x0 x1 x2 x3 b s) (x5 (ix1 ⟨i.val % 64, by omega⟩)) ⟨i.val, by omega⟩ := fun f i hi => by
    rw [v83_apply, v82_apply]
    exact rn_congr _ _ (by dsimp only; omega) (by dsimp only; omega)
  have ea : (⟨l.val / 32, by omega⟩ : Fin 2) = ⟨(256 + (h.val * 64 + l.val)) / 32 % 2, by omega⟩ := Fin.ext (by dsimp only; omega)
  have ei : (⟨l.val % 16, by omega⟩ : Fin 16) = ⟨(256 + (h.val * 64 + l.val)) % 16, by omega⟩ := Fin.ext (by dsimp only; omega)
  have e0 := hh 0
  have e1 := hh 1
  refine Eq.trans (b := if l.val / 16 % 2 < 1
      then val_main_v94 (F := Ideal) x0 x1 x2 x3 x5 x8 x9 (ix5 b s h ⟨l.val / 32, by omega⟩ ⟨l.val % 16, by omega⟩)
      else val_main_v99 (F := Ideal) x0 x1 x2 x3 x5 x8 x9 (ix5 b s h ⟨l.val / 32, by omega⟩ ⟨l.val % 16, by omega⟩)) ?_ ?_
  · unfold val_main_v103 val_main_v102 val_main_v101 val_main_v100
    pointwise
    rfl
  · unfold rot
    dsimp only
    by_cases hc : l.val / 16 % 2 < 1
    · rw [if_pos hc, if_pos (by omega), v94_apply, e0 ⟨256 + (h.val * 64 + l.val), by omega⟩ (by simp only [Fin.val_zero]; omega),
        e1 ⟨(256 + (h.val * 64 + l.val) + 16) % 384, by omega⟩ (by simp only [Fin.val_one]; omega)]
      simp only [ea, ei]
    · rw [if_neg hc, if_neg (by omega), v99_apply, e1 ⟨256 + (h.val * 64 + l.val), by omega⟩ (by simp only [Fin.val_one]; omega),
        e0 ⟨(256 + (h.val * 64 + l.val) + 368) % 384, by omega⟩ (by simp only [Fin.val_zero]; omega)]
      simp only [ea, ei]

/-- The second queries, before the norm. -/
theorem v104_apply (b : Fin 8) (s : Fin 2048) (h : Fin 4) (l : Fin 64) :
    val_main_v104 (F := Ideal) x0 x1 x2 x3 (ix4 b s h l) = row24 x0 x1 x2 x3 b s ⟨512 + (h.val * 64 + l.val), by omega⟩ := by
  unfold val_main_v104 val_main_v28 row24
  pointwise
  skip

/-- The second queries: the sum of the squares of a head. -/
theorem v106_apply (b : Fin 8) (s : Fin 2048) (h : Fin 4) (l : Fin 64) :
    val_main_v106 (F := Ideal) x0 x1 x2 x3 (ix3 b s h) = hs (row24 x0 x1 x2 x3 b s) ⟨512 + (h.val * 64 + l.val), by omega⟩ := by
  refine Eq.trans ?_ (head_sum _ (fun d => ⟨512 + (h.val * 64 + d.val), by omega⟩) _ (fun d => by dsimp only; omega))
  unfold val_main_v106 val_main_v105 val_main_cst_10
  pointwise
  exact Finset.sum_congr rfl fun d _ => by rw [v104_apply]

/-- The second queries, after the norm. -/
theorem v117_apply (b : Fin 8) (s : Fin 2048) (h : Fin 4) (l : Fin 64) :
    val_main_v117 (F := Ideal) x0 x1 x2 x3 x6 (ix4 b s h l) = rn (row24 x0 x1 x2 x3 b s) (x6 (ix1 l)) ⟨512 + (h.val * 64 + l.val), by omega⟩ := by
  refine Eq.trans (b := val_main_v104 (F := Ideal) x0 x1 x2 x3 (ix4 b s h l) * Ideal.rsqrt (Ideal.div (val_main_v106 (F := Ideal) x0 x1 x2 x3 (ix3 b s h))
    (Ideal.ofBits .f32 0x42800000#32) + Ideal.ofBits .f32 0x358637BD#32) * x6 (ix1 l)) ?_ ?_
  · unfold val_main_v117 val_main_v116 val_main_v115 val_main_v114 val_main_v113 val_main_v112 val_main_v111 val_main_v110 val_main_v109 val_main_v108 val_main_v107 val_main_cst_11 val_main_cst_12
    pointwise
  · rw [v106_apply _ _ _ _ b s h l, v104_apply]
    rfl

/-- The second keys, before the norm. -/
theorem v120_apply (b : Fin 8) (s : Fin 2048) (h : Fin 4) (l : Fin 64) :
    val_main_v120 (F := Ideal) x0 x1 x2 x3 (ix4 b s h l) = row24 x0 x1 x2 x3 b s ⟨768 + (h.val * 64 + l.val), by omega⟩ := by
  unfold val_main_v120 val_main_v29 row24
  pointwise
  skip

/-- The second keys: the sum of the squares of a head. -/
theorem v122_apply (b : Fin 8) (s : Fin 2048) (h : Fin 4) (l : Fin 64) :
    val_main_v122 (F := Ideal) x0 x1 x2 x3 (ix3 b s h) = hs (row24 x0 x1 x2 x3 b s) ⟨768 + (h.val * 64 + l.val), by omega⟩ := by
  refine Eq.trans ?_ (head_sum _ (fun d => ⟨768 + (h.val * 64 + d.val), by omega⟩) _ (fun d => by dsimp only; omega))
  unfold val_main_v122 val_main_v121 val_main_cst_14
  pointwise
  exact Finset.sum_congr rfl fun d _ => by rw [v120_apply]

/-- The second keys, after the norm. -/
theorem v133_apply (b : Fin 8) (s : Fin 2048) (h : Fin 4) (l : Fin 64) :
    val_main_v133 (F := Ideal) x0 x1 x2 x3 x7 (ix4 b s h l) = rn (row24 x0 x1 x2 x3 b s) (x7 (ix1 l)) ⟨768 + (h.val * 64 + l.val), by omega⟩ := by
  refine Eq.trans (b := val_main_v120 (F := Ideal) x0 x1 x2 x3 (ix4 b s h l) * Ideal.rsqrt (Ideal.div (val_main_v122 (F := Ideal) x0 x1 x2 x3 (ix3 b s h))
    (Ideal.ofBits .f32 0x42800000#32) + Ideal.ofBits .f32 0x358637BD#32) * x7 (ix1 l)) ?_ ?_
  · unfold val_main_v133 val_main_v132 val_main_v131 val_main_v130 val_main_v129 val_main_v128 val_main_v127 val_main_v126 val_main_v125 val_main_v124 val_main_v123 val_main_cst_15 val_main_cst_16
    pointwise
  · rw [v122_apply _ _ _ _ b s h l, v120_apply]
    rfl

/-- The lanes of the first queries. -/
theorem v134_apply (b : Fin 8) (s : Fin 2048) (q : Fin 256) :
    val_main_v134 (F := Ideal) x0 x1 x2 x3 x4 x8 x9 (ix3 b s q)
      = rot (fun i => rn (row24 x0 x1 x2 x3 b s) (x4 (ix1 ⟨i.val % 64, by omega⟩)) ⟨i.val, by omega⟩) x8 x9 s ⟨q.val, by omega⟩ * Ideal.ofBits .f32 0x3E000000#32 := by
  refine Eq.trans (b := val_main_v66 (F := Ideal) x0 x1 x2 x3 x4 x8 x9 (ix4 b s ⟨q.val / 64, by omega⟩ ⟨q.val % 64, by omega⟩) * Ideal.ofBits .f32 0x3E000000#32) ?_ ?_
  · unfold val_main_v134 val_main_v68 val_main_v67 val_main_cst_6
    pointwise
  · rw [v66_apply]
    have e : (⟨q.val / 64 * 64 + q.val % 64, by omega⟩ : Fin 384) = ⟨q.val, by omega⟩ := Fin.ext (by dsimp only; omega)
    simp only [e]

/-- The lanes of the first keys. -/
theorem v135_apply (b : Fin 8) (s : Fin 2048) (q : Fin 128) :
    val_main_v135 (F := Ideal) x0 x1 x2 x3 x5 x8 x9 (ix3 b s q)
      = rot (fun i => rn (row24 x0 x1 x2 x3 b s) (x5 (ix1 ⟨i.val % 64, by omega⟩)) ⟨i.val, by omega⟩) x8 x9 s ⟨256 + q.val, by omega⟩ := by
  refine Eq.trans (b := val_main_v103 (F := Ideal) x0 x1 x2 x3 x5 x8 x9 (ix4 b s ⟨q.val / 64, by omega⟩ ⟨q.val % 64, by omega⟩)) ?_ ?_
  · unfold val_main_v135
    pointwise
  · rw [v103_apply]
    have e : (⟨256 + (q.val / 64 * 64 + q.val % 64), by omega⟩ : Fin 384) = ⟨256 + q.val, by omega⟩ := Fin.ext (by dsimp only; omega)
    simp only [e]

/-- The lanes of the second queries. -/
theorem v136_apply (b : Fin 8) (s : Fin 2048) (q : Fin 256) :
    val_main_v136 (F := Ideal) x0 x1 x2 x3 x6 (ix3 b s q)
      = rn (row24 x0 x1 x2 x3 b s) (x6 (ix1 ⟨q.val % 64, by omega⟩)) ⟨512 + q.val, by omega⟩ * Ideal.ofBits .f32 0x3E000000#32 := by
  refine Eq.trans (b := val_main_v117 (F := Ideal) x0 x1 x2 x3 x6 (ix4 b s ⟨q.val / 64, by omega⟩ ⟨q.val % 64, by omega⟩) * Ideal.ofBits .f32 0x3E000000#32) ?_ ?_
  · unfold val_main_v136 val_main_v119 val_main_v118 val_main_cst_13
    pointwise
  · rw [v117_apply]
    have e : (⟨512 + (q.val / 64 * 64 + q.val % 64), by omega⟩ : Fin 1024) = ⟨512 + q.val, by omega⟩ := Fin.ext (by dsimp only; omega)
    simp only [e]

/-- The lanes of the second keys. -/
theorem v137_apply (b : Fin 8) (s : Fin 2048) (q : Fin 256) :
    val_main_v137 (F := Ideal) x0 x1 x2 x3 x7 (ix3 b s q)
      = rn (row24 x0 x1 x2 x3 b s) (x7 (ix1 ⟨q.val % 64, by omega⟩)) ⟨768 + q.val, by omega⟩ := by
  refine Eq.trans (b := val_main_v133 (F := Ideal) x0 x1 x2 x3 x7 (ix4 b s ⟨q.val / 64, by omega⟩ ⟨q.val % 64, by omega⟩)) ?_ ?_
  · unfold val_main_v137
    pointwise
  · rw [v133_apply]
    have e : (⟨768 + (q.val / 64 * 64 + q.val % 64), by omega⟩ : Fin 1024) = ⟨768 + q.val, by omega⟩ := Fin.ext (by dsimp only; omega)
    simp only [e]

/-- The first values. -/
theorem v27_apply (b : Fin 8) (s : Fin 2048) (q : Fin 128) :
    val_main_v27 (F := Ideal) x0 x1 x2 x3 (ix3 b s q) = row24 x0 x1 x2 x3 b s ⟨384 + q.val, by omega⟩ := by
  unfold val_main_v27 row24
  pointwise
  skip

/-- The second values. -/
theorem v30_apply (b : Fin 8) (s : Fin 2048) (q : Fin 256) :
    val_main_v30 (F := Ideal) x0 x1 x2 x3 (ix3 b s q) = row24 x0 x1 x2 x3 b s ⟨1024 + q.val, by omega⟩ := by
  unfold val_main_v30 row24
  pointwise
  skip

/-- The lanes side by side. -/
theorem v138_apply (b : Fin 8) (s : Fin 2048) (j : Fin 1280) :
    val_main_v138 (F := Ideal) x0 x1 x2 x3 x4 x5 x6 x7 x8 x9 (ix3 b s j) = refrow (row24 x0 x1 x2 x3 b s) x4 x5 x6 x7 x8 x9 s j := by
  unfold val_main_v138
  pointwise
  unfold refrow
  by_cases h1 : j.val < 256
  · rw [dif_pos h1, dif_pos h1, v134_apply]
  rw [dif_neg h1, dif_neg h1]
  by_cases h2 : j.val < 384
  · have e : (⟨256 + (j.val - 256), by omega⟩ : Fin 384) = ⟨j.val, h2⟩ := Fin.ext (by dsimp only; omega)
    rw [dif_pos (by omega), dif_pos h2, v135_apply]
    simp only [e]
  rw [dif_neg (by omega), dif_neg h2]
  by_cases h3 : j.val < 512
  · have e : (⟨384 + (j.val - 256 - 128), by omega⟩ : Fin 3200) = ⟨j.val, by omega⟩ := Fin.ext (by dsimp only; omega)
    rw [dif_pos (by omega), if_pos h3, v27_apply]
    simp only [e]
  rw [dif_neg (by omega), if_neg h3]
  by_cases h4 : j.val < 768
  · rw [dif_pos (by omega), dif_pos h4, v136_apply]
    exact congrArg (fun v => v * Ideal.ofBits .f32 0x3E000000#32) (rn_congr _ _ (by dsimp only; omega) (by dsimp only; omega))
  rw [dif_neg (by omega), dif_neg h4]
  by_cases h5 : j.val < 1024
  · rw [dif_pos (by omega), dif_pos h5, v137_apply]
    exact rn_congr _ _ (by dsimp only; omega) (by dsimp only; omega)
  have e : (⟨1024 + (j.val - 256 - 128 - 128 - 256 - 256), by omega⟩ : Fin 3200) = ⟨j.val, by omega⟩ := Fin.ext (by dsimp only; omega)
  rw [dif_neg (by omega), dif_neg h5, v30_apply]
  simp only [e]

/-- A row of the reference's projection, by its number. -/
theorem row24_eq (r : Fin 16384) : row24 x0 x1 x2 x3 ⟨r.val / 2048, by omega⟩ ⟨r.val % 2048, by omega⟩ = proj x0 x1 x2 x3 r := by
  have e : (⟨r.val / 2048 * 2048 + r.val % 2048, by omega⟩ : Fin 16384) = r := Fin.ext (by dsimp only; omega)
  funext c
  have h := v24_apply x0 x1 x2 x3 ⟨r.val / 2048, by omega⟩ ⟨r.val % 2048, by omega⟩ c
  simp only [e] at h
  exact h

/-- The first result at an index. -/
theorem v140_apply (r : Fin 16384) (j : Fin 1280) :
    val_main_v140 (F := Ideal) x0 x1 x2 x3 x4 x5 x6 x7 x8 x9 (ix2 r j) = refrow (proj x0 x1 x2 x3 r) x4 x5 x6 x7 x8 x9 ⟨r.val % 2048, by omega⟩ j := by
  refine Eq.trans (b := val_main_v138 (F := Ideal) x0 x1 x2 x3 x4 x5 x6 x7 x8 x9 (ix3 ⟨r.val / 2048, by omega⟩ ⟨r.val % 2048, by omega⟩ j)) ?_ ?_
  · unfold val_main_v140 val_main_v139
    pointwise
  · rw [v138_apply, row24_eq]

/-- The second result. -/
theorem v141_eq : val_main_v141 (F := Ideal) x0 x1 x2 x3 = projC x0 x1 x2 x3 := by
  funext y
  obtain ⟨r, k, rfl⟩ : ∃ (r : Fin 16384) (k : Fin 1920), y = ix2 r k := ⟨y 0, y 1, by funext i; fin_cases i <;> rfl⟩
  refine Eq.trans (b := row24 x0 x1 x2 x3 ⟨r.val / 2048, by omega⟩ ⟨r.val % 2048, by omega⟩ ⟨1280 + k.val, by omega⟩) ?_ ?_
  · unfold val_main_v141 val_main_v31 row24
    pointwise
  · rw [row24_eq]
    rfl

end

end Cert.Projecting

end
-- ==== Proof.ProjNum.lean ====
/- The two ways of the norms and the rotation agree on finite values. -/
module

public import proofs.«01_k».proof.Proof.ProjRef

@[expose] public section

set_option maxRecDepth 16384

noncomputable section

namespace Cert.Projecting

open Idealize.ShloMosaic Cert.Rows

/-- The word of sixty-four. -/
theorem w64 : Ideal.ofBits .f32 0x42800000#32 = ((64 : ℝ) : EReal) := by
  simp [Ideal.ofBits, Ideal.ieee]
  rw [← EReal.coe_mul]
  norm_num

/-- The word of a sixty-fourth. -/
theorem wi64 : Ideal.ofBits .f32 0x3C800000#32 = ((1 / 64 : ℝ) : EReal) := by
  simp [Ideal.ofBits, Ideal.ieee]
  rw [← EReal.coe_mul]
  norm_num

/-- The word of an eighth is a number. -/
theorem w8 : Ideal.ofBits .f32 0x3E000000#32 = ((1 / 8 : ℝ) : EReal) := by
  simp [Ideal.ofBits, Ideal.ieee]
  rw [← EReal.coe_mul]
  norm_num

/-- An eighth is not negative. -/
theorem w8_nn : 0 ≤ Ideal.ofBits .f32 0x3E000000#32 := le_of_le_of_eq (EReal.coe_nonneg.mpr (by norm_num)) w8.symm

/-- An eighth is finite. -/
theorem w8_nt : Ideal.ofBits .f32 0x3E000000#32 ≠ ⊤ := fun h => EReal.coe_ne_top _ (w8.symm.trans h)

/-- One is finite. -/
theorem one_nt : (1 : EReal) ≠ ⊤ := EReal.coe_ne_top 1

/-- The squares of finite values sum to a number that is not negative. -/
theorem hs_real (A : Fin 3200 → EReal) (hA : ∀ i, i.val < 1024 → IsR (A i)) (j : Fin 1024) : ∃ r : ℝ, 0 ≤ r ∧ hs A j = (r : EReal) := by
  choose f hf using fun i : Fin 1024 => hA ⟨i.val, by omega⟩ i.isLt
  refine ⟨∑ d : Fin 64, f ⟨64 * (j.val / 64) + d.val, by omega⟩ * f ⟨64 * (j.val / 64) + d.val, by omega⟩, Finset.sum_nonneg fun d _ => mul_self_nonneg _, ?_⟩
  rw [coe_sum]
  exact Finset.sum_congr rfl fun d _ => by rw [EReal.coe_mul, ← hf]

/-- What the split of finite squares leaves over is nothing. -/
theorem hl_zero (A : Fin 3200 → EReal) (hA : ∀ i, i.val < 1024 → IsR (A i)) (j : Fin 1024) : hl A j = 0 :=
  Finset.sum_eq_zero fun _ _ => IsR.sub_self (IsR.mul (hA _ (by dsimp only; omega)) (hA _ (by dsimp only; omega)))

/-- The factor of a head's norm. -/
def nf (A : Fin 3200 → EReal) (j : Fin 1024) : EReal :=
  Ideal.rsqrt (Ideal.div (hs A j) (Ideal.ofBits .f32 0x42800000#32) + Ideal.ofBits .f32 0x358637BD#32)

/-- The factor is finite. -/
theorem nf_real (A : Fin 3200 → EReal) (hA : ∀ i, i.val < 1024 → IsR (A i)) (j : Fin 1024) : IsR (nf A j) := by
  obtain ⟨r, h0, hr⟩ := hs_real A hA j
  obtain ⟨e, he, hw⟩ := weps
  unfold nf
  rw [hr, w64, hw, divR _ _ (by norm_num), ← EReal.coe_add, IsR.rsqrt (by positivity)]
  exact ⟨_, rfl⟩

/-- The two norms are one on finite values. -/
theorem kn_eq (A : Fin 3200 → EReal) (hA : ∀ i, i.val < 1024 → IsR (A i)) (g : EReal) (j : Fin 1024) : kn A g j = A ⟨j.val, by omega⟩ * nf A j * g := by
  obtain ⟨r, h0, hr⟩ := hs_real A hA j
  unfold kn nf
  rw [hl_zero A hA j, add_zero, hr, w64, wi64, divR _ _ (by norm_num), ← EReal.coe_mul, mul_one_div]

/-- The reference's norm, by the factor. -/
theorem rn_eq (A : Fin 3200 → EReal) (g : EReal) (j : Fin 1024) : rn A g j = A ⟨j.val, by omega⟩ * nf A j * g := rfl

/-- The first half of the rotation, with a scale in the gain or after it. -/
theorem half0 {w : EReal} (h0 : 0 ≤ w) (ht : w ≠ ⊤) (a n g b m h c s : EReal) :
    a * n * (g * w) * c + b * m * (h * w) * -s = (a * n * g * c - b * m * h * s) * w := by
  rw [sub_eq_add_neg, EReal.right_distrib_of_nonneg_of_ne_top h0 ht]
  refine congrArg₂ (· + ·) (by ac_rfl) ?_
  rw [mul_neg, EReal.neg_mul]
  exact congrArg Neg.neg (by ac_rfl)

/-- The second half of the rotation, with a scale in the gain or after it. -/
theorem half1 {w : EReal} (h0 : 0 ≤ w) (ht : w ≠ ⊤) (a n g b m h c s : EReal) :
    a * n * (g * w) * c + b * m * (h * w) * s = (a * n * g * c + b * m * h * s) * w := by
  rw [EReal.right_distrib_of_nonneg_of_ne_top h0 ht]
  exact congrArg₂ (· + ·) (by ac_rfl) (by ac_rfl)

/-- The rotation of one set of heads: the gain may carry a scale. -/
theorem rope_eq (A : Fin 3200 → EReal) (hA : ∀ i, i.val < 1024 → IsR (A i)) (ga : Fin 384 → EReal) (g : FVec Ideal Cert.InProjIdeal.S64 .f32)
    {w : EReal} (h0 : 0 ≤ w) (ht : w ≠ ⊤) (x8 x9 : FVec Ideal Cert.InProjIdeal.S2048x2x16 .f32) (s : Fin 2048) (j : Fin 384)
    (hga : ∀ i : Fin 384, i.val / 64 = j.val / 64 → ga i = g (ix1 ⟨i.val % 64, by omega⟩) * w) :
    rope (fun i => kn A (ga i) ⟨i.val, by omega⟩) (tabC x8 s) (tabS x9 s) j
      = rot (fun i => rn A (g (ix1 ⟨i.val % 64, by omega⟩)) ⟨i.val, by omega⟩) x8 x9 s j * w := by
  have hk : (fun i : Fin 384 => kn A (ga i) ⟨i.val, by omega⟩) = fun i => A ⟨i.val, by omega⟩ * nf A ⟨i.val, by omega⟩ * ga i :=
    funext fun i => kn_eq A hA _ _
  have hr : ∀ k : Fin 384, (⟨(j.val + 384 - 368) % 384, by omega⟩ : Fin 384) = k → ga k = g (ix1 ⟨k.val % 64, by omega⟩) * w →
      (fun i : Fin 384 => A ⟨i.val, by omega⟩ * nf A ⟨i.val, by omega⟩ * ga i) ⟨(j.val + 384 - 368) % 384, by omega⟩
        = A ⟨k.val, by omega⟩ * nf A ⟨k.val, by omega⟩ * (g (ix1 ⟨k.val % 64, by omega⟩) * w) := fun k e h => by rw [e, ← h]
  have hl : ∀ k : Fin 384, (⟨(j.val + 384 - 16) % 384, by omega⟩ : Fin 384) = k → ga k = g (ix1 ⟨k.val % 64, by omega⟩) * w →
      (fun i : Fin 384 => A ⟨i.val, by omega⟩ * nf A ⟨i.val, by omega⟩ * ga i) ⟨(j.val + 384 - 16) % 384, by omega⟩
        = A ⟨k.val, by omega⟩ * nf A ⟨k.val, by omega⟩ * (g (ix1 ⟨k.val % 64, by omega⟩) * w) := fun k e h => by rw [e, ← h]
  rw [hk]
  unfold rope rot tabC tabS
  by_cases h : j.val % 32 < 16
  · rw [if_pos h, if_pos h, if_pos h, hr ⟨(j.val + 16) % 384, by omega⟩ (Fin.ext (by dsimp only; omega)) (hga _ (by dsimp only; omega))]
    dsimp only
    rw [hga j rfl]
    exact half0 h0 ht _ _ _ _ _ _ _ _
  · rw [if_neg h, if_neg h, if_neg h, hl ⟨(j.val + 368) % 384, by omega⟩ (Fin.ext (by dsimp only; omega)) (hga _ (by dsimp only; omega))]
    dsimp only
    rw [hga j rfl]
    exact half1 h0 ht _ _ _ _ _ _ _ _

/-- One row of the first result, both ways. -/
theorem row_eq (A : Fin 3200 → EReal) (hA : ∀ i, i.val < 1024 → IsR (A i)) (x4 x5 x6 x7 : FVec Ideal Cert.InProjIdeal.S64 .f32)
    (x8 x9 : FVec Ideal Cert.InProjIdeal.S2048x2x16 .f32) (s : Fin 2048) (j : Fin 1280) :
    abrow A (gainA x4 x5) (gainB x6 x7) (tabC x8 s) (tabS x9 s) j = refrow A x4 x5 x6 x7 x8 x9 s j := by
  unfold refrow
  by_cases h1 : j.val < 256
  · rw [dif_pos h1, abrow_q _ _ _ _ _ _ (by omega)]
    refine rope_eq A hA _ x4 w8_nn w8_nt x8 x9 s _ fun i hi => ?_
    unfold gainA
    rw [if_pos (by dsimp only at hi; omega)]
  rw [dif_neg h1]
  by_cases h2 : j.val < 384
  · rw [dif_pos h2, abrow_q _ _ _ _ _ _ h2]
    refine (rope_eq A hA _ x5 zero_le_one one_nt x8 x9 s _ fun i hi => ?_).trans (mul_one _)
    unfold gainA
    rw [if_neg (by dsimp only at hi; omega), mul_one]
  rw [dif_neg h2]
  by_cases h3 : j.val < 512
  · rw [if_pos h3, abrow_v _ _ _ _ _ _ (by omega) (by omega)]
  rw [if_neg h3]
  by_cases h4 : j.val < 768
  · have e : (⟨(j.val - 512) % 64, by omega⟩ : Fin 64) = ⟨j.val % 64, by omega⟩ := Fin.ext (by dsimp only; omega)
    rw [dif_pos h4, abrow_k _ _ _ _ _ _ (by omega), kn_eq A hA, rn_eq]
    unfold gainB
    rw [if_pos (by dsimp only; omega), e, mul_assoc, mul_assoc, mul_assoc]
  rw [dif_neg h4]
  by_cases h5 : j.val < 1024
  · have e : (⟨(j.val - 512) % 64, by omega⟩ : Fin 64) = ⟨j.val % 64, by omega⟩ := Fin.ext (by dsimp only; omega)
    rw [dif_pos h5, abrow_k _ _ _ _ _ _ (by omega), kn_eq A hA, rn_eq]
    unfold gainB
    rw [if_neg (by dsimp only; omega), e]
  rw [dif_neg h5, abrow_v _ _ _ _ _ _ (by omega) (by omega)]

end Cert.Projecting

end
-- ==== Proof.ProjClaim.lean ====
/- The claims about the projection. -/
module

public import proofs.«01_k».proof.Defs
public import proofs.«01_k».proof.Proof.Gen.Pre_finite_projection
public import proofs.«01_k».proof.Proof.Gen.InProjIdeal.Value
public import proofs.«01_k».proof.Proof.Gen.InProjReferenceIdeal.Run
public import proofs.«01_k».proof.Proof.ProjNum
public import proofs.«01_k».proof.Proof.Finite
public import Idealize.ShloMosaic.Lib.Claim
public import Idealize.ShloMosaic.Adequacy
public import Idealize.ShloMosaic.Init

@[expose] public section

set_option maxRecDepth 16384

noncomputable section

namespace Cert.Projecting

open Idealize.ShloMosaic Idealize.SL.Sem Cert.Rows

section
open Cert.Pre_finite_projection

variable [Cert.Pre_finite_projection.Facts] (x0 : FVec Ideal S16384x1024 .f32) (x1 : FVec Ideal S1024 .f32) (x2 : FVec Ideal S16x6144 .f32)
  (x3 : FVec Ideal S1024x3200 .f32) (x4 x5 x6 x7 : FVec Ideal S64 .f32) (x8 x9 : FVec Ideal S2048x2x16 .f32)

/-- The rows are finite. -/
theorem x_fin (h : (fn (F := Ideal) x0 x1 x2 x3 x4 x5 x6 x7 x8 x9).1 = fun _ => 1#1) (r : Fin 16384) (k : Fin 1024) : IsR (x0 (ix2 r k)) := by
  have h' := congrFun h (ix2 r k)
  unfold fn fn_part1 at h'
  dsimp only at h'
  refine IsR.of _ (Cert.Finite.between _ (Eq.trans ?_ h'))
  symm
  pointwise

/-- The gains of the rows are finite. -/
theorem g_fin (h : (fn (F := Ideal) x0 x1 x2 x3 x4 x5 x6 x7 x8 x9).2.1 = fun _ => 1#1) (k : Fin 1024) : IsR (x1 (ix1 k)) := by
  have h' := congrFun h (ix1 k)
  unfold fn fn_part1 at h'
  dsimp only at h'
  refine IsR.of _ (Cert.Finite.between _ (Eq.trans ?_ h'))
  symm
  pointwise

/-- The modulation read is finite. -/
theorem mod_fin (h : (fn (F := Ideal) x0 x1 x2 x3 x4 x5 x6 x7 x8 x9).2.2.1 = fun _ => 1#1) (b : Fin 16) (hb : b.val < 8) (k : Fin 6144) (hk : k.val < 2048) :
    IsR (x2 (ix2 b k)) := by
  have h' := congrFun h (ix2 ⟨b.val, hb⟩ ⟨k.val, hk⟩)
  unfold fn fn_part1 at h'
  dsimp only at h'
  refine IsR.of _ (Cert.Finite.between _ (Eq.trans ?_ h'))
  symm
  pointwise

/-- The weights of the queries and keys are finite. -/
theorem w_fin (h : (fn (F := Ideal) x0 x1 x2 x3 x4 x5 x6 x7 x8 x9).2.2.2 = fun _ => 1#1) (k : Fin 1024) (c : Fin 3200) (hc : c.val < 1024) :
    IsR (x3 (ix2 k c)) := by
  have h' := congrFun h (ix2 k ⟨c.val, hc⟩)
  unfold fn fn_part1 at h'
  dsimp only at h'
  refine IsR.of _ (Cert.Finite.between _ (Eq.trans ?_ h'))
  symm
  pointwise

/-- The queries and keys are finite. -/
theorem proj_fin (h : (fn (F := Ideal) x0 x1 x2 x3 x4 x5 x6 x7 x8 x9).1 = (fun _ => 1#1) ∧ (fn (F := Ideal) x0 x1 x2 x3 x4 x5 x6 x7 x8 x9).2.1 = (fun _ => 1#1)
      ∧ (fn (F := Ideal) x0 x1 x2 x3 x4 x5 x6 x7 x8 x9).2.2.1 = (fun _ => 1#1) ∧ (fn (F := Ideal) x0 x1 x2 x3 x4 x5 x6 x7 x8 x9).2.2.2 = fun _ => 1#1)
    (r : Fin 16384) (c : Fin 3200) (hc : c.val < 1024) : IsR (proj x0 x1 x2 x3 r c) := by
  unfold proj hrow
  refine IsR.sum fun k => IsR.mul (IsR.mrow (fun i => x_fin _ _ _ _ _ _ _ _ _ _ h.1 _ _) (fun i => g_fin _ _ _ _ _ _ _ _ _ _ h.2.1 _) (fun i => ?_) (fun i => ?_) k)
    (w_fin _ _ _ _ _ _ _ _ _ _ h.2.2.2 _ _ hc)
  · exact mod_fin _ _ _ _ _ _ _ _ _ _ h.2.2.1 _ (by dsimp only; omega) _ (by dsimp only; omega)
  · exact mod_fin _ _ _ _ _ _ _ _ _ _ h.2.2.1 _ (by dsimp only; omega) _ (by dsimp only; omega)

/-- The first result is the kernel's, under the precondition. -/
theorem v140_eq (h : (fn (F := Ideal) x0 x1 x2 x3 x4 x5 x6 x7 x8 x9).1 = (fun _ => 1#1) ∧ (fn (F := Ideal) x0 x1 x2 x3 x4 x5 x6 x7 x8 x9).2.1 = (fun _ => 1#1)
      ∧ (fn (F := Ideal) x0 x1 x2 x3 x4 x5 x6 x7 x8 x9).2.2.1 = (fun _ => 1#1) ∧ (fn (F := Ideal) x0 x1 x2 x3 x4 x5 x6 x7 x8 x9).2.2.2 = fun _ => 1#1) :
    Cert.InProjReferenceIdeal.Read.val_main_v140 (F := Ideal) x0 x1 x2 x3 x4 x5 x6 x7 x8 x9 = projAB x0 x1 x2 x3 x4 x5 x6 x7 x8 x9 := by
  funext y
  obtain ⟨r, j, rfl⟩ : ∃ (r : Fin 16384) (j : Fin 1280), y = ix2 r j := ⟨y 0, y 1, by funext i; fin_cases i <;> rfl⟩
  exact (v140_apply x0 x1 x2 x3 x4 x5 x6 x7 x8 x9 r j).trans
    (row_eq (proj x0 x1 x2 x3 r) (fun i hi => proj_fin _ _ _ _ _ _ _ _ _ _ h r i hi) x4 x5 x6 x7 x8 x9 ⟨r.val % 2048, by omega⟩ j).symm

end

/-- At `Ideal` the kernel's two arrays and the reference's agree, under the precondition. -/
theorem algebraic : Cert.algebraic_InProjIdeal_InProjReferenceIdeal_pre_finite_projection := by
  pair_intro
  · run_from Cert.InProjIdeal.Value.run_blocks m g
  · run_from Cert.InProjReferenceIdeal.Value.run (F := Ideal) m' g'
    · obtain ⟨a0, a1, a2, a3, a4, a5, a6, a7, a8, a9⟩ := hagree c
      rw [final10 m c, Cert.InProjReferenceIdeal.Read.val_main_v140_eq, a0, a1, a2, a3, a4, a5, a6, a7, a8, a9]
      exact v140_eq _ _ _ _ _ _ _ _ _ _ (hpre c)
    · rw [final11 m c]
      refine (Cert.InProjReferenceIdeal.Read.val_main_v141_eq _ _ _ _).trans ?_
      exact v141_eq _ _ _ _

/-- The reference runs, keeps its arguments and ends quiescent. -/
theorem quiescent : Cert.quiescent_InProjReferenceIdeal := fun m ρ _ =>
  (θ_run Cert.InProjReferenceIdeal.defs _ _).mono (fun r h => ⟨fun c => (h c).2.2, Idealize.ShloMosaic.sem_eq_zero_of_no_sems (by decide) r.2⟩)
    (Cert.InProjReferenceIdeal.Value.run (F := Ideal) m ρ)

/-- The same under the precondition. -/
theorem quiescent_pre : Cert.quiescent_InProjReferenceIdeal_pre_finite_projection := fun m ρ _ => quiescent m ρ trivial

end Cert.Projecting

end
-- ==== Proof.OutBlock.lean ====
/- One block of the output projection: the group norm by sums over the ones of the segments, the three products, and the gated residual. -/
module

public import proofs.«01_k».proof.Proof.ProjBlock
public import proofs.«01_k».proof.Proof.Gen.OutProjIdeal.Value

@[expose] public section

set_option maxRecDepth 16384

noncomputable section

namespace Cert.Output

open Idealize.ShloMosaic Idealize.ShloMosaic.TcCoe Cert.OutProjIdeal Cert.OutProjIdeal.Gen Cert.Rows
open Cert.Projecting (seg Ones)

/-- The sum over the segment of a lane. -/
def sg (f : Fin 512 → EReal) (j : Fin 512) : EReal := ∑ d : Fin 64, f ⟨64 * (j.val / 64) + d.val, by omega⟩

/-- The kernel's mean over a segment: what the values and what their split leaves over sum to, by a sixty-fourth. -/
def kmean (f : Fin 512 → EReal) (j : Fin 512) : EReal := (sg f j + sg (fun i => f i - f i) j) * Ideal.ofBits .f32 0x3C800000#32

/-- The kernel's centred values. -/
def kyc (f : Fin 512 → EReal) (j : Fin 512) : EReal := f j - kmean f j

/-- The group norm times its factor, from the centred values and the mean of their squares. -/
def gn (f v : Fin 512 → EReal) (j : Fin 512) : EReal := f j * Ideal.rsqrt (v j + Ideal.ofBits .f32 0x3A27C5AC#32)

/-- One element of the result. -/
def orow (x gate : EReal) (oa ob : Fin 256 → EReal) (n lw lb bo g : Fin 512 → EReal) (w : Fin 1024 → EReal) : EReal :=
  x + gate * ((∑ k : Fin 256, oa k * w ⟨k.val, by omega⟩) + (∑ k : Fin 256, ob k * w ⟨256 + k.val, by omega⟩)
    + ∑ k : Fin 512, (n k * lw k + lb k + bo k) * g k * w ⟨512 + k.val, by omega⟩)

/-- The centred values. -/
theorem pay2_apply (v0 : Vec Ideal S256x256 .bf16) (h0 : Ones v0) (v1 v2 : Vec Ideal S512x512 .f32) (r j : Fin 512) :
    k0_pay2 (F := Ideal) v0 v1 v2 (ix2 r j) = kyc (fun i => v1 (ix2 r i) + v2 (ix2 r i)) j := by
  unfold k0_pay2
  pointwise
  unfold kyc kmean sg
  refine congrArg (fun v => v1 (ix2 r j) + v2 (ix2 r j) - v * Ideal.ofBits .f32 0x3C800000#32) ?_
  split
  · simp only [h0 _ _]
    rw [seg _ (j.val / 64) (by omega), seg _ (j.val / 64) (by omega)]
  · simp only [h0 _ _]
    rw [seg _ ((j.val - 256) / 64) (by omega), seg _ ((j.val - 256) / 64) (by omega)]
    have e : ∀ d : Fin 64, (⟨256 + (64 * ((j.val - 256) / 64) + d.val), by omega⟩ : Fin 512) = ⟨64 * (j.val / 64) + d.val, by omega⟩ :=
      fun d => Fin.ext (by dsimp only; omega)
    simp only [e]

/-- The mean of the squares of the centred values. -/
theorem pay3_apply (v0 : Vec Ideal S256x256 .bf16) (h0 : Ones v0) (v1 v2 : Vec Ideal S512x512 .f32) (r j : Fin 512) :
    k0_pay3 (F := Ideal) v0 v1 v2 (ix2 r j)
      = kmean (fun k => kyc (fun i => v1 (ix2 r i) + v2 (ix2 r i)) k * kyc (fun i => v1 (ix2 r i) + v2 (ix2 r i)) k) j := by
  have h2 : ∀ k, k0_pay2 (F := Ideal) v0 v1 v2 (ix2 r k) = kyc (fun i => v1 (ix2 r i) + v2 (ix2 r i)) k := pay2_apply v0 h0 v1 v2 r
  unfold k0_pay3
  generalize k0_pay2 (F := Ideal) v0 v1 v2 = p at h2
  pointwise
  unfold kmean sg
  refine congrArg (fun v => v * Ideal.ofBits .f32 0x3C800000#32) ?_
  split
  · simp only [h0 _ _, h2]
    rw [seg _ (j.val / 64) (by omega), seg _ (j.val / 64) (by omega)]
  · simp only [h0 _ _, h2]
    rw [seg _ ((j.val - 256) / 64) (by omega), seg _ ((j.val - 256) / 64) (by omega)]
    have e : ∀ d : Fin 64, (⟨256 + (64 * ((j.val - 256) / 64) + d.val), by omega⟩ : Fin 512) = ⟨64 * (j.val / 64) + d.val, by omega⟩ :=
      fun d => Fin.ext (by dsimp only; omega)
    simp only [e]

/-- The gated product. -/
theorem pay5_apply (v21 v39 v40 : FVec Ideal S512x512 .f32) (v44 v48 : Vec Ideal S1x512 .f32) (v52 v54 : Vec Ideal S512x512 .f32) (v57 : Vec Ideal S512x256 .bf16)
    (v58 : Vec Ideal S256x1024 .bf16) (v61 : Vec Ideal S512x256 .bf16) (v62 : Vec Ideal S256x1024 .bf16) (v66 : Vec Ideal S512x1024 .bf16) (v71 : Vec Ideal S1x1x1024 .f32)
    (r : Fin 512) (k : Fin 1024) :
    k0_pay5 (F := Ideal) v21 v39 v40 v44 v48 v52 v54 v57 v58 v61 v62 v66 v71 (ix2 r k)
      = v71 (ix3 0 0 k) * ((∑ i, v57 (ix2 r i) * v58 (ix2 i k)) + (∑ i, v61 (ix2 r i) * v62 (ix2 i k))
        + ∑ i : Fin 512, (v21 (ix2 r i) * Ideal.rsqrt (v39 (ix2 r i) + v40 (ix2 r i)) * v44 (ix2 0 i) + v48 (ix2 0 i) + v52 (ix2 r i)) * v54 (ix2 r i) * v66 (ix2 i k)) := by
  unfold k0_pay5
  pointwise

variable (x0 : Vec Ideal S512x1024 .f32) (x1 x2 : Vec Ideal S512x256 .bf16) (x3 x4 x5 x6 : Vec Ideal S512x512 .f32) (x7 x8 : Vec Ideal S1x512 .f32)
  (x9 : Vec Ideal S256x256 .bf16) (x10 : Vec Ideal S1024x1024 .bf16) (x11 : Vec Ideal S1x1x1024 .f32)

/-- One element of the block, from the blocks read. -/
def oblk (y : S512x1024.Idx) : EReal :=
  orow (x0 y) (x11 (ix3 0 0 (y 1))) (fun k => x1 (ix2 (y 0) k)) (fun k => x2 (ix2 (y 0) k))
    (gn (kyc fun i => x3 (ix2 (y 0) i) + x4 (ix2 (y 0) i))
      (kmean fun k => kyc (fun i => x3 (ix2 (y 0) i) + x4 (ix2 (y 0) i)) k * kyc (fun i => x3 (ix2 (y 0) i) + x4 (ix2 (y 0) i)) k))
    (fun k => x7 (ix2 0 k)) (fun k => x8 (ix2 0 k)) (fun k => x5 (ix2 (y 0) k)) (fun k => x6 (ix2 (y 0) k)) (fun k => x10 (ix2 k (y 1)))

/-- The rectangle of a whole block leaves an index where it is. -/
theorem e0 (a b : Fin 256) : r0_0.emb (ix2 a b) = ix2 a b := by
  funext i; fin_cases i <;> refine Fin.ext ?_ <;> show _ = _ <;> simp

/-- The same for the lanes of the norm. -/
theorem e1 (a b : Fin 512) : r0_1.emb (ix2 a b) = ix2 a b := by
  funext i; fin_cases i <;> refine Fin.ext ?_ <;> show _ = _ <;> simp

/-- The same for one row of them. -/
theorem e2 (b : Fin 512) : r0_2.emb (ix2 0 b) = ix2 0 b := by
  funext i; fin_cases i <;> refine Fin.ext ?_ <;> show _ = _ <;> simp

/-- The same for the heads of the attentions. -/
theorem e3 (a : Fin 512) (b : Fin 256) : r0_3.emb (ix2 a b) = ix2 a b := by
  funext i; fin_cases i <;> refine Fin.ext ?_ <;> show _ = _ <;> simp

/-- The first rows of the weights. -/
theorem e4 (a : Fin 256) (b : Fin 1024) : r0_4.emb (ix2 a b) = ix2 ⟨a.val, by omega⟩ b := by
  funext i; fin_cases i <;> refine Fin.ext ?_ <;> show _ = _ <;> simp

/-- The second rows of the weights. -/
theorem e5 (a : Fin 256) (b : Fin 1024) : r0_5.emb (ix2 a b) = ix2 ⟨256 + a.val, by omega⟩ b := by
  funext i; fin_cases i <;> refine Fin.ext ?_ <;> show _ = _ <;> simp

/-- The last rows of the weights. -/
theorem e6 (a : Fin 512) (b : Fin 1024) : r0_6.emb (ix2 a b) = ix2 ⟨512 + a.val, by omega⟩ b := by
  funext i; fin_cases i <;> refine Fin.ext ?_ <;> show _ = _ <;> simp

/-- The same for the rows. -/
theorem e7 (a : Fin 512) (b : Fin 1024) : r0_7.emb (ix2 a b) = ix2 a b := by
  funext i; fin_cases i <;> refine Fin.ext ?_ <;> show _ = _ <;> simp

/-- The same for the gate. -/
theorem e8 (b : Fin 1024) : r0_8.emb (ix3 0 0 b) = ix3 0 0 b := by
  funext i; fin_cases i <;> refine Fin.ext ?_ <;> show _ = _ <;> simp

/-- Loads of whole blocks read what the block holds, and loads of rows of the weights those rows. -/
theorem ld1 (X : Vec Ideal S512x512 .f32) (a b : Fin 512) : View.ld X r0_1 (ix2 a b) = X (ix2 a b) := congrArg X (e1 a b)

/-- A row of the norm's lanes. -/
theorem ld2 (X : Vec Ideal S1x512 .f32) (b : Fin 512) : View.ld X r0_2 (ix2 0 b) = X (ix2 0 b) := congrArg X (e2 b)

/-- The heads of the attentions. -/
theorem ld3 (X : Vec Ideal S512x256 .bf16) (a : Fin 512) (b : Fin 256) : View.ld X r0_3 (ix2 a b) = X (ix2 a b) := congrArg X (e3 a b)

/-- The first rows of the weights. -/
theorem ld4 (X : Vec Ideal S1024x1024 .bf16) (a : Fin 256) (b : Fin 1024) : View.ld X r0_4 (ix2 a b) = X (ix2 ⟨a.val, by omega⟩ b) := congrArg X (e4 a b)

/-- The second rows of the weights. -/
theorem ld5 (X : Vec Ideal S1024x1024 .bf16) (a : Fin 256) (b : Fin 1024) : View.ld X r0_5 (ix2 a b) = X (ix2 ⟨256 + a.val, by omega⟩ b) := congrArg X (e5 a b)

/-- The last rows of the weights. -/
theorem ld6 (X : Vec Ideal S1024x1024 .bf16) (a : Fin 512) (b : Fin 1024) : View.ld X r0_6 (ix2 a b) = X (ix2 ⟨512 + a.val, by omega⟩ b) := congrArg X (e6 a b)

/-- The rows. -/
theorem ld7 (X : Vec Ideal S512x1024 .f32) (a : Fin 512) (b : Fin 1024) : View.ld X r0_7 (ix2 a b) = X (ix2 a b) := congrArg X (e7 a b)

/-- The gate. -/
theorem ld8 (X : Vec Ideal S1x1x1024 .f32) (b : Fin 1024) : View.ld X r0_8 (ix3 0 0 b) = X (ix3 0 0 b) := congrArg X (e8 b)

/-- The whole block of the ones. -/
theorem w0 (X : Vec Ideal S256x256 .bf16) : View.ld X r0_0 = X := by
  funext y
  obtain ⟨a, b, rfl⟩ : ∃ (a b : Fin 256), y = ix2 a b := ⟨y 0, y 1, by funext i; fin_cases i <;> rfl⟩
  exact congrArg X (e0 a b)

/-- The whole block of the norm's lanes. -/
theorem w1 (X : Vec Ideal S512x512 .f32) : View.ld X r0_1 = X := by
  funext y
  obtain ⟨a, b, rfl⟩ : ∃ (a b : Fin 512), y = ix2 a b := ⟨y 0, y 1, by funext i; fin_cases i <;> rfl⟩
  exact ld1 X a b

/-- The whole row of the norm's lanes. -/
theorem w2 (X : Vec Ideal S1x512 .f32) : View.ld X r0_2 = X := by
  funext y
  obtain ⟨b, rfl⟩ : ∃ b : Fin 512, y = ix2 0 b := ⟨y 1, by funext i; fin_cases i; exacts [Subsingleton.elim (α := Fin 1) _ _, rfl]⟩
  exact ld2 X b

/-- The whole block of the attentions' heads. -/
theorem w3 (X : Vec Ideal S512x256 .bf16) : View.ld X r0_3 = X := by
  funext y
  obtain ⟨a, b, rfl⟩ : ∃ (a : Fin 512) (b : Fin 256), y = ix2 a b := ⟨y 0, y 1, by funext i; fin_cases i <;> rfl⟩
  exact ld3 X a b

/-- The whole block of the rows. -/
theorem w7 (X : Vec Ideal S512x1024 .f32) : View.ld X r0_7 = X := by
  funext y
  obtain ⟨a, b, rfl⟩ : ∃ (a : Fin 512) (b : Fin 1024), y = ix2 a b := ⟨y 0, y 1, by funext i; fin_cases i <;> rfl⟩
  exact ld7 X a b

/-- The whole gate. -/
theorem w8 (X : Vec Ideal S1x1x1024 .f32) : View.ld X r0_8 = X := by
  funext y
  obtain ⟨b, rfl⟩ : ∃ b : Fin 1024, y = ix3 0 0 b := ⟨y 2, by
    funext i; fin_cases i; exacts [Subsingleton.elim (α := Fin 1) _ _, Subsingleton.elim (α := Fin 1) _ _, rfl]⟩
  exact ld8 X b

/-- What the body leaves in the output's buffer. -/
theorem out12_apply (h9 : Ones x9) (r : Fin 512) (k : Fin 1024) :
    out0_12 (F := Ideal) x0 x1 x2 x3 x4 x5 x6 x7 x8 x9 x10 x11 (ix2 r k) = oblk x0 x1 x2 x3 x4 x5 x6 x7 x8 x10 x11 (ix2 r k) := by
  unfold out0_12
  rw [w0, w1, w1, w1, w1, w2, w2, w3, w3, w7, w8]
  refine View.canon_apply_of_pieces (Val := Elt Ideal) (S := S512x1024) (e := .f32) (oblk x0 x1 x2 x3 x4 x5 x6 x7 x8 x10 x11) _ ?_ (ix2 r k)
    (cover0_12 _ (ix2 r k))
  refine List.forall_mem_cons.2 ⟨fun x => ?_, List.forall_mem_nil _⟩
  obtain ⟨a, b, rfl⟩ : ∃ (a : Fin 512) (b : Fin 1024), x = ix2 a b := ⟨x 0, x 1, by funext i; fin_cases i <;> rfl⟩
  have h4 : ∀ i, k0_pay4 (F := Ideal) (ix2 a i) = Ideal.ofBits .f32 0x3A27C5AC#32 := fun i => by
    unfold k0_pay4
    pointwise
  show x0 (ix2 a b) + k0_pay5 (F := Ideal) _ _ _ _ _ _ _ _ _ _ _ _ _ (ix2 a b) = oblk x0 x1 x2 x3 x4 x5 x6 x7 x8 x10 x11 (r0_7.emb (ix2 a b))
  rw [pay5_apply, e7]
  simp only [pay2_apply _ h9, pay3_apply _ h9, h4]
  unfold oblk orow gn
  have l4 : ∀ i, View.ld x10 r0_4 (ix2 i b) = x10 (ix2 ⟨i.val, by omega⟩ b) := fun i => ld4 x10 i b
  have l5 : ∀ i, View.ld x10 r0_5 (ix2 i b) = x10 (ix2 ⟨256 + i.val, by omega⟩ b) := fun i => ld5 x10 i b
  have l6 : ∀ i, View.ld x10 r0_6 (ix2 i b) = x10 (ix2 ⟨512 + i.val, by omega⟩ b) := fun i => ld6 x10 i b
  refine congrArg (fun v => x0 (ix2 a b) + x11 (ix3 0 0 b) * v) (congrArg₂ _ (congrArg₂ _ (Finset.sum_congr rfl fun i _ => ?_) (Finset.sum_congr rfl fun i _ => ?_)) (Finset.sum_congr rfl fun i _ => ?_))
  · exact congrArg _ (l4 i)
  · exact congrArg _ (l5 i)
  · exact congrArg _ (l6 i)

end Cert.Output

end
-- ==== Proof.OnesOut.lean ====
/- The words of the output projection's literal of the segments' ones. -/
module

public import proofs.«01_k».proof.Proof.Gen.OutProjIdeal.Launch
public import proofs.«01_k».proof.Proof.OnesIn
public import Idealize.ShloMosaic.Lib.Pipeline.ValueKit.Point

@[expose] public section

set_option maxRecDepth 16384

noncomputable section

namespace Cert.Output

open Idealize.ShloMosaic Cert.OutProjIdeal
open Cert.Projecting (half one zero)

/-- The entries with ones in the first half. -/
theorem leafA (i : ℕ) : lit0t0_0 i = half 0 i := by
  unfold lit0t0_0 half
  have h : i % 128 < 128 := Nat.mod_lt _ (by decide)
  generalize i % 128 = r at h ⊢
  interval_cases r <;> rfl

/-- The entries with ones in the second half. -/
theorem leafB (i : ℕ) : lit0t0_128 i = half 1 i := by
  unfold lit0t0_128 half
  have h : i % 128 < 128 := Nat.mod_lt _ (by decide)
  generalize i % 128 = r at h ⊢
  interval_cases r <;> rfl

/-- The entries without ones. -/
theorem leafZ (i : ℕ) : lit0t0_1 i = half 2 i := by
  unfold lit0t0_1 half
  have h : i % 128 < 128 := Nat.mod_lt _ (by decide)
  generalize i % 128 = r at h ⊢
  interval_cases r <;> rfl

/-- The first 64 rows. -/
theorem rows0 (i : ℕ) : lit0t1_0 i = if i / 128 % 128 % 2 = 0 then half 0 i else half 2 i := by
  unfold lit0t1_0
  have h : i / 128 % 128 < 128 := Nat.mod_lt _ (by decide)
  generalize i / 128 % 128 = r at h ⊢
  interval_cases r <;> first | exact leafA i | exact leafZ i

/-- The second 64 rows. -/
theorem rows1 (i : ℕ) : lit0t1_1 i = if i / 128 % 128 % 2 = 0 then half 1 i else half 2 i := by
  unfold lit0t1_1
  have h : i / 128 % 128 < 128 := Nat.mod_lt _ (by decide)
  generalize i / 128 % 128 = r at h ⊢
  interval_cases r <;> first | exact leafB i | exact leafZ i

/-- The third 64 rows. -/
theorem rows2 (i : ℕ) : lit0t1_2 i = if i / 128 % 128 % 2 = 0 then half 2 i else half 0 i := by
  unfold lit0t1_2
  have h : i / 128 % 128 < 128 := Nat.mod_lt _ (by decide)
  generalize i / 128 % 128 = r at h ⊢
  interval_cases r <;> first | exact leafZ i | exact leafA i

/-- The fourth 64 rows. -/
theorem rows3 (i : ℕ) : lit0t1_3 i = if i / 128 % 128 % 2 = 0 then half 2 i else half 1 i := by
  unfold lit0t1_3
  have h : i / 128 % 128 < 128 := Nat.mod_lt _ (by decide)
  generalize i / 128 % 128 = r at h ⊢
  interval_cases r <;> first | exact leafZ i | exact leafB i

/-- The literal at a row and a lane. -/
theorem words (k j : Fin 256) : lit0t (k.val * 256 + j.val) = if k.val / 64 = j.val / 64 then 0x3F80#16 else 0x0000#16 := by
  have h : (k.val * 256 + j.val) / 16384 = k.val / 64 := by omega
  have h4 : k.val / 64 < 4 := by omega
  unfold lit0t
  rw [h]
  generalize k.val / 64 = q at h h4 ⊢
  interval_cases q
  · refine (rows0 _).trans ?_
    unfold half
    split <;> split <;> split <;> first | rfl | omega
  · refine (rows1 _).trans ?_
    unfold half
    split <;> split <;> split <;> first | rfl | omega
  · refine (rows2 _).trans ?_
    unfold half
    split <;> split <;> split <;> first | rfl | omega
  · refine (rows3 _).trans ?_
    unfold half
    split <;> split <;> split <;> first | rfl | omega

/-- The literal's numbers: ones where row and lane are of one segment. -/
theorem ones (k j : Fin 256) : FloatOps.ofBits (F := Ideal) .bf16 (lit0 (S256x256.rowMajor (ix2 k j))) = if k.val / 64 = j.val / 64 then (1 : EReal) else 0 := by
  have h : lit0 (S256x256.rowMajor (ix2 k j)) = lit0t (k.val * 256 + j.val) := by
    refine congrArg lit0t ((Shape.rowMajor_val_two _).trans ?_)
    rfl
  rw [h, words]
  split
  · exact one
  · exact zero

end Cert.Output

end
-- ==== Proof.OutArray.lean ====
/- The array the output projection leaves, from its arguments. -/
module

public import proofs.«01_k».proof.Proof.OutBlock
public import proofs.«01_k».proof.Proof.OnesOut

@[expose] public section

set_option maxRecDepth 16384

noncomputable section

namespace Cert.Output

open Idealize.ShloMosaic Idealize.ShloMosaic.TcCoe Cert.OutProjIdeal Cert.OutProjIdeal.Gen Cert.Rows
open Idealize.ShloMosaic.Pipeline (Dat)
open Cert.Projecting (Ones)

/-- One element of the result, from the arguments. -/
def oelt (x : FVec Ideal S16384x1024 .f32) (oa ob : FVec Ideal S16384x256 .bf16) (yf yb bo g : FVec Ideal S16384x512 .f32) (lw lb : FVec Ideal S512 .f32)
    (w : FVec Ideal S1024x1024 .f32) (mod : FVec Ideal S16x6144 .f32) (r : Fin 16384) (k : Fin 1024) : EReal :=
  orow (x (ix2 r k)) (mod (ix2 ⟨r.val / 2048, by omega⟩ ⟨2048 + k.val, by omega⟩)) (fun i => oa (ix2 r i)) (fun i => ob (ix2 r i))
    (gn (kyc fun i => yf (ix2 r i) + yb (ix2 r i))
      (kmean fun l => kyc (fun i => yf (ix2 r i) + yb (ix2 r i)) l * kyc (fun i => yf (ix2 r i) + yb (ix2 r i)) l))
    (fun i => lw (ix1 i)) (fun i => lb (ix1 i)) (fun i => bo (ix2 r i)) (fun i => g (ix2 r i)) (fun i => w (ix2 i k))

/-- The result. -/
def outs (x : FVec Ideal S16384x1024 .f32) (oa ob : FVec Ideal S16384x256 .bf16) (yf yb bo g : FVec Ideal S16384x512 .f32) (lw lb : FVec Ideal S512 .f32)
    (w : FVec Ideal S1024x1024 .f32) (mod : FVec Ideal S16x6144 .f32) : FVec Ideal S16384x1024 .f32 :=
  fun y => oelt x oa ob yf yb bo g lw lb w mod (y 0) (y 1)

/-- A block whose reads are the arguments' has the result's elements. -/
theorem oblk_eq (x0 : Vec Ideal S512x1024 .f32) (x1 x2 : Vec Ideal S512x256 .bf16) (x3 x4 x5 x6 : Vec Ideal S512x512 .f32) (x7 x8 : Vec Ideal S1x512 .f32)
    (x10 : Vec Ideal S1024x1024 .bf16) (x11 : Vec Ideal S1x1x1024 .f32)
    (x : FVec Ideal S16384x1024 .f32) (oa ob : FVec Ideal S16384x256 .bf16) (yf yb bo g : FVec Ideal S16384x512 .f32) (lw lb : FVec Ideal S512 .f32)
    (w : FVec Ideal S1024x1024 .f32) (mod : FVec Ideal S16x6144 .f32) (a : Fin 512) (r : Fin 16384) (k : Fin 1024)
    (h0 : x0 (ix2 a k) = x (ix2 r k)) (h1 : ∀ i, x1 (ix2 a i) = oa (ix2 r i)) (h2 : ∀ i, x2 (ix2 a i) = ob (ix2 r i))
    (h3 : ∀ i, x3 (ix2 a i) = yf (ix2 r i)) (h4 : ∀ i, x4 (ix2 a i) = yb (ix2 r i)) (h5 : ∀ i, x5 (ix2 a i) = bo (ix2 r i))
    (h6 : ∀ i, x6 (ix2 a i) = g (ix2 r i)) (h7 : ∀ i, x7 (ix2 0 i) = lw (ix1 i)) (h8 : ∀ i, x8 (ix2 0 i) = lb (ix1 i))
    (h10 : ∀ i, x10 (ix2 i k) = w (ix2 i k)) (h11 : x11 (ix3 0 0 k) = mod (ix2 ⟨r.val / 2048, by omega⟩ ⟨2048 + k.val, by omega⟩)) :
    oblk x0 x1 x2 x3 x4 x5 x6 x7 x8 x10 x11 (ix2 a k) = oelt x oa ob yf yb bo g lw lb w mod r k := by
  unfold oblk oelt
  simp only [show (ix2 a k) 0 = a from rfl, show (ix2 a k) 1 = k from rfl]
  rw [h0, h11, funext h1, funext h2, funext h5, funext h6, funext h7, funext h8, funext h10]
  simp only [h3, h4]

variable (m : (ℓ : Loc nD τ sig) → Buf (Elt Ideal) ℓ)

/-- Every window's block index. -/
theorem idx : ∀ t : Fin cfg0.N,
    (grid0.coords t 0).val < 8 ∧ (grid0.coords t 1).val < 4
    ∧ win0_0.index t = ![(grid0.coords t 0).val * 4 + (grid0.coords t 1).val, 0]
    ∧ win0_1.index t = ![(grid0.coords t 0).val * 4 + (grid0.coords t 1).val, 0]
    ∧ win0_2.index t = ![(grid0.coords t 0).val * 4 + (grid0.coords t 1).val, 0]
    ∧ win0_3.index t = ![(grid0.coords t 0).val * 4 + (grid0.coords t 1).val, 0]
    ∧ win0_4.index t = ![(grid0.coords t 0).val * 4 + (grid0.coords t 1).val, 0]
    ∧ win0_5.index t = ![(grid0.coords t 0).val * 4 + (grid0.coords t 1).val, 0]
    ∧ win0_6.index t = ![(grid0.coords t 0).val * 4 + (grid0.coords t 1).val, 0]
    ∧ win0_7.index t = ![0, 0]
    ∧ win0_8.index t = ![0, 0]
    ∧ win0_9.index t = ![0, 0]
    ∧ win0_10.index t = ![0, 0]
    ∧ win0_11.index t = ![(grid0.coords t 0).val, 0, 2]
    ∧ win0_12.index t = ![(grid0.coords t 0).val * 4 + (grid0.coords t 1).val, 0] :=
  (by decide +kernel : ∀ t : Fin grid0.N, _)

/-- The row of the arguments that a row of a block is. -/
def at' (t : Fin cfg0.N) (r : Fin 512) : Fin 16384 :=
  ⟨((grid0.coords t 0).val * 4 + (grid0.coords t 1).val) * 512 + r.val, by have := idx t; omega⟩

/-- The block of rows. -/
theorem read_x (c : Dev nD) (t : Fin cfg0.N) (r : Fin 512) (e : Fin 1024) :
    iblk m c 0 t (ix2 r e) = m ((c : Thread nD τ).loc main_arg0) (ix2 (at' t r) e) := by
  unfold at'
  blk_ext [iblk, V, idx t]

/-- The first attention's block. -/
theorem read_oa (c : Dev nD) (t : Fin cfg0.N) (r : Fin 512) (e : Fin 256) :
    iblk m c 1 t (ix2 r e) = m ((c : Thread nD τ).loc main_arg1) (ix2 (at' t r) e) := by
  unfold at'
  blk_ext [iblk, V, idx t]

/-- The second attention's block. -/
theorem read_ob (c : Dev nD) (t : Fin cfg0.N) (r : Fin 512) (e : Fin 256) :
    iblk m c 2 t (ix2 r e) = m ((c : Thread nD τ).loc main_arg2) (ix2 (at' t r) e) := by
  unfold at'
  blk_ext [iblk, V, idx t]

/-- The forward direction's block. -/
theorem read_yf (c : Dev nD) (t : Fin cfg0.N) (r : Fin 512) (e : Fin 512) :
    iblk m c 3 t (ix2 r e) = m ((c : Thread nD τ).loc main_arg3) (ix2 (at' t r) e) := by
  unfold at'
  blk_ext [iblk, V, idx t]

/-- The backward direction's block. -/
theorem read_yb (c : Dev nD) (t : Fin cfg0.N) (r : Fin 512) (e : Fin 512) :
    iblk m c 4 t (ix2 r e) = m ((c : Thread nD τ).loc main_arg4) (ix2 (at' t r) e) := by
  unfold at'
  blk_ext [iblk, V, idx t]

/-- The bonus's block. -/
theorem read_bo (c : Dev nD) (t : Fin cfg0.N) (r : Fin 512) (e : Fin 512) :
    iblk m c 5 t (ix2 r e) = m ((c : Thread nD τ).loc main_arg5) (ix2 (at' t r) e) := by
  unfold at'
  blk_ext [iblk, V, idx t]

/-- The gate's block. -/
theorem read_g (c : Dev nD) (t : Fin cfg0.N) (r : Fin 512) (e : Fin 512) :
    iblk m c 6 t (ix2 r e) = m ((c : Thread nD τ).loc main_arg6) (ix2 (at' t r) e) := by
  unfold at'
  blk_ext [iblk, V, idx t]

/-- The norm's factors. -/
theorem read_lw (c : Dev nD) (t : Fin cfg0.N) (e : Fin 512) :
    iblk m c 7 t (ix2 0 e) = m ((c : Thread nD τ).loc main_arg7) (ix1 e) := by
  blk_ext! [iblk, V, idx t]

/-- The norm's shifts. -/
theorem read_lb (c : Dev nD) (t : Fin cfg0.N) (e : Fin 512) :
    iblk m c 8 t (ix2 0 e) = m ((c : Thread nD τ).loc main_arg8) (ix1 e) := by
  blk_ext! [iblk, V, idx t]

/-- The ones of the segments. -/
theorem read_bd (c : Dev nD) (t : Fin cfg0.N) : Ones (iblk m c 9 t) := by
  intro k j
  have h : iblk m c 9 t (ix2 k j) = V m c main_cst (ix2 k j) := by blk_ext [iblk, idx t]
  refine h.trans (Eq.trans ?_ (ones k j))
  unfold V
  entry_read
  rfl

/-- The weights. -/
theorem read_w (c : Dev nD) (t : Fin cfg0.N) (k e : Fin 1024) :
    iblk m c 10 t (ix2 k e) = m ((c : Thread nD τ).loc main_arg9) (ix2 k e) := by
  blk_ext! [iblk, V, idx t]

/-- The gate of the residual. -/
theorem read_gate (c : Dev nD) (t : Fin cfg0.N) (e : Fin 1024) :
    iblk m c 11 t (ix3 0 0 e) = m ((c : Thread nD τ).loc main_arg10)
      (ix2 ⟨(grid0.coords t 0).val, by have := idx t; omega⟩ ⟨2048 + e.val, by omega⟩) := by
  blk_ext! [iblk, V, idx t]

/-- Where the block of the result lies. -/
theorem emb12 (t : Fin cfg0.N) (r : Fin 512) (k : Fin 1024) : (win0_12.blk t).view.emb (ix2 r k) = ix2 (at' t r) k := by
  funext i
  fin_cases i <;> refine Fin.ext ?_ <;> blk_simp [idx t] <;> rfl

/-- The array after the run. -/
theorem final12 (c : Dev nD) : (dats m 0 c).arrAt 12 cfg0.N
    = outs (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  refine (dats m 0 c).arrAt_eq_of_covers 12 _ (by decide +kernel) fun t hf y => ?_
  blk_simp
  rw [after0_12]
  obtain ⟨r, k, rfl⟩ : ∃ (r : Fin 512) (k : Fin 1024), y = ix2 r k := ⟨y 0, y 1, by funext i; fin_cases i <;> rfl⟩
  have h := idx t
  have e : (⟨(grid0.coords t 0).val, by omega⟩ : Fin 16) = ⟨(at' t r).val / 2048, by omega⟩ := Fin.ext (by unfold at'; dsimp only; omega)
  have hg := read_gate m c t k
  rw [e] at hg
  refine (out12_apply _ _ _ _ _ _ _ _ _ _ _ _ (read_bd m c t) r k).trans (Eq.trans ?_ (congrArg (outs _ _ _ _ _ _ _ _ _ _ _) (emb12 t r k)).symm)
  exact oblk_eq _ _ _ _ _ _ _ _ _ _ _ _ _ _ _ _ _ _ _ _ _ _ r (at' t r) k (read_x m c t r k) (read_oa m c t r) (read_ob m c t r) (read_yf m c t r)
    (read_yb m c t r) (read_bo m c t r) (read_g m c t r) (read_lw m c t) (read_lb m c t) (fun i => read_w m c t i k) hg

end Cert.Output

end
-- ==== Proof.OutRef.lean ====
/- The reference of the output projection, read at an index, and the two group norms on finite values. -/
module

public import proofs.«01_k».proof.Defs
public import proofs.«01_k».proof.Proof.Gen.OutProjReferenceIdeal.Read
public import proofs.«01_k».proof.Proof.OutArray
public import proofs.«01_k».proof.Proof.ProjNum

@[expose] public section

set_option maxRecDepth 16384

noncomputable section

namespace Cert.Output

open Idealize.ShloMosaic Cert.Rows
open Cert.Projecting (w64 wi64)

/-- The mean over a segment, as the reference has it. -/
def rmean (f : Fin 512 → EReal) (j : Fin 512) : EReal := Ideal.div (sg f j) (Ideal.ofBits .f32 0x42800000#32)

/-- The centred values, as the reference has them. -/
def ryc (f : Fin 512 → EReal) (j : Fin 512) : EReal := f j - rmean f j

/-- The sum over a segment, by the segment's number. -/
theorem sg_eq (f : Fin 512 → EReal) (i : Fin 64 → Fin 512) (j : Fin 512) (hi : ∀ d, (i d).val = 64 * (j.val / 64) + d.val) : ∑ d, f (i d) = sg f j := by
  unfold sg
  refine Finset.sum_congr rfl fun d _ => ?_
  have e : i d = ⟨64 * (j.val / 64) + d.val, by omega⟩ := Fin.ext (hi d)
  rw [e]

section
open Cert.OutProjReferenceIdeal Cert.OutProjReferenceIdeal.Read

variable (x0 : FVec Ideal S16384x1024 .f32) (x1 x2 : FVec Ideal S16384x256 .bf16) (x3 x4 x5 x6 : FVec Ideal S16384x512 .f32)
  (x7 x8 : FVec Ideal S512 .f32) (x9 : FVec Ideal S1024x1024 .f32) (x10 : FVec Ideal S16x6144 .f32)

/-- A row of the two directions' sum. -/
def ysum (r : Fin 16384) (i : Fin 512) : EReal := x3 (ix2 r i) + x4 (ix2 r i)

/-- The row's number, of a sequence and a token. -/
def rn (b : Fin 8) (s : Fin 2048) : Fin 16384 := ⟨b.val * 2048 + s.val, by omega⟩

/-- The sum of the directions, by heads. -/
theorem v1_apply (b : Fin 8) (s : Fin 2048) (h : Fin 8) (l : Fin 64) :
    val_main_v1 (F := Ideal) x3 x4 (ix4 b s h l) = ysum x3 x4 (rn b s) ⟨h.val * 64 + l.val, by omega⟩ := by
  unfold val_main_v1 val_main_v0 ysum rn
  pointwise

/-- The mean of a head. -/
theorem v5_apply (b : Fin 8) (s : Fin 2048) (h : Fin 8) (l : Fin 64) :
    val_main_v5 (F := Ideal) x3 x4 (ix4 b s h 0) = rmean (ysum x3 x4 (rn b s)) ⟨h.val * 64 + l.val, by omega⟩ := by
  have h1 := v1_apply x3 x4 b s h
  unfold val_main_v5 val_main_v4 val_main_v3 val_main_v2 val_main_cst val_main_cst_0
  generalize val_main_v1 (F := Ideal) x3 x4 = p at h1
  pointwise
  unfold rmean
  refine congrArg (fun v => Ideal.div v (Ideal.ofBits .f32 0x42800000#32)) ?_
  simp only [h1]
  exact sg_eq _ _ _ fun d => by dsimp only; omega

/-- The centred values. -/
theorem v7_apply (b : Fin 8) (s : Fin 2048) (h : Fin 8) (l : Fin 64) :
    val_main_v7 (F := Ideal) x3 x4 (ix4 b s h l) = ryc (ysum x3 x4 (rn b s)) ⟨h.val * 64 + l.val, by omega⟩ := by
  unfold ryc
  rw [← v1_apply, ← v5_apply]
  unfold val_main_v7 val_main_v6
  generalize val_main_v1 (F := Ideal) x3 x4 = p
  generalize val_main_v5 (F := Ideal) x3 x4 = q
  pointwise

/-- The centred values, once more. -/
theorem v14_apply (b : Fin 8) (s : Fin 2048) (h : Fin 8) (l : Fin 64) :
    val_main_v14 (F := Ideal) x3 x4 (ix4 b s h l) = ryc (ysum x3 x4 (rn b s)) ⟨h.val * 64 + l.val, by omega⟩ := by
  unfold ryc
  rw [← v1_apply, ← v5_apply]
  unfold val_main_v14 val_main_v13
  generalize val_main_v1 (F := Ideal) x3 x4 = p
  generalize val_main_v5 (F := Ideal) x3 x4 = q
  pointwise

/-- The mean of the squares of a head. -/
theorem v12_apply (b : Fin 8) (s : Fin 2048) (h : Fin 8) (l : Fin 64) :
    val_main_v12 (F := Ideal) x3 x4 (ix4 b s h 0)
      = rmean (fun i => ryc (ysum x3 x4 (rn b s)) i * ryc (ysum x3 x4 (rn b s)) i) ⟨h.val * 64 + l.val, by omega⟩ := by
  have h1 := v7_apply x3 x4 b s h
  unfold val_main_v12 val_main_v11 val_main_v10 val_main_v9 val_main_v8 val_main_cst_1 val_main_cst_2
  generalize val_main_v7 (F := Ideal) x3 x4 = p at h1
  pointwise
  unfold rmean
  refine congrArg (fun v => Ideal.div v (Ideal.ofBits .f32 0x42800000#32)) ?_
  simp only [h1]
  exact sg_eq (fun i => ryc (ysum x3 x4 (rn b s)) i * ryc (ysum x3 x4 (rn b s)) i) (fun d => ⟨h.val * 64 + d.val, by omega⟩) _ fun d => by dsimp only; omega

/-- The group norm. -/
theorem v19_apply (b : Fin 8) (s : Fin 2048) (h : Fin 8) (l : Fin 64) :
    val_main_v19 (F := Ideal) x3 x4 (ix4 b s h l)
      = gn (ryc (ysum x3 x4 (rn b s))) (rmean fun i => ryc (ysum x3 x4 (rn b s)) i * ryc (ysum x3 x4 (rn b s)) i) ⟨h.val * 64 + l.val, by omega⟩ := by
  unfold gn
  rw [← v14_apply, ← v12_apply]
  unfold val_main_v19 val_main_v18 val_main_v17 val_main_v16 val_main_v15 val_main_cst_3
  generalize val_main_v14 (F := Ideal) x3 x4 = p
  generalize val_main_v12 (F := Ideal) x3 x4 = q
  pointwise

/-- The third head group's values. -/
theorem v30_apply (b : Fin 8) (s : Fin 2048) (j : Fin 512) :
    val_main_v30 (F := Ideal) x3 x4 x5 x6 x7 x8 (ix3 b s j)
      = (gn (ryc (ysum x3 x4 (rn b s))) (rmean fun i => ryc (ysum x3 x4 (rn b s)) i * ryc (ysum x3 x4 (rn b s)) i) j * x7 (ix1 j) + x8 (ix1 j)
        + x5 (ix2 (rn b s) j)) * x6 (ix2 (rn b s) j) := by
  have e : (⟨j.val / 64 * 64 + j.val % 64, by omega⟩ : Fin 512) = j := Fin.ext (by dsimp only; omega)
  have h := v19_apply x3 x4 b s ⟨j.val / 64, by omega⟩ ⟨j.val % 64, by omega⟩
  simp only [e] at h
  rw [← h]
  unfold val_main_v30 val_main_v29 val_main_v28 val_main_v27 val_main_v26 val_main_v25 val_main_v24 val_main_v23 val_main_v22 val_main_v21 val_main_v20 rn
  generalize val_main_v19 (F := Ideal) x3 x4 = p
  pointwise

/-- The first attention's lanes. -/
theorem v38_a (b : Fin 8) (s : Fin 2048) (k : Fin 256) :
    val_main_v38 (F := Ideal) x1 x2 x3 x4 x5 x6 x7 x8 (ix3 b s ⟨k.val, by omega⟩) = x1 (ix2 (rn b s) k) := by
  unfold val_main_v38 val_main_v35 val_main_v34 rn
  pointwise

/-- The second attention's lanes. -/
theorem v38_b (b : Fin 8) (s : Fin 2048) (k : Fin 256) :
    val_main_v38 (F := Ideal) x1 x2 x3 x4 x5 x6 x7 x8 (ix3 b s ⟨256 + k.val, by omega⟩) = x2 (ix2 (rn b s) k) := by
  unfold val_main_v38 val_main_v37 val_main_v36 rn
  pointwise

/-- The third group's lanes. -/
theorem v38_c (b : Fin 8) (s : Fin 2048) (k : Fin 512) :
    val_main_v38 (F := Ideal) x1 x2 x3 x4 x5 x6 x7 x8 (ix3 b s ⟨512 + k.val, by omega⟩) = val_main_v30 (F := Ideal) x3 x4 x5 x6 x7 x8 (ix3 b s k) := by
  unfold val_main_v38
  pointwise
  rw [dif_neg (by omega), dif_neg (by omega)]
  exact congrArg (fun i => val_main_v30 (F := Ideal) x3 x4 x5 x6 x7 x8 (ix3 b s i)) (Fin.ext (by dsimp only; omega))

/-- A sum over 1024 in three. -/
theorem sum3 (f : Fin 1024 → EReal) : ∑ k, f k
    = (∑ k : Fin 256, f ⟨k.val, by omega⟩) + (∑ k : Fin 256, f ⟨256 + k.val, by omega⟩) + ∑ k : Fin 512, f ⟨512 + k.val, by omega⟩ := by
  refine (Fin.sum_univ_add (a := 512) (b := 512) f).trans (congrArg₂ _ ((Fin.sum_univ_add (a := 256) (b := 256) fun k : Fin (256 + 256) => f (Fin.castAdd 512 k)).trans ?_) ?_)
  · rfl
  · rfl

/-- The product. -/
theorem v39_apply (b : Fin 8) (s : Fin 2048) (c : Fin 1024) :
    val_main_v39 (F := Ideal) x1 x2 x3 x4 x5 x6 x7 x8 x9 (ix3 b s c)
      = ∑ k, val_main_v38 (F := Ideal) x1 x2 x3 x4 x5 x6 x7 x8 (ix3 b s k) * x9 (ix2 k c) := by
  unfold val_main_v39
  generalize val_main_v38 (F := Ideal) x1 x2 x3 x4 x5 x6 x7 x8 = p
  pointwise

/-- The result at a row and a lane. -/
theorem v44_apply (r : Fin 16384) (c : Fin 1024) :
    val_main_v44 (F := Ideal) x0 x1 x2 x3 x4 x5 x6 x7 x8 x9 x10 (ix2 r c)
      = orow (x0 (ix2 r c)) (x10 (ix2 ⟨r.val / 2048, by omega⟩ ⟨2048 + c.val, by omega⟩)) (fun i => x1 (ix2 r i)) (fun i => x2 (ix2 r i))
        (gn (ryc (ysum x3 x4 r)) (rmean fun i => ryc (ysum x3 x4 r) i * ryc (ysum x3 x4 r) i))
        (fun i => x7 (ix1 i)) (fun i => x8 (ix1 i)) (fun i => x5 (ix2 r i)) (fun i => x6 (ix2 r i)) (fun i => x9 (ix2 i c)) := by
  have e : rn ⟨r.val / 2048, by omega⟩ ⟨r.val % 2048, by omega⟩ = r := Fin.ext (by unfold rn; dsimp only; omega)
  refine Eq.trans (b := x0 (ix2 r c) + x10 (ix2 ⟨r.val / 2048, by omega⟩ ⟨2048 + c.val, by omega⟩)
    * val_main_v39 (F := Ideal) x1 x2 x3 x4 x5 x6 x7 x8 x9 (ix3 ⟨r.val / 2048, by omega⟩ ⟨r.val % 2048, by omega⟩ c)) ?_ ?_
  · unfold val_main_v44 val_main_v43 val_main_v42 val_main_v41 val_main_v40 val_main_v33 val_main_v32 val_main_v31
    generalize val_main_v39 (F := Ideal) x1 x2 x3 x4 x5 x6 x7 x8 x9 = p
    pointwise
  · rw [v39_apply, sum3]
    simp only [v38_a, v38_b, v38_c, v30_apply, e]
    rfl

end

/-- A mean over a segment of finite values is finite. -/
theorem rmean_fin (f : Fin 512 → EReal) (hf : ∀ i, IsR (f i)) (j : Fin 512) : IsR (rmean f j) := by
  obtain ⟨r, hr⟩ : IsR (sg f j) := IsR.sum fun d => hf _
  unfold rmean
  rw [hr, w64, divR _ _ (by norm_num)]
  exact ⟨_, rfl⟩

/-- The two means are one on finite values. -/
theorem kmean_eq (f : Fin 512 → EReal) (hf : ∀ i, IsR (f i)) (j : Fin 512) : kmean f j = rmean f j := by
  obtain ⟨r, hr⟩ : IsR (sg f j) := IsR.sum fun d => hf _
  have h0 : sg (fun i => f i - f i) j = 0 := Finset.sum_eq_zero fun d _ => IsR.sub_self (hf _)
  unfold kmean rmean
  rw [h0, add_zero, hr, w64, wi64, divR _ _ (by norm_num), ← EReal.coe_mul, mul_one_div]

/-- The two centred values are one on finite values. -/
theorem kyc_eq (f : Fin 512 → EReal) (hf : ∀ i, IsR (f i)) : kyc f = ryc f := by
  funext j
  unfold kyc ryc
  rw [kmean_eq f hf]

/-- The centred values are finite. -/
theorem ryc_fin (f : Fin 512 → EReal) (hf : ∀ i, IsR (f i)) (j : Fin 512) : IsR (ryc f j) := by
  obtain ⟨a, ha⟩ := hf j
  obtain ⟨b, hb⟩ := rmean_fin f hf j
  unfold ryc
  rw [ha, hb]
  exact ⟨a - b, (EReal.coe_sub a b).symm⟩

/-- The two group norms are one on finite values. -/
theorem gn_eq (f : Fin 512 → EReal) (hf : ∀ i, IsR (f i)) :
    gn (kyc f) (kmean fun k => kyc f k * kyc f k) = gn (ryc f) (rmean fun k => ryc f k * ryc f k) := by
  rw [kyc_eq f hf]
  exact congrArg (gn (ryc f)) (funext fun j => kmean_eq _ (fun i => IsR.mul (ryc_fin f hf i) (ryc_fin f hf i)) j)

end Cert.Output

end
-- ==== Proof.OutClaim.lean ====
/- The claims about the output projection. -/
module

public import proofs.«01_k».proof.Defs
public import proofs.«01_k».proof.Proof.Gen.Pre_finite_outputs
public import proofs.«01_k».proof.Proof.Gen.OutProjIdeal.Value
public import proofs.«01_k».proof.Proof.Gen.OutProjReferenceIdeal.Run
public import proofs.«01_k».proof.Proof.OutRef
public import proofs.«01_k».proof.Proof.Finite
public import Idealize.ShloMosaic.Lib.Claim
public import Idealize.ShloMosaic.Adequacy
public import Idealize.ShloMosaic.Init

@[expose] public section

set_option maxRecDepth 16384

noncomputable section

namespace Cert.Output

open Idealize.ShloMosaic Idealize.SL.Sem Cert.Rows

section
open Cert.Pre_finite_outputs

variable [Cert.Pre_finite_outputs.Facts] (x0 : FVec Ideal S16384x1024 .f32) (x1 x2 : FVec Ideal S16384x256 .bf16)
  (x3 x4 x5 x6 : FVec Ideal S16384x512 .f32) (x7 x8 : FVec Ideal S512 .f32) (x9 : FVec Ideal S1024x1024 .f32) (x10 : FVec Ideal S16x6144 .f32)

/-- The forward direction's values are finite. -/
theorem yf_fin (h : (fn (F := Ideal) x0 x1 x2 x3 x4 x5 x6 x7 x8 x9 x10).1 = fun _ => 1#1) (r : Fin 16384) (k : Fin 512) : IsR (x3 (ix2 r k)) := by
  have h' := congrFun h (ix2 r k)
  unfold fn at h'
  dsimp only at h'
  refine IsR.of _ (Cert.Finite.between _ (Eq.trans ?_ h'))
  symm
  pointwise

/-- The backward direction's values are finite. -/
theorem yb_fin (h : (fn (F := Ideal) x0 x1 x2 x3 x4 x5 x6 x7 x8 x9 x10).2 = fun _ => 1#1) (r : Fin 16384) (k : Fin 512) : IsR (x4 (ix2 r k)) := by
  have h' := congrFun h (ix2 r k)
  unfold fn at h'
  dsimp only at h'
  refine IsR.of _ (Cert.Finite.between _ (Eq.trans ?_ h'))
  symm
  pointwise

/-- The reference's result is the kernel's, under the precondition. -/
theorem v44_eq (h : (fn (F := Ideal) x0 x1 x2 x3 x4 x5 x6 x7 x8 x9 x10).1 = (fun _ => 1#1) ∧ (fn (F := Ideal) x0 x1 x2 x3 x4 x5 x6 x7 x8 x9 x10).2 = fun _ => 1#1) :
    Cert.OutProjReferenceIdeal.Read.val_main_v44 (F := Ideal) x0 x1 x2 x3 x4 x5 x6 x7 x8 x9 x10 = outs x0 x1 x2 x3 x4 x5 x6 x7 x8 x9 x10 := by
  funext y
  obtain ⟨r, j, rfl⟩ : ∃ (r : Fin 16384) (j : Fin 1024), y = ix2 r j := ⟨y 0, y 1, by funext i; fin_cases i <;> rfl⟩
  refine (v44_apply x0 x1 x2 x3 x4 x5 x6 x7 x8 x9 x10 r j).trans ?_
  rw [← gn_eq (ysum x3 x4 r) fun i => IsR.add (yf_fin _ _ _ _ _ _ _ _ _ _ _ h.1 r i) (yb_fin _ _ _ _ _ _ _ _ _ _ _ h.2 r i)]
  rfl

end

/-- At `Ideal` the kernel's array and the reference's agree, under the precondition. -/
theorem algebraic : Cert.algebraic_OutProjIdeal_OutProjReferenceIdeal_pre_finite_outputs := by
  pair_intro
  · run_from Cert.OutProjIdeal.Value.run_blocks m g
  · run_from Cert.OutProjReferenceIdeal.Value.run (F := Ideal) m' g'
    obtain ⟨a0, a1, a2, a3, a4, a5, a6, a7, a8, a9, a10⟩ := hagree c
    rw [final12 m c, Cert.OutProjReferenceIdeal.Read.val_main_v44_eq, a0, a1, a2, a3, a4, a5, a6, a7, a8, a9, a10]
    exact v44_eq _ _ _ _ _ _ _ _ _ _ _ (hpre c)

/-- The reference runs, keeps its arguments and ends quiescent. -/
theorem quiescent : Cert.quiescent_OutProjReferenceIdeal := fun m ρ _ =>
  (θ_run Cert.OutProjReferenceIdeal.defs _ _).mono (fun r h => ⟨fun c => (h c).2, Idealize.ShloMosaic.sem_eq_zero_of_no_sems (by decide) r.2⟩)
    (Cert.OutProjReferenceIdeal.Value.run (F := Ideal) m ρ)

/-- The same under the precondition. -/
theorem quiescent_pre : Cert.quiescent_OutProjReferenceIdeal_pre_finite_outputs := fun m ρ _ => quiescent m ρ trivial

end Cert.Output

end
-- ==== Proof.PrepBlock.lean ====
/- One block of the recurrence's inputs, payload by payload. -/
module

public import proofs.«01_k».proof.Proof.OutBlock
public import proofs.«01_k».proof.Proof.Gen.PrepIdeal.Value

@[expose] public section

set_option maxRecDepth 16384

noncomputable section

namespace Cert.Preparing

open Idealize.ShloMosaic Idealize.ShloMosaic.TcCoe Cert.PrepIdeal Cert.PrepIdeal.Gen Cert.Rows
open Cert.Projecting (seg Ones)
open Cert.Output (sg)

/-- The kernel's product in three passes, of a row and a column. -/
def d3 (f w : Fin 128 → EReal) : EReal := (∑ k, f k * w k) + ((∑ k, (f k - f k) * w k) + ∑ k, f k * (w k - w k))

/-- The kernel's sum over a segment, of the values and what their split leaves over. -/
def ks (f : Fin 512 → EReal) (j : Fin 512) : EReal := sg f j + sg (fun i => f i - f i) j

/-- The normalised direction, from the scaled keys and the sums of their squares. -/
def dirn (f s : Fin 512 → EReal) (j : Fin 512) : EReal := Ideal.div (f j) (max (Ideal.sqrt (s j)) (Ideal.ofBits .f32 0x2B8CBCCC#32))

/-- The key of a direction. -/
def kdir (k a ka : EReal) : EReal := k * (Ideal.ofBits .f32 0x3F800000#32 + (a - Ideal.ofBits .f32 0x3F800000#32) * ka)

/-- The tests on a row's number, as a choice. -/
theorem row_word : ∀ r : Fin 512, IntOp.cmpi CmpIPredicate.eq (BitVec.ofNat 32 r.val) 0#32 = BitVec.ofBool (decide (r.val = 0))
    ∧ IntOp.cmpi CmpIPredicate.eq (BitVec.ofNat 32 r.val) 511#32 = BitVec.ofBool (decide (r.val = 511)) := by
  decide +kernel

/-- The tests on a block's number. -/
theorem part_word : ∀ i : Fin 4, Scalar.cmpi CmpIPredicate.sgt (BitVec.ofNat 32 i.val) 0#32 = BitVec.ofBool (decide (0 < i.val))
    ∧ Scalar.cmpi CmpIPredicate.slt (BitVec.ofNat 32 i.val) 3#32 = BitVec.ofBool (decide (i.val < 3)) := by
  decide +kernel

/-- A choice by a truth value. -/
theorem sel (p : Prop) [Decidable p] (a b : EReal) : Scalar.select (BitVec.ofBool (decide p)) a b = if p then a else b := by
  by_cases h : p <;> simp [h, Scalar.select]

/-- The convolution of one block, at a row and a lane. -/
theorem pay2_apply (i : grid0.Coords) (hi : (i 1).val < 4) (v0 : Vec Ideal S512x1920 .f32) (v3 v7 v22 v25 v29 : Vec Ideal S1x1920 .f32) (r : Fin 512) (c : Fin 1920) :
    k0_pay2 (F := Ideal) i v0 v3 v7 v22 v25 v29 (ix2 r c)
      = (if r.val = 0 then (if 0 < (i 1).val then v3 (ix2 0 c) else 0) else v0 (ix2 ⟨(r.val + 511) % 512, by omega⟩ c)) * v22 (ix2 0 c)
        + v0 (ix2 r c) * v25 (ix2 0 c)
        + (if r.val = 511 then (if (i 1).val < 3 then v7 (ix2 0 c) else 0) else v0 (ix2 ⟨(r.val + 1) % 512, by omega⟩ c)) * v29 (ix2 0 c) := by
  unfold k0_pay2
  pointwise
  rw [(row_word r).1, (row_word r).2, (part_word ⟨(i 1).val, hi⟩).1, (part_word ⟨(i 1).val, hi⟩).2, sel, sel, sel, sel]
  have e : (⟨(r.val + 512 - 1) % 512, by omega⟩ : Fin 512) = ⟨(r.val + 511) % 512, by omega⟩ := Fin.ext (by dsimp only; omega)
  have e' : (⟨(r.val + 512 - 511) % 512, by omega⟩ : Fin 512) = ⟨(r.val + 1) % 512, by omega⟩ := Fin.ext (by dsimp only; omega)
  rw [e, e']

/-- The normalised direction. -/
theorem pay9_apply (v34 : FVec Ideal S512x512 .f32) (v39 : Vec Ideal S256x256 .bf16) (h0 : Ones v39) (v40 : Vec Ideal S1x512 .f32) (r j : Fin 512) :
    k0_pay9 (F := Ideal) v34 v39 v40 (ix2 r j) = dirn (fun i => v34 (ix2 r i) * v40 (ix2 0 i))
      (ks fun i => v34 (ix2 r i) * v40 (ix2 0 i) * (v34 (ix2 r i) * v40 (ix2 0 i))) j := by
  unfold k0_pay9
  pointwise
  unfold dirn ks sg
  refine congrArg (fun v => Ideal.div (v34 (ix2 r j) * v40 (ix2 0 j)) (max (Ideal.sqrt v) (Ideal.ofBits .f32 0x2B8CBCCC#32))) ?_
  split
  · simp only [h0 _ _]
    rw [seg _ (j.val / 64) (by omega), seg _ (j.val / 64) (by omega)]
  · simp only [h0 _ _]
    rw [seg _ ((j.val - 256) / 64) (by omega), seg _ ((j.val - 256) / 64) (by omega)]
    have e : ∀ d : Fin 64, (⟨256 + (64 * ((j.val - 256) / 64) + d.val), by omega⟩ : Fin 512) = ⟨64 * (j.val / 64) + d.val, by omega⟩ :=
      fun d => Fin.ext (by dsimp only; omega)
    simp only [e]

/-- The bonus. -/
theorem pay1_apply (v33 v35 : FVec Ideal S512x512 .f32) (v39 : Vec Ideal S256x256 .bf16) (h0 : Ones v39) (v113 v121 : FVec Ideal S512x512 .f32)
    (v162 : Vec Ideal S1x512 .f32) (r j : Fin 512) :
    k0_pay1 (F := Ideal) v33 v35 v39 v113 v121 v162 (ix2 r j)
      = ks (fun i => v33 (ix2 r i) * (v113 (ix2 r i) + v121 (ix2 r i)) * v162 (ix2 0 i)) j * v35 (ix2 r j) := by
  unfold k0_pay1
  pointwise
  unfold ks sg
  refine congrArg (fun v => v * v35 (ix2 r j)) ?_
  split
  · simp only [h0 _ _]
    rw [seg _ (j.val / 64) (by omega), seg _ (j.val / 64) (by omega)]
  · simp only [h0 _ _]
    rw [seg _ ((j.val - 256) / 64) (by omega), seg _ ((j.val - 256) / 64) (by omega)]
    have e : ∀ d : Fin 64, (⟨256 + (64 * ((j.val - 256) / 64) + d.val), by omega⟩ : Fin 512) = ⟨64 * (j.val / 64) + d.val, by omega⟩ :=
      fun d => Fin.ext (by dsimp only; omega)
    simp only [e]

/-- The decay's product. -/
theorem pay11_apply (v36 : FVec Ideal S512x128 .f32) (v67 : Vec Ideal S128x1024 .f32) (r : Fin 512) (c : Fin 1024) :
    k0_pay11 (F := Ideal) v36 v67 (ix2 r c) = d3 (fun k => Ideal.tanh (v36 (ix2 r k))) (fun k => v67 (ix2 k c)) := by
  unfold k0_pay11 d3
  pointwise

/-- The rate of each direction. -/
theorem pay13_apply (v37 : FVec Ideal S512x128 .f32) (v84 : Vec Ideal S1x1024 .f32) (v86 : Vec Ideal S128x1024 .f32) (r : Fin 512) (c : Fin 1024) :
    k0_pay13 (F := Ideal) v37 v84 v86 (ix2 r c) = Ideal.logistic (v84 (ix2 0 c) + d3 (fun k => v37 (ix2 r k)) (fun k => v86 (ix2 k c))) := by
  unfold k0_pay13 d3
  pointwise

/-- The forward key. -/
theorem pay15_apply (v34 : FVec Ideal S512x512 .f32) (v37 : FVec Ideal S512x128 .f32) (v84 : Vec Ideal S1x1024 .f32) (v86 : Vec Ideal S128x1024 .f32)
    (v104 : Vec Ideal S1x512 .f32) (r j : Fin 512) :
    k0_pay15 (F := Ideal) v34 v37 v84 v86 v104 (ix2 r j)
      = kdir (v34 (ix2 r j)) (k0_pay13 (F := Ideal) v37 v84 v86 (ix2 r ⟨j.val, by omega⟩)) (v104 (ix2 0 j)) := by
  unfold k0_pay15 k0_pay14 kdir
  generalize k0_pay13 (F := Ideal) v37 v84 v86 = p
  pointwise

/-- The backward key. -/
theorem pay16_apply (v34 : FVec Ideal S512x512 .f32) (v37 : FVec Ideal S512x128 .f32) (v84 : Vec Ideal S1x1024 .f32) (v86 : Vec Ideal S128x1024 .f32)
    (v104 : Vec Ideal S1x512 .f32) (r j : Fin 512) :
    k0_pay16 (F := Ideal) v34 v37 v84 v86 v104 (ix2 r j)
      = kdir (v34 (ix2 r j)) (k0_pay13 (F := Ideal) v37 v84 v86 (ix2 r ⟨512 + j.val, by omega⟩)) (v104 (ix2 0 j)) := by
  unfold k0_pay16 k0_pay14 kdir
  generalize k0_pay13 (F := Ideal) v37 v84 v86 = p
  pointwise

/-- The logarithm of the decay. -/
theorem pay20_apply (v64 : Vec Ideal S1x1024 .f32) (v81 : FVec Ideal S512x1024 .f32) (r : Fin 512) (c : Fin 1024) :
    k0_pay20 (F := Ideal) (k0_pay12 (k0_pay10 v64) v81) (ix2 r c) = Ideal.ofBits .f32 0xBF1B4598#32 * Ideal.logistic (v64 (ix2 0 c) + v81 (ix2 r c)) := by
  unfold k0_pay20 k0_pay12 k0_pay10
  pointwise

/-- The forward rate times the direction. -/
theorem pay21_apply (v63 : FVec Ideal S512x512 .f32) (v103 : FVec Ideal S512x1024 .f32) (r j : Fin 512) :
    k0_pay21 (F := Ideal) v63 v103 (ix2 r j) = v63 (ix2 r j) * v103 (ix2 r ⟨j.val, by omega⟩) := by
  unfold k0_pay21
  pointwise

/-- The backward rate times the direction. -/
theorem pay22_apply (v63 : FVec Ideal S512x512 .f32) (v103 : FVec Ideal S512x1024 .f32) (r j : Fin 512) :
    k0_pay22 (F := Ideal) v63 v103 (ix2 r j) = v63 (ix2 r j) * v103 (ix2 r ⟨512 + j.val, by omega⟩) := by
  unfold k0_pay22
  pointwise

/-- The gate. -/
theorem pay25_apply (v38 : FVec Ideal S512x128 .f32) (v145 : Vec Ideal S128x512 .f32) (r c : Fin 512) :
    k0_pay25 (F := Ideal) v38 v145 (ix2 r c) = d3 (fun k => Ideal.logistic (v38 (ix2 r k))) (fun k => v145 (ix2 k c)) := by
  unfold k0_pay25 d3
  pointwise

end Cert.Preparing

end
-- ==== Proof.PrepOut.lean ====
/- What one block of the recurrence's preparation leaves, from the blocks it reads. -/
module

public import proofs.«01_k».proof.Proof.PrepBlock

@[expose] public section

set_option maxRecDepth 16384

noncomputable section

namespace Cert.Preparing

open Idealize.ShloMosaic Idealize.ShloMosaic.TcCoe Cert.PrepIdeal Cert.PrepIdeal.Gen Cert.Rows
open Cert.Projecting (seg Ones)
open Cert.Output (sg)

/-- The direction, from a row of the convolution. -/
def eK (X : Fin 1920 → EReal) (kk : Fin 512 → EReal) (j : Fin 512) : EReal :=
  dirn (fun i => X ⟨512 + i.val, by omega⟩ * kk i) (ks fun i => X ⟨512 + i.val, by omega⟩ * kk i * (X ⟨512 + i.val, by omega⟩ * kk i)) j

/-- The logarithm of the decay. -/
def eL (X : Fin 1920 → EReal) (w0 : Fin 1024 → EReal) (w2 : Fin 128 → Fin 1024 → EReal) (c : Fin 1024) : EReal :=
  Ideal.ofBits .f32 0xBF1B4598#32 * Ideal.logistic (w0 c + d3 (fun k => Ideal.tanh (X ⟨1536 + k.val, by omega⟩)) fun k => w2 k c)

/-- The rate. -/
def eA (X : Fin 1920 → EReal) (a0 : Fin 1024 → EReal) (a2 : Fin 128 → Fin 1024 → EReal) (c : Fin 1024) : EReal :=
  Ideal.logistic (a0 c + d3 (fun k => X ⟨1664 + k.val, by omega⟩) fun k => a2 k c)

/-- The direction times the rate. -/
def eB (X : Fin 1920 → EReal) (kk : Fin 512 → EReal) (a0 : Fin 1024 → EReal) (a2 : Fin 128 → Fin 1024 → EReal) (c : Fin 1024) : EReal :=
  eK X kk ⟨c.val % 512, by omega⟩ * eA X a0 a2 c

/-- The key of each direction. -/
def eD (X : Fin 1920 → EReal) (ka : Fin 512 → EReal) (a0 : Fin 1024 → EReal) (a2 : Fin 128 → Fin 1024 → EReal) (c : Fin 1024) : EReal :=
  kdir (X ⟨512 + c.val % 512, by omega⟩) (eA X a0 a2 c) (ka ⟨c.val % 512, by omega⟩)

/-- The gate. -/
def eG (X : Fin 1920 → EReal) (g2 : Fin 128 → Fin 512 → EReal) (j : Fin 512) : EReal :=
  d3 (fun k => Ideal.logistic (X ⟨1792 + k.val, by omega⟩)) fun k => g2 k j

/-- The bonus. -/
def eU (X : Fin 1920 → EReal) (ka rk : Fin 512 → EReal) (a0 : Fin 1024 → EReal) (a2 : Fin 128 → Fin 1024 → EReal) (j : Fin 512) : EReal :=
  ks (fun i => X ⟨i.val, by omega⟩ * (eD X ka a0 a2 ⟨i.val, by omega⟩ + eD X ka a0 a2 ⟨512 + i.val, by omega⟩) * rk i) j * X ⟨1024 + j.val, by omega⟩

/-- The rectangle of a whole block leaves an index where it is. -/
theorem e0 (a : Fin 512) (b : Fin 1920) : r0_0.emb (ix2 a b) = ix2 a b := by
  funext i; fin_cases i <;> refine Fin.ext ?_ <;> show _ = _ <;> simp

/-- A load of a whole block reads what the block holds. -/
theorem w0 (X : Vec Ideal S512x1920 .f32) : View.ld X r0_0 = X := by
  funext y
  obtain ⟨a, b, rfl⟩ : ∃ (a : Fin 512) (b : Fin 1920), y = ix2 a b := ⟨y 0, y 1, by funext i; fin_cases i <;> rfl⟩
  exact congrArg X (e0 a b)

/-- The rectangle of a whole block leaves an index where it is. -/
theorem e10 (a : Fin 512) (b : Fin 512) : r0_10.emb (ix2 a b) = ix2 a b := by
  funext i; fin_cases i <;> refine Fin.ext ?_ <;> show _ = _ <;> simp

/-- The rectangle of a whole block leaves an index where it is. -/
theorem e11 (a : Fin 512) (b : Fin 1024) : r0_11.emb (ix2 a b) = ix2 a b := by
  funext i; fin_cases i <;> refine Fin.ext ?_ <;> show _ = _ <;> simp

/-- The rectangle of a whole block leaves an index where it is. -/
theorem e14 (a : Fin 128) (b : Fin 512) : r0_14.emb (ix2 a b) = ix2 a b := by
  funext i; fin_cases i <;> refine Fin.ext ?_ <;> show _ = _ <;> simp

/-- A load of a whole block reads what the block holds. -/
theorem w14 (X : Vec Ideal S128x512 .f32) : View.ld X r0_14 = X := by
  funext y
  obtain ⟨a, b, rfl⟩ : ∃ (a : Fin 128) (b : Fin 512), y = ix2 a b := ⟨y 0, y 1, by funext i; fin_cases i <;> rfl⟩
  exact congrArg X (e14 a b)

/-- The rectangle of a whole block leaves an index where it is. -/
theorem e6 (a : Fin 256) (b : Fin 256) : r0_6.emb (ix2 a b) = ix2 a b := by
  funext i; fin_cases i <;> refine Fin.ext ?_ <;> show _ = _ <;> simp

/-- A load of a whole block reads what the block holds. -/
theorem w6 (X : Vec Ideal S256x256 .bf16) : View.ld X r0_6 = X := by
  funext y
  obtain ⟨a, b, rfl⟩ : ∃ (a : Fin 256) (b : Fin 256), y = ix2 a b := ⟨y 0, y 1, by funext i; fin_cases i <;> rfl⟩
  exact congrArg X (e6 a b)

/-- The rectangle of a whole block leaves an index where it is. -/
theorem e9 (a : Fin 128) (b : Fin 1024) : r0_9.emb (ix2 a b) = ix2 a b := by
  funext i; fin_cases i <;> refine Fin.ext ?_ <;> show _ = _ <;> simp

/-- A load of a whole block reads what the block holds. -/
theorem w9 (X : Vec Ideal S128x1024 .f32) : View.ld X r0_9 = X := by
  funext y
  obtain ⟨a, b, rfl⟩ : ∃ (a : Fin 128) (b : Fin 1024), y = ix2 a b := ⟨y 0, y 1, by funext i; fin_cases i <;> rfl⟩
  exact congrArg X (e9 a b)

/-- A load of a whole row reads what the row holds. -/
theorem w7 (X : Vec Ideal S1x512 .f32) : View.ld X r0_7 = X := by
  funext y
  obtain ⟨b, rfl⟩ : ∃ b : Fin 512, y = ix2 0 b := ⟨y 1, by funext i; fin_cases i; exacts [Subsingleton.elim (α := Fin 1) _ _, rfl]⟩
  refine congrArg X ?_
  funext i; fin_cases i <;> refine Fin.ext ?_ <;> show _ = _ <;> simp

/-- A load of a whole row reads what the row holds. -/
theorem w8 (X : Vec Ideal S1x1024 .f32) : View.ld X r0_8 = X := by
  funext y
  obtain ⟨b, rfl⟩ : ∃ b : Fin 1024, y = ix2 0 b := ⟨y 1, by funext i; fin_cases i; exacts [Subsingleton.elim (α := Fin 1) _ _, rfl]⟩
  refine congrArg X ?_
  funext i; fin_cases i <;> refine Fin.ext ?_ <;> show _ = _ <;> simp

/-- A load of one row reads that row. -/
theorem l1 (X : Vec Ideal S8x1920 .f32) (b : Fin 1920) : View.ld X r0_1 (ix2 0 b) = X (ix2 7 b) := by
  refine congrArg X ?_
  funext i; fin_cases i <;> refine Fin.ext ?_ <;> show _ = _ <;> simp

/-- A load of one row reads that row. -/
theorem l2 (X : Vec Ideal S8x1920 .f32) (b : Fin 1920) : View.ld X r0_2 (ix2 0 b) = X (ix2 0 b) := by
  refine congrArg X ?_
  funext i; fin_cases i <;> refine Fin.ext ?_ <;> show _ = _ <;> simp

/-- A load of one row reads that row. -/
theorem l3 (X : Vec Ideal S3x1920 .f32) (b : Fin 1920) : View.ld X r0_3 (ix2 0 b) = X (ix2 0 b) := by
  refine congrArg X ?_
  funext i; fin_cases i <;> refine Fin.ext ?_ <;> show _ = _ <;> simp

/-- A load of one row reads that row. -/
theorem l4 (X : Vec Ideal S3x1920 .f32) (b : Fin 1920) : View.ld X r0_4 (ix2 0 b) = X (ix2 1 b) := by
  refine congrArg X ?_
  funext i; fin_cases i <;> refine Fin.ext ?_ <;> show _ = _ <;> simp

/-- A load of one row reads that row. -/
theorem l5 (X : Vec Ideal S3x1920 .f32) (b : Fin 1920) : View.ld X r0_5 (ix2 0 b) = X (ix2 2 b) := by
  refine congrArg X ?_
  funext i; fin_cases i <;> refine Fin.ext ?_ <;> show _ = _ <;> simp

/-- The left half of a block's lanes. -/
theorem e12 (a b : Fin 512) : r0_12.emb (ix2 a b) = ix2 a ⟨b.val, by omega⟩ := by
  funext i; fin_cases i <;> refine Fin.ext ?_ <;> show _ = _ <;> simp

/-- The right half of a block's lanes. -/
theorem e13 (a b : Fin 512) : r0_13.emb (ix2 a b) = ix2 a ⟨512 + b.val, by omega⟩ := by
  funext i; fin_cases i <;> refine Fin.ext ?_ <;> show _ = _ <;> simp

variable (i : grid0.Coords) (x0 : Vec Ideal S512x1920 .f32) (x1 x2 : Vec Ideal S8x1920 .f32) (x3 : Vec Ideal S3x1920 .f32) (x4 x5 x6 : Vec Ideal S1x512 .f32)
  (x7 : Vec Ideal S1x1024 .f32) (x8 : Vec Ideal S128x1024 .f32) (x9 : Vec Ideal S1x1024 .f32) (x10 : Vec Ideal S128x1024 .f32) (x11 : Vec Ideal S128x512 .f32)
  (x12 : Vec Ideal S256x256 .bf16)

/-- The convolution of a block's row, from the blocks read. -/
def bx (r : Fin 512) (c : Fin 1920) : EReal :=
  (if r.val = 0 then (if 0 < (i 1).val then x1 (ix2 7 c) else 0) else x0 (ix2 ⟨(r.val + 511) % 512, by omega⟩ c)) * x3 (ix2 0 c)
    + x0 (ix2 r c) * x3 (ix2 1 c)
    + (if r.val = 511 then (if (i 1).val < 3 then x2 (ix2 0 c) else 0) else x0 (ix2 ⟨(r.val + 1) % 512, by omega⟩ c)) * x3 (ix2 2 c)

/-- The convolution. -/
theorem p2 (r : Fin 512) (c : Fin 1920) :
    k0_pay2 (F := Ideal) i (View.ld x0 r0_0) (View.ld x1 r0_1) (View.ld x2 r0_2) (View.ld x3 r0_3) (View.ld x3 r0_4) (View.ld x3 r0_5) (ix2 r c) = bx i x0 x1 x2 x3 r c := by
  have hi : (i 1).val < 4 := (i 1).isLt
  rw [pay2_apply i hi, l1, l2, l3, l4, l5, w0]
  rfl

/-- The receptance. -/
theorem p26 (r : Fin 512) (j : Fin 512) : k0_pay26 (F := Ideal) i x0 x1 x2 x3 x4 x5 x6 x7 x8 x9 x10 x11 x12 (ix2 r j) = bx i x0 x1 x2 x3 r ⟨0 + j.val, by omega⟩ := by
  have h := p2 i x0 x1 x2 x3 r
  unfold k0_pay26 k0_pay3
  generalize k0_pay2 (F := Ideal) i (View.ld x0 r0_0) (View.ld x1 r0_1) (View.ld x2 r0_2) (View.ld x3 r0_3) (View.ld x3 r0_4) (View.ld x3 r0_5) = p at h
  pointwise
  simp only [h]

/-- The key. -/
theorem p27 (r : Fin 512) (j : Fin 512) : k0_pay27 (F := Ideal) i x0 x1 x2 x3 x4 x5 x6 x7 x8 x9 x10 x11 x12 (ix2 r j) = bx i x0 x1 x2 x3 r ⟨512 + j.val, by omega⟩ := by
  have h := p2 i x0 x1 x2 x3 r
  unfold k0_pay27 k0_pay4
  generalize k0_pay2 (F := Ideal) i (View.ld x0 r0_0) (View.ld x1 r0_1) (View.ld x2 r0_2) (View.ld x3 r0_3) (View.ld x3 r0_4) (View.ld x3 r0_5) = p at h
  pointwise
  simp only [h]

/-- The value. -/
theorem p28 (r : Fin 512) (j : Fin 512) : k0_pay28 (F := Ideal) i x0 x1 x2 x3 x4 x5 x6 x7 x8 x9 x10 x11 x12 (ix2 r j) = bx i x0 x1 x2 x3 r ⟨1024 + j.val, by omega⟩ := by
  have h := p2 i x0 x1 x2 x3 r
  unfold k0_pay28 k0_pay5
  generalize k0_pay2 (F := Ideal) i (View.ld x0 r0_0) (View.ld x1 r0_1) (View.ld x2 r0_2) (View.ld x3 r0_3) (View.ld x3 r0_4) (View.ld x3 r0_5) = p at h
  pointwise
  simp only [h]

/-- The rate's lanes. -/
theorem p29 (r : Fin 512) (j : Fin 128) : k0_pay29 (F := Ideal) i x0 x1 x2 x3 x4 x5 x6 x7 x8 x9 x10 x11 x12 (ix2 r j) = bx i x0 x1 x2 x3 r ⟨1664 + j.val, by omega⟩ := by
  have h := p2 i x0 x1 x2 x3 r
  unfold k0_pay29 k0_pay7
  generalize k0_pay2 (F := Ideal) i (View.ld x0 r0_0) (View.ld x1 r0_1) (View.ld x2 r0_2) (View.ld x3 r0_3) (View.ld x3 r0_4) (View.ld x3 r0_5) = p at h
  pointwise
  simp only [h]

/-- The decay's lanes. -/
theorem p6 (r : Fin 512) (j : Fin 128) : k0_pay6 (F := Ideal) i (View.ld x0 r0_0) (View.ld x1 r0_1) (View.ld x2 r0_2) (View.ld x3 r0_3) (View.ld x3 r0_4) (View.ld x3 r0_5) (ix2 r j) = bx i x0 x1 x2 x3 r ⟨1536 + j.val, by omega⟩ := by
  have h := p2 i x0 x1 x2 x3 r
  unfold  k0_pay6
  generalize k0_pay2 (F := Ideal) i (View.ld x0 r0_0) (View.ld x1 r0_1) (View.ld x2 r0_2) (View.ld x3 r0_3) (View.ld x3 r0_4) (View.ld x3 r0_5) = p at h
  pointwise
  simp only [h]

/-- The gate's lanes. -/
theorem p8 (r : Fin 512) (j : Fin 128) : k0_pay8 (F := Ideal) (k0_pay2 (F := Ideal) i (View.ld x0 r0_0) (View.ld x1 r0_1) (View.ld x2 r0_2) (View.ld x3 r0_3) (View.ld x3 r0_4) (View.ld x3 r0_5)) (ix2 r j) = bx i x0 x1 x2 x3 r ⟨1792 + j.val, by omega⟩ := by
  have h := p2 i x0 x1 x2 x3 r
  unfold  k0_pay8
  generalize k0_pay2 (F := Ideal) i (View.ld x0 r0_0) (View.ld x1 r0_1) (View.ld x2 r0_2) (View.ld x3 r0_3) (View.ld x3 r0_4) (View.ld x3 r0_5) = p at h
  pointwise
  simp only [h]

/-- The direction. -/
theorem p30 (h12 : Ones x12) (r j : Fin 512) : k0_pay30 (F := Ideal) i x0 x1 x2 x3 x4 x5 x6 x7 x8 x9 x10 x11 x12 (ix2 r j) = eK (bx i x0 x1 x2 x3 r) (fun j => x4 (ix2 0 j)) j := by
  unfold k0_pay30
  rw [w6, w7, pay9_apply _ _ h12]
  simp only [p27]
  rfl

/-- The rate. -/
theorem p31 (r : Fin 512) (c : Fin 1024) : k0_pay31 (F := Ideal) i x0 x1 x2 x3 x4 x5 x6 x7 x8 x9 x10 x11 x12 (ix2 r c) = eA (bx i x0 x1 x2 x3 r) (fun c => x9 (ix2 0 c)) (fun k c => x10 (ix2 k c)) c := by
  unfold k0_pay31
  rw [w8, w9, pay13_apply]
  simp only [p29]
  rfl

/-- The forward key. -/
theorem p32 (r j : Fin 512) : k0_pay32 (F := Ideal) i x0 x1 x2 x3 x4 x5 x6 x7 x8 x9 x10 x11 x12 (ix2 r j)
    = eD (bx i x0 x1 x2 x3 r) (fun j => x5 (ix2 0 j)) (fun c => x9 (ix2 0 c)) (fun k c => x10 (ix2 k c)) ⟨j.val, by omega⟩ := by
  unfold k0_pay32
  rw [w7, w8, w9, pay15_apply, pay13_apply, p27]
  simp only [p29]
  unfold eD eA
  have e : (⟨j.val % 512, by omega⟩ : Fin 512) = j := Fin.ext (by dsimp only; omega)
  have e' : (⟨512 + j.val % 512, by omega⟩ : Fin 1920) = ⟨512 + j.val, by omega⟩ := Fin.ext (by dsimp only; omega)
  rw [e, e']

/-- The backward key. -/
theorem p33 (r j : Fin 512) : k0_pay33 (F := Ideal) i x0 x1 x2 x3 x4 x5 x6 x7 x8 x9 x10 x11 x12 (ix2 r j)
    = eD (bx i x0 x1 x2 x3 r) (fun j => x5 (ix2 0 j)) (fun c => x9 (ix2 0 c)) (fun k c => x10 (ix2 k c)) ⟨512 + j.val, by omega⟩ := by
  unfold k0_pay33
  rw [w7, w8, w9, pay16_apply, pay13_apply, p27]
  simp only [p29]
  unfold eD eA
  have e : (⟨(512 + j.val) % 512, by omega⟩ : Fin 512) = j := Fin.ext (by dsimp only; omega)
  have e' : (⟨512 + (512 + j.val) % 512, by omega⟩ : Fin 1920) = ⟨512 + j.val, by omega⟩ := Fin.ext (by dsimp only; omega)
  rw [e, e']

/-- The receptance, as the body leaves it. -/
theorem out13_apply (r : Fin 512) (j : Fin 512) : out0_13 (F := Ideal) i x0 x1 x2 x3 x4 x5 x6 x7 x8 x9 x10 x11 x12 (ix2 r j) = (bx i x0 x1 x2 x3 r) ⟨0 + (j : Fin 512).val, by have := (j : Fin 512).isLt; change _ < 512 at this; omega⟩ := by
  unfold out0_13
  refine View.canon_apply_of_pieces (Val := Elt Ideal) (S := S512x512) (e := .bf16) (fun y => (bx i x0 x1 x2 x3 (y 0)) ⟨0 + ((y 1) : Fin 512).val, by have := ((y 1) : Fin 512).isLt; change _ < 512 at this; omega⟩) _ ?_ (ix2 r j)
    (cover0_13 _ (ix2 r j))
  refine List.forall_mem_cons.2 ⟨fun x => ?_, List.forall_mem_nil _⟩
  obtain ⟨a, b, rfl⟩ : ∃ (a : Fin 512) (b : Fin 512), x = ix2 a b := ⟨x 0, x 1, by funext i; fin_cases i <;> rfl⟩
  refine Eq.trans ?_ (congrArg (fun y : S512x512.Idx => ((bx i x0 x1 x2 x3 (y 0)) ⟨0 + ((y 1) : Fin 512).val, by have := ((y 1) : Fin 512).isLt; change _ < 512 at this; omega⟩ : EReal)) (e10 a b)).symm
  exact p26 i x0 x1 x2 x3 x4 x5 x6 x7 x8 x9 x10 x11 x12 a b

/-- The value, as the body leaves it. -/
theorem out14_apply (r : Fin 512) (j : Fin 512) : out0_14 (F := Ideal) i x0 x1 x2 x3 x4 x5 x6 x7 x8 x9 x10 x11 x12 (ix2 r j) = (bx i x0 x1 x2 x3 r) ⟨1024 + (j : Fin 512).val, by have := (j : Fin 512).isLt; change _ < 512 at this; omega⟩ := by
  unfold out0_14
  refine View.canon_apply_of_pieces (Val := Elt Ideal) (S := S512x512) (e := .bf16) (fun y => (bx i x0 x1 x2 x3 (y 0)) ⟨1024 + ((y 1) : Fin 512).val, by have := ((y 1) : Fin 512).isLt; change _ < 512 at this; omega⟩) _ ?_ (ix2 r j)
    (cover0_14 _ (ix2 r j))
  refine List.forall_mem_cons.2 ⟨fun x => ?_, List.forall_mem_nil _⟩
  obtain ⟨a, b, rfl⟩ : ∃ (a : Fin 512) (b : Fin 512), x = ix2 a b := ⟨x 0, x 1, by funext i; fin_cases i <;> rfl⟩
  refine Eq.trans ?_ (congrArg (fun y : S512x512.Idx => ((bx i x0 x1 x2 x3 (y 0)) ⟨1024 + ((y 1) : Fin 512).val, by have := ((y 1) : Fin 512).isLt; change _ < 512 at this; omega⟩ : EReal)) (e10 a b)).symm
  exact p28 i x0 x1 x2 x3 x4 x5 x6 x7 x8 x9 x10 x11 x12 a b

/-- The direction, as the body leaves it. -/
theorem out15_apply (h12 : Ones x12) (r : Fin 512) (j : Fin 512) : out0_15 (F := Ideal) i x0 x1 x2 x3 x4 x5 x6 x7 x8 x9 x10 x11 x12 (ix2 r j) = eK (bx i x0 x1 x2 x3 r) (fun j => x4 (ix2 0 j)) j := by
  unfold out0_15
  refine View.canon_apply_of_pieces (Val := Elt Ideal) (S := S512x512) (e := .bf16) (fun y => eK (bx i x0 x1 x2 x3 (y 0)) (fun j => x4 (ix2 0 j)) (y 1)) _ ?_ (ix2 r j)
    (cover0_15 _ (ix2 r j))
  refine List.forall_mem_cons.2 ⟨fun x => ?_, List.forall_mem_nil _⟩
  obtain ⟨a, b, rfl⟩ : ∃ (a : Fin 512) (b : Fin 512), x = ix2 a b := ⟨x 0, x 1, by funext i; fin_cases i <;> rfl⟩
  refine Eq.trans ?_ (congrArg (fun y : S512x512.Idx => (eK (bx i x0 x1 x2 x3 (y 0)) (fun j => x4 (ix2 0 j)) (y 1) : EReal)) (e10 a b)).symm
  exact p30 i x0 x1 x2 x3 x4 x5 x6 x7 x8 x9 x10 x11 x12 h12 a b

/-- The logarithm of the decay, as the body leaves it. -/
theorem out16_apply (r : Fin 512) (j : Fin 1024) : out0_16 (F := Ideal) i x0 x1 x2 x3 x4 x5 x6 x7 x8 x9 x10 x11 x12 (ix2 r j) = eL (bx i x0 x1 x2 x3 r) (fun c => x7 (ix2 0 c)) (fun k c => x8 (ix2 k c)) j := by
  unfold out0_16
  refine View.canon_apply_of_pieces (Val := Elt Ideal) (S := S512x1024) (e := .f32) (fun y => eL (bx i x0 x1 x2 x3 (y 0)) (fun c => x7 (ix2 0 c)) (fun k c => x8 (ix2 k c)) (y 1)) _ ?_ (ix2 r j)
    (cover0_16 _ (ix2 r j))
  refine List.forall_mem_cons.2 ⟨fun x => ?_, List.forall_mem_nil _⟩
  obtain ⟨a, b, rfl⟩ : ∃ (a : Fin 512) (b : Fin 1024), x = ix2 a b := ⟨x 0, x 1, by funext i; fin_cases i <;> rfl⟩
  refine Eq.trans ?_ (congrArg (fun y : S512x1024.Idx => (eL (bx i x0 x1 x2 x3 (y 0)) (fun c => x7 (ix2 0 c)) (fun k c => x8 (ix2 k c)) (y 1) : EReal)) (e11 a b)).symm
  show k0_pay20 (F := Ideal) _ (ix2 a b) = _
  rw [w8, w9, pay20_apply, pay11_apply]
  simp only [p6]
  rfl

/-- The gate, as the body leaves it. -/
theorem out19_apply (r : Fin 512) (j : Fin 512) : out0_19 (F := Ideal) i x0 x1 x2 x3 x4 x5 x6 x7 x8 x9 x10 x11 x12 (ix2 r j) = eG (bx i x0 x1 x2 x3 r) (fun k c => x11 (ix2 k c)) j := by
  unfold out0_19
  refine View.canon_apply_of_pieces (Val := Elt Ideal) (S := S512x512) (e := .f32) (fun y => eG (bx i x0 x1 x2 x3 (y 0)) (fun k c => x11 (ix2 k c)) (y 1)) _ ?_ (ix2 r j)
    (cover0_19 _ (ix2 r j))
  refine List.forall_mem_cons.2 ⟨fun x => ?_, List.forall_mem_nil _⟩
  obtain ⟨a, b, rfl⟩ : ∃ (a : Fin 512) (b : Fin 512), x = ix2 a b := ⟨x 0, x 1, by funext i; fin_cases i <;> rfl⟩
  refine Eq.trans ?_ (congrArg (fun y : S512x512.Idx => (eG (bx i x0 x1 x2 x3 (y 0)) (fun k c => x11 (ix2 k c)) (y 1) : EReal)) (e10 a b)).symm
  show k0_pay25 (F := Ideal) _ _ (ix2 a b) = _
  rw [w14, pay25_apply]
  simp only [p8]
  rfl

/-- The bonus, as the body leaves it. -/
theorem out20_apply (h12 : Ones x12) (r : Fin 512) (j : Fin 512) : out0_20 (F := Ideal) i x0 x1 x2 x3 x4 x5 x6 x7 x8 x9 x10 x11 x12 (ix2 r j) = eU (bx i x0 x1 x2 x3 r) (fun j => x5 (ix2 0 j)) (fun j => x6 (ix2 0 j)) (fun c => x9 (ix2 0 c)) (fun k c => x10 (ix2 k c)) j := by
  unfold out0_20
  refine View.canon_apply_of_pieces (Val := Elt Ideal) (S := S512x512) (e := .f32) (fun y => eU (bx i x0 x1 x2 x3 (y 0)) (fun j => x5 (ix2 0 j)) (fun j => x6 (ix2 0 j)) (fun c => x9 (ix2 0 c)) (fun k c => x10 (ix2 k c)) (y 1)) _ ?_ (ix2 r j)
    (cover0_20 _ (ix2 r j))
  refine List.forall_mem_cons.2 ⟨fun x => ?_, List.forall_mem_nil _⟩
  obtain ⟨a, b, rfl⟩ : ∃ (a : Fin 512) (b : Fin 512), x = ix2 a b := ⟨x 0, x 1, by funext i; fin_cases i <;> rfl⟩
  refine Eq.trans ?_ (congrArg (fun y : S512x512.Idx => (eU (bx i x0 x1 x2 x3 (y 0)) (fun j => x5 (ix2 0 j)) (fun j => x6 (ix2 0 j)) (fun c => x9 (ix2 0 c)) (fun k c => x10 (ix2 k c)) (y 1) : EReal)) (e10 a b)).symm
  show k0_pay1 (F := Ideal) _ _ _ _ _ _ (ix2 a b) = _
  rw [w6, w7, pay1_apply _ _ _ h12]
  simp only [p26, p28, p32, p33]
  unfold eU
  simp only [Nat.zero_add]
  rfl

/-- The direction times the rate, as the body leaves it. -/
theorem out17_apply (h12 : Ones x12) (r : Fin 512) (j : Fin 1024) : out0_17 (F := Ideal) i x0 x1 x2 x3 x4 x5 x6 x7 x8 x9 x10 x11 x12 (ix2 r j) = eB (bx i x0 x1 x2 x3 r) (fun j => x4 (ix2 0 j)) (fun c => x9 (ix2 0 c)) (fun k c => x10 (ix2 k c)) j := by
  unfold out0_17
  refine View.canon_apply_of_pieces (Val := Elt Ideal) (S := S512x1024) (e := .bf16) (fun y => eB (bx i x0 x1 x2 x3 (y 0)) (fun j => x4 (ix2 0 j)) (fun c => x9 (ix2 0 c)) (fun k c => x10 (ix2 k c)) (y 1)) _ ?_ (ix2 r j)
    (cover0_17 _ _ (ix2 r j))
  refine List.forall_mem_cons.2 ⟨fun x => ?_, List.forall_mem_cons.2 ⟨fun x => ?_, List.forall_mem_nil _⟩⟩
  · obtain ⟨a, b, rfl⟩ : ∃ (a : Fin 512) (b : Fin 512), x = ix2 a b := ⟨x 0, x 1, by funext i; fin_cases i <;> rfl⟩
    refine Eq.trans ?_ (congrArg (fun y : S512x1024.Idx => (eB (bx i x0 x1 x2 x3 (y 0)) (fun j => x4 (ix2 0 j)) (fun c => x9 (ix2 0 c)) (fun k c => x10 (ix2 k c)) (y 1) : EReal)) (e13 a b)).symm
    show k0_pay22 (F := Ideal) _ _ (ix2 a b) = eB (bx i x0 x1 x2 x3 a) _ _ _ ⟨512 + b.val, _⟩
    rw [pay22_apply, p30 _ _ _ _ _ _ _ _ _ _ _ _ _ _ h12, p31]
    unfold eB
    have e : (⟨(512 + b.val) % 512, by omega⟩ : Fin 512) = b := Fin.ext (by dsimp only; omega)
    rw [e]
  · obtain ⟨a, b, rfl⟩ : ∃ (a : Fin 512) (b : Fin 512), x = ix2 a b := ⟨x 0, x 1, by funext i; fin_cases i <;> rfl⟩
    refine Eq.trans ?_ (congrArg (fun y : S512x1024.Idx => (eB (bx i x0 x1 x2 x3 (y 0)) (fun j => x4 (ix2 0 j)) (fun c => x9 (ix2 0 c)) (fun k c => x10 (ix2 k c)) (y 1) : EReal)) (e12 a b)).symm
    show k0_pay21 (F := Ideal) _ _ (ix2 a b) = eB (bx i x0 x1 x2 x3 a) _ _ _ ⟨b.val, _⟩
    rw [pay21_apply, p30 _ _ _ _ _ _ _ _ _ _ _ _ _ _ h12, p31]
    unfold eB
    have e : (⟨b.val % 512, by omega⟩ : Fin 512) = b := Fin.ext (by dsimp only; omega)
    rw [e]

/-- The key of each direction, as the body leaves it. -/
theorem out18_apply (r : Fin 512) (j : Fin 1024) : out0_18 (F := Ideal) i x0 x1 x2 x3 x4 x5 x6 x7 x8 x9 x10 x11 x12 (ix2 r j) = eD (bx i x0 x1 x2 x3 r) (fun j => x5 (ix2 0 j)) (fun c => x9 (ix2 0 c)) (fun k c => x10 (ix2 k c)) j := by
  unfold out0_18
  refine View.canon_apply_of_pieces (Val := Elt Ideal) (S := S512x1024) (e := .bf16) (fun y => eD (bx i x0 x1 x2 x3 (y 0)) (fun j => x5 (ix2 0 j)) (fun c => x9 (ix2 0 c)) (fun k c => x10 (ix2 k c)) (y 1)) _ ?_ (ix2 r j)
    (cover0_18 _ _ (ix2 r j))
  refine List.forall_mem_cons.2 ⟨fun x => ?_, List.forall_mem_cons.2 ⟨fun x => ?_, List.forall_mem_nil _⟩⟩
  · obtain ⟨a, b, rfl⟩ : ∃ (a : Fin 512) (b : Fin 512), x = ix2 a b := ⟨x 0, x 1, by funext i; fin_cases i <;> rfl⟩
    refine Eq.trans ?_ (congrArg (fun y : S512x1024.Idx => (eD (bx i x0 x1 x2 x3 (y 0)) (fun j => x5 (ix2 0 j)) (fun c => x9 (ix2 0 c)) (fun k c => x10 (ix2 k c)) (y 1) : EReal)) (e13 a b)).symm
    exact p33 i x0 x1 x2 x3 x4 x5 x6 x7 x8 x9 x10 x11 x12 a b
  · obtain ⟨a, b, rfl⟩ : ∃ (a : Fin 512) (b : Fin 512), x = ix2 a b := ⟨x 0, x 1, by funext i; fin_cases i <;> rfl⟩
    refine Eq.trans ?_ (congrArg (fun y : S512x1024.Idx => (eD (bx i x0 x1 x2 x3 (y 0)) (fun j => x5 (ix2 0 j)) (fun c => x9 (ix2 0 c)) (fun k c => x10 (ix2 k c)) (y 1) : EReal)) (e12 a b)).symm
    exact p32 i x0 x1 x2 x3 x4 x5 x6 x7 x8 x9 x10 x11 x12 a b

end Cert.Preparing

end
-- ==== Proof.OnesPrep.lean ====
/- The words of the recurrence preparation's literal of the segments' ones. -/
module

public import proofs.«01_k».proof.Proof.Gen.PrepIdeal.Launch
public import proofs.«01_k».proof.Proof.OnesIn
public import Idealize.ShloMosaic.Lib.Pipeline.ValueKit.Point

@[expose] public section

set_option maxRecDepth 16384

noncomputable section

namespace Cert.Preparing

open Idealize.ShloMosaic Cert.PrepIdeal
open Cert.Projecting (half one zero)

/-- The entries with ones in the first half. -/
theorem leafA (i : ℕ) : lit0t0_0 i = half 0 i := by
  unfold lit0t0_0 half
  have h : i % 128 < 128 := Nat.mod_lt _ (by decide)
  generalize i % 128 = r at h ⊢
  interval_cases r <;> rfl

/-- The entries with ones in the second half. -/
theorem leafB (i : ℕ) : lit0t0_128 i = half 1 i := by
  unfold lit0t0_128 half
  have h : i % 128 < 128 := Nat.mod_lt _ (by decide)
  generalize i % 128 = r at h ⊢
  interval_cases r <;> rfl

/-- The entries without ones. -/
theorem leafZ (i : ℕ) : lit0t0_1 i = half 2 i := by
  unfold lit0t0_1 half
  have h : i % 128 < 128 := Nat.mod_lt _ (by decide)
  generalize i % 128 = r at h ⊢
  interval_cases r <;> rfl

/-- The first 64 rows. -/
theorem rows0 (i : ℕ) : lit0t1_0 i = if i / 128 % 128 % 2 = 0 then half 0 i else half 2 i := by
  unfold lit0t1_0
  have h : i / 128 % 128 < 128 := Nat.mod_lt _ (by decide)
  generalize i / 128 % 128 = r at h ⊢
  interval_cases r <;> first | exact leafA i | exact leafZ i

/-- The second 64 rows. -/
theorem rows1 (i : ℕ) : lit0t1_1 i = if i / 128 % 128 % 2 = 0 then half 1 i else half 2 i := by
  unfold lit0t1_1
  have h : i / 128 % 128 < 128 := Nat.mod_lt _ (by decide)
  generalize i / 128 % 128 = r at h ⊢
  interval_cases r <;> first | exact leafB i | exact leafZ i

/-- The third 64 rows. -/
theorem rows2 (i : ℕ) : lit0t1_2 i = if i / 128 % 128 % 2 = 0 then half 2 i else half 0 i := by
  unfold lit0t1_2
  have h : i / 128 % 128 < 128 := Nat.mod_lt _ (by decide)
  generalize i / 128 % 128 = r at h ⊢
  interval_cases r <;> first | exact leafZ i | exact leafA i

/-- The fourth 64 rows. -/
theorem rows3 (i : ℕ) : lit0t1_3 i = if i / 128 % 128 % 2 = 0 then half 2 i else half 1 i := by
  unfold lit0t1_3
  have h : i / 128 % 128 < 128 := Nat.mod_lt _ (by decide)
  generalize i / 128 % 128 = r at h ⊢
  interval_cases r <;> first | exact leafZ i | exact leafB i

/-- The literal at a row and a lane. -/
theorem words (k j : Fin 256) : lit0t (k.val * 256 + j.val) = if k.val / 64 = j.val / 64 then 0x3F80#16 else 0x0000#16 := by
  have h : (k.val * 256 + j.val) / 16384 = k.val / 64 := by omega
  have h4 : k.val / 64 < 4 := by omega
  unfold lit0t
  rw [h]
  generalize k.val / 64 = q at h h4 ⊢
  interval_cases q
  · refine (rows0 _).trans ?_
    unfold half
    split <;> split <;> split <;> first | rfl | omega
  · refine (rows1 _).trans ?_
    unfold half
    split <;> split <;> split <;> first | rfl | omega
  · refine (rows2 _).trans ?_
    unfold half
    split <;> split <;> split <;> first | rfl | omega
  · refine (rows3 _).trans ?_
    unfold half
    split <;> split <;> split <;> first | rfl | omega

/-- The literal's numbers: ones where row and lane are of one segment. -/
theorem ones (k j : Fin 256) : FloatOps.ofBits (F := Ideal) .bf16 (lit0 (S256x256.rowMajor (ix2 k j))) = if k.val / 64 = j.val / 64 then (1 : EReal) else 0 := by
  have h : lit0 (S256x256.rowMajor (ix2 k j)) = lit0t (k.val * 256 + j.val) := by
    refine congrArg lit0t ((Shape.rowMajor_val_two _).trans ?_)
    rfl
  rw [h, words]
  split
  · exact one
  · exact zero

end Cert.Preparing

end
-- ==== Proof.PrepArray.lean ====
/- The arrays the recurrence's preparation leaves, from its arguments. -/
module

public import proofs.«01_k».proof.Proof.PrepOut
public import proofs.«01_k».proof.Proof.OnesPrep

@[expose] public section

set_option maxRecDepth 16384

noncomputable section

namespace Cert.Preparing

open Idealize.ShloMosaic Idealize.ShloMosaic.TcCoe Cert.PrepIdeal Cert.PrepIdeal.Gen Cert.Rows
open Idealize.ShloMosaic.Pipeline (Dat)
open Cert.Projecting (Ones)

/-- The convolution of a row, from the arguments: before the first row of a sequence and after its last lie zeros. -/
def gx (pc : FVec Ideal S16384x1920 .f32) (conv : FVec Ideal S3x1920 .f32) (r : Fin 16384) (c : Fin 1920) : EReal :=
  (if r.val % 2048 = 0 then 0 else pc (ix2 ⟨(r.val + 16383) % 16384, by omega⟩ c)) * conv (ix2 0 c)
    + pc (ix2 r c) * conv (ix2 1 c)
    + (if r.val % 2048 = 2047 then 0 else pc (ix2 ⟨(r.val + 1) % 16384, by omega⟩ c)) * conv (ix2 2 c)

/-- The weights of two directions, side by side on the diagonal. -/
def bdm (w : FVec Ideal S2x64x512 .f32) (k : Fin 128) (c : Fin 1024) : EReal :=
  if k.val / 64 = c.val / 512 then w (ix3 ⟨c.val / 512, by omega⟩ ⟨k.val % 64, by omega⟩ ⟨c.val % 512, by omega⟩) else 0

/-- A row of either direction's lanes. -/
def row2 (w : FVec Ideal S2x512 .f32) (c : Fin 1024) : EReal := w (ix2 ⟨c.val / 512, by omega⟩ ⟨c.val % 512, by omega⟩)

/-- A block whose reads are the arguments' has the arguments' convolution. -/
theorem bx_eq (i : grid0.Coords) (x0 : Vec Ideal S512x1920 .f32) (x1 x2 : Vec Ideal S8x1920 .f32) (x3 : Vec Ideal S3x1920 .f32)
    (pc : FVec Ideal S16384x1920 .f32) (conv : FVec Ideal S3x1920 .f32) (b : ℕ) (hb : b < 8) (hi : (i 1).val < 4) (f : Fin 512 → Fin 16384)
    (hf : ∀ a, (f a).val = (b * 4 + (i 1).val) * 512 + a.val)
    (h0 : ∀ a e, x0 (ix2 a e) = pc (ix2 (f a) e))
    (h1 : ∀ e, x1 (ix2 7 e) = pc (ix2 ⟨(b * 256 + ((i 1).val * 64 - 1)) * 8 + 7, by omega⟩ e))
    (h2 : ∀ e, x2 (ix2 0 e) = pc (ix2 ⟨(b * 256 + min (((i 1).val + 1) * 64) 255) * 8, by omega⟩ e))
    (h3 : ∀ a e, x3 (ix2 a e) = conv (ix2 a e)) (r : Fin 512) : bx i x0 x1 x2 x3 r = gx pc conv (f r) := by
  funext e
  unfold bx gx
  rw [h0, h0, h0, h1, h2, h3, h3, h3]
  have hr := hf r
  congr 1
  · congr 2
    by_cases hr0 : r.val = 0
    · rw [if_pos hr0]
      by_cases hp : 0 < (i 1).val
      · rw [if_pos hp, if_neg (by omega)]
        exact congrArg (fun q => pc (ix2 q e)) (Fin.ext (by dsimp only; omega))
      · rw [if_neg hp, if_pos (by omega)]
    · rw [if_neg hr0, if_neg (by omega)]
      exact congrArg (fun q => pc (ix2 q e)) (Fin.ext (by have := hf ⟨(r.val + 511) % 512, by omega⟩; dsimp only at this ⊢; omega))
  · congr 1
    by_cases hr0 : r.val = 511
    · rw [if_pos hr0]
      by_cases hp : (i 1).val < 3
      · rw [if_pos hp, if_neg (by omega)]
        exact congrArg (fun q => pc (ix2 q e)) (Fin.ext (by dsimp only; omega))
      · rw [if_neg hp, if_pos (by omega)]
    · rw [if_neg hr0, if_neg (by omega)]
      exact congrArg (fun q => pc (ix2 q e)) (Fin.ext (by have := hf ⟨(r.val + 1) % 512, by omega⟩; dsimp only at this ⊢; omega))

variable (m : (ℓ : Loc nD τ sig) → Buf (Elt Ideal) ℓ)

/-- Every window's block index. -/
theorem idx : ∀ t : Fin cfg0.N,
    (grid0.coords t 0).val < 8 ∧ (grid0.coords t 1).val < 4
    ∧ win0_0.index t = ![(grid0.coords t 0).val * 4 + (grid0.coords t 1).val, 0]
    ∧ win0_1.index t = ![(grid0.coords t 0).val * 256 + ((grid0.coords t 1).val * 64 - 1), 0]
    ∧ win0_2.index t = ![(grid0.coords t 0).val * 256 + min (((grid0.coords t 1).val + 1) * 64) 255, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![(grid0.coords t 0).val * 4 + (grid0.coords t 1).val, 0]
    ∧ win0_14.index t = ![(grid0.coords t 0).val * 4 + (grid0.coords t 1).val, 0]
    ∧ win0_15.index t = ![(grid0.coords t 0).val * 4 + (grid0.coords t 1).val, 0]
    ∧ win0_16.index t = ![(grid0.coords t 0).val * 4 + (grid0.coords t 1).val, 0]
    ∧ win0_17.index t = ![(grid0.coords t 0).val * 4 + (grid0.coords t 1).val, 0]
    ∧ win0_18.index t = ![(grid0.coords t 0).val * 4 + (grid0.coords t 1).val, 0]
    ∧ win0_19.index t = ![(grid0.coords t 0).val * 4 + (grid0.coords t 1).val, 0]
    ∧ win0_20.index t = ![(grid0.coords t 0).val * 4 + (grid0.coords t 1).val, 0] :=
  (by decide +kernel : ∀ t : Fin grid0.N, _)

/-- The row of the arguments that a row of a block is. -/
def at' (t : Fin cfg0.N) (r : Fin 512) : Fin 16384 :=
  ⟨((grid0.coords t 0).val * 4 + (grid0.coords t 1).val) * 512 + r.val, by have := idx t; omega⟩

/-- The block of rows. -/
theorem read_x (c : Dev nD) (t : Fin cfg0.N) (r : Fin 512) (e : Fin 1920) :
    iblk m c 0 t (ix2 r e) = m ((c : Thread nD τ).loc main_arg0) (ix2 (at' t r) e) := by
  unfold at'
  blk_ext [iblk, V, idx t]

/-- The row before the block. -/
theorem read_prev (c : Dev nD) (t : Fin cfg0.N) (e : Fin 1920) : iblk m c 1 t (ix2 7 e) = m ((c : Thread nD τ).loc main_arg0)
    (ix2 ⟨((grid0.coords t 0).val * 256 + ((grid0.coords t 1).val * 64 - 1)) * 8 + 7, by have := idx t; omega⟩ e) := by
  blk_ext [iblk, V, idx t]

/-- The row after the block. -/
theorem read_next (c : Dev nD) (t : Fin cfg0.N) (e : Fin 1920) : iblk m c 2 t (ix2 0 e) = m ((c : Thread nD τ).loc main_arg0)
    (ix2 ⟨((grid0.coords t 0).val * 256 + min (((grid0.coords t 1).val + 1) * 64) 255) * 8, by have := idx t; omega⟩ e) := by
  blk_ext [iblk, V, idx t]

/-- The convolution's weights. -/
theorem read_conv (c : Dev nD) (t : Fin cfg0.N) (a : Fin 3) (e : Fin 1920) :
    iblk m c 3 t (ix2 a e) = m ((c : Thread nD τ).loc main_arg1) (ix2 a e) := by
  blk_ext [iblk, V, idx t]

/-- The direction's factors. -/
theorem read_kk (c : Dev nD) (t : Fin cfg0.N) (e : Fin 512) : iblk m c 4 t (ix2 0 e) = m ((c : Thread nD τ).loc main_arg2) (ix1 e) := by
  blk_ext! [iblk, V, idx t]

/-- The key's factors. -/
theorem read_ka (c : Dev nD) (t : Fin cfg0.N) (e : Fin 512) : iblk m c 5 t (ix2 0 e) = m ((c : Thread nD τ).loc main_arg3) (ix1 e) := by
  blk_ext! [iblk, V, idx t]

/-- The bonus's factors. -/
theorem read_rk (c : Dev nD) (t : Fin cfg0.N) (e : Fin 512) :
    iblk m c 6 t (ix2 0 e) = m ((c : Thread nD τ).loc main_arg4) (ix2 ⟨e.val / 64, by omega⟩ ⟨e.val % 64, by omega⟩) := by
  blk_ext! [iblk, V, idx t]

/-- The decay's shifts. -/
theorem read_w0 (c : Dev nD) (t : Fin cfg0.N) (e : Fin 1024) : iblk m c 7 t (ix2 0 e) = row2 (m ((c : Thread nD τ).loc main_arg5)) e := by
  unfold row2
  blk_ext! [iblk, V, idx t]

/-- The rate's shifts. -/
theorem read_a0 (c : Dev nD) (t : Fin cfg0.N) (e : Fin 1024) : iblk m c 9 t (ix2 0 e) = row2 (m ((c : Thread nD τ).loc main_arg7)) e := by
  unfold row2
  blk_ext! [iblk, V, idx t]

/-- The gate's weights. -/
theorem read_g2 (c : Dev nD) (t : Fin cfg0.N) (k : Fin 128) (e : Fin 512) :
    iblk m c 11 t (ix2 k e) = m ((c : Thread nD τ).loc main_arg9) (ix2 k e) := by
  blk_ext [iblk, V, idx t]

/-- The ones of the segments. -/
theorem read_bd (c : Dev nD) (t : Fin cfg0.N) : Ones (iblk m c 12 t) := by
  intro k j
  have h : iblk m c 12 t (ix2 k j) = V m c main_cst (ix2 k j) := by blk_ext [iblk, idx t]
  refine h.trans (Eq.trans ?_ (ones k j))
  unfold V
  entry_read
  rfl

/-- Equal coordinates are the same index. -/
theorem ix3c {a a' : Fin 2} {b b' : Fin 64} {c c' : Fin 512} (ha : a = a') (hb : b = b') (hc : c = c') : ix3 a b c = ix3 a' b' c' := by
  subst ha hb hc; rfl

/-- The decay's weights. -/
theorem read_w2 (c : Dev nD) (t : Fin cfg0.N) (k : Fin 128) (e : Fin 1024) :
    iblk m c 8 t (ix2 k e) = bdm (m ((c : Thread nD τ).loc main_arg6)) k e := by
  have h : iblk m c 8 t (ix2 k e) = V m c main_v13 (ix2 k e) := by blk_ext [iblk, idx t]
  refine h.trans ?_
  unfold bdm V
  by_cases a : k.val < 64 <;> by_cases b : e.val < 512
  · rw [if_pos (by omega)]
    entry_read
    pointwise
    refine (dif_pos a).trans ((dif_pos b).trans ?_)
    after_results_simp
    pointwise
    exact congrArg (m ((c : Thread nD τ).loc main_arg6)) (ix3c (Fin.ext (by show 0 = _; dsimp only; omega)) (Fin.ext (by dsimp only; omega)) (Fin.ext (by dsimp only; omega)))
  · rw [if_neg (by omega)]
    entry_read
    pointwise
    refine (dif_pos a).trans ((dif_neg b).trans ?_)
    after_results_simp
    pointwise
  · rw [if_neg (by omega)]
    entry_read
    pointwise
    refine (dif_neg a).trans ((dif_pos b).trans ?_)
    after_results_simp
    pointwise
  · rw [if_pos (by omega)]
    entry_read
    pointwise
    refine (dif_neg a).trans ((dif_neg b).trans ?_)
    after_results_simp
    pointwise
    exact congrArg (m ((c : Thread nD τ).loc main_arg6)) (ix3c (Fin.ext (by show 1 = _; dsimp only; omega)) (Fin.ext (by dsimp only; omega)) (Fin.ext (by dsimp only; omega)))

/-- The rate's weights. -/
theorem read_a2 (c : Dev nD) (t : Fin cfg0.N) (k : Fin 128) (e : Fin 1024) :
    iblk m c 10 t (ix2 k e) = bdm (m ((c : Thread nD τ).loc main_arg8)) k e := by
  have h : iblk m c 10 t (ix2 k e) = V m c main_v24 (ix2 k e) := by blk_ext [iblk, idx t]
  refine h.trans ?_
  unfold bdm V
  by_cases a : k.val < 64 <;> by_cases b : e.val < 512
  · rw [if_pos (by omega)]
    entry_read
    pointwise
    refine (dif_pos a).trans ((dif_pos b).trans ?_)
    after_results_simp
    pointwise
    exact congrArg (m ((c : Thread nD τ).loc main_arg8)) (ix3c (Fin.ext (by show 0 = _; dsimp only; omega)) (Fin.ext (by dsimp only; omega)) (Fin.ext (by dsimp only; omega)))
  · rw [if_neg (by omega)]
    entry_read
    pointwise
    refine (dif_pos a).trans ((dif_neg b).trans ?_)
    after_results_simp
    pointwise
  · rw [if_neg (by omega)]
    entry_read
    pointwise
    refine (dif_neg a).trans ((dif_pos b).trans ?_)
    after_results_simp
    pointwise
  · rw [if_pos (by omega)]
    entry_read
    pointwise
    refine (dif_neg a).trans ((dif_neg b).trans ?_)
    after_results_simp
    pointwise
    exact congrArg (m ((c : Thread nD τ).loc main_arg8)) (ix3c (Fin.ext (by show 1 = _; dsimp only; omega)) (Fin.ext (by dsimp only; omega)) (Fin.ext (by dsimp only; omega)))

/-- Equal arguments give equal elements. -/
theorem cK {X X' : Fin 1920 → EReal} {kk kk' : Fin 512 → EReal} (hX : X = X') (hkk : kk = kk') (j : Fin 512) :
    eK X kk j = eK X' kk' j := by
  subst hX hkk; rfl

/-- Equal arguments give equal elements. -/
theorem cL {X X' : Fin 1920 → EReal} {w0 w0' : Fin 1024 → EReal} {w2 w2' : Fin 128 → Fin 1024 → EReal} (hX : X = X') (hw0 : w0 = w0') (hw2 : w2 = w2') (j : Fin 1024) :
    eL X w0 w2 j = eL X' w0' w2' j := by
  subst hX hw0 hw2; rfl

/-- Equal arguments give equal elements. -/
theorem cB {X X' : Fin 1920 → EReal} {kk kk' : Fin 512 → EReal} {a0 a0' : Fin 1024 → EReal} {a2 a2' : Fin 128 → Fin 1024 → EReal} (hX : X = X') (hkk : kk = kk') (ha0 : a0 = a0') (ha2 : a2 = a2') (j : Fin 1024) :
    eB X kk a0 a2 j = eB X' kk' a0' a2' j := by
  subst hX hkk ha0 ha2; rfl

/-- Equal arguments give equal elements. -/
theorem cD {X X' : Fin 1920 → EReal} {ka ka' : Fin 512 → EReal} {a0 a0' : Fin 1024 → EReal} {a2 a2' : Fin 128 → Fin 1024 → EReal} (hX : X = X') (hka : ka = ka') (ha0 : a0 = a0') (ha2 : a2 = a2') (j : Fin 1024) :
    eD X ka a0 a2 j = eD X' ka' a0' a2' j := by
  subst hX hka ha0 ha2; rfl

/-- Equal arguments give equal elements. -/
theorem cG {X X' : Fin 1920 → EReal} {g2 g2' : Fin 128 → Fin 512 → EReal} (hX : X = X') (hg2 : g2 = g2') (j : Fin 512) :
    eG X g2 j = eG X' g2' j := by
  subst hX hg2; rfl

/-- Equal arguments give equal elements. -/
theorem cU {X X' : Fin 1920 → EReal} {ka ka' : Fin 512 → EReal} {rk rk' : Fin 512 → EReal} {a0 a0' : Fin 1024 → EReal} {a2 a2' : Fin 128 → Fin 1024 → EReal} (hX : X = X') (hka : ka = ka') (hrk : rk = rk') (ha0 : a0 = a0') (ha2 : a2 = a2') (j : Fin 512) :
    eU X ka rk a0 a2 j = eU X' ka' rk' a0' a2' j := by
  subst hX hka hrk ha0 ha2; rfl

/-- One element of the receptance. -/
def elR (pc : FVec Ideal S16384x1920 .f32) (conv : FVec Ideal S3x1920 .f32) (r : Fin 16384) (j : Fin 512) : EReal :=
  gx pc conv r ⟨0 + j.val, by omega⟩

/-- The receptance. -/
def aR (pc : FVec Ideal S16384x1920 .f32) (conv : FVec Ideal S3x1920 .f32) : FVec Ideal S16384x512 .bf16 := fun y => elR pc conv (y 0) (y 1)

/-- Where the block of the receptance lies. -/
theorem emb13 (t : Fin cfg0.N) (r : Fin 512) (k : Fin 512) : (win0_13.blk t).view.emb (ix2 r k) = ix2 (at' t r) k := by
  funext i
  fin_cases i <;> refine Fin.ext ?_ <;> blk_simp [idx t] <;> rfl

/-- The receptance, after the run. -/
theorem final13 (c : Dev nD) : (dats m 0 c).arrAt 13 cfg0.N = aR (m ((c : Thread nD τ).loc main_arg0)) (m ((c : Thread nD τ).loc main_arg1)) := by
  refine (dats m 0 c).arrAt_eq_of_covers 13 _ (by decide +kernel) fun t hf y => ?_
  blk_simp
  rw [after0_13]
  obtain ⟨r, k, rfl⟩ : ∃ (r : Fin 512) (k : Fin 512), y = ix2 r k := ⟨y 0, y 1, by funext i; fin_cases i <;> rfl⟩
  refine (out13_apply _ _ _ _ _ _ _ _ _ _ _ _ _ _ r k).trans (Eq.trans ?_ (congrArg (aR _ _) (emb13 t r k)).symm)
  exact congrFun (bx_eq _ _ _ _ _ _ _ (grid0.coords t 0).val (idx t).1 (idx t).2.1 (at' t) (fun _ => rfl) (read_x m c t) (read_prev m c t) (read_next m c t) (read_conv m c t) r) ⟨0 + k.val, by omega⟩

/-- One element of the values. -/
def elV (pc : FVec Ideal S16384x1920 .f32) (conv : FVec Ideal S3x1920 .f32) (r : Fin 16384) (j : Fin 512) : EReal :=
  gx pc conv r ⟨1024 + j.val, by omega⟩

/-- The values. -/
def aV (pc : FVec Ideal S16384x1920 .f32) (conv : FVec Ideal S3x1920 .f32) : FVec Ideal S16384x512 .bf16 := fun y => elV pc conv (y 0) (y 1)

/-- Where the block of the values lies. -/
theorem emb14 (t : Fin cfg0.N) (r : Fin 512) (k : Fin 512) : (win0_14.blk t).view.emb (ix2 r k) = ix2 (at' t r) k := by
  funext i
  fin_cases i <;> refine Fin.ext ?_ <;> blk_simp [idx t] <;> rfl

/-- The values, after the run. -/
theorem final14 (c : Dev nD) : (dats m 0 c).arrAt 14 cfg0.N = aV (m ((c : Thread nD τ).loc main_arg0)) (m ((c : Thread nD τ).loc main_arg1)) := by
  refine (dats m 0 c).arrAt_eq_of_covers 14 _ (by decide +kernel) fun t hf y => ?_
  blk_simp
  rw [after0_14]
  obtain ⟨r, k, rfl⟩ : ∃ (r : Fin 512) (k : Fin 512), y = ix2 r k := ⟨y 0, y 1, by funext i; fin_cases i <;> rfl⟩
  refine (out14_apply _ _ _ _ _ _ _ _ _ _ _ _ _ _ r k).trans (Eq.trans ?_ (congrArg (aV _ _) (emb14 t r k)).symm)
  exact congrFun (bx_eq _ _ _ _ _ _ _ (grid0.coords t 0).val (idx t).1 (idx t).2.1 (at' t) (fun _ => rfl) (read_x m c t) (read_prev m c t) (read_next m c t) (read_conv m c t) r) ⟨1024 + k.val, by omega⟩

/-- One element of the directions. -/
def elK (pc : FVec Ideal S16384x1920 .f32) (conv : FVec Ideal S3x1920 .f32) (kk : FVec Ideal S512 .f32) (r : Fin 16384) (j : Fin 512) : EReal :=
  eK (gx pc conv r) (fun i => kk (ix1 i)) j

/-- The directions. -/
def aK (pc : FVec Ideal S16384x1920 .f32) (conv : FVec Ideal S3x1920 .f32) (kk : FVec Ideal S512 .f32) : FVec Ideal S16384x512 .bf16 := fun y => elK pc conv kk (y 0) (y 1)

/-- Where the block of the directions lies. -/
theorem emb15 (t : Fin cfg0.N) (r : Fin 512) (k : Fin 512) : (win0_15.blk t).view.emb (ix2 r k) = ix2 (at' t r) k := by
  funext i
  fin_cases i <;> refine Fin.ext ?_ <;> blk_simp [idx t] <;> rfl

/-- The directions, after the run. -/
theorem final15 (c : Dev nD) : (dats m 0 c).arrAt 15 cfg0.N = aK (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  obtain ⟨r, k, rfl⟩ : ∃ (r : Fin 512) (k : Fin 512), y = ix2 r k := ⟨y 0, y 1, by funext i; fin_cases i <;> rfl⟩
  refine (out15_apply _ _ _ _ _ _ _ _ _ _ _ _ _ _ (read_bd m c t) r k).trans (Eq.trans ?_ (congrArg (aK _ _ _) (emb15 t r k)).symm)
  exact cK (bx_eq _ _ _ _ _ _ _ (grid0.coords t 0).val (idx t).1 (idx t).2.1 (at' t) (fun _ => rfl) (read_x m c t) (read_prev m c t) (read_next m c t) (read_conv m c t) r) (funext (read_kk m c t)) k

/-- One element of the logarithms of the decay. -/
def elL (pc : FVec Ideal S16384x1920 .f32) (conv : FVec Ideal S3x1920 .f32) (w0 : FVec Ideal S2x512 .f32) (w2 : FVec Ideal S2x64x512 .f32) (r : Fin 16384) (j : Fin 1024) : EReal :=
  eL (gx pc conv r) (row2 w0) (bdm w2) j

/-- The logarithms of the decay. -/
def aL (pc : FVec Ideal S16384x1920 .f32) (conv : FVec Ideal S3x1920 .f32) (w0 : FVec Ideal S2x512 .f32) (w2 : FVec Ideal S2x64x512 .f32) : FVec Ideal S16384x1024 .f32 := fun y => elL pc conv w0 w2 (y 0) (y 1)

/-- Where the block of the logarithms of the decay lies. -/
theorem emb16 (t : Fin cfg0.N) (r : Fin 512) (k : Fin 1024) : (win0_16.blk t).view.emb (ix2 r k) = ix2 (at' t r) k := by
  funext i
  fin_cases i <;> refine Fin.ext ?_ <;> blk_simp [idx t] <;> rfl

/-- The logarithms of the decay, after the run. -/
theorem final16 (c : Dev nD) : (dats m 0 c).arrAt 16 cfg0.N = aL (m ((c : Thread nD τ).loc main_arg0)) (m ((c : Thread nD τ).loc main_arg1)) (m ((c : Thread nD τ).loc main_arg5)) (m ((c : Thread nD τ).loc main_arg6)) := by
  refine (dats m 0 c).arrAt_eq_of_covers 16 _ (by decide +kernel) fun t hf y => ?_
  blk_simp
  rw [after0_16]
  obtain ⟨r, k, rfl⟩ : ∃ (r : Fin 512) (k : Fin 1024), y = ix2 r k := ⟨y 0, y 1, by funext i; fin_cases i <;> rfl⟩
  refine (out16_apply _ _ _ _ _ _ _ _ _ _ _ _ _ _ r k).trans (Eq.trans ?_ (congrArg (aL _ _ _ _) (emb16 t r k)).symm)
  exact cL (bx_eq _ _ _ _ _ _ _ (grid0.coords t 0).val (idx t).1 (idx t).2.1 (at' t) (fun _ => rfl) (read_x m c t) (read_prev m c t) (read_next m c t) (read_conv m c t) r) (funext (read_w0 m c t)) (funext fun k => funext (read_w2 m c t k)) k

/-- One element of the directions times the rates. -/
def elB (pc : FVec Ideal S16384x1920 .f32) (conv : FVec Ideal S3x1920 .f32) (kk : FVec Ideal S512 .f32) (a0 : FVec Ideal S2x512 .f32) (a2 : FVec Ideal S2x64x512 .f32) (r : Fin 16384) (j : Fin 1024) : EReal :=
  eB (gx pc conv r) (fun i => kk (ix1 i)) (row2 a0) (bdm a2) j

/-- The directions times the rates. -/
def aB (pc : FVec Ideal S16384x1920 .f32) (conv : FVec Ideal S3x1920 .f32) (kk : FVec Ideal S512 .f32) (a0 : FVec Ideal S2x512 .f32) (a2 : FVec Ideal S2x64x512 .f32) : FVec Ideal S16384x1024 .bf16 := fun y => elB pc conv kk a0 a2 (y 0) (y 1)

/-- Where the block of the directions times the rates lies. -/
theorem emb17 (t : Fin cfg0.N) (r : Fin 512) (k : Fin 1024) : (win0_17.blk t).view.emb (ix2 r k) = ix2 (at' t r) k := by
  funext i
  fin_cases i <;> refine Fin.ext ?_ <;> blk_simp [idx t] <;> rfl

/-- The directions times the rates, after the run. -/
theorem final17 (c : Dev nD) : (dats m 0 c).arrAt 17 cfg0.N = aB (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 17 _ (by decide +kernel) fun t hf y => ?_
  blk_simp
  rw [after0_17]
  obtain ⟨r, k, rfl⟩ : ∃ (r : Fin 512) (k : Fin 1024), y = ix2 r k := ⟨y 0, y 1, by funext i; fin_cases i <;> rfl⟩
  refine (out17_apply _ _ _ _ _ _ _ _ _ _ _ _ _ _ (read_bd m c t) r k).trans (Eq.trans ?_ (congrArg (aB _ _ _ _ _) (emb17 t r k)).symm)
  exact cB (bx_eq _ _ _ _ _ _ _ (grid0.coords t 0).val (idx t).1 (idx t).2.1 (at' t) (fun _ => rfl) (read_x m c t) (read_prev m c t) (read_next m c t) (read_conv m c t) r) (funext (read_kk m c t)) (funext (read_a0 m c t)) (funext fun k => funext (read_a2 m c t k)) k

/-- One element of the keys of each direction. -/
def elD (pc : FVec Ideal S16384x1920 .f32) (conv : FVec Ideal S3x1920 .f32) (ka : FVec Ideal S512 .f32) (a0 : FVec Ideal S2x512 .f32) (a2 : FVec Ideal S2x64x512 .f32) (r : Fin 16384) (j : Fin 1024) : EReal :=
  eD (gx pc conv r) (fun i => ka (ix1 i)) (row2 a0) (bdm a2) j

/-- The keys of each direction. -/
def aD (pc : FVec Ideal S16384x1920 .f32) (conv : FVec Ideal S3x1920 .f32) (ka : FVec Ideal S512 .f32) (a0 : FVec Ideal S2x512 .f32) (a2 : FVec Ideal S2x64x512 .f32) : FVec Ideal S16384x1024 .bf16 := fun y => elD pc conv ka a0 a2 (y 0) (y 1)

/-- Where the block of the keys of each direction lies. -/
theorem emb18 (t : Fin cfg0.N) (r : Fin 512) (k : Fin 1024) : (win0_18.blk t).view.emb (ix2 r k) = ix2 (at' t r) k := by
  funext i
  fin_cases i <;> refine Fin.ext ?_ <;> blk_simp [idx t] <;> rfl

/-- The keys of each direction, after the run. -/
theorem final18 (c : Dev nD) : (dats m 0 c).arrAt 18 cfg0.N = aD (m ((c : Thread nD τ).loc main_arg0)) (m ((c : Thread nD τ).loc main_arg1)) (m ((c : Thread nD τ).loc main_arg3)) (m ((c : Thread nD τ).loc main_arg7)) (m ((c : Thread nD τ).loc main_arg8)) := by
  refine (dats m 0 c).arrAt_eq_of_covers 18 _ (by decide +kernel) fun t hf y => ?_
  blk_simp
  rw [after0_18]
  obtain ⟨r, k, rfl⟩ : ∃ (r : Fin 512) (k : Fin 1024), y = ix2 r k := ⟨y 0, y 1, by funext i; fin_cases i <;> rfl⟩
  refine (out18_apply _ _ _ _ _ _ _ _ _ _ _ _ _ _ r k).trans (Eq.trans ?_ (congrArg (aD _ _ _ _ _) (emb18 t r k)).symm)
  exact cD (bx_eq _ _ _ _ _ _ _ (grid0.coords t 0).val (idx t).1 (idx t).2.1 (at' t) (fun _ => rfl) (read_x m c t) (read_prev m c t) (read_next m c t) (read_conv m c t) r) (funext (read_ka m c t)) (funext (read_a0 m c t)) (funext fun k => funext (read_a2 m c t k)) k

/-- One element of the gates. -/
def elG (pc : FVec Ideal S16384x1920 .f32) (conv : FVec Ideal S3x1920 .f32) (g2 : FVec Ideal S128x512 .f32) (r : Fin 16384) (j : Fin 512) : EReal :=
  eG (gx pc conv r) (fun k i => g2 (ix2 k i)) j

/-- The gates. -/
def aG (pc : FVec Ideal S16384x1920 .f32) (conv : FVec Ideal S3x1920 .f32) (g2 : FVec Ideal S128x512 .f32) : FVec Ideal S16384x512 .f32 := fun y => elG pc conv g2 (y 0) (y 1)

/-- Where the block of the gates lies. -/
theorem emb19 (t : Fin cfg0.N) (r : Fin 512) (k : Fin 512) : (win0_19.blk t).view.emb (ix2 r k) = ix2 (at' t r) k := by
  funext i
  fin_cases i <;> refine Fin.ext ?_ <;> blk_simp [idx t] <;> rfl

/-- The gates, after the run. -/
theorem final19 (c : Dev nD) : (dats m 0 c).arrAt 19 cfg0.N = aG (m ((c : Thread nD τ).loc main_arg0)) (m ((c : Thread nD τ).loc main_arg1)) (m ((c : Thread nD τ).loc main_arg9)) := by
  refine (dats m 0 c).arrAt_eq_of_covers 19 _ (by decide +kernel) fun t hf y => ?_
  blk_simp
  rw [after0_19]
  obtain ⟨r, k, rfl⟩ : ∃ (r : Fin 512) (k : Fin 512), y = ix2 r k := ⟨y 0, y 1, by funext i; fin_cases i <;> rfl⟩
  refine (out19_apply _ _ _ _ _ _ _ _ _ _ _ _ _ _ r k).trans (Eq.trans ?_ (congrArg (aG _ _ _) (emb19 t r k)).symm)
  exact cG (bx_eq _ _ _ _ _ _ _ (grid0.coords t 0).val (idx t).1 (idx t).2.1 (at' t) (fun _ => rfl) (read_x m c t) (read_prev m c t) (read_next m c t) (read_conv m c t) r) (funext fun k => funext (read_g2 m c t k)) k

/-- One element of the bonuses. -/
def elU (pc : FVec Ideal S16384x1920 .f32) (conv : FVec Ideal S3x1920 .f32) (ka : FVec Ideal S512 .f32) (rk : FVec Ideal S8x64 .f32) (a0 : FVec Ideal S2x512 .f32) (a2 : FVec Ideal S2x64x512 .f32) (r : Fin 16384) (j : Fin 512) : EReal :=
  eU (gx pc conv r) (fun i => ka (ix1 i)) (fun i => rk (ix2 ⟨i.val / 64, by omega⟩ ⟨i.val % 64, by omega⟩)) (row2 a0) (bdm a2) j

/-- The bonuses. -/
def aU (pc : FVec Ideal S16384x1920 .f32) (conv : FVec Ideal S3x1920 .f32) (ka : FVec Ideal S512 .f32) (rk : FVec Ideal S8x64 .f32) (a0 : FVec Ideal S2x512 .f32) (a2 : FVec Ideal S2x64x512 .f32) : FVec Ideal S16384x512 .f32 := fun y => elU pc conv ka rk a0 a2 (y 0) (y 1)

/-- Where the block of the bonuses lies. -/
theorem emb20 (t : Fin cfg0.N) (r : Fin 512) (k : Fin 512) : (win0_20.blk t).view.emb (ix2 r k) = ix2 (at' t r) k := by
  funext i
  fin_cases i <;> refine Fin.ext ?_ <;> blk_simp [idx t] <;> rfl

/-- The bonuses, after the run. -/
theorem final20 (c : Dev nD) : (dats m 0 c).arrAt 20 cfg0.N = aU (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := by
  refine (dats m 0 c).arrAt_eq_of_covers 20 _ (by decide +kernel) fun t hf y => ?_
  blk_simp
  rw [after0_20]
  obtain ⟨r, k, rfl⟩ : ∃ (r : Fin 512) (k : Fin 512), y = ix2 r k := ⟨y 0, y 1, by funext i; fin_cases i <;> rfl⟩
  refine (out20_apply _ _ _ _ _ _ _ _ _ _ _ _ _ _ (read_bd m c t) r k).trans (Eq.trans ?_ (congrArg (aU _ _ _ _ _ _) (emb20 t r k)).symm)
  exact cU (bx_eq _ _ _ _ _ _ _ (grid0.coords t 0).val (idx t).1 (idx t).2.1 (at' t) (fun _ => rfl) (read_x m c t) (read_prev m c t) (read_next m c t) (read_conv m c t) r) (funext (read_ka m c t)) (funext (read_rk m c t)) (funext (read_a0 m c t)) (funext fun k => funext (read_a2 m c t k)) k

end Cert.Preparing

end
-- ==== Proof.PrepNum.lean ====
/- The reference's elements of the recurrence's preparation, and the kernel's on finite values. -/
module

public import proofs.«01_k».proof.Defs
public import proofs.«01_k».proof.Proof.Gen.PrepReferenceIdeal.Read
public import proofs.«01_k».proof.Proof.PrepArray
public import proofs.«01_k».proof.Proof.OutRef

@[expose] public section

set_option maxRecDepth 16384

noncomputable section

namespace Cert.Preparing

open Idealize.ShloMosaic Cert.Rows Cert.PrepReferenceIdeal Cert.PrepReferenceIdeal.Read
open Cert.Output (sg sg_eq rn)

/-- A direction's product of a row's lanes and the direction's weights. -/
def rdot (f : Fin 128 → EReal) (w : FVec Ideal S2x64x512 .f32) (c : Fin 1024) : EReal :=
  ∑ d : Fin 64, w (ix3 ⟨c.val / 512, by omega⟩ d ⟨c.val % 512, by omega⟩) * f ⟨c.val / 512 * 64 + d.val, by omega⟩

/-- The direction, as the reference has it. -/
def rK (X : Fin 1920 → EReal) (kk : Fin 512 → EReal) (j : Fin 512) : EReal :=
  dirn (fun i => X ⟨512 + i.val, by omega⟩ * kk i) (sg fun i => X ⟨512 + i.val, by omega⟩ * kk i * (X ⟨512 + i.val, by omega⟩ * kk i)) j

/-- The logarithm of the decay, as the reference has it. -/
def rL (X : Fin 1920 → EReal) (w0 : Fin 1024 → EReal) (w2 : FVec Ideal S2x64x512 .f32) (c : Fin 1024) : EReal :=
  Ideal.ofBits .f32 0xBF1B4598#32 * Ideal.logistic (w0 c + rdot (fun k => Ideal.tanh (X ⟨1536 + k.val, by omega⟩)) w2 c)

/-- The rate, as the reference has it. -/
def rA (X : Fin 1920 → EReal) (a0 : Fin 1024 → EReal) (a2 : FVec Ideal S2x64x512 .f32) (c : Fin 1024) : EReal :=
  Ideal.logistic (a0 c + rdot (fun k => X ⟨1664 + k.val, by omega⟩) a2 c)

/-- The key of each direction, as the reference has it. -/
def rD (X : Fin 1920 → EReal) (ka : Fin 512 → EReal) (a0 : Fin 1024 → EReal) (a2 : FVec Ideal S2x64x512 .f32) (c : Fin 1024) : EReal :=
  kdir (X ⟨512 + c.val % 512, by omega⟩) (rA X a0 a2 c) (ka ⟨c.val % 512, by omega⟩)

/-- The gate, as the reference has it. -/
def rG (X : Fin 1920 → EReal) (g2 : Fin 128 → Fin 512 → EReal) (j : Fin 512) : EReal :=
  ∑ k : Fin 128, Ideal.logistic (X ⟨1792 + k.val, by omega⟩) * g2 k j

/-- The bonus, as the reference has it. -/
def rU (X : Fin 1920 → EReal) (ka rk : Fin 512 → EReal) (a0 : Fin 1024 → EReal) (a2 : FVec Ideal S2x64x512 .f32) (j : Fin 512) : EReal :=
  (∑ d : Fin 2, sg (fun i => X ⟨i.val, by omega⟩ * rD X ka a0 a2 ⟨d.val * 512 + i.val, by omega⟩ * rk i) j) * X ⟨1024 + j.val, by omega⟩

/-- One term of a direction's bonus. -/
def term (X : Fin 1920 → EReal) (ka rk : Fin 512 → EReal) (a0 : Fin 1024 → EReal) (a2 : FVec Ideal S2x64x512 .f32) (d : Fin 2) (i : Fin 512) : EReal :=
  X ⟨i.val, by omega⟩ * rD X ka a0 a2 ⟨d.val * 512 + i.val, by omega⟩ * rk i

/-- The bonus's factors, on one row. -/
def rkr (x4 : FVec Ideal S8x64 .f32) (i : Fin 512) : EReal := x4 (ix2 ⟨i.val / 64, by omega⟩ ⟨i.val % 64, by omega⟩)

/-- One is one. -/
theorem one_eq : Ideal.ofBits .f32 0x3F800000#32 = 1 := by
  exact Cert.Rows.w1.trans EReal.coe_one

section
open Cert.PrepIdeal (grid0)

/-- The hyperbolic tangent is finite. -/
theorem tanh_fin (x : EReal) : IsR (Ideal.tanh x) := by
  induction x with
  | bot => exact ⟨-1, by show (-1 : EReal) = _; simp⟩
  | top => exact ⟨1, rfl⟩
  | coe r => exact ⟨Real.tanh r, rfl⟩

/-- The logistic function is finite. -/
theorem logistic_fin (x : EReal) : IsR (Ideal.logistic x) := by
  induction x with
  | bot => exact ⟨0, by simp⟩
  | top => exact ⟨1, by simp⟩
  | coe r => exact ⟨(1 + Real.exp (-r))⁻¹, by simp⟩

/-- Zero is finite. -/
theorem zero_fin : IsR 0 := ⟨0, rfl⟩

/-- The product in three passes of finite values is the product. -/
theorem d3_eq (f w : Fin 128 → EReal) (hf : ∀ k, IsR (f k)) (hw : ∀ k, IsR (w k)) : d3 f w = ∑ k, f k * w k := by
  unfold d3
  have e1 : ∀ k, f k - f k = 0 := fun k => (hf k).sub_self
  have e2 : ∀ k, w k - w k = 0 := fun k => (hw k).sub_self
  simp only [e1, e2, zero_mul, mul_zero, Finset.sum_const_zero, add_zero]

/-- The sum over a segment of finite values. -/
theorem ks_eq (f : Fin 512 → EReal) (hf : ∀ k, IsR (f k)) : ks f = sg f := by
  funext j
  unfold ks
  have e : (fun i => f i - f i) = fun _ => (0 : EReal) := funext fun i => (hf i).sub_self
  rw [e]
  unfold sg
  simp only [Finset.sum_const_zero, add_zero]

/-- The weights side by side are finite. -/
theorem bdm_fin (w : FVec Ideal S2x64x512 .f32) (hw : ∀ a b c, IsR (w (ix3 a b c))) (k : Fin 128) (c : Fin 1024) : IsR (bdm w k c) := by
  unfold bdm
  split
  · exact hw _ _ _
  · exact zero_fin

/-- The product with the weights side by side is a direction's. -/
theorem bdm_dot (f : Fin 128 → EReal) (w : FVec Ideal S2x64x512 .f32) (c : Fin 1024) : ∑ k, f k * bdm w k c = rdot f w c := by
  have h : ∑ k, f k * bdm w k c = (∑ d : Fin 64, f ⟨d.val, by omega⟩ * bdm w ⟨d.val, by omega⟩ c) + ∑ d : Fin 64, f ⟨64 + d.val, by omega⟩ * bdm w ⟨64 + d.val, by omega⟩ c :=
    Fin.sum_univ_add (a := 64) (b := 64) fun k => f k * bdm w k c
  rw [h]
  unfold rdot bdm
  by_cases hc : c.val < 512
  · have z : ∀ d : Fin 64, ¬ (64 + d.val) / 64 = c.val / 512 := fun d => by omega
    have y : ∀ d : Fin 64, d.val / 64 = c.val / 512 := fun d => by omega
    simp only [z, y, if_false, if_true, mul_zero, Finset.sum_const_zero, add_zero]
    refine Finset.sum_congr rfl fun d _ => ?_
    have e1 : (⟨d.val % 64, by omega⟩ : Fin 64) = d := Fin.ext (by dsimp only; omega)
    have e2 : (⟨c.val / 512 * 64 + d.val, by omega⟩ : Fin 128) = ⟨d.val, by omega⟩ := Fin.ext (by dsimp only; omega)
    rw [e1, e2, mul_comm]
  · have z : ∀ d : Fin 64, ¬ d.val / 64 = c.val / 512 := fun d => by omega
    have y : ∀ d : Fin 64, (64 + d.val) / 64 = c.val / 512 := fun d => by omega
    simp only [z, y, if_false, if_true, mul_zero, Finset.sum_const_zero, zero_add]
    refine Finset.sum_congr rfl fun d _ => ?_
    have e1 : (⟨(64 + d.val) % 64, by omega⟩ : Fin 64) = d := Fin.ext (by dsimp only; omega)
    have e2 : (⟨c.val / 512 * 64 + d.val, by omega⟩ : Fin 128) = ⟨64 + d.val, by omega⟩ := Fin.ext (by dsimp only; omega)
    rw [e1, e2, mul_comm]

/-- The direction is the reference's, on finite keys. -/
theorem eK_eq (X : Fin 1920 → EReal) (kk : Fin 512 → EReal) (hX : ∀ c, c.val < 1024 → IsR (X c)) (hk : ∀ i, IsR (kk i)) : eK X kk = rK X kk := by
  funext j
  unfold eK rK
  rw [ks_eq]
  exact fun k => ((hX _ (by dsimp only; omega)).mul (hk k)).mul ((hX _ (by dsimp only; omega)).mul (hk k))

/-- The logarithm of the decay is the reference's. -/
theorem eL_eq (X : Fin 1920 → EReal) (w0 : Fin 1024 → EReal) (w2 : FVec Ideal S2x64x512 .f32) (hw : ∀ a b c, IsR (w2 (ix3 a b c))) :
    eL X w0 (bdm w2) = rL X w0 w2 := by
  funext c
  unfold eL rL
  rw [d3_eq _ _ (fun k => tanh_fin _) (fun k => bdm_fin w2 hw k c), bdm_dot]

/-- The rate is the reference's, on finite lanes. -/
theorem eA_eq (X : Fin 1920 → EReal) (a0 : Fin 1024 → EReal) (a2 : FVec Ideal S2x64x512 .f32) (hX : ∀ c, 1664 ≤ c.val → c.val < 1792 → IsR (X c))
    (hw : ∀ a b c, IsR (a2 (ix3 a b c))) : eA X a0 (bdm a2) = rA X a0 a2 := by
  funext c
  unfold eA rA
  rw [d3_eq _ _ (fun k => hX _ (by dsimp only; omega) (by dsimp only; omega)) (fun k => bdm_fin a2 hw k c), bdm_dot]

/-- The keys are the reference's, on finite lanes. -/
theorem eD_eq (X : Fin 1920 → EReal) (ka : Fin 512 → EReal) (a0 : Fin 1024 → EReal) (a2 : FVec Ideal S2x64x512 .f32)
    (hX : ∀ c, 1664 ≤ c.val → c.val < 1792 → IsR (X c)) (hw : ∀ a b c, IsR (a2 (ix3 a b c))) : eD X ka a0 (bdm a2) = rD X ka a0 a2 := by
  funext c
  unfold eD rD
  rw [eA_eq X a0 a2 hX hw]

/-- The gate is the reference's. -/
theorem eG_eq (X : Fin 1920 → EReal) (g2 : Fin 128 → Fin 512 → EReal) (hg : ∀ k c, IsR (g2 k c)) : eG X g2 = rG X g2 := by
  funext c
  unfold eG rG
  rw [d3_eq _ _ (fun k => logistic_fin _) (fun k => hg k c)]

/-- The reference's keys are finite. -/
theorem rD_fin (X : Fin 1920 → EReal) (ka : Fin 512 → EReal) (a0 : Fin 1024 → EReal) (a2 : FVec Ideal S2x64x512 .f32)
    (hX : ∀ c, c.val < 1024 → IsR (X c)) (hk : ∀ i, IsR (ka i)) (c : Fin 1024) : IsR (rD X ka a0 a2 c) := by
  unfold rD kdir rA
  rw [Cert.Rows.w1]
  exact (hX _ (by dsimp only; omega)).mul (IsR.add ⟨1, rfl⟩ (((logistic_fin _).sub ⟨1, rfl⟩).mul (hk _)))

/-- A finite value times a sum is the sum of the products. -/
theorem distrib {x a b k : EReal} (hx : IsR x) (ha : IsR a) (hb : IsR b) (hk : IsR k) : x * (a + b) * k = x * a * k + x * b * k := by
  obtain ⟨x, rfl⟩ := hx
  obtain ⟨a, rfl⟩ := ha
  obtain ⟨b, rfl⟩ := hb
  obtain ⟨k, rfl⟩ := hk
  norm_cast
  ring

/-- The bonus is the reference's, on finite values. -/
theorem eU_eq (X : Fin 1920 → EReal) (ka rk : Fin 512 → EReal) (a0 : Fin 1024 → EReal) (a2 : FVec Ideal S2x64x512 .f32)
    (hX0 : ∀ c, c.val < 1024 → IsR (X c)) (hX : ∀ c, 1664 ≤ c.val → c.val < 1792 → IsR (X c))
    (hk : ∀ i, IsR (ka i)) (hr : ∀ i, IsR (rk i)) (hw : ∀ a b c, IsR (a2 (ix3 a b c))) : eU X ka rk a0 (bdm a2) = rU X ka rk a0 a2 := by
  funext j
  have hD : ∀ c, IsR (rD X ka a0 a2 c) := rD_fin X ka a0 a2 hX0 hk
  have hx : ∀ i : Fin 512, IsR (X ⟨i.val, by omega⟩) := fun i => hX0 _ (by dsimp only; omega)
  unfold eU rU
  rw [eD_eq X ka a0 a2 hX hw, ks_eq _ fun i => ((hx i).mul ((hD _).add (hD _))).mul (hr i), Fin.sum_univ_two]
  refine congrArg (fun v => v * X ⟨1024 + j.val, by omega⟩) ?_
  unfold sg
  rw [← Finset.sum_add_distrib]
  refine Finset.sum_congr rfl fun d _ => ?_
  refine (distrib (hx _) (hD _) (hD _) (hr _)).trans ?_
  have e0 : ∀ i : Fin 512, (⟨(0 : Fin 2).val * 512 + i.val, by show 0 * 512 + i.val < 1024; omega⟩ : Fin 1024) = ⟨i.val, by omega⟩ :=
    fun i => Fin.ext (by show 0 * 512 + i.val = i.val; omega)
  have e1 : ∀ i : Fin 512, (⟨(1 : Fin 2).val * 512 + i.val, by show 1 * 512 + i.val < 1024; omega⟩ : Fin 1024) = ⟨512 + i.val, by omega⟩ :=
    fun i => Fin.ext (by show 1 * 512 + i.val = 512 + i.val; omega)
  beta_reduce
  rw [e0, e1]

/-- The convolution of finite lanes is finite. -/
theorem gx_fin (pc : FVec Ideal S16384x1920 .f32) (conv : FVec Ideal S3x1920 .f32) (c : Fin 1920) (hp : ∀ r, IsR (pc (ix2 r c))) (hc : ∀ a, IsR (conv (ix2 a c)))
    (r : Fin 16384) : IsR (gx pc conv r c) := by
  have hi : ∀ (p : Prop) [Decidable p] (x : EReal), IsR x → IsR (if p then 0 else x) := fun p _ x h => by
    by_cases hp : p
    · rw [if_pos hp]; exact zero_fin
    · rw [if_neg hp]; exact h
  unfold gx
  exact (((hi _ _ (hp _)).mul (hc _)).add ((hp _).mul (hc _))).add ((hi _ _ (hp _)).mul (hc _))

end

end Cert.Preparing

end
-- ==== Proof.PrepRef.lean ====
/- The reference of the recurrence's preparation, read at an index. -/
module

public import proofs.«01_k».proof.Proof.PrepNum

@[expose] public section

set_option maxRecDepth 16384

noncomputable section

namespace Cert.Preparing

open Idealize.ShloMosaic Cert.Rows Cert.PrepReferenceIdeal Cert.PrepReferenceIdeal.Read
open Cert.Output (sg sg_eq rn)

variable (x0 : FVec Ideal S16384x1920 .f32) (x1 : FVec Ideal S3x1920 .f32) (x2 x3 : FVec Ideal S512 .f32) (x4 : FVec Ideal S8x64 .f32)
  (x5 : FVec Ideal S2x512 .f32) (x6 : FVec Ideal S2x64x512 .f32) (x7 : FVec Ideal S2x512 .f32) (x8 : FVec Ideal S2x64x512 .f32) (x9 : FVec Ideal S128x512 .f32)

/-- The padded sequences. -/
theorem v1_apply (b : Fin 8) (p : Fin 2050) (c : Fin 1920) : val_main_v1 (F := Ideal) x0 (ix3 b p c)
    = if h : 0 < p.val ∧ p.val < 2049 then x0 (ix2 ⟨b.val * 2048 + (p.val - 1), by omega⟩ c) else 0 := by
  unfold val_main_v1 val_main_v0 val_main_call0_v0 val_main_c
  pointwise
  by_cases hp : 0 < p.val ∧ p.val < 2049
  · rw [dif_pos (by omega), dif_pos hp]
  · rw [dif_neg (by omega), dif_neg hp]
    show ((((0#32 : BitVec 32).toInt : ℝ)) : EReal) = 0
    simp

/-- The convolution. -/
theorem v21_apply (b : Fin 8) (s : Fin 2048) (c : Fin 1920) : val_main_v21 (F := Ideal) x0 x1 (ix3 b s c) = gx x0 x1 (rn b s) c := by
  have h := v1_apply x0 b
  unfold val_main_v21 val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2
  generalize val_main_v1 (F := Ideal) x0 = p at h
  pointwise
  simp only [h]
  unfold gx rn
  have e1 : (⟨b.val * 2048 + (1 + s.val - 1), by omega⟩ : Fin 16384) = ⟨b.val * 2048 + s.val, by omega⟩ := Fin.ext (by dsimp only; omega)
  congr 1
  · congr 1
    · congr 1
      by_cases h0 : 0 < s.val
      · rw [dif_pos (by omega), if_neg (by dsimp only; omega)]
        exact congrArg (fun q => x0 (ix2 q c)) (Fin.ext (by dsimp only; omega))
      · rw [dif_neg (by omega), if_pos (by dsimp only; omega)]
    · rw [dif_pos (by omega), e1]
  · congr 1
    by_cases h0 : s.val < 2047
    · rw [dif_pos (by omega), if_neg (by dsimp only; omega)]
      exact congrArg (fun q => x0 (ix2 q c)) (Fin.ext (by dsimp only; omega))
    · rw [dif_neg (by omega), if_pos (by dsimp only; omega)]

/-- The receptance. -/
theorem v22_apply (b : Fin 8) (s : Fin 2048) (j : Fin 512) : val_main_v22 (F := Ideal) x0 x1 (ix3 b s j) = gx x0 x1 (rn b s) ⟨j.val, by omega⟩ := by
  rw [← v21_apply]
  unfold val_main_v22
  generalize val_main_v21 (F := Ideal) x0 x1 = p
  pointwise

/-- The key. -/
theorem v23_apply (b : Fin 8) (s : Fin 2048) (j : Fin 512) : val_main_v23 (F := Ideal) x0 x1 (ix3 b s j) = gx x0 x1 (rn b s) ⟨512 + j.val, by omega⟩ := by
  rw [← v21_apply]
  unfold val_main_v23
  generalize val_main_v21 (F := Ideal) x0 x1 = p
  pointwise

/-- The value. -/
theorem v24_apply (b : Fin 8) (s : Fin 2048) (j : Fin 512) : val_main_v24 (F := Ideal) x0 x1 (ix3 b s j) = gx x0 x1 (rn b s) ⟨1024 + j.val, by omega⟩ := by
  rw [← v21_apply]
  unfold val_main_v24
  generalize val_main_v21 (F := Ideal) x0 x1 = p
  pointwise

end Cert.Preparing

end
-- ==== Proof.PrepRefB.lean ====
/- The reference of the recurrence's preparation, read at an index: the gate, the directions and the decay. -/
module

public import proofs.«01_k».proof.Proof.PrepRef

@[expose] public section

set_option maxRecDepth 16384

noncomputable section

namespace Cert.Preparing

open Idealize.ShloMosaic Cert.Rows Cert.PrepReferenceIdeal Cert.PrepReferenceIdeal.Read
open Cert.Output (sg sg_eq rn)

variable (x0 : FVec Ideal S16384x1920 .f32) (x1 : FVec Ideal S3x1920 .f32) (x2 x3 : FVec Ideal S512 .f32) (x4 : FVec Ideal S8x64 .f32)
  (x5 : FVec Ideal S2x512 .f32) (x6 : FVec Ideal S2x64x512 .f32) (x7 : FVec Ideal S2x512 .f32) (x8 : FVec Ideal S2x64x512 .f32) (x9 : FVec Ideal S128x512 .f32)

/-- The gate. -/
theorem v34_apply (b : Fin 8) (s : Fin 2048) (j : Fin 512) :
    val_main_v34 (F := Ideal) x0 x1 x9 (ix3 b s j) = rG (gx x0 x1 (rn b s)) (fun k i => x9 (ix2 k i)) j := by
  have h := v21_apply x0 x1 b s
  unfold val_main_v34 val_main_v33 val_main_v32 val_main_v31 val_main_v30 val_main_v29 val_main_v28 val_main_v27 val_main_cst val_main_cst_0
  generalize val_main_v21 (F := Ideal) x0 x1 = p at h
  pointwise
  simp only [h]
  rfl

/-- The directions, by heads. -/
theorem v46_apply (b : Fin 8) (s : Fin 2048) (h : Fin 8) (l : Fin 64) :
    val_main_v46 (F := Ideal) x0 x1 x2 (ix4 b s h l) = rK (gx x0 x1 (rn b s)) (fun i => x2 (ix1 i)) ⟨h.val * 64 + l.val, by omega⟩ := by
  have h1 := v23_apply x0 x1 b s
  unfold val_main_v46 val_main_v45 val_main_v44 val_main_v43 val_main_v42 val_main_v41 val_main_v40 val_main_v39 val_main_v38 val_main_v37 val_main_v36 val_main_v35
    val_main_cst_1 val_main_cst_2
  generalize val_main_v23 (F := Ideal) x0 x1 = p at h1
  pointwise
  simp only [h1]
  exact congrArg (fun v => Ideal.div (gx x0 x1 (rn b s) ⟨512 + (h.val * 64 + l.val), by omega⟩ * x2 (ix1 ⟨h.val * 64 + l.val, by omega⟩)) (max (Ideal.sqrt v) (Ideal.ofBits .f32 0x2B8CBCCC#32)))
    (sg_eq (fun i : Fin 512 => gx x0 x1 (rn b s) ⟨512 + i.val, by omega⟩ * x2 (ix1 i) * (gx x0 x1 (rn b s) ⟨512 + i.val, by omega⟩ * x2 (ix1 i)))
      (fun d : Fin 64 => ⟨h.val * 64 + d.val, by omega⟩) ⟨h.val * 64 + l.val, by omega⟩ fun d => by dsimp only; omega)

/-- The decay's exponent. -/
theorem v61_apply (b : Fin 8) (s : Fin 2048) (d : Fin 2) (j : Fin 512) :
    val_main_v61 (F := Ideal) x0 x1 x5 x6 (ix4 b s d j) = rL (gx x0 x1 (rn b s)) (row2 x5) x6 ⟨d.val * 512 + j.val, by omega⟩ := by
  have h := v21_apply x0 x1 b s
  unfold val_main_v61 val_main_v60 val_main_v59 val_main_v58 val_main_v57 val_main_v56 val_main_v55 val_main_v54 val_main_v53 val_main_v52 val_main_v51
    val_main_v50 val_main_v49 val_main_v48 val_main_v47 val_main_v25 val_main_cst_3 val_main_cst_4 val_main_cst_5
  generalize val_main_v21 (F := Ideal) x0 x1 = p at h
  pointwise
  simp only [h]
  have q : (d.val * 512 + j.val) / 512 = d.val := by omega
  have q' : (d.val * 512 + j.val) % 512 = j.val := by omega
  unfold rL rdot row2 Ideal.logistic
  simp only [q, q', Fin.eta]

end Cert.Preparing

end
-- ==== Proof.PrepRefC.lean ====
/- The reference of the recurrence's preparation, read at an index: the rates and the keys. -/
module

public import proofs.«01_k».proof.Proof.PrepRef

@[expose] public section

set_option maxRecDepth 16384

noncomputable section

namespace Cert.Preparing

open Idealize.ShloMosaic Cert.Rows Cert.PrepReferenceIdeal Cert.PrepReferenceIdeal.Read
open Cert.Output (sg sg_eq rn)

variable (x0 : FVec Ideal S16384x1920 .f32) (x1 : FVec Ideal S3x1920 .f32) (x2 x3 : FVec Ideal S512 .f32) (x4 : FVec Ideal S8x64 .f32)
  (x5 : FVec Ideal S2x512 .f32) (x6 : FVec Ideal S2x64x512 .f32) (x7 : FVec Ideal S2x512 .f32) (x8 : FVec Ideal S2x64x512 .f32) (x9 : FVec Ideal S128x512 .f32)

/-- The rates. -/
theorem v73_apply (b : Fin 8) (s : Fin 2048) (d : Fin 2) (j : Fin 512) :
    val_main_v73 (F := Ideal) x0 x1 x7 x8 (ix4 b s d j) = rA (gx x0 x1 (rn b s)) (row2 x7) x8 ⟨d.val * 512 + j.val, by omega⟩ := by
  have h := v21_apply x0 x1 b s
  unfold val_main_v73 val_main_v72 val_main_v71 val_main_v70 val_main_v69 val_main_v68 val_main_v67 val_main_v66 val_main_v65
    val_main_v64 val_main_v63 val_main_v62 val_main_v26 val_main_cst_6 val_main_cst_7
  generalize val_main_v21 (F := Ideal) x0 x1 = p at h
  pointwise
  simp only [h]
  have q : (d.val * 512 + j.val) / 512 = d.val := by omega
  have q' : (d.val * 512 + j.val) % 512 = j.val := by omega
  unfold rA rdot row2 Ideal.logistic
  simp only [q, q', Fin.eta]

/-- The keys of the directions. -/
theorem v83_apply (b : Fin 8) (s : Fin 2048) (d : Fin 2) (j : Fin 512) : val_main_v83 (F := Ideal) x0 x1 x3 x7 x8 (ix4 b s d j)
    = rD (gx x0 x1 (rn b s)) (fun i => x3 (ix1 i)) (row2 x7) x8 ⟨d.val * 512 + j.val, by omega⟩ := by
  have h1 := v23_apply x0 x1 b s
  have h2 := v73_apply x0 x1 x7 x8 b s
  unfold val_main_v83 val_main_v82 val_main_v81 val_main_v80 val_main_v79 val_main_v78 val_main_v77 val_main_v76 val_main_v75 val_main_v74 val_main_cst_8 val_main_cst_9
  generalize val_main_v23 (F := Ideal) x0 x1 = p at h1
  generalize val_main_v73 (F := Ideal) x0 x1 x7 x8 = q at h2
  pointwise
  simp only [h1, h2]
  have q : (d.val * 512 + j.val) / 512 = d.val := by omega
  have q' : (d.val * 512 + j.val) % 512 = j.val := by omega
  unfold rD kdir
  simp only [q', Fin.eta, one_eq]

end Cert.Preparing

end
-- ==== Proof.PrepRefD.lean ====
/- The reference of the recurrence's preparation, read at an index: the bonus. -/
module

public import proofs.«01_k».proof.Proof.PrepRefC

@[expose] public section

set_option maxRecDepth 16384

noncomputable section

namespace Cert.Preparing

open Idealize.ShloMosaic Cert.Rows Cert.PrepReferenceIdeal Cert.PrepReferenceIdeal.Read
open Cert.Output (sg sg_eq rn)

variable (x0 : FVec Ideal S16384x1920 .f32) (x1 : FVec Ideal S3x1920 .f32) (x2 x3 : FVec Ideal S512 .f32) (x4 : FVec Ideal S8x64 .f32)
  (x5 : FVec Ideal S2x512 .f32) (x6 : FVec Ideal S2x64x512 .f32) (x7 : FVec Ideal S2x512 .f32) (x8 : FVec Ideal S2x64x512 .f32) (x9 : FVec Ideal S128x512 .f32)

/-- The bonus's terms, by heads. -/
theorem v95_apply (b : Fin 8) (s : Fin 2048) (d : Fin 2) (h : Fin 8) (l : Fin 64) : val_main_v95 (F := Ideal) x0 x1 x3 x4 x7 x8 (ix5 b s d h l)
    = term (gx x0 x1 (rn b s)) (fun i => x3 (ix1 i)) (rkr x4) (row2 x7) x8 d ⟨h.val * 64 + l.val, by omega⟩ := by
  have h1 := v22_apply x0 x1 b s
  have h3 := v83_apply x0 x1 x3 x7 x8 b s
  unfold val_main_v95 val_main_v94 val_main_v93 val_main_v92 val_main_v91 val_main_v90 val_main_v89 val_main_v88
  generalize val_main_v22 (F := Ideal) x0 x1 = p at h1
  generalize val_main_v83 (F := Ideal) x0 x1 x3 x7 x8 = u at h3
  pointwise
  simp only [h1, h3]
  have q : (h.val * 64 + l.val) / 64 = h.val := by omega
  have q' : (h.val * 64 + l.val) % 64 = l.val := by omega
  unfold term rkr
  simp only [q, q', Fin.eta]

/-- A direction's bonus, by heads. -/
theorem v96_apply (b : Fin 8) (s : Fin 2048) (d : Fin 2) (h : Fin 8) (l : Fin 64) : val_main_v96 (F := Ideal) x0 x1 x3 x4 x7 x8 (ix4 b s d h)
    = sg (term (gx x0 x1 (rn b s)) (fun i => x3 (ix1 i)) (rkr x4) (row2 x7) x8 d) ⟨h.val * 64 + l.val, by omega⟩ := by
  have h1 := v95_apply x0 x1 x3 x4 x7 x8 b s d h
  unfold val_main_v96 val_main_cst_10
  generalize val_main_v95 (F := Ideal) x0 x1 x3 x4 x7 x8 = p at h1
  pointwise
  simp only [h1]
  exact sg_eq _ (fun l : Fin 64 => ⟨h.val * 64 + l.val, by omega⟩) ⟨h.val * 64 + l.val, by omega⟩ fun d => by dsimp only; omega

/-- The bonuses' factors, by heads. -/
theorem v97_apply (b : Fin 8) (s : Fin 2048) (h : Fin 8) (l : Fin 64) : val_main_v97 (F := Ideal) x0 x1 x3 x4 x7 x8 (ix3 b s h)
    = ∑ d : Fin 2, sg (term (gx x0 x1 (rn b s)) (fun i => x3 (ix1 i)) (rkr x4) (row2 x7) x8 d) ⟨h.val * 64 + l.val, by omega⟩ := by
  have h1 : ∀ d, _ := fun d => v96_apply x0 x1 x3 x4 x7 x8 b s d h l
  unfold val_main_v97 val_main_cst_11
  generalize val_main_v96 (F := Ideal) x0 x1 x3 x4 x7 x8 = p at h1
  pointwise
  simp only [h1]

/-- The bonuses, by heads. -/
theorem v101_apply (b : Fin 8) (s : Fin 2048) (h : Fin 8) (l : Fin 64) : val_main_v101 (F := Ideal) x0 x1 x3 x4 x7 x8 (ix4 b s h l)
    = rU (gx x0 x1 (rn b s)) (fun i => x3 (ix1 i)) (rkr x4) (row2 x7) x8 ⟨h.val * 64 + l.val, by omega⟩ := by
  have h1 := v97_apply x0 x1 x3 x4 x7 x8 b s h l
  have h2 := v24_apply x0 x1 b s
  unfold val_main_v101 val_main_v100 val_main_v99 val_main_v98
  generalize val_main_v97 (F := Ideal) x0 x1 x3 x4 x7 x8 = p at h1
  generalize val_main_v24 (F := Ideal) x0 x1 = q at h2
  pointwise
  rw [h1, h2]
  rfl

end Cert.Preparing

end
-- ==== Proof.PrepRes.lean ====
/- The results of the reference of the recurrence's preparation, on finite values. -/
module

public import proofs.«01_k».proof.Proof.PrepRefB
public import proofs.«01_k».proof.Proof.PrepRefD

@[expose] public section

set_option maxRecDepth 16384

noncomputable section

namespace Cert.Preparing

open Idealize.ShloMosaic Cert.Rows Cert.PrepReferenceIdeal Cert.PrepReferenceIdeal.Read
open Cert.Output (sg rn)

variable (x0 : FVec Ideal S16384x1920 .f32) (x1 : FVec Ideal S3x1920 .f32) (x2 x3 : FVec Ideal S512 .f32) (x4 : FVec Ideal S8x64 .f32)
  (x5 : FVec Ideal S2x512 .f32) (x6 : FVec Ideal S2x64x512 .f32) (x7 : FVec Ideal S2x512 .f32) (x8 : FVec Ideal S2x64x512 .f32) (x9 : FVec Ideal S128x512 .f32)

/-- A row's number, from its sequence and its token. -/
theorem rnr (r : Fin 16384) : rn ⟨r.val / 2048, by omega⟩ ⟨r.val % 2048, by omega⟩ = r :=
  Fin.ext (by show r.val / 2048 * 2048 + r.val % 2048 = r.val; omega)

/-- The directions. -/
theorem v84_apply (b : Fin 8) (s : Fin 2048) (j : Fin 512) : val_main_v84 (F := Ideal) x0 x1 x2 (ix3 b s j) = rK (gx x0 x1 (rn b s)) (fun i => x2 (ix1 i)) j := by
  have e : (⟨j.val / 64 * 64 + j.val % 64, by omega⟩ : Fin 512) = j := Fin.ext (by dsimp only; omega)
  refine Eq.trans ?_ ((v46_apply x0 x1 x2 b s ⟨j.val / 64, by omega⟩ ⟨j.val % 64, by omega⟩).trans (congrArg (rK (gx x0 x1 (rn b s)) fun i => x2 (ix1 i)) e))
  unfold val_main_v84
  generalize val_main_v46 (F := Ideal) x0 x1 x2 = p
  pointwise

/-- The directions times the rates. -/
theorem v87_apply (b : Fin 8) (s : Fin 2048) (d : Fin 2) (j : Fin 512) : val_main_v87 (F := Ideal) x0 x1 x2 x7 x8 (ix4 b s d j)
    = rK (gx x0 x1 (rn b s)) (fun i => x2 (ix1 i)) j * rA (gx x0 x1 (rn b s)) (row2 x7) x8 ⟨d.val * 512 + j.val, by omega⟩ := by
  rw [← v84_apply, ← v73_apply]
  unfold val_main_v87 val_main_v86 val_main_v85
  generalize val_main_v84 (F := Ideal) x0 x1 x2 = p
  generalize val_main_v73 (F := Ideal) x0 x1 x7 x8 = q
  pointwise

/-- The receptance, once more. -/
theorem v103_eq : val_main_v103 (F := Ideal) x0 x1 = aR x0 x1 := by
  funext y
  obtain ⟨r, j, rfl⟩ : ∃ (r : Fin 16384) (j : Fin 512), y = ix2 r j := ⟨y 0, y 1, by funext i; fin_cases i <;> rfl⟩
  refine Eq.trans ?_ ((v22_apply x0 x1 ⟨r.val / 2048, by omega⟩ ⟨r.val % 2048, by omega⟩ j).trans ((congrArg₂ (fun (a : Fin 16384) (b : Fin 512) => (gx x0 x1 a ⟨(b : Fin 512).val, by have := (b : Fin 512).isLt; omega⟩ : EReal)) (rnr r) rfl).trans ?_))
  · unfold val_main_v103 val_main_v102
    generalize val_main_v22 (F := Ideal) x0 x1 = p
    pointwise
  · exact congrArg (gx x0 x1 r) (Fin.ext (by show j.val = 0 + j.val; omega))

/-- The values, once more. -/
theorem v105_eq : val_main_v105 (F := Ideal) x0 x1 = aV x0 x1 := by
  funext y
  obtain ⟨r, j, rfl⟩ : ∃ (r : Fin 16384) (j : Fin 512), y = ix2 r j := ⟨y 0, y 1, by funext i; fin_cases i <;> rfl⟩
  refine Eq.trans ?_ ((v24_apply x0 x1 ⟨r.val / 2048, by omega⟩ ⟨r.val % 2048, by omega⟩ j).trans ((congrArg₂ (fun (a : Fin 16384) (b : Fin 512) => (gx x0 x1 a ⟨1024 + (b : Fin 512).val, by have := (b : Fin 512).isLt; omega⟩ : EReal)) (rnr r) rfl).trans ?_))
  · unfold val_main_v105 val_main_v104
    generalize val_main_v24 (F := Ideal) x0 x1 = p
    pointwise
  · rfl

/-- The directions, on finite values. -/
theorem v107_eq (hX0 : ∀ r c, c.val < 1024 → IsR (gx x0 x1 r c)) (hk : ∀ i, IsR (x2 (ix1 i))) : val_main_v107 (F := Ideal) x0 x1 x2 = aK x0 x1 x2 := by
  funext y
  obtain ⟨r, j, rfl⟩ : ∃ (r : Fin 16384) (j : Fin 512), y = ix2 r j := ⟨y 0, y 1, by funext i; fin_cases i <;> rfl⟩
  refine Eq.trans ?_ ((v84_apply x0 x1 x2 ⟨r.val / 2048, by omega⟩ ⟨r.val % 2048, by omega⟩ j).trans ((congrArg₂ (fun (a : Fin 16384) (b : Fin 512) => (rK (gx x0 x1 a) (fun i => x2 (ix1 i)) b : EReal)) (rnr r) rfl).trans ?_))
  · unfold val_main_v107 val_main_v106
    generalize val_main_v84 (F := Ideal) x0 x1 x2 = p
    pointwise
  · exact (congrFun (eK_eq (gx x0 x1 r) (fun i => x2 (ix1 i)) (hX0 r) hk) j).symm

/-- The logarithms of the decay, on finite weights. -/
theorem v108_eq (hw : ∀ a b c, IsR (x6 (ix3 a b c))) : val_main_v108 (F := Ideal) x0 x1 x5 x6 = aL x0 x1 x5 x6 := by
  funext y
  obtain ⟨r, j, rfl⟩ : ∃ (r : Fin 16384) (j : Fin 1024), y = ix2 r j := ⟨y 0, y 1, by funext i; fin_cases i <;> rfl⟩
  refine Eq.trans ?_ ((v61_apply x0 x1 x5 x6 ⟨r.val / 2048, by omega⟩ ⟨r.val % 2048, by omega⟩ ⟨j.val / 512, by omega⟩ ⟨j.val % 512, by omega⟩).trans ((congrArg₂ (fun (a : Fin 16384) (b : Fin 1024) => (rL (gx x0 x1 a) (row2 x5) x6 b : EReal)) (rnr r) (Fin.ext (by show j.val / 512 * 512 + j.val % 512 = j.val; omega) : (⟨j.val / 512 * 512 + j.val % 512, by omega⟩ : Fin 1024) = j)).trans ?_))
  · unfold val_main_v108
    generalize val_main_v61 (F := Ideal) x0 x1 x5 x6 = p
    pointwise
  · exact (congrFun (eL_eq (gx x0 x1 r) (row2 x5) x6 hw) j).symm

/-- The directions times the rates, on finite values. -/
theorem v110_eq (hX0 : ∀ r c, c.val < 1024 → IsR (gx x0 x1 r c)) (hX1 : ∀ r c, 1664 ≤ c.val → c.val < 1792 → IsR (gx x0 x1 r c)) (hk : ∀ i, IsR (x2 (ix1 i))) (hb : ∀ a b c, IsR (x8 (ix3 a b c))) : val_main_v110 (F := Ideal) x0 x1 x2 x7 x8 = aB x0 x1 x2 x7 x8 := by
  funext y
  obtain ⟨r, j, rfl⟩ : ∃ (r : Fin 16384) (j : Fin 1024), y = ix2 r j := ⟨y 0, y 1, by funext i; fin_cases i <;> rfl⟩
  refine Eq.trans ?_ ((v87_apply x0 x1 x2 x7 x8 ⟨r.val / 2048, by omega⟩ ⟨r.val % 2048, by omega⟩ ⟨j.val / 512, by omega⟩ ⟨j.val % 512, by omega⟩).trans
    ((congrArg₂ (fun (a : Fin 16384) (b : Fin 1024) => rK (gx x0 x1 a) (fun i => x2 (ix1 i)) ⟨j.val % 512, by omega⟩ * rA (gx x0 x1 a) (row2 x7) x8 b) (rnr r)
      (Fin.ext (by show j.val / 512 * 512 + j.val % 512 = j.val; omega) : (⟨j.val / 512 * 512 + j.val % 512, by omega⟩ : Fin 1024) = j)).trans ?_))
  · unfold val_main_v110 val_main_v109
    generalize val_main_v87 (F := Ideal) x0 x1 x2 x7 x8 = p
    pointwise
  · have e1 := congrFun (eK_eq (gx x0 x1 r) (fun i => x2 (ix1 i)) (hX0 r) hk) ⟨j.val % 512, by omega⟩
    have e2 := congrFun (eA_eq (gx x0 x1 r) (row2 x7) x8 (hX1 r) hb) j
    exact (congrArg₂ (· * ·) e1 e2).symm

/-- The keys of the directions, on finite values. -/
theorem v112_eq (hX1 : ∀ r c, 1664 ≤ c.val → c.val < 1792 → IsR (gx x0 x1 r c)) (hb : ∀ a b c, IsR (x8 (ix3 a b c))) : val_main_v112 (F := Ideal) x0 x1 x3 x7 x8 = aD x0 x1 x3 x7 x8 := by
  funext y
  obtain ⟨r, j, rfl⟩ : ∃ (r : Fin 16384) (j : Fin 1024), y = ix2 r j := ⟨y 0, y 1, by funext i; fin_cases i <;> rfl⟩
  refine Eq.trans ?_ ((v83_apply x0 x1 x3 x7 x8 ⟨r.val / 2048, by omega⟩ ⟨r.val % 2048, by omega⟩ ⟨j.val / 512, by omega⟩ ⟨j.val % 512, by omega⟩).trans ((congrArg₂ (fun (a : Fin 16384) (b : Fin 1024) => (rD (gx x0 x1 a) (fun i => x3 (ix1 i)) (row2 x7) x8 b : EReal)) (rnr r) (Fin.ext (by show j.val / 512 * 512 + j.val % 512 = j.val; omega) : (⟨j.val / 512 * 512 + j.val % 512, by omega⟩ : Fin 1024) = j)).trans ?_))
  · unfold val_main_v112 val_main_v111
    generalize val_main_v83 (F := Ideal) x0 x1 x3 x7 x8 = p
    pointwise
  · exact (congrFun (eD_eq (gx x0 x1 r) (fun i => x3 (ix1 i)) (row2 x7) x8 (hX1 r) hb) j).symm

/-- The gates, on finite weights. -/
theorem v113_eq (hg : ∀ k c, IsR (x9 (ix2 k c))) : val_main_v113 (F := Ideal) x0 x1 x9 = aG x0 x1 x9 := by
  funext y
  obtain ⟨r, j, rfl⟩ : ∃ (r : Fin 16384) (j : Fin 512), y = ix2 r j := ⟨y 0, y 1, by funext i; fin_cases i <;> rfl⟩
  refine Eq.trans ?_ ((v34_apply x0 x1 x9 ⟨r.val / 2048, by omega⟩ ⟨r.val % 2048, by omega⟩ j).trans ((congrArg₂ (fun (a : Fin 16384) (b : Fin 512) => (rG (gx x0 x1 a) (fun k i => x9 (ix2 k i)) b : EReal)) (rnr r) rfl).trans ?_))
  · unfold val_main_v113
    generalize val_main_v34 (F := Ideal) x0 x1 x9 = p
    pointwise
  · exact (congrFun (eG_eq (gx x0 x1 r) (fun k i => x9 (ix2 k i)) hg) j).symm

/-- The bonuses, on finite values. -/
theorem v114_eq (hX0 : ∀ r c, c.val < 1024 → IsR (gx x0 x1 r c)) (hX1 : ∀ r c, 1664 ≤ c.val → c.val < 1792 → IsR (gx x0 x1 r c)) (ha : ∀ i, IsR (x3 (ix1 i))) (hr : ∀ a b, IsR (x4 (ix2 a b))) (hb : ∀ a b c, IsR (x8 (ix3 a b c))) : val_main_v114 (F := Ideal) x0 x1 x3 x4 x7 x8 = aU x0 x1 x3 x4 x7 x8 := by
  funext y
  obtain ⟨r, j, rfl⟩ : ∃ (r : Fin 16384) (j : Fin 512), y = ix2 r j := ⟨y 0, y 1, by funext i; fin_cases i <;> rfl⟩
  refine Eq.trans ?_ ((v101_apply x0 x1 x3 x4 x7 x8 ⟨r.val / 2048, by omega⟩ ⟨r.val % 2048, by omega⟩ ⟨j.val / 64, by omega⟩ ⟨j.val % 64, by omega⟩).trans ((congrArg₂ (fun (a : Fin 16384) (b : Fin 512) => (rU (gx x0 x1 a) (fun i => x3 (ix1 i)) (rkr x4) (row2 x7) x8 b : EReal)) (rnr r) (Fin.ext (by show j.val / 64 * 64 + j.val % 64 = j.val; omega) : (⟨j.val / 64 * 64 + j.val % 64, by omega⟩ : Fin 512) = j)).trans ?_))
  · unfold val_main_v114
    generalize val_main_v101 (F := Ideal) x0 x1 x3 x4 x7 x8 = p
    pointwise
  · exact (congrFun (eU_eq (gx x0 x1 r) (fun i => x3 (ix1 i)) (rkr x4) (row2 x7) x8 (hX0 r) (hX1 r) ha (fun i => hr _ _) hb) j).symm

end Cert.Preparing

end
-- ==== Proof.PrepClaim.lean ====
/- The claims about the recurrence's preparation. -/
module

public import proofs.«01_k».proof.Defs
public import proofs.«01_k».proof.Proof.Gen.Pre_finite_recurrence
public import proofs.«01_k».proof.Proof.Gen.PrepIdeal.Value
public import proofs.«01_k».proof.Proof.Gen.PrepReferenceIdeal.Run
public import proofs.«01_k».proof.Proof.PrepRes
public import proofs.«01_k».proof.Proof.Finite
public import Idealize.ShloMosaic.Lib.Claim
public import Idealize.ShloMosaic.Adequacy
public import Idealize.ShloMosaic.Init

@[expose] public section

set_option maxRecDepth 16384

noncomputable section

namespace Cert.Preparing

open Idealize.ShloMosaic Idealize.SL.Sem Cert.Rows

section
open Cert.Pre_finite_recurrence

variable [Cert.Pre_finite_recurrence.Facts] (x0 : FVec Ideal S16384x1920 .f32) (x1 : FVec Ideal S3x1920 .f32) (x2 x3 : FVec Ideal S512 .f32) (x4 : FVec Ideal S8x64 .f32)
  (x5 : FVec Ideal S2x512 .f32) (x6 : FVec Ideal S2x64x512 .f32) (x7 : FVec Ideal S2x512 .f32) (x8 : FVec Ideal S2x64x512 .f32) (x9 : FVec Ideal S128x512 .f32)

/-- The first lanes of the rows are finite. -/
theorem pc0_fin (h : (fn (F := Ideal) x0 x1 x2 x3 x4 x5 x6 x7 x8 x9).1 = fun _ => 1#1) (r : Fin 16384) (c : Fin 1920) (hc : c.val < 1024) : IsR (x0 (ix2 r c)) := by
  obtain ⟨k, hk⟩ : ∃ k : Fin 1024, c = ⟨k.val, by omega⟩ := ⟨⟨c.val, hc⟩, rfl⟩
  rw [hk]
  have h' := congrFun h (ix2 r k)
  unfold fn fn_part1 fn_part2 fn_part3 at h'
  dsimp only at h'
  refine IsR.of _ (Cert.Finite.between _ (Eq.trans ?_ h'))
  symm
  pointwise

/-- The rate's lanes of the rows are finite. -/
theorem pc1_fin (h : (fn (F := Ideal) x0 x1 x2 x3 x4 x5 x6 x7 x8 x9).2.1 = fun _ => 1#1) (r : Fin 16384) (c : Fin 1920) (hc : 1664 ≤ c.val) (hc' : c.val < 1792) : IsR (x0 (ix2 r c)) := by
  obtain ⟨k, hk⟩ : ∃ k : Fin 128, c = ⟨1664 + k.val, by omega⟩ := ⟨⟨c.val - 1664, by omega⟩, Fin.ext (by dsimp only; omega)⟩
  rw [hk]
  have h' := congrFun h (ix2 r k)
  unfold fn fn_part1 fn_part2 fn_part3 at h'
  dsimp only at h'
  refine IsR.of _ (Cert.Finite.between _ (Eq.trans ?_ h'))
  symm
  pointwise

/-- The first lanes of the convolution's weights are finite. -/
theorem cv0_fin (h : (fn (F := Ideal) x0 x1 x2 x3 x4 x5 x6 x7 x8 x9).2.2.1 = fun _ => 1#1) (r : Fin 3) (c : Fin 1920) (hc : c.val < 1024) : IsR (x1 (ix2 r c)) := by
  obtain ⟨k, hk⟩ : ∃ k : Fin 1024, c = ⟨k.val, by omega⟩ := ⟨⟨c.val, hc⟩, rfl⟩
  rw [hk]
  have h' := congrFun h (ix2 r k)
  unfold fn fn_part1 fn_part2 fn_part3 at h'
  dsimp only at h'
  refine IsR.of _ (Cert.Finite.between _ (Eq.trans ?_ h'))
  symm
  pointwise

/-- The rate's lanes of the convolution's weights are finite. -/
theorem cv1_fin (h : (fn (F := Ideal) x0 x1 x2 x3 x4 x5 x6 x7 x8 x9).2.2.2.1 = fun _ => 1#1) (r : Fin 3) (c : Fin 1920) (hc : 1664 ≤ c.val) (hc' : c.val < 1792) : IsR (x1 (ix2 r c)) := by
  obtain ⟨k, hk⟩ : ∃ k : Fin 128, c = ⟨1664 + k.val, by omega⟩ := ⟨⟨c.val - 1664, by omega⟩, Fin.ext (by dsimp only; omega)⟩
  rw [hk]
  have h' := congrFun h (ix2 r k)
  unfold fn fn_part1 fn_part2 fn_part3 at h'
  dsimp only at h'
  refine IsR.of _ (Cert.Finite.between _ (Eq.trans ?_ h'))
  symm
  pointwise

/-- The direction's factors are finite. -/
theorem kk_fin (h : (fn (F := Ideal) x0 x1 x2 x3 x4 x5 x6 x7 x8 x9).2.2.2.2.1 = fun _ => 1#1) (i : Fin 512) : IsR (x2 (ix1 i)) := by
  have h' := congrFun h (ix1 i)
  unfold fn fn_part1 fn_part2 fn_part3 at h'
  dsimp only at h'
  refine IsR.of _ (Cert.Finite.between _ (Eq.trans ?_ h'))
  symm
  pointwise

/-- The key's factors are finite. -/
theorem ka_fin (h : (fn (F := Ideal) x0 x1 x2 x3 x4 x5 x6 x7 x8 x9).2.2.2.2.2.1 = fun _ => 1#1) (i : Fin 512) : IsR (x3 (ix1 i)) := by
  have h' := congrFun h (ix1 i)
  unfold fn fn_part1 fn_part2 fn_part3 at h'
  dsimp only at h'
  refine IsR.of _ (Cert.Finite.between _ (Eq.trans ?_ h'))
  symm
  pointwise

/-- The bonus's factors are finite. -/
theorem rk_fin (h : (fn (F := Ideal) x0 x1 x2 x3 x4 x5 x6 x7 x8 x9).2.2.2.2.2.2.1 = fun _ => 1#1) (a : Fin 8) (b : Fin 64) : IsR (x4 (ix2 a b)) := by
  have h' := congrFun h (ix2 a b)
  unfold fn fn_part1 fn_part2 fn_part3 at h'
  dsimp only at h'
  refine IsR.of _ (Cert.Finite.between _ (Eq.trans ?_ h'))
  symm
  pointwise

/-- The decay's weights are finite. -/
theorem w2_fin (h : (fn (F := Ideal) x0 x1 x2 x3 x4 x5 x6 x7 x8 x9).2.2.2.2.2.2.2.1 = fun _ => 1#1) (a : Fin 2) (b : Fin 64) (c : Fin 512) : IsR (x6 (ix3 a b c)) := by
  have h' := congrFun h (ix3 a b c)
  unfold fn fn_part1 fn_part2 fn_part3 at h'
  dsimp only at h'
  refine IsR.of _ (Cert.Finite.between _ (Eq.trans ?_ h'))
  symm
  pointwise

/-- The rate's weights are finite. -/
theorem a2_fin (h : (fn (F := Ideal) x0 x1 x2 x3 x4 x5 x6 x7 x8 x9).2.2.2.2.2.2.2.2.1 = fun _ => 1#1) (a : Fin 2) (b : Fin 64) (c : Fin 512) : IsR (x8 (ix3 a b c)) := by
  have h' := congrFun h (ix3 a b c)
  unfold fn fn_part1 fn_part2 fn_part3 at h'
  dsimp only at h'
  refine IsR.of _ (Cert.Finite.between _ (Eq.trans ?_ h'))
  symm
  pointwise

/-- The gate's weights are finite. -/
theorem g2_fin (h : (fn (F := Ideal) x0 x1 x2 x3 x4 x5 x6 x7 x8 x9).2.2.2.2.2.2.2.2.2 = fun _ => 1#1) (k : Fin 128) (c : Fin 512) : IsR (x9 (ix2 k c)) := by
  have h' := congrFun h (ix2 k c)
  unfold fn fn_part1 fn_part2 fn_part3 at h'
  dsimp only at h'
  refine IsR.of _ (Cert.Finite.between _ (Eq.trans ?_ h'))
  symm
  pointwise

/-- The convolution's lanes are finite. -/
theorem row0_fin (ha : (fn (F := Ideal) x0 x1 x2 x3 x4 x5 x6 x7 x8 x9).1 = fun _ => 1#1) (hb : (fn (F := Ideal) x0 x1 x2 x3 x4 x5 x6 x7 x8 x9).2.2.1 = fun _ => 1#1) :
    ∀ r c, c.val < 1024 → IsR (gx x0 x1 r c) := fun r c h =>
  gx_fin x0 x1 c (fun r => pc0_fin _ _ _ _ _ _ _ _ _ _ ha r c h) (fun a => cv0_fin _ _ _ _ _ _ _ _ _ _ hb a c h) r

/-- The convolution's lanes are finite. -/
theorem row1_fin (ha : (fn (F := Ideal) x0 x1 x2 x3 x4 x5 x6 x7 x8 x9).2.1 = fun _ => 1#1) (hb : (fn (F := Ideal) x0 x1 x2 x3 x4 x5 x6 x7 x8 x9).2.2.2.1 = fun _ => 1#1) :
    ∀ r c, 1664 ≤ c.val → c.val < 1792 → IsR (gx x0 x1 r c) := fun r c h h' =>
  gx_fin x0 x1 c (fun r => pc1_fin _ _ _ _ _ _ _ _ _ _ ha r c h h') (fun a => cv1_fin _ _ _ _ _ _ _ _ _ _ hb a c h h') r

end

set_option maxHeartbeats 2000000 in
/-- At `Ideal` the kernel's arrays and the reference's agree, under the precondition. -/
theorem algebraic : Cert.algebraic_PrepIdeal_PrepReferenceIdeal_pre_finite_recurrence := by
  pair_intro
  · run_from Cert.PrepIdeal.Value.run_blocks m g
  · run_from Cert.PrepReferenceIdeal.Value.run (F := Ideal) m' g'
    · obtain ⟨a0, a1, a2, a3, a4, a5, a6, a7, a8, a9⟩ := hagree c
      obtain ⟨h1, h2, h3, h4, h5, h6, h7, h8, h9, h10⟩ := hpre c
      rw [final13 m c, Cert.PrepReferenceIdeal.Read.val_main_v103_eq]
      try simp only [a0, a1]
      exact v103_eq _ _
    · obtain ⟨a0, a1, a2, a3, a4, a5, a6, a7, a8, a9⟩ := hagree c
      obtain ⟨h1, h2, h3, h4, h5, h6, h7, h8, h9, h10⟩ := hpre c
      rw [final14 m c, Cert.PrepReferenceIdeal.Read.val_main_v105_eq]
      try simp only [a0, a1]
      exact v105_eq _ _
    · obtain ⟨a0, a1, a2, a3, a4, a5, a6, a7, a8, a9⟩ := hagree c
      obtain ⟨h1, h2, h3, h4, h5, h6, h7, h8, h9, h10⟩ := hpre c
      rw [final15 m c, Cert.PrepReferenceIdeal.Read.val_main_v107_eq]
      try simp only [a0, a1, a2]
      exact v107_eq _ _ _ (row0_fin _ _ _ _ _ _ _ _ _ _ h1 h3) (fun i => kk_fin _ _ _ _ _ _ _ _ _ _ h5 i)
    · obtain ⟨a0, a1, a2, a3, a4, a5, a6, a7, a8, a9⟩ := hagree c
      obtain ⟨h1, h2, h3, h4, h5, h6, h7, h8, h9, h10⟩ := hpre c
      rw [final16 m c, Cert.PrepReferenceIdeal.Read.val_main_v108_eq]
      try simp only [a0, a1, a5, a6]
      exact v108_eq _ _ _ _ (fun a b c => w2_fin _ _ _ _ _ _ _ _ _ _ h8 a b c)
    · obtain ⟨a0, a1, a2, a3, a4, a5, a6, a7, a8, a9⟩ := hagree c
      obtain ⟨h1, h2, h3, h4, h5, h6, h7, h8, h9, h10⟩ := hpre c
      rw [final17 m c, Cert.PrepReferenceIdeal.Read.val_main_v110_eq]
      try simp only [a0, a1, a2, a7, a8]
      exact v110_eq _ _ _ _ _ (row0_fin _ _ _ _ _ _ _ _ _ _ h1 h3) (row1_fin _ _ _ _ _ _ _ _ _ _ h2 h4) (fun i => kk_fin _ _ _ _ _ _ _ _ _ _ h5 i) (fun a b c => a2_fin _ _ _ _ _ _ _ _ _ _ h9 a b c)
    · obtain ⟨a0, a1, a2, a3, a4, a5, a6, a7, a8, a9⟩ := hagree c
      obtain ⟨h1, h2, h3, h4, h5, h6, h7, h8, h9, h10⟩ := hpre c
      rw [final18 m c, Cert.PrepReferenceIdeal.Read.val_main_v112_eq]
      try simp only [a0, a1, a3, a7, a8]
      exact v112_eq _ _ _ _ _ (row1_fin _ _ _ _ _ _ _ _ _ _ h2 h4) (fun a b c => a2_fin _ _ _ _ _ _ _ _ _ _ h9 a b c)
    · obtain ⟨a0, a1, a2, a3, a4, a5, a6, a7, a8, a9⟩ := hagree c
      obtain ⟨h1, h2, h3, h4, h5, h6, h7, h8, h9, h10⟩ := hpre c
      rw [final19 m c, Cert.PrepReferenceIdeal.Read.val_main_v113_eq]
      try simp only [a0, a1, a9]
      exact v113_eq _ _ _ (fun a b => g2_fin _ _ _ _ _ _ _ _ _ _ h10 a b)
    · obtain ⟨a0, a1, a2, a3, a4, a5, a6, a7, a8, a9⟩ := hagree c
      obtain ⟨h1, h2, h3, h4, h5, h6, h7, h8, h9, h10⟩ := hpre c
      rw [final20 m c, Cert.PrepReferenceIdeal.Read.val_main_v114_eq]
      try simp only [a0, a1, a3, a4, a7, a8]
      exact v114_eq _ _ _ _ _ _ (row0_fin _ _ _ _ _ _ _ _ _ _ h1 h3) (row1_fin _ _ _ _ _ _ _ _ _ _ h2 h4) (fun i => ka_fin _ _ _ _ _ _ _ _ _ _ h6 i) (fun a b => rk_fin _ _ _ _ _ _ _ _ _ _ h7 a b) (fun a b c => a2_fin _ _ _ _ _ _ _ _ _ _ h9 a b c)

/-- The reference runs, keeps its arguments and ends quiescent. -/
theorem quiescent : Cert.quiescent_PrepReferenceIdeal := fun m ρ _ =>
  (θ_run Cert.PrepReferenceIdeal.defs _ _).mono (fun r h => ⟨fun c => (h c).2.2.2.2.2.2.2.2, Idealize.ShloMosaic.sem_eq_zero_of_no_sems (by decide) r.2⟩)
    (Cert.PrepReferenceIdeal.Value.run (F := Ideal) m ρ)

/-- The same under the precondition. -/
theorem quiescent_pre : Cert.quiescent_PrepReferenceIdeal_pre_finite_recurrence := fun m ρ _ => quiescent m ρ trivial

end Cert.Preparing

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Scores
public import proofs.«01_k».proof.Proof.Gen.Scores.Skeleton
public import proofs.«01_k».proof.Proof.Gen.Scores.Launch
public import proofs.«01_k».proof.Proof.Gen.Scores.Points
public import proofs.«01_k».proof.Proof.Gen.Scores.Frame
public import proofs.«01_k».proof.Proof.Gen.ScoresIdeal
public import proofs.«01_k».proof.Proof.Gen.ScoresIdeal.Skeleton
public import proofs.«01_k».proof.Proof.Gen.ScoresIdeal.Launch
public import proofs.«01_k».proof.Proof.Gen.ScoresIdeal.Points
public import proofs.«01_k».proof.Proof.Gen.ScoresIdeal.Frame
public import proofs.«01_k».proof.Proof.Gen.ScoresIdeal.Value
public import proofs.«01_k».proof.Proof.Gen.ScoresReferenceIdeal
public import proofs.«01_k».proof.Proof.Gen.ScoresReferenceIdeal.Run
public import proofs.«01_k».proof.Proof.Gen.ScoresReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.Pre_finite_recurrence
public import proofs.«01_k».proof.Proof.Gen.Pre_finite_queries
public import proofs.«01_k».proof.Proof.Gen.Pre_finite_projection
public import proofs.«01_k».proof.Proof.Gen.Pre_finite_outputs
public import proofs.«01_k».proof.Proof.Finite
public import proofs.«01_k».proof.Proof.ScoresClaim
public import proofs.«01_k».proof.Proof.ProjClaim
public import proofs.«01_k».proof.Proof.OutClaim
public import proofs.«01_k».proof.Proof.PrepClaim
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- At `Ideal` the kernel's result array and the reference's agree, under the precondition: both are the windowed attention. -/
theorem algebraic : Cert.algebraic_KernelIdeal_ReferenceIdeal_pre_finite_scores := by
  pair_intro
  · run_from Cert.KernelIdeal.Value.run_blocks m g
  · run_from Cert.ReferenceIdeal.Value.run (F := Ideal) m' g'
    rw [Cert.Chain.final m c]
    refine (Cert.ReferenceIdeal.Read.val_main_v84_eq m' c).trans ?_
    rw [(hagree c).1, (hagree c).2.1, (hagree c).2.2]
    exact Cert.Finite.of_pre m hpre c

/-- The reference runs, keeps its arguments and ends quiescent. -/
theorem ref_quiescent (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The five claims of each of the calls. -/
theorem claim : Cert.Claim := ⟨Cert.Kernel.Gen.facts, Cert.KernelIdeal.Gen.facts, Cert.ReferenceIdeal.Gen.facts, Cert.Scores.Gen.facts,
  Cert.ScoresIdeal.Gen.facts, Cert.ScoresReferenceIdeal.Gen.facts, Cert.InProj.Gen.facts, Cert.InProjIdeal.Gen.facts,
  Cert.InProjReferenceIdeal.Gen.facts, Cert.OutProj.Gen.facts, Cert.OutProjIdeal.Gen.facts, Cert.OutProjReferenceIdeal.Gen.facts,
  Cert.Prep.Gen.facts, Cert.PrepIdeal.Gen.facts, Cert.PrepReferenceIdeal.Gen.facts,
  Cert.Pre_finite_scores.Gen.facts, Cert.Pre_finite_queries.Gen.facts, Cert.Pre_finite_projection.Gen.facts, Cert.Pre_finite_outputs.Gen.facts,
  Cert.Pre_finite_recurrence.Gen.facts,
  fun m ρ _ => Cert.Kernel.Gen.frame m ρ, fun m ρ _ => Cert.KernelIdeal.Gen.frame m ρ, fun m ρ _ => Cert.KernelIdeal.Gen.frame m ρ,
  fun m ρ _ => ref_quiescent m ρ, fun m ρ _ => ref_quiescent m ρ,
  fun m ρ _ => Cert.Scores.Gen.frame m ρ, fun m ρ _ => Cert.ScoresIdeal.Gen.frame m ρ, fun m ρ _ => Cert.ScoresIdeal.Gen.frame m ρ,
  Cert.Scoring.quiescent, Cert.Scoring.quiescent_pre,
  fun m ρ _ => Cert.InProj.Gen.frame m ρ, fun m ρ _ => Cert.InProjIdeal.Gen.frame m ρ, fun m ρ _ => Cert.InProjIdeal.Gen.frame m ρ,
  Cert.Projecting.quiescent, Cert.Projecting.quiescent_pre,
  fun m ρ _ => Cert.OutProj.Gen.frame m ρ, fun m ρ _ => Cert.OutProjIdeal.Gen.frame m ρ, fun m ρ _ => Cert.OutProjIdeal.Gen.frame m ρ,
  Cert.Output.quiescent, Cert.Output.quiescent_pre,
  fun m ρ _ => Cert.Prep.Gen.frame m ρ, fun m ρ _ => Cert.PrepIdeal.Gen.frame m ρ, fun m ρ _ => Cert.PrepIdeal.Gen.frame m ρ,
  Cert.Preparing.quiescent, Cert.Preparing.quiescent_pre,
  Idealize.ShloMosaic.IdealRules.named_const.statement Cert.KernelIdeal.κ "mask" .f32 0xF149F2CA#32 ⊥ rfl, algebraic,
  trivial, Cert.Scoring.algebraic,
  trivial, Cert.Projecting.algebraic,
  trivial, Cert.Output.algebraic,
  trivial, Cert.Preparing.algebraic⟩

end Cert.Proof

end
